-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v98) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  IdealRules.named_const.Statement Cert.Kernel6Ideal.κ "gelu_cubic" .f32 0x3D922279#32 ((80338380498831 / 1125899906842624 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v94) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)) (v2 : (c : Dev Cert.Kernel7Ideal.nD) → Buf (Elt Ideal) ((c.tc : Thread Cert.Kernel7Ideal.nD Cert.Kernel7Ideal.τ).loc Cert.Kernel7Ideal.main_v13_2)) (v3 : (c : Dev Cert.Kernel7Ideal.nD) → Buf (Elt Ideal) ((c.tc : Thread Cert.Kernel7Ideal.nD Cert.Kernel7Ideal.τ).loc Cert.Kernel7Ideal.main_v13_3)) (v4 : (c : Dev Cert.Kernel7Ideal.nD) → Buf (Elt Ideal) ((c.tc : Thread Cert.Kernel7Ideal.nD Cert.Kernel7Ideal.τ).loc Cert.Kernel7Ideal.main_v13_4)) (v5 : (c : Dev Cert.Kernel7Ideal.nD) → Buf (Elt Ideal) ((c.tc : Thread Cert.Kernel7Ideal.nD Cert.Kernel7Ideal.τ).loc Cert.Kernel7Ideal.main_v13_5)) (v6 : (c : Dev Cert.Kernel7Ideal.nD) → Buf (Elt Ideal) ((c.tc : Thread Cert.Kernel7Ideal.nD Cert.Kernel7Ideal.τ).loc Cert.Kernel7Ideal.main_v13_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_v13_2) = v2 c
          ∧ r.2.mem ((c.tc : Thread Cert.Kernel7Ideal.nD Cert.Kernel7Ideal.τ).loc Cert.Kernel7Ideal.main_v13_3) = v3 c
          ∧ r.2.mem ((c.tc : Thread Cert.Kernel7Ideal.nD Cert.Kernel7Ideal.τ).loc Cert.Kernel7Ideal.main_v13_4) = v4 c
          ∧ r.2.mem ((c.tc : Thread Cert.Kernel7Ideal.nD Cert.Kernel7Ideal.τ).loc Cert.Kernel7Ideal.main_v13_5) = v5 c
          ∧ r.2.mem ((c.tc : Thread Cert.Kernel7Ideal.nD Cert.Kernel7Ideal.τ).loc Cert.Kernel7Ideal.main_v13_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_v17) = v4 c
          ∧ r.2.mem ((c.tc : Thread Cert.Reference7Ideal.nD Cert.Reference7Ideal.τ).loc Cert.Reference7Ideal.main_v21) = v5 c
          ∧ r.2.mem ((c.tc : Thread Cert.Reference7Ideal.nD Cert.Reference7Ideal.τ).loc Cert.Reference7Ideal.main_v23) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x8192x512 : Shape := ⟨3, ![4, 8192, 512]⟩
abbrev S4x3x8x8192 : Shape := ⟨4, ![4, 3, 8, 8192]⟩
abbrev S4x8x512x1024 : Shape := ⟨4, ![4, 8, 512, 1024]⟩
abbrev S_ : Shape := ⟨0, ![]⟩

class Facts : Prop where
  bcast_S_S4x8192x512 : S_.BroadcastsInDim S4x8192x512 (![] : Fin 0 → Fin S4x8192x512.rank)
  bcast_S_S4x3x8x8192 : S_.BroadcastsInDim S4x3x8x8192 (![] : Fin 0 → Fin S4x3x8x8192.rank)

variable [Facts]

def fn {F : FTy → Type} [FloatOps F] (main_arg0 : FVec F S4x8192x512 .bf16) (main_arg1 : FVec F S4x8192x512 .bf16) (main_arg2 : FVec F S4x3x8x8192 .f32) (main_arg3 : FVec F S4x8x512x1024 .bf16) : IVec S4x8192x512 1 × IVec S4x8192x512 1 × IVec S4x3x8x8192 1 :=
  let main_v0 : FVec F S4x8192x512 .bf16 := Host.absf main_arg0
  let main_cst : FVec F S_ .bf16 := constant S_ .bf16 0x7F80#16
  let main_v1 : FVec F S4x8192x512 .bf16 := broadcastInDim S4x8192x512 ![] bcast_S_S4x8192x512 main_cst
  let main_v2 : IVec S4x8192x512 1 := cmpf .olt main_v0 main_v1
  let main_v3 : FVec F S4x8192x512 .bf16 := Host.absf main_arg1
  let main_cst_0 : FVec F S_ .bf16 := constant S_ .bf16 0x7F80#16
  let main_v4 : FVec F S4x8192x512 .bf16 := broadcastInDim S4x8192x512 ![] bcast_S_S4x8192x512 main_cst_0
  let main_v5 : IVec S4x8192x512 1 := cmpf .olt main_v3 main_v4
  let main_v6 : FVec F S4x3x8x8192 .f32 := Host.absf main_arg2
  let main_cst_1 : FVec F S_ .f32 := constant S_ .f32 0x7F800000#32
  let main_v7 : FVec F S4x3x8x8192 .f32 := broadcastInDim S4x3x8x8192 ![] bcast_S_S4x3x8x8192 main_cst_1
  let main_v8 : IVec S4x3x8x8192 1 := cmpf .olt main_v6 main_v7
  (main_v2, main_v5, main_v8)
-- ==== Kernel.lean ====
abbrev S4x8192x512 : Shape := ⟨3, ![4, 8192, 512]⟩
abbrev S4x3x8x8192 : Shape := ⟨4, ![4, 3, 8, 8192]⟩
abbrev S4x8x512x1024 : Shape := ⟨4, ![4, 8, 512, 1024]⟩
abbrev S4x3x4x2x8192 : Shape := ⟨5, ![4, 3, 4, 2, 8192]⟩
abbrev S4x4x8192x2x3 : Shape := ⟨5, ![4, 4, 8192, 2, 3]⟩
abbrev S4x4x8192x6 : Shape := ⟨4, ![4, 4, 8192, 6]⟩
abbrev S_ : Shape := ⟨0, ![]⟩
abbrev S4x4x8192x128 : Shape := ⟨4, ![4, 4, 8192, 128]⟩
abbrev S1x8192x128 : Shape := ⟨3, ![1, 8192, 128]⟩
abbrev S1x1024x128 : Shape := ⟨3, ![1, 1024, 128]⟩
abbrev S1x1x8192x128 : Shape := ⟨4, ![1, 1, 8192, 128]⟩
abbrev S1x8x128x1024 : Shape := ⟨4, ![1, 8, 128, 1024]⟩
abbrev S4x1024x256 : Shape := ⟨3, ![4, 1024, 256]⟩
abbrev S8x1024x256 : Shape := ⟨3, ![8, 1024, 256]⟩
abbrev S8x1x256 : Shape := ⟨3, ![8, 1, 256]⟩
abbrev S8x80x256 : Shape := ⟨3, ![8, 80, 256]⟩
abbrev S1024x256 : Shape := ⟨2, ![1024, 256]⟩
abbrev S1x1024x256 : Shape := ⟨3, ![1, 1024, 256]⟩
abbrev S16x1024 : Shape := ⟨2, ![16, 1024]⟩
abbrev S256x128 : Shape := ⟨2, ![256, 128]⟩
abbrev S1x256x128 : Shape := ⟨3, ![1, 256, 128]⟩
abbrev S256x256 : Shape := ⟨2, ![256, 256]⟩
abbrev S1024x128 : Shape := ⟨2, ![1024, 128]⟩
abbrev S1x1x1024x128 : Shape := ⟨4, ![1, 1, 1024, 128]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S512x256 : Shape := ⟨2, ![512, 256]⟩
abbrev S1x512x256 : Shape := ⟨3, ![1, 512, 256]⟩
abbrev S768x256 : Shape := ⟨2, ![768, 256]⟩
abbrev S1x768x256 : Shape := ⟨3, ![1, 768, 256]⟩
abbrev S1x1x64x256 : Shape := ⟨4, ![1, 1, 64, 256]⟩
abbrev S64x256 : Shape := ⟨2, ![64, 256]⟩
abbrev S16x256 : Shape := ⟨2, ![16, 256]⟩
abbrev S80x256 : Shape := ⟨2, ![80, 256]⟩
abbrev S1x80x256 : Shape := ⟨3, ![1, 80, 256]⟩
abbrev S1x1x64x512 : Shape := ⟨4, ![1, 1, 64, 512]⟩
abbrev S64x512 : Shape := ⟨2, ![64, 512]⟩
abbrev S16x512 : Shape := ⟨2, ![16, 512]⟩
abbrev S80x512 : Shape := ⟨2, ![80, 512]⟩
abbrev S1x1x64x768 : Shape := ⟨4, ![1, 1, 64, 768]⟩
abbrev S64x768 : Shape := ⟨2, ![64, 768]⟩
abbrev S16x768 : Shape := ⟨2, ![16, 768]⟩
abbrev S80x768 : Shape := ⟨2, ![80, 768]⟩
abbrev S1x1x64x1024 : Shape := ⟨4, ![1, 1, 64, 1024]⟩
abbrev S64x1024 : Shape := ⟨2, ![64, 1024]⟩
abbrev S80x1024 : Shape := ⟨2, ![80, 1024]⟩
abbrev S1x64x256 : Shape := ⟨3, ![1, 64, 256]⟩
abbrev S128x256 : Shape := ⟨2, ![128, 256]⟩

abbrev nBuf : Space → Nat
  | .hbm => 12
  | .vmem => 18
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x3x8x8192, .f32⟩
  | .hbm, ⟨3, _⟩ => ⟨S4x8x512x1024, .bf16⟩
  | .hbm, ⟨4, _⟩ => ⟨S4x3x4x2x8192, .f32⟩
  | .hbm, ⟨5, _⟩ => ⟨S4x4x8192x2x3, .f32⟩
  | .hbm, ⟨6, _⟩ => ⟨S4x4x8192x6, .f32⟩
  | .hbm, ⟨7, _⟩ => ⟨S4x4x8192x6, .bf16⟩
  | .hbm, ⟨8, _⟩ => ⟨S_, .i32⟩
  | .hbm, ⟨9, _⟩ => ⟨S_, .bf16⟩
  | .hbm, ⟨10, _⟩ => ⟨S4x4x8192x128, .bf16⟩
  | .hbm, ⟨11, _⟩ => ⟨S4x8192x512, .bf16⟩
  | .local _ .vmem, ⟨0, _⟩ => ⟨S1x8192x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1x8192x128, .bf16⟩
  | .local _ .vmem, ⟨6, _⟩ => ⟨S1x8x128x1024, .bf16⟩
  | .local _ .vmem, ⟨7, _⟩ => ⟨S1x1024x128, .bf16⟩
  | .local _ .vmem, ⟨8, _⟩ => ⟨S1x1024x128, .bf16⟩
  | .local _ .vmem, ⟨9, _⟩ => ⟨S4x1024x256, .f32⟩
  | .local _ .vmem, ⟨10, _⟩ => ⟨S8x1024x256, .f32⟩
  | .local _ .vmem, ⟨11, _⟩ => ⟨S8x1024x256, .f32⟩
  | .local _ .vmem, ⟨12, _⟩ => ⟨S8x1024x256, .f32⟩
  | .local _ .vmem, ⟨13, _⟩ => ⟨S8x1x256, .f32⟩
  | .local _ .vmem, ⟨14, _⟩ => ⟨S8x1x256, .f32⟩
  | .local _ .vmem, ⟨15, _⟩ => ⟨S8x1x256, .f32⟩
  | .local _ .vmem, ⟨16, _⟩ => ⟨S8x1x256, .f32⟩
  | .local _ .vmem, ⟨17, _⟩ => ⟨S8x80x256, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c0_i32_1 : BitVec 32 := 0#32
  let v4 : BitVec 1 := Scalar.cmpi .eq arg2 c0_i32_1
  let v5 : BitVec 32 := Scalar.extui v4
  let c0_i32_2 : BitVec 32 := 0#32
  let v6 : BitVec 1 := Scalar.cmpi .ne v5 c0_i32_2
  v6

def k0_mult1 (i : grid0.Coords) : BitVec 32 :=
  let arg2 : BitVec 32 := BitVec.ofNat 32 (i 2).val
  let c1024_i32 : BitVec 32 := 1024#32
  let v751 : BitVec 32 := Scalar.muli arg2 c1024_i32
  v751
def k0_off1 (i : grid0.Coords) : Fin 3 → Nat :=
  let c0_315 : Index := 0#32
  let arg2 : BitVec 32 := BitVec.ofNat 32 (i 2).val
  let c1024_i32 : BitVec 32 := 1024#32
  let v751 : BitVec 32 := Scalar.muli arg2 c1024_i32
  let v752 : BitVec 32 := v751
  let v753 : Index := Scalar.indexCast v752
  let c0_316 : Index := 0#32
  ![0, v753.toNat, 0]
def k0_off2 (i : grid0.Coords) : Fin 4 → Nat :=
  let c0_317 : Index := 0#32
  let c0_318 : Index := 0#32
  let arg2 : BitVec 32 := BitVec.ofNat 32 (i 2).val
  let c1024_i32 : BitVec 32 := 1024#32
  let v751 : BitVec 32 := Scalar.muli arg2 c1024_i32
  let v752 : BitVec 32 := v751
  let v756 : Index := Scalar.indexCast v752
  let c0_319 : Index := 0#32
  ![0, 0, v756.toNat, 0]
def k0_mult2 (i : grid0.Coords) : BitVec 32 :=
  let arg2 : BitVec 32 := BitVec.ofNat 32 (i 2).val
  let c1024_i32_331 : BitVec 32 := 1024#32
  let v773 : BitVec 32 := Scalar.muli arg2 c1024_i32_331
  v773
def k0_mult3 (i : grid0.Coords) : BitVec 32 :=
  let arg2 : BitVec 32 := BitVec.ofNat 32 (i 2).val
  let c1024_i32_348 : BitVec 32 := 1024#32
  let v795 : BitVec 32 := Scalar.muli arg2 c1024_i32_348
  v795
def k0_mult4 (i : grid0.Coords) : BitVec 32 :=
  let arg2 : BitVec 32 := BitVec.ofNat 32 (i 2).val
  let c1024_i32_365 : BitVec 32 := 1024#32
  let v817 : BitVec 32 := Scalar.muli arg2 c1024_i32_365
  v817
def k0_mult5 (i : grid0.Coords) : BitVec 32 :=
  let arg2 : BitVec 32 := BitVec.ofNat 32 (i 2).val
  let c1024_i32_382 : BitVec 32 := 1024#32
  let v838 : BitVec 32 := Scalar.muli arg2 c1024_i32_382
  v838
def k0_mult6 (i : grid0.Coords) : BitVec 32 :=
  let arg2 : BitVec 32 := BitVec.ofNat 32 (i 2).val
  let c1024_i32_399 : BitVec 32 := 1024#32
  let v860 : BitVec 32 := Scalar.muli arg2 c1024_i32_399
  v860
def k0_mult7 (i : grid0.Coords) : BitVec 32 :=
  let arg2 : BitVec 32 := BitVec.ofNat 32 (i 2).val
  let c1024_i32_416 : BitVec 32 := 1024#32
  let v882 : BitVec 32 := Scalar.muli arg2 c1024_i32_416
  v882
def k0_mult8 (i : grid0.Coords) : BitVec 32 :=
  let arg2 : BitVec 32 := BitVec.ofNat 32 (i 2).val
  let c1024_i32_433 : BitVec 32 := 1024#32
  let v904 : BitVec 32 := Scalar.muli arg2 c1024_i32_433
  v904
def k0_cond3 (i : grid0.Coords) : BitVec 1 :=
  let arg2 : BitVec 32 := BitVec.ofNat 32 (i 2).val
  let c0_i32_131 : BitVec 32 := 0#32
  let v344 : BitVec 1 := Scalar.cmpi .eq arg2 c0_i32_131
  let v345 : BitVec 32 := Scalar.extui v344
  let c0_i32_132 : BitVec 32 := 0#32
  let v346 : BitVec 1 := Scalar.cmpi .ne v345 c0_i32_132
  v346

def k0_off3 (i : grid0.Coords) : Fin 4 → Nat :=
  let c0_196 : Index := 0#32
  let arg2 : BitVec 32 := BitVec.ofNat 32 (i 2).val
  let v433 : Index := Scalar.indexCast arg2
  let c0_197 : Index := 0#32
  let c0_198 : Index := 0#32
  ![0, v433.toNat, 0, 0]
def k0_off4 (i : grid0.Coords) : Fin 4 → Nat :=
  let c0_218 : Index := 0#32
  let arg2 : BitVec 32 := BitVec.ofNat 32 (i 2).val
  let v463 : Index := Scalar.indexCast arg2
  let c0_219 : Index := 0#32
  let c0_220 : Index := 0#32
  ![0, v463.toNat, 0, 0]
def k0_off5 (i : grid0.Coords) : Fin 4 → Nat :=
  let c0_240 : Index := 0#32
  let arg2 : BitVec 32 := BitVec.ofNat 32 (i 2).val
  let v493 : Index := Scalar.indexCast arg2
  let c0_241 : Index := 0#32
  let c0_242 : Index := 0#32
  ![0, v493.toNat, 0, 0]
def k0_off6 (i : grid0.Coords) : Fin 4 → Nat :=
  let c0_262 : Index := 0#32
  let arg2 : BitVec 32 := BitVec.ofNat 32 (i 2).val
  let v523 : Index := Scalar.indexCast arg2
  let c0_263 : Index := 0#32
  let c0_264 : Index := 0#32
  ![0, v523.toNat, 0, 0]
def k0_off7 (i : grid0.Coords) : Fin 4 → Nat :=
  let c0_284 : Index := 0#32
  let arg2 : BitVec 32 := BitVec.ofNat 32 (i 2).val
  let v552 : Index := Scalar.indexCast arg2
  let c64_285 : Index := 64#32
  let c0_286 : Index := 0#32
  ![0, v552.toNat, 64, 0]
def k0_off8 (i : grid0.Coords) : Fin 4 → Nat :=
  let c0_306 : Index := 0#32
  let arg2 : BitVec 32 := BitVec.ofNat 32 (i 2).val
  let v582 : Index := Scalar.indexCast arg2
  let c64_307 : Index := 64#32
  let c0_308 : Index := 0#32
  ![0, v582.toNat, 64, 0]
def k0_off9 (i : grid0.Coords) : Fin 4 → Nat :=
  let c0_328 : Index := 0#32
  let arg2 : BitVec 32 := BitVec.ofNat 32 (i 2).val
  let v612 : Index := Scalar.indexCast arg2
  let c64_329 : Index := 64#32
  let c0_330 : Index := 0#32
  ![0, v612.toNat, 64, 0]
def k0_off10 (i : grid0.Coords) : Fin 4 → Nat :=
  let c0_350 : Index := 0#32
  let arg2 : BitVec 32 := BitVec.ofNat 32 (i 2).val
  let v642 : Index := Scalar.indexCast arg2
  let c64_351 : Index := 64#32
  let c0_352 : Index := 0#32
  ![0, v642.toNat, 64, 0]
def k0_mult9 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32 : BitVec 32 := 1024#32
  let v991 : BitVec 32 := Scalar.muli v661 c1024_i32
  v991
def k0_off11 (i : grid0.Coords) : Fin 3 → Nat :=
  let c0_492 : Index := 0#32
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32 : BitVec 32 := 1024#32
  let v991 : BitVec 32 := Scalar.muli v661 c1024_i32
  let v992 : BitVec 32 := v991
  let v993 : Index := Scalar.indexCast v992
  let c0_493 : Index := 0#32
  ![0, v993.toNat, 0]
def k0_off12 (i : grid0.Coords) : Fin 4 → Nat :=
  let c0_494 : Index := 0#32
  let c0_495 : Index := 0#32
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32 : BitVec 32 := 1024#32
  let v991 : BitVec 32 := Scalar.muli v661 c1024_i32
  let v992 : BitVec 32 := v991
  let v996 : Index := Scalar.indexCast v992
  let c0_496 : Index := 0#32
  ![0, 0, v996.toNat, 0]
def k0_mult10 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_508 : BitVec 32 := 1024#32
  let v1013 : BitVec 32 := Scalar.muli v661 c1024_i32_508
  v1013
def k0_mult11 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_525 : BitVec 32 := 1024#32
  let v1035 : BitVec 32 := Scalar.muli v661 c1024_i32_525
  v1035
def k0_mult12 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_542 : BitVec 32 := 1024#32
  let v1057 : BitVec 32 := Scalar.muli v661 c1024_i32_542
  v1057
def k0_mult13 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_559 : BitVec 32 := 1024#32
  let v1078 : BitVec 32 := Scalar.muli v661 c1024_i32_559
  v1078
def k0_mult14 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_576 : BitVec 32 := 1024#32
  let v1100 : BitVec 32 := Scalar.muli v661 c1024_i32_576
  v1100
def k0_mult15 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_593 : BitVec 32 := 1024#32
  let v1122 : BitVec 32 := Scalar.muli v661 c1024_i32_593
  v1122
def k0_mult16 (i : grid0.Coords) : BitVec 32 :=
  let arg2 : BitVec 32 := BitVec.ofNat 32 (i 2).val
  let c1_i32_363 : BitVec 32 := 1#32
  let v660 : BitVec 32 := Scalar.addi arg2 c1_i32_363
  let c7_i32 : BitVec 32 := 7#32
  let v661 : BitVec 32 := Scalar.minsi v660 c7_i32
  let c1024_i32_610 : BitVec 32 := 1024#32
  let v1144 : BitVec 32 := Scalar.muli v661 c1024_i32_610
  v1144
def k0_cond4 (i : grid0.Coords) : BitVec 1 :=
  let arg2 : BitVec 32 := BitVec.ofNat 32 (i 2).val
  let c0_i32_133 : BitVec 32 := 0#32
  let v347 : BitVec 1 := Scalar.cmpi .sgt arg2 c0_i32_133
  let v348 : BitVec 32 := Scalar.extui v347
  let c0_i32_134 : BitVec 32 := 0#32
  let v349 : BitVec 1 := Scalar.cmpi .ne v348 c0_i32_134
  v349

def k0_mult17 (i : grid0.Coords) : BitVec 32 :=
  let arg2 : BitVec 32 := BitVec.ofNat 32 (i 2).val
  let c1_i32_187 : BitVec 32 := 1#32
  let v422 : BitVec 32 := Scalar.subi arg2 c1_i32_187
  let c1024_i32 : BitVec 32 := 1024#32
  let v423 : BitVec 32 := Scalar.muli v422 c1024_i32
  v423
def k0_off13 (i : grid0.Coords) : Fin 3 → Nat :=
  let c0_188 : Index := 0#32
  let arg2 : BitVec 32 := BitVec.ofNat 32 (i 2).val
  let c1_i32_187 : BitVec 32 := 1#32
  let v422 : BitVec 32 := Scalar.subi arg2 c1_i32_187
  let c1024_i32 : BitVec 32 := 1024#32
  let v423 : BitVec 32 := Scalar.muli v422 c1024_i32
  let v424 : BitVec 32 := v423
  let v425 : Index := Scalar.indexCast v424
  let c0_189 : Index := 0#32
  ![0, v425.toNat, 0]
def k0_off14 (i : grid0.Coords) : Fin 4 → Nat :=
  let c0_190 : Index := 0#32
  let c0_191 : Index := 0#32
  let arg2 : BitVec 32 := BitVec.ofNat 32 (i 2).val
  let c1_i32_187 : BitVec 32 := 1#32
  let v422 : BitVec 32 := Scalar.subi arg2 c1_i32_187
  let c1024_i32 : BitVec 32 := 1024#32
  let v423 : BitVec 32 := Scalar.muli v422 c1024_i32
  let v424 : BitVec 32 := v423
  let v428 : Index := Scalar.indexCast v424
  let c0_192 : Index := 0#32
  ![0, 0, v428.toNat, 0]
def k0_off15 (i : grid0.Coords) : Fin 4 → Nat :=
  let c0_210 : Index := 0#32
  let arg2 : BitVec 32 := BitVec.ofNat 32 (i 2).val
  let v452 : Index := Scalar.indexCast arg2
  let c0_211 : Index := 0#32
  let c0_212 : Index := 0#32
  ![0, v452.toNat, 0, 0]
def k0_mult18 (i : grid0.Coords) : BitVec 32 :=
  let arg2 : BitVec 32 := BitVec.ofNat 32 (i 2).val
  let c1_i32_187 : BitVec 32 := 1#32
  let v422 : BitVec 32 := Scalar.subi arg2 c1_i32_187
  let c1024_i32_223 : BitVec 32 := 1024#32
  let v471 : BitVec 32 := Scalar.muli v422 c1024_i32_223
  v471
def k0_off16 (i : grid0.Coords) : Fin 4 → Nat :=
  let c0_246 : Index := 0#32
  let arg2 : BitVec 32 := BitVec.ofNat 32 (i 2).val
  let v500 : Index := Scalar.indexCast arg2
  let c0_247 : Index := 0#32
  let c0_248 : Index := 0#32
  ![0, v500.toNat, 0, 0]
def k0_mult19 (i : grid0.Coords) : BitVec 32 :=
  let arg2 : BitVec 32 := BitVec.ofNat 32 (i 2).val
  let c1_i32_187 : BitVec 32 := 1#32
  let v422 : BitVec 32 := Scalar.subi arg2 c1_i32_187
  let c1024_i32_259 : BitVec 32 := 1024#32
  let v519 : BitVec 32 := Scalar.muli v422 c1024_i32_259
  v519
def k0_off17 (i : grid0.Coords) : Fin 4 → Nat :=
  let c0_282 : Index := 0#32
  let arg2 : BitVec 32 := BitVec.ofNat 32 (i 2).val
  let v548 : Index := Scalar.indexCast arg2
  let c0_283 : Index := 0#32
  let c0_284 : Index := 0#32
  ![0, v548.toNat, 0, 0]
def k0_mult20 (i : grid0.Coords) : BitVec 32 :=
  let arg2 : BitVec 32 := BitVec.ofNat 32 (i 2).val
  let c1_i32_187 : BitVec 32 := 1#32
  let v422 : BitVec 32 := Scalar.subi arg2 c1_i32_187
  let c1024_i32_295 : BitVec 32 := 1024#32
  let v567 : BitVec 32 := Scalar.muli v422 c1024_i32_295
  v567
def k0_off18 (i : grid0.Coords) : Fin 4 → Nat :=
  let c0_318 : Index := 0#32
  let arg2 : BitVec 32 := BitVec.ofNat 32 (i 2).val
  let v596 : Index := Scalar.indexCast arg2
  let c0_319 : Index := 0#32
  let c0_320 : Index := 0#32
  ![0, v596.toNat, 0, 0]
def k0_mult21 (i : grid0.Coords) : BitVec 32 :=
  let arg2 : BitVec 32 := BitVec.ofNat 32 (i 2).val
  let c1_i32_187 : BitVec 32 := 1#32
  let v422 : BitVec 32 := Scalar.subi arg2 c1_i32_187
  let c1024_i32_331 : BitVec 32 := 1024#32
  let v614 : BitVec 32 := Scalar.muli v422 c1024_i32_331
  v614
def k0_off19 (i : grid0.Coords) : Fin 4 → Nat :=
  let c0_354 : Index := 0#32
  let arg2 : BitVec 32 := BitVec.ofNat 32 (i 2).val
  let v643 : Index := Scalar.indexCast arg2
  let c64_355 : Index := 64#32
  let c0_356 : Index := 0#32
  ![0, v643.toNat, 64, 0]
def k0_mult22 (i : grid0.Coords) : BitVec 32 :=
  let arg2 : BitVec 32 := BitVec.ofNat 32 (i 2).val
  let c1_i32_187 : BitVec 32 := 1#32
  let v422 : BitVec 32 := Scalar.subi arg2 c1_i32_187
  let c1024_i32_367 : BitVec 32 := 1024#32
  let v662 : BitVec 32 := Scalar.muli v422 c1024_i32_367
  v662
def k0_off20 (i : grid0.Coords) : Fin 4 → Nat :=
  let c0_390 : Index := 0#32
  let arg2 : BitVec 32 := BitVec.ofNat 32 (i 2).val
  let v691 : Index := Scalar.indexCast arg2
  let c64_391 : Index := 64#32
  let c0_392 : Index := 0#32
  ![0, v691.toNat, 64, 0]
def k0_mult23 (i : grid0.Coords) : BitVec 32 :=
  let arg2 : BitVec 32 := BitVec.ofNat 32 (i 2).val
  let c1_i32_187 : BitVec 32 := 1#32
  let v422 : BitVec 32 := Scalar.subi arg2 c1_i32_187
  let c1024_i32_403 : BitVec 32 := 1024#32
  let v710 : BitVec 32 := Scalar.muli v422 c1024_i32_403
  v710
def k0_off21 (i : grid0.Coords) : Fin 4 → Nat :=
  let c0_426 : Index := 0#32
  let arg2 : BitVec 32 := BitVec.ofNat 32 (i 2).val
  let v739 : Index := Scalar.indexCast arg2
  let c64_427 : Index := 64#32
  let c0_428 : Index := 0#32
  ![0, v739.toNat, 64, 0]
def k0_mult24 (i : grid0.Coords) : BitVec 32 :=
  let arg2 : BitVec 32 := BitVec.ofNat 32 (i 2).val
  let c1_i32_187 : BitVec 32 := 1#32
  let v422 : BitVec 32 := Scalar.subi arg2 c1_i32_187
  let c1024_i32_439 : BitVec 32 := 1024#32
  let v758 : BitVec 32 := Scalar.muli v422 c1024_i32_439
  v758
def k0_off22 (i : grid0.Coords) : Fin 4 → Nat :=
  let c0_462 : Index := 0#32
  let arg2 : BitVec 32 := BitVec.ofNat 32 (i 2).val
  let v787 : Index := Scalar.indexCast arg2
  let c64_463 : Index := 64#32
  let c0_464 : Index := 0#32
  ![0, v787.toNat, 64, 0]
@[reducible] def k0_t1_loop (i : grid0.Coords) : Scf.Loop 32 :=
  let c0_i32_483 : BitVec 32 := 0#32
  let arg2 : BitVec 32 := BitVec.ofNat 32 (i 2).val
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_485 : BitVec 32 := 1#32
  ⟨c0_i32_483, v827, c1_i32_485⟩
def k0_mult25 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_506 : BitVec 32 := 1024#32
  let v858 : BitVec 32 := Scalar.muli v856 c1024_i32_506
  v858
def k0_off23 (i : grid0.Coords) (k0_t1 : Fin (k0_t1_loop i).trips) : Fin 3 → Nat :=
  let c0_507 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_506 : BitVec 32 := 1024#32
  let v858 : BitVec 32 := Scalar.muli v856 c1024_i32_506
  let v859 : BitVec 32 := v858
  let v860 : Index := Scalar.indexCast v859
  let c0_508 : Index := 0#32
  ![0, v860.toNat, 0]
def k0_off24 (i : grid0.Coords) (k0_t1 : Fin (k0_t1_loop i).trips) : Fin 4 → Nat :=
  let c0_509 : Index := 0#32
  let c0_510 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_506 : BitVec 32 := 1024#32
  let v858 : BitVec 32 := Scalar.muli v856 c1024_i32_506
  let v859 : BitVec 32 := v858
  let v863 : Index := Scalar.indexCast v859
  let c0_511 : Index := 0#32
  ![0, 0, v863.toNat, 0]
def k0_off25 (i : grid0.Coords) (k0_t1 : Fin (k0_t1_loop i).trips) : Fin 4 → Nat :=
  let c0_529 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_505 : BitVec 32 := 1#32
  let v857 : BitVec 32 := Scalar.addi v856 c1_i32_505
  let v887 : Index := Scalar.indexCast v857
  let c0_530 : Index := 0#32
  let c0_531 : Index := 0#32
  ![0, v887.toNat, 0, 0]
def k0_mult26 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_542 : BitVec 32 := 1024#32
  let v905 : BitVec 32 := Scalar.muli v856 c1024_i32_542
  v905
def k0_mult27 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_578 : BitVec 32 := 1024#32
  let v952 : BitVec 32 := Scalar.muli v856 c1024_i32_578
  v952
def k0_mult28 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_614 : BitVec 32 := 1024#32
  let v999 : BitVec 32 := Scalar.muli v856 c1024_i32_614
  v999
def k0_mult29 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_650 : BitVec 32 := 1024#32
  let v1046 : BitVec 32 := Scalar.muli v856 c1024_i32_650
  v1046
def k0_off26 (i : grid0.Coords) (k0_t1 : Fin (k0_t1_loop i).trips) : Fin 4 → Nat :=
  let c0_673 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_505 : BitVec 32 := 1#32
  let v857 : BitVec 32 := Scalar.addi v856 c1_i32_505
  let v1075 : Index := Scalar.indexCast v857
  let c64_674 : Index := 64#32
  let c0_675 : Index := 0#32
  ![0, v1075.toNat, 64, 0]
def k0_mult30 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_686 : BitVec 32 := 1024#32
  let v1093 : BitVec 32 := Scalar.muli v856 c1024_i32_686
  v1093
def k0_mult31 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_722 : BitVec 32 := 1024#32
  let v1140 : BitVec 32 := Scalar.muli v856 c1024_i32_722
  v1140
def k0_mult32 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1024_i32_758 : BitVec 32 := 1024#32
  let v1187 : BitVec 32 := Scalar.muli v856 c1024_i32_758
  v1187
def k0_mult33 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  v1235
def k0_off27 (i : grid0.Coords) (k0_t1 : Fin (k0_t1_loop i).trips) : Fin 3 → Nat :=
  let c0_796 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  let v1236 : BitVec 32 := v1235
  let v1237 : Index := Scalar.indexCast v1236
  let c0_797 : Index := 0#32
  ![0, v1237.toNat, 0]
def k0_off28 (i : grid0.Coords) (k0_t1 : Fin (k0_t1_loop i).trips) : Fin 4 → Nat :=
  let c0_798 : Index := 0#32
  let c0_799 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  let v1236 : BitVec 32 := v1235
  let v1240 : Index := Scalar.indexCast v1236
  let c0_800 : Index := 0#32
  ![0, 0, v1240.toNat, 0]
def k0_off29 (i : grid0.Coords) (k0_t1 : Fin (k0_t1_loop i).trips) : Fin 4 → Nat :=
  let c0_818 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let v1264 : Index := Scalar.indexCast v856
  let c0_819 : Index := 0#32
  let c0_820 : Index := 0#32
  ![0, v1264.toNat, 0, 0]
def k0_mult34 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_831 : BitVec 32 := 1024#32
  let v1282 : BitVec 32 := Scalar.muli v1234 c1024_i32_831
  v1282
def k0_mult35 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_867 : BitVec 32 := 1024#32
  let v1329 : BitVec 32 := Scalar.muli v1234 c1024_i32_867
  v1329
def k0_mult36 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_903 : BitVec 32 := 1024#32
  let v1376 : BitVec 32 := Scalar.muli v1234 c1024_i32_903
  v1376
def k0_mult37 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_939 : BitVec 32 := 1024#32
  let v1423 : BitVec 32 := Scalar.muli v1234 c1024_i32_939
  v1423
def k0_off30 (i : grid0.Coords) (k0_t1 : Fin (k0_t1_loop i).trips) : Fin 4 → Nat :=
  let c0_962 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let v1452 : Index := Scalar.indexCast v856
  let c64_963 : Index := 64#32
  let c0_964 : Index := 0#32
  ![0, v1452.toNat, 64, 0]
def k0_mult38 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_975 : BitVec 32 := 1024#32
  let v1470 : BitVec 32 := Scalar.muli v1234 c1024_i32_975
  v1470
def k0_mult39 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_1011 : BitVec 32 := 1024#32
  let v1517 : BitVec 32 := Scalar.muli v1234 c1024_i32_1011
  v1517
def k0_mult40 (i : grid0.Coords) (k0_t1 : Fin (k0_t1_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_485 : BitVec 32 := 1#32
  let arg18 : BitVec 32 := Scf.iv c0_i32_483 c1_i32_485 k0_t1
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_1047 : BitVec 32 := 1024#32
  let v1564 : BitVec 32 := Scalar.muli v1234 c1024_i32_1047
  v1564
@[reducible] def k0_t2_loop (i : grid0.Coords) : Scf.Loop 32 :=
  let c0_i32_483 : BitVec 32 := 0#32
  let arg2 : BitVec 32 := BitVec.ofNat 32 (i 2).val
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let v824 : BitVec 32 := Scalar.addi c0_i32_483 v823
  let c1_i32_486 : BitVec 32 := 1#32
  ⟨v827, v824, c1_i32_486⟩
def k0_mult41 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_506 : BitVec 32 := 1024#32
  let v858 : BitVec 32 := Scalar.muli v856 c1024_i32_506
  v858
def k0_off31 (i : grid0.Coords) (k0_t2 : Fin (k0_t2_loop i).trips) : Fin 3 → Nat :=
  let c0_507 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_506 : BitVec 32 := 1024#32
  let v858 : BitVec 32 := Scalar.muli v856 c1024_i32_506
  let v859 : BitVec 32 := v858
  let v860 : Index := Scalar.indexCast v859
  let c0_508 : Index := 0#32
  ![0, v860.toNat, 0]
def k0_off32 (i : grid0.Coords) (k0_t2 : Fin (k0_t2_loop i).trips) : Fin 4 → Nat :=
  let c0_509 : Index := 0#32
  let c0_510 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_506 : BitVec 32 := 1024#32
  let v858 : BitVec 32 := Scalar.muli v856 c1024_i32_506
  let v859 : BitVec 32 := v858
  let v863 : Index := Scalar.indexCast v859
  let c0_511 : Index := 0#32
  ![0, 0, v863.toNat, 0]
def k0_off33 (i : grid0.Coords) (k0_t2 : Fin (k0_t2_loop i).trips) : Fin 4 → Nat :=
  let c0_529 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_505 : BitVec 32 := 1#32
  let v857 : BitVec 32 := Scalar.addi v856 c1_i32_505
  let v887 : Index := Scalar.indexCast v857
  let c0_530 : Index := 0#32
  let c0_531 : Index := 0#32
  ![0, v887.toNat, 0, 0]
def k0_mult42 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_542 : BitVec 32 := 1024#32
  let v905 : BitVec 32 := Scalar.muli v856 c1024_i32_542
  v905
def k0_mult43 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_578 : BitVec 32 := 1024#32
  let v952 : BitVec 32 := Scalar.muli v856 c1024_i32_578
  v952
def k0_mult44 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_614 : BitVec 32 := 1024#32
  let v999 : BitVec 32 := Scalar.muli v856 c1024_i32_614
  v999
def k0_mult45 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_650 : BitVec 32 := 1024#32
  let v1046 : BitVec 32 := Scalar.muli v856 c1024_i32_650
  v1046
def k0_off34 (i : grid0.Coords) (k0_t2 : Fin (k0_t2_loop i).trips) : Fin 4 → Nat :=
  let c0_673 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_505 : BitVec 32 := 1#32
  let v857 : BitVec 32 := Scalar.addi v856 c1_i32_505
  let v1075 : Index := Scalar.indexCast v857
  let c64_674 : Index := 64#32
  let c0_675 : Index := 0#32
  ![0, v1075.toNat, 64, 0]
def k0_mult46 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_686 : BitVec 32 := 1024#32
  let v1093 : BitVec 32 := Scalar.muli v856 c1024_i32_686
  v1093
def k0_mult47 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_722 : BitVec 32 := 1024#32
  let v1140 : BitVec 32 := Scalar.muli v856 c1024_i32_722
  v1140
def k0_mult48 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1024_i32_758 : BitVec 32 := 1024#32
  let v1187 : BitVec 32 := Scalar.muli v856 c1024_i32_758
  v1187
def k0_mult49 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  v1235
def k0_off35 (i : grid0.Coords) (k0_t2 : Fin (k0_t2_loop i).trips) : Fin 3 → Nat :=
  let c0_796 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  let v1236 : BitVec 32 := v1235
  let v1237 : Index := Scalar.indexCast v1236
  let c0_797 : Index := 0#32
  ![0, v1237.toNat, 0]
def k0_off36 (i : grid0.Coords) (k0_t2 : Fin (k0_t2_loop i).trips) : Fin 4 → Nat :=
  let c0_798 : Index := 0#32
  let c0_799 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_795 : BitVec 32 := 1024#32
  let v1235 : BitVec 32 := Scalar.muli v1234 c1024_i32_795
  let v1236 : BitVec 32 := v1235
  let v1240 : Index := Scalar.indexCast v1236
  let c0_800 : Index := 0#32
  ![0, 0, v1240.toNat, 0]
def k0_off37 (i : grid0.Coords) (k0_t2 : Fin (k0_t2_loop i).trips) : Fin 4 → Nat :=
  let c0_818 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let v1264 : Index := Scalar.indexCast v856
  let c0_819 : Index := 0#32
  let c0_820 : Index := 0#32
  ![0, v1264.toNat, 0, 0]
def k0_mult50 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_831 : BitVec 32 := 1024#32
  let v1282 : BitVec 32 := Scalar.muli v1234 c1024_i32_831
  v1282
def k0_mult51 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_867 : BitVec 32 := 1024#32
  let v1329 : BitVec 32 := Scalar.muli v1234 c1024_i32_867
  v1329
def k0_mult52 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_903 : BitVec 32 := 1024#32
  let v1376 : BitVec 32 := Scalar.muli v1234 c1024_i32_903
  v1376
def k0_mult53 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_939 : BitVec 32 := 1024#32
  let v1423 : BitVec 32 := Scalar.muli v1234 c1024_i32_939
  v1423
def k0_off38 (i : grid0.Coords) (k0_t2 : Fin (k0_t2_loop i).trips) : Fin 4 → Nat :=
  let c0_962 : Index := 0#32
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let v1452 : Index := Scalar.indexCast v856
  let c64_963 : Index := 64#32
  let c0_964 : Index := 0#32
  ![0, v1452.toNat, 64, 0]
def k0_mult54 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_975 : BitVec 32 := 1024#32
  let v1470 : BitVec 32 := Scalar.muli v1234 c1024_i32_975
  v1470
def k0_mult55 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_1011 : BitVec 32 := 1024#32
  let v1517 : BitVec 32 := Scalar.muli v1234 c1024_i32_1011
  v1517
def k0_mult56 (i : grid0.Coords) (k0_t2 : Fin (k0_t2_loop i).trips) : BitVec 32 :=
  let arg2 : BitVec 32 := BitVec.ofNat 32 (i 2).val
  let c2_i32_503 : BitVec 32 := 2#32
  let v854 : BitVec 32 := Scalar.subi arg2 c2_i32_503
  let c2_i32_504 : BitVec 32 := 2#32
  let c0_i32_483 : BitVec 32 := 0#32
  let c1_i32_475 : BitVec 32 := 1#32
  let v805 : BitVec 32 := Scalar.subi arg2 c1_i32_475
  let c0_i32_476 : BitVec 32 := 0#32
  let v807 : BitVec 1 := Scalar.cmpi .sgt v805 c0_i32_476
  let v808 : BitVec 32 := Scalar.extui v807
  let c0_i32_477 : BitVec 32 := 0#32
  let v809 : BitVec 1 := Scalar.cmpi .slt v805 c0_i32_477
  let v810 : BitVec 32 := Scalar.extui v809
  let v811 : BitVec 32 := Scalar.subi v808 v810
  let c2_i32 : BitVec 32 := 2#32
  let c0_i32_478 : BitVec 32 := 0#32
  let v812 : BitVec 1 := Scalar.cmpi .sgt c2_i32 c0_i32_478
  let v813 : BitVec 32 := Scalar.extui v812
  let c0_i32_479 : BitVec 32 := 0#32
  let v814 : BitVec 1 := Scalar.cmpi .slt c2_i32 c0_i32_479
  let v815 : BitVec 32 := Scalar.extui v814
  let v816 : BitVec 32 := Scalar.subi v813 v815
  let v817 : BitVec 1 := Scalar.cmpi .ne v811 v816
  let v818 : BitVec 32 := Scalar.remsi v805 c2_i32
  let c0_i32_480 : BitVec 32 := 0#32
  let v819 : BitVec 1 := Scalar.cmpi .ne v818 c0_i32_480
  let v820 : BitVec 1 := Scalar.andi v817 v819
  let v806 : BitVec 32 := Scalar.divsi v805 c2_i32
  let c1_i32_481 : BitVec 32 := 1#32
  let v821 : BitVec 32 := Scalar.subi v806 c1_i32_481
  let v822 : BitVec 32 := Scalar.select v820 v821 v806
  let v823 : BitVec 32 := Scalar.subi v822 c0_i32_483
  let c1_i32_484 : BitVec 32 := 1#32
  let v825 : BitVec 32 := Scalar.divsi v823 c1_i32_484
  let v826 : BitVec 32 := Scalar.muli v825 c1_i32_484
  let v827 : BitVec 32 := Scalar.addi c0_i32_483 v826
  let c1_i32_486 : BitVec 32 := 1#32
  let arg18 : BitVec 32 := Scf.iv v827 c1_i32_486 k0_t2
  let v855 : BitVec 32 := Scalar.muli c2_i32_504 arg18
  let v856 : BitVec 32 := Scalar.subi v854 v855
  let c1_i32_794 : BitVec 32 := 1#32
  let v1234 : BitVec 32 := Scalar.subi v856 c1_i32_794
  let c1024_i32_1047 : BitVec 32 := 1024#32
  let v1564 : BitVec 32 := Scalar.muli v1234 c1024_i32_1047
  v1564
def k0_cond5 (i : grid0.Coords) : BitVec 1 :=
  let arg2 : BitVec 32 := BitVec.ofNat 32 (i 2).val
  let c1_i32_475 : BitVec 32 := 1#32
  let v805 : BitVec 32 := Scalar.subi arg2 c1_i32_475
  let c2_i32_487 : BitVec 32 := 2#32
  let c0_i32_488 : BitVec 32 := 0#32
  let v828 : BitVec 1 := Scalar.cmpi .eq c2_i32_487 c0_i32_488
  let c1_i32_489 : BitVec 32 := 1#32
  let v829 : BitVec 32 := Scalar.select v828 c1_i32_489 c2_i32_487
  let v830 : BitVec 32 := Scalar.remsi v805 v829
  let c0_i32_491 : BitVec 32 := 0#32
  let v832 : BitVec 1 := Scalar.cmpi .slt v830 c0_i32_491
  let c0_i32_492 : BitVec 32 := 0#32
  let v833 : BitVec 1 := Scalar.cmpi .slt v829 c0_i32_492
  let v834 : BitVec 1 := Scalar.xori v832 v833
  let c0_i32_490 : BitVec 32 := 0#32
  let v831 : BitVec 1 := Scalar.cmpi .ne v830 c0_i32_490
  let v835 : BitVec 1 := Scalar.andi v834 v831
  let v836 : BitVec 32 := Scalar.addi v830 v829
  let v837 : BitVec 32 := Scalar.select v835 v836 v830
  let c1_i32_493 : BitVec 32 := 1#32
  let v838 : BitVec 1 := Scalar.cmpi .eq v837 c1_i32_493
  let v839 : BitVec 32 := Scalar.extui v838
  let c0_i32_494 : BitVec 32 := 0#32
  let v840 : BitVec 1 := Scalar.cmpi .ne v839 c0_i32_494
  v840

def k0_mult57 : BitVec 32 :=
  let c0_i32_503 : BitVec 32 := 0#32
  c0_i32_503
def k0_mult58 : BitVec 32 :=
  let c0_i32_540 : BitVec 32 := 0#32
  c0_i32_540
def k0_mult59 : BitVec 32 :=
  let c0_i32_577 : BitVec 32 := 0#32
  c0_i32_577
def k0_mult60 : BitVec 32 :=
  let c0_i32_614 : BitVec 32 := 0#32
  c0_i32_614
def k0_mult61 : BitVec 32 :=
  let c0_i32_651 : BitVec 32 := 0#32
  c0_i32_651
def k0_mult62 : BitVec 32 :=
  let c0_i32_688 : BitVec 32 := 0#32
  c0_i32_688
def k0_mult63 : BitVec 32 :=
  let c0_i32_725 : BitVec 32 := 0#32
  c0_i32_725
def k0_mult64 : BitVec 32 :=
  let c0_i32_762 : BitVec 32 := 0#32
  c0_i32_762
def k0_mult65 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_928 : BitVec 32 := 1024#32
  let v1545 : BitVec 32 := Scalar.muli v1215 c1024_i32_928
  v1545
def k0_off39 (i : grid0.Coords) : Fin 3 → Nat :=
  let c0_929 : Index := 0#32
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_928 : BitVec 32 := 1024#32
  let v1545 : BitVec 32 := Scalar.muli v1215 c1024_i32_928
  let v1546 : BitVec 32 := v1545
  let v1547 : Index := Scalar.indexCast v1546
  let c0_930 : Index := 0#32
  ![0, v1547.toNat, 0]
def k0_off40 (i : grid0.Coords) : Fin 4 → Nat :=
  let c0_931 : Index := 0#32
  let c0_932 : Index := 0#32
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_928 : BitVec 32 := 1024#32
  let v1545 : BitVec 32 := Scalar.muli v1215 c1024_i32_928
  let v1546 : BitVec 32 := v1545
  let v1550 : Index := Scalar.indexCast v1546
  let c0_933 : Index := 0#32
  ![0, 0, v1550.toNat, 0]
def k0_mult66 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_968 : BitVec 32 := 1024#32
  let v1595 : BitVec 32 := Scalar.muli v1215 c1024_i32_968
  v1595
def k0_mult67 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1008 : BitVec 32 := 1024#32
  let v1645 : BitVec 32 := Scalar.muli v1215 c1024_i32_1008
  v1645
def k0_mult68 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1048 : BitVec 32 := 1024#32
  let v1695 : BitVec 32 := Scalar.muli v1215 c1024_i32_1048
  v1695
def k0_mult69 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1088 : BitVec 32 := 1024#32
  let v1744 : BitVec 32 := Scalar.muli v1215 c1024_i32_1088
  v1744
def k0_mult70 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1128 : BitVec 32 := 1024#32
  let v1794 : BitVec 32 := Scalar.muli v1215 c1024_i32_1128
  v1794
def k0_mult71 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1168 : BitVec 32 := 1024#32
  let v1844 : BitVec 32 := Scalar.muli v1215 c1024_i32_1168
  v1844
def k0_mult72 (i : grid0.Coords) : BitVec 32 :=
  let arg2 : BitVec 32 := BitVec.ofNat 32 (i 2).val
  let c1_i32_799 : BitVec 32 := 1#32
  let v1214 : BitVec 32 := Scalar.addi arg2 c1_i32_799
  let c7_i32 : BitVec 32 := 7#32
  let v1215 : BitVec 32 := Scalar.minsi v1214 c7_i32
  let c1024_i32_1208 : BitVec 32 := 1024#32
  let v1894 : BitVec 32 := Scalar.muli v1215 c1024_i32_1208
  v1894
def k0_cond6 (i : grid0.Coords) : BitVec 1 :=
  let arg2 : BitVec 32 := BitVec.ofNat 32 (i 2).val
  let c1_i32_475 : BitVec 32 := 1#32
  let v805 : BitVec 32 := Scalar.subi arg2 c1_i32_475
  let c2_i32_495 : BitVec 32 := 2#32
  let c0_i32_496 : BitVec 32 := 0#32
  let v841 : BitVec 1 := Scalar.cmpi .eq c2_i32_495 c0_i32_496
  let c1_i32_497 : BitVec 32 := 1#32
  let v842 : BitVec 32 := Scalar.select v841 c1_i32_497 c2_i32_495
  let v843 : BitVec 32 := Scalar.remsi v805 v842
  let c0_i32_499 : BitVec 32 := 0#32
  let v845 : BitVec 1 := Scalar.cmpi .slt v843 c0_i32_499
  let c0_i32_500 : BitVec 32 := 0#32
  let v846 : BitVec 1 := Scalar.cmpi .slt v842 c0_i32_500
  let v847 : BitVec 1 := Scalar.xori v845 v846
  let c0_i32_498 : BitVec 32 := 0#32
  let v844 : BitVec 1 := Scalar.cmpi .ne v843 c0_i32_498
  let v848 : BitVec 1 := Scalar.andi v847 v844
  let v849 : BitVec 32 := Scalar.addi v843 v842
  let v850 : BitVec 32 := Scalar.select v848 v849 v843
  let c0_i32_501 : BitVec 32 := 0#32
  let v851 : BitVec 1 := Scalar.cmpi .eq v850 c0_i32_501
  let v852 : BitVec 32 := Scalar.extui v851
  let c0_i32_502 : BitVec 32 := 0#32
  let v853 : BitVec 1 := Scalar.cmpi .ne v852 c0_i32_502
  v853

def k0_mult73 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_632 : BitVec 32 := 1024#32
  let v1185 : BitVec 32 := Scalar.muli v855 c1024_i32_632
  v1185
def k0_off41 (i : grid0.Coords) : Fin 3 → Nat :=
  let c0_633 : Index := 0#32
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_632 : BitVec 32 := 1024#32
  let v1185 : BitVec 32 := Scalar.muli v855 c1024_i32_632
  let v1186 : BitVec 32 := v1185
  let v1187 : Index := Scalar.indexCast v1186
  let c0_634 : Index := 0#32
  ![0, v1187.toNat, 0]
def k0_off42 (i : grid0.Coords) : Fin 4 → Nat :=
  let c0_635 : Index := 0#32
  let c0_636 : Index := 0#32
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_632 : BitVec 32 := 1024#32
  let v1185 : BitVec 32 := Scalar.muli v855 c1024_i32_632
  let v1186 : BitVec 32 := v1185
  let v1190 : Index := Scalar.indexCast v1186
  let c0_637 : Index := 0#32
  ![0, 0, v1190.toNat, 0]
def k0_mult74 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_672 : BitVec 32 := 1024#32
  let v1235 : BitVec 32 := Scalar.muli v855 c1024_i32_672
  v1235
def k0_mult75 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_712 : BitVec 32 := 1024#32
  let v1285 : BitVec 32 := Scalar.muli v855 c1024_i32_712
  v1285
def k0_mult76 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_752 : BitVec 32 := 1024#32
  let v1335 : BitVec 32 := Scalar.muli v855 c1024_i32_752
  v1335
def k0_mult77 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_792 : BitVec 32 := 1024#32
  let v1384 : BitVec 32 := Scalar.muli v855 c1024_i32_792
  v1384
def k0_mult78 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_832 : BitVec 32 := 1024#32
  let v1434 : BitVec 32 := Scalar.muli v855 c1024_i32_832
  v1434
def k0_mult79 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_872 : BitVec 32 := 1024#32
  let v1484 : BitVec 32 := Scalar.muli v855 c1024_i32_872
  v1484
def k0_mult80 (i : grid0.Coords) : BitVec 32 :=
  let arg2 : BitVec 32 := BitVec.ofNat 32 (i 2).val
  let c1_i32_503 : BitVec 32 := 1#32
  let v854 : BitVec 32 := Scalar.addi arg2 c1_i32_503
  let c7_i32 : BitVec 32 := 7#32
  let v855 : BitVec 32 := Scalar.minsi v854 c7_i32
  let c1024_i32_912 : BitVec 32 := 1024#32
  let v1534 : BitVec 32 := Scalar.muli v855 c1024_i32_912
  v1534
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c7_i32 : BitVec 32 := 7#32
  let v1 : BitVec 32 := Scalar.minsi v0 c7_i32
  let c0_i32 : BitVec 32 := 0#32
  ![arg0.toNat, v1.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x3x8x8192 : Shape := ⟨4, ![4, 3, 8, 8192]⟩
abbrev S4x8x512x1024 : Shape := ⟨4, ![4, 8, 512, 1024]⟩
abbrev S4x8192x8x64 : Shape := ⟨4, ![4, 8192, 8, 64]⟩
abbrev S4x8x8192x64 : Shape := ⟨4, ![4, 8, 8192, 64]⟩
abbrev S4x8x8x64x1024 : Shape := ⟨5, ![4, 8, 8, 64, 1024]⟩
abbrev S4x8x8x1024x64 : Shape := ⟨5, ![4, 8, 8, 1024, 64]⟩
abbrev S_ : Shape := ⟨0, ![]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x3x8x8192, .f32⟩
  | .hbm, ⟨3, _⟩ => ⟨S4x8x512x1024, .bf16⟩
  | .hbm, ⟨4, _⟩ => ⟨S4x8192x512, .f32⟩
  | .hbm, ⟨5, _⟩ => ⟨S4x8192x8x64, .f32⟩
  | .hbm, ⟨6, _⟩ => ⟨S4x8x8192x64, .f32⟩
  | .hbm, ⟨7, _⟩ => ⟨S4x8192x512, .f32⟩
  | .hbm, ⟨8, _⟩ => ⟨S4x8192x8x64, .f32⟩
  | .hbm, ⟨9, _⟩ => ⟨S4x8x8192x64, .f32⟩
  | .hbm, ⟨10, _⟩ => ⟨S4x8x512x1024, .f32⟩
  | .hbm, ⟨11, _⟩ => ⟨S4x8x8x64x1024, .f32⟩
  | .hbm, ⟨12, _⟩ => ⟨S4x8x8x1024x64, .f32⟩
  | .hbm, ⟨13, _⟩ => ⟨S4x8x8192x64, .f32⟩
  | .hbm, ⟨14, _⟩ => ⟨S_, .f32⟩
  | .hbm, ⟨15, _⟩ => ⟨S4x8x8192, .f32⟩
  | .hbm, ⟨16, _⟩ => ⟨S4x8x8192x8192, .f32⟩
  | .hbm, ⟨17, _⟩ => ⟨S4x8x8192x1, .f32⟩
  | .hbm, ⟨18, _⟩ => ⟨S4x8x1x8192, .f32⟩
  | .hbm, ⟨19, _⟩ => ⟨S4x8x8192x8192, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x8x8192x8192, .i1⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S4x8x8192x8192, .f32⟩
  | .hbm, ⟨36, _⟩ => ⟨S_, .f32⟩
  | .hbm, ⟨37, _⟩ => ⟨S4x8x8192, .f32⟩
  | .hbm, ⟨38, _⟩ => ⟨S4x8x8192x1, .f32⟩
  | .hbm, ⟨39, _⟩ => ⟨S4x8x8192x8192, .f32⟩
  | .hbm, ⟨40, _⟩ => ⟨S4x8x8192x8192, .f32⟩
  | .hbm, ⟨41, _⟩ => ⟨S4x8x8192x8192, .f32⟩
  | .hbm, ⟨42, _⟩ => ⟨S_, .f32⟩
  | .hbm, ⟨43, _⟩ => ⟨S4x8x8192, .f32⟩
  | .hbm, ⟨44, _⟩ => ⟨S4x8x8192x1, .f32⟩
  | .hbm, ⟨45, _⟩ => ⟨S4x8x8192x8192, .f32⟩
  | .hbm, ⟨46, _⟩ => ⟨S4x8x8192x8192, .f32⟩
  | .hbm, ⟨47, _⟩ => ⟨S4x8x8192x64, .f32⟩
  | .hbm, ⟨48, _⟩ => ⟨S4x8192x8x64, .f32⟩
  | .hbm, ⟨49, _⟩ => ⟨S4x8192x512, .f32⟩
  | .hbm, ⟨50, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x4x8192x256 : Shape := ⟨4, ![2, 4, 8192, 256]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S2x256x1024 : Shape := ⟨3, ![2, 256, 1024]⟩
abbrev S2x1024x1024 : Shape := ⟨3, ![2, 1024, 1024]⟩
abbrev S32768x1024 : Shape := ⟨2, ![32768, 1024]⟩
abbrev S2x3x1x1024 : Shape := ⟨4, ![2, 3, 1, 1024]⟩
abbrev S2x32768x256 : Shape := ⟨3, ![2, 32768, 256]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S1x1024x256 : Shape := ⟨3, ![1, 1024, 256]⟩
abbrev S1x1024x1024 : Shape := ⟨3, ![1, 1024, 1024]⟩
abbrev S1x256x1024 : Shape := ⟨3, ![1, 256, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x256x1024, .f32⟩
  | .hbm, ⟨8, _⟩ => ⟨S2x1024x1024, .f32⟩
  | .hbm, ⟨9, _⟩ => ⟨S32768x1024, .f32⟩
  | .hbm, ⟨10, _⟩ => ⟨S2x2x1024x2816, .bf16⟩
  | .hbm, ⟨11, _⟩ => ⟨S2x2x1024x2816, .bf16⟩
  | .hbm, ⟨12, _⟩ => ⟨S2x2x2816x1024, .bf16⟩
  | .hbm, ⟨13, _⟩ => ⟨S2x3x1x1024, .f32⟩
  | .hbm, ⟨14, _⟩ => ⟨S2x3x1x1024, .f32⟩
  | .hbm, ⟨15, _⟩ => ⟨S2x32768x256, .f32⟩
  | .hbm, ⟨16, _⟩ => ⟨S2x1024x1024, .bf16⟩
  | .hbm, ⟨17, _⟩ => ⟨S2x256x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x2816x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S2x4x8192x256 : Shape := ⟨4, ![2, 4, 8192, 256]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S2x256x1024 : Shape := ⟨3, ![2, 256, 1024]⟩
abbrev S2x1024x1024 : Shape := ⟨3, ![2, 1024, 1024]⟩
abbrev S32768x1024 : Shape := ⟨2, ![32768, 1024]⟩
abbrev S2x32768x256 : Shape := ⟨3, ![2, 32768, 256]⟩
abbrev S1x1x1024x2816 : Shape := ⟨4, ![1, 1, 1024, 2816]⟩
abbrev S1024x2816 : Shape := ⟨2, ![1024, 2816]⟩
abbrev S32768x2816 : Shape := ⟨2, ![32768, 2816]⟩
abbrev S_ : Shape := ⟨0, ![]⟩
abbrev S1x1x2816x1024 : Shape := ⟨4, ![1, 1, 2816, 1024]⟩
abbrev S2816x1024 : Shape := ⟨2, ![2816, 1024]⟩
abbrev S32768 : Shape := ⟨1, ![32768]⟩
abbrev S32768x1 : Shape := ⟨2, ![32768, 1]⟩
abbrev S1x1x1024 : Shape := ⟨3, ![1, 1, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x4x8192x256, .f32⟩
  | .hbm, ⟨2, _⟩ => ⟨S2x3x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x256x1024, .f32⟩
  | .hbm, ⟨8, _⟩ => ⟨S2x1024x1024, .f32⟩
  | .hbm, ⟨9, _⟩ => ⟨S32768x1024, .f32⟩
  | .hbm, ⟨10, _⟩ => ⟨S2x32768x256, .f32⟩
  | .hbm, ⟨11, _⟩ => ⟨S1x1x1024x2816, .f32⟩
  | .hbm, ⟨12, _⟩ => ⟨S1024x2816, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S_, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S1x1x1024x2816, .f32⟩
  | .hbm, ⟨24, _⟩ => ⟨S1024x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S1x1x2816x1024, .f32⟩
  | .hbm, ⟨31, _⟩ => ⟨S2816x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1x1024, .f32⟩
  | .hbm, ⟨61, _⟩ => ⟨S1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1x1x1024, .f32⟩
  | .hbm, ⟨66, _⟩ => ⟨S1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S1x1024x1024, .f32⟩
  | .hbm, ⟨71, _⟩ => ⟨S1024x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S_, .f32⟩
  | .hbm, ⟨79, _⟩ => ⟨S32768x1024, .f32⟩
  | .hbm, ⟨80, _⟩ => ⟨S32768x1024, .f32⟩
  | .hbm, ⟨81, _⟩ => ⟨S1x32768x256, .f32⟩
  | .hbm, ⟨82, _⟩ => ⟨S32768x256, .f32⟩
  | .hbm, ⟨83, _⟩ => ⟨S1x256x1024, .f32⟩
  | .hbm, ⟨84, _⟩ => ⟨S256x1024, .f32⟩
  | .hbm, ⟨85, _⟩ => ⟨S32768x1024, .f32⟩
  | .hbm, ⟨86, _⟩ => ⟨S32768x1024, .f32⟩
  | .hbm, ⟨87, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Kernel3.lean ====
abbrev S4x8192x1024 : Shape := ⟨3, ![4, 8192, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S32768x1024 : Shape := ⟨2, ![32768, 1024]⟩
abbrev S2x3x1x1024 : Shape := ⟨4, ![2, 3, 1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x3x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S32768x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S2x3x1x1024, .f32⟩
  | .hbm, ⟨11, _⟩ => ⟨S2x3x1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x2816x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x8192x1024 : Shape := ⟨3, ![4, 8192, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S32768x1024 : Shape := ⟨2, ![32768, 1024]⟩
abbrev S1x1x1024x2816 : Shape := ⟨4, ![1, 1, 1024, 2816]⟩
abbrev S1024x2816 : Shape := ⟨2, ![1024, 2816]⟩
abbrev S32768x2816 : Shape := ⟨2, ![32768, 2816]⟩
abbrev S_ : Shape := ⟨0, ![]⟩
abbrev S1x1x2816x1024 : Shape := ⟨4, ![1, 1, 2816, 1024]⟩
abbrev S2816x1024 : Shape := ⟨2, ![2816, 1024]⟩
abbrev S32768 : Shape := ⟨1, ![32768]⟩
abbrev S32768x1 : Shape := ⟨2, ![32768, 1]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x3x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S32768x1024, .f32⟩
  | .hbm, ⟨7, _⟩ => ⟨S1x1x1024x2816, .f32⟩
  | .hbm, ⟨8, _⟩ => ⟨S1024x2816, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S1x1x1024x2816, .f32⟩
  | .hbm, ⟨20, _⟩ => ⟨S1024x2816, .f32⟩
  | .hbm, ⟨21, _⟩ => ⟨S32768x2816, .f32⟩
  | .hbm, ⟨22, _⟩ => ⟨S32768x2816, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S1x1x2816x1024, .f32⟩
  | .hbm, ⟨27, _⟩ => ⟨S2816x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S1x1x1024, .f32⟩
  | .hbm, ⟨62, _⟩ => ⟨S1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel4.lean ====
abbrev S4x8192x1024 : Shape := ⟨3, ![4, 8192, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S32768x1024 : Shape := ⟨2, ![32768, 1024]⟩
abbrev S2x3x1x1024 : Shape := ⟨4, ![2, 3, 1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x3x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S32768x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S2x3x1x1024, .f32⟩
  | .hbm, ⟨11, _⟩ => ⟨S2x3x1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1x1x2816x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x8192x1024 : Shape := ⟨3, ![4, 8192, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S32768x1024 : Shape := ⟨2, ![32768, 1024]⟩
abbrev S1x1x1024x2816 : Shape := ⟨4, ![1, 1, 1024, 2816]⟩
abbrev S1024x2816 : Shape := ⟨2, ![1024, 2816]⟩
abbrev S32768x2816 : Shape := ⟨2, ![32768, 2816]⟩
abbrev S_ : Shape := ⟨0, ![]⟩
abbrev S1x1x2816x1024 : Shape := ⟨4, ![1, 1, 2816, 1024]⟩
abbrev S2816x1024 : Shape := ⟨2, ![2816, 1024]⟩
abbrev S32768 : Shape := ⟨1, ![32768]⟩
abbrev S32768x1 : Shape := ⟨2, ![32768, 1]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x3x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S32768x1024, .f32⟩
  | .hbm, ⟨7, _⟩ => ⟨S1x1x1024x2816, .f32⟩
  | .hbm, ⟨8, _⟩ => ⟨S1024x2816, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S1x1x1024x2816, .f32⟩
  | .hbm, ⟨20, _⟩ => ⟨S1024x2816, .f32⟩
  | .hbm, ⟨21, _⟩ => ⟨S32768x2816, .f32⟩
  | .hbm, ⟨22, _⟩ => ⟨S32768x2816, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S1x1x2816x1024, .f32⟩
  | .hbm, ⟨27, _⟩ => ⟨S2816x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1x1024, .f32⟩
  | .hbm, ⟨57, _⟩ => ⟨S1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S1x1x1024, .f32⟩
  | .hbm, ⟨62, _⟩ => ⟨S1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S2x4x8192x256 : Shape := ⟨4, ![2, 4, 8192, 256]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S2x256x1024 : Shape := ⟨3, ![2, 256, 1024]⟩
abbrev S2x1024x1024 : Shape := ⟨3, ![2, 1024, 1024]⟩
abbrev S32768x1024 : Shape := ⟨2, ![32768, 1024]⟩
abbrev S32768x512 : Shape := ⟨2, ![32768, 512]⟩
abbrev S2x3x1x1024 : Shape := ⟨4, ![2, 3, 1, 1024]⟩
abbrev S2x32768x256 : Shape := ⟨3, ![2, 32768, 256]⟩
abbrev S1x2x512x1024 : Shape := ⟨4, ![1, 2, 512, 1024]⟩
abbrev S1024x1024 : Shape := ⟨2, ![1024, 1024]⟩
abbrev S1024x512 : Shape := ⟨2, ![1024, 512]⟩
abbrev S1x1x512x1024 : Shape := ⟨4, ![1, 1, 512, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S1x1024x256 : Shape := ⟨3, ![1, 1024, 256]⟩
abbrev S1x256x1024 : Shape := ⟨3, ![1, 256, 1024]⟩
abbrev S512x1024 : Shape := ⟨2, ![512, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 26
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S2x4x8192x256, .f32⟩
  | .hbm, ⟨4, _⟩ => ⟨S2x3x1024, .f32⟩
  | .hbm, ⟨5, _⟩ => ⟨S2x3x1024, .f32⟩
  | .hbm, ⟨6, _⟩ => ⟨S2x2x1024x2816, .f32⟩
  | .hbm, ⟨7, _⟩ => ⟨S2x2x1024x2816, .f32⟩
  | .hbm, ⟨8, _⟩ => ⟨S2x2x2816x1024, .f32⟩
  | .hbm, ⟨9, _⟩ => ⟨S1x1024x1024, .f32⟩
  | .hbm, ⟨10, _⟩ => ⟨S2x256x1024, .f32⟩
  | .hbm, ⟨11, _⟩ => ⟨S2x1024x1024, .f32⟩
  | .hbm, ⟨12, _⟩ => ⟨S32768x1024, .f32⟩
  | .hbm, ⟨13, _⟩ => ⟨S32768x512, .bf16⟩
  | .hbm, ⟨14, _⟩ => ⟨S32768x512, .bf16⟩
  | .hbm, ⟨15, _⟩ => ⟨S2x2x1024x2816, .bf16⟩
  | .hbm, ⟨16, _⟩ => ⟨S2x2x1024x2816, .bf16⟩
  | .hbm, ⟨17, _⟩ => ⟨S2x2x2816x1024, .bf16⟩
  | .hbm, ⟨18, _⟩ => ⟨S2x3x1x1024, .f32⟩
  | .hbm, ⟨19, _⟩ => ⟨S2x3x1x1024, .f32⟩
  | .hbm, ⟨20, _⟩ => ⟨S2x32768x256, .f32⟩
  | .hbm, ⟨21, _⟩ => ⟨S2x1024x1024, .bf16⟩
  | .hbm, ⟨22, _⟩ => ⟨S2x256x1024, .bf16⟩
  | .hbm, ⟨23, _⟩ => ⟨S1x1024x1024, .bf16⟩
  | .hbm, ⟨24, _⟩ => ⟨S1x2x512x1024, .bf16⟩
  | .hbm, ⟨25, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1024x2816, .bf16⟩
  | .local _ .vmem, ⟨11, _⟩ => ⟨S1x1x1024x2816, .bf16⟩
  | .local _ .vmem, ⟨12, _⟩ => ⟨S1x1x2816x1024, .bf16⟩
  | .local _ .vmem, ⟨13, _⟩ => ⟨S1x1x1x1024, .f32⟩
  | .local _ .vmem, ⟨14, _⟩ => ⟨S1x1x1x1024, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x1024, .bf16⟩
  | .local _ .vmem, ⟨18, _⟩ => ⟨S1x256x1024, .bf16⟩
  | .local _ .vmem, ⟨19, _⟩ => ⟨S1024x1024, .f32⟩
  | .local _ .vmem, ⟨20, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4x8192x1024 : Shape := ⟨3, ![4, 8192, 1024]⟩
abbrev S4x8192x512 : Shape := ⟨3, ![4, 8192, 512]⟩
abbrev S2x4x8192x256 : Shape := ⟨4, ![2, 4, 8192, 256]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S2x256x1024 : Shape := ⟨3, ![2, 256, 1024]⟩
abbrev S2x1024x1024 : Shape := ⟨3, ![2, 1024, 1024]⟩
abbrev S32768x1024 : Shape := ⟨2, ![32768, 1024]⟩
abbrev S2x32768x256 : Shape := ⟨3, ![2, 32768, 256]⟩
abbrev S32768x512 : Shape := ⟨2, ![32768, 512]⟩
abbrev S_ : Shape := ⟨0, ![]⟩
abbrev S1024x1024 : Shape := ⟨2, ![1024, 1024]⟩
abbrev S1x1x1024 : Shape := ⟨3, ![1, 1, 1024]⟩
abbrev S1024 : Shape := ⟨1, ![1024]⟩
abbrev S32768 : Shape := ⟨1, ![32768]⟩
abbrev S32768x1 : Shape := ⟨2, ![32768, 1]⟩
abbrev S1x1024 : Shape := ⟨2, ![1, 1024]⟩
abbrev S1x1x1024x2816 : Shape := ⟨4, ![1, 1, 1024, 2816]⟩
abbrev S1024x2816 : Shape := ⟨2, ![1024, 2816]⟩
abbrev S32768x2816 : Shape := ⟨2, ![32768, 2816]⟩
abbrev S1x1x2816x1024 : Shape := ⟨4, ![1, 1, 2816, 1024]⟩
abbrev S2816x1024 : Shape := ⟨2, ![2816, 1024]⟩
abbrev S1x32768x256 : Shape := ⟨3, ![1, 32768, 256]⟩
abbrev S32768x256 : Shape := ⟨2, ![32768, 256]⟩
abbrev S1x256x1024 : Shape := ⟨3, ![1, 256, 1024]⟩
abbrev S256x1024 : Shape := ⟨2, ![256, 1024]⟩

abbrev nBuf : Space → Nat
  | .hbm => 134
  | .vmem => 0
  | .smem => 0
  | _ => 0

abbrev hbmTy0_0 (i : Nat) : BufTy := match i % 128 with
  | 0 => ⟨S4x8192x1024, .f32⟩
  | 1 => ⟨S4x8192x512, .bf16⟩
  | 2 => ⟨S4x8192x512, .bf16⟩
  | 3 => ⟨S2x4x8192x256, .f32⟩
  | 4 => ⟨S2x3x1024, .f32⟩
  | 5 => ⟨S2x3x1024, .f32⟩
  | 6 => ⟨S2x2x1024x2816, .f32⟩
  | 7 => ⟨S2x2x1024x2816, .f32⟩
  | 8 => ⟨S2x2x2816x1024, .f32⟩
  | 9 => ⟨S1x1024x1024, .f32⟩
  | 10 => ⟨S2x256x1024, .f32⟩
  | 11 => ⟨S2x1024x1024, .f32⟩
  | 12 => ⟨S32768x1024, .f32⟩
  | 13 => ⟨S2x32768x256, .f32⟩
  | 14 => ⟨S32768x512, .bf16⟩
  | 15 => ⟨S32768x512, .bf16⟩
  | 16 => ⟨S32768x1024, .bf16⟩
  | 17 => ⟨S32768x1024, .f32⟩
  | 18 => ⟨S_, .f32⟩
  | 19 => ⟨S32768x1024, .f32⟩
  | 20 => ⟨S32768x1024, .f32⟩
  | 21 => ⟨S1024x1024, .f32⟩
  | 22 => ⟨S32768x1024, .f32⟩
  | 23 => ⟨S32768x1024, .f32⟩
  | 24 => ⟨S1x1x1024, .f32⟩
  | 25 => ⟨S1024, .f32⟩
  | 26 => ⟨S1x1x1024, .f32⟩
  | 27 => ⟨S1024, .f32⟩
  | 28 => ⟨S_, .f32⟩
  | 29 => ⟨S32768, .f32⟩
  | 30 => ⟨S32768x1, .f32⟩
  | 31 => ⟨S_, .f32⟩
  | 32 => ⟨S32768x1, .f32⟩
  | 33 => ⟨S32768x1, .f32⟩
  | 34 => ⟨S32768x1024, .f32⟩
  | 35 => ⟨S32768x1024, .f32⟩
  | 36 => ⟨S32768x1024, .f32⟩
  | 37 => ⟨S_, .f32⟩
  | 38 => ⟨S32768, .f32⟩
  | 39 => ⟨S32768x1, .f32⟩
  | 40 => ⟨S_, .f32⟩
  | 41 => ⟨S32768x1, .f32⟩
  | 42 => ⟨S32768x1, .f32⟩
  | 43 => ⟨S32768x1024, .f32⟩
  | 44 => ⟨S32768x1024, .f32⟩
  | 45 => ⟨S_, .f32⟩
  | 46 => ⟨S32768x1, .f32⟩
  | 47 => ⟨S32768x1, .f32⟩
  | 48 => ⟨S32768x1, .f32⟩
  | 49 => ⟨S32768x1024, .f32⟩
  | 50 => ⟨S32768x1024, .f32⟩
  | 51 => ⟨S1x1024, .f32⟩
  | 52 => ⟨S32768x1024, .f32⟩
  | 53 => ⟨S32768x1024, .f32⟩
  | 54 => ⟨S1x1024, .f32⟩
  | 55 => ⟨S32768x1024, .f32⟩
  | 56 => ⟨S32768x1024, .f32⟩
  | 57 => ⟨S1x1x1024x2816, .f32⟩
  | 58 => ⟨S1024x2816, .f32⟩
  | 59 => ⟨S32768x2816, .f32⟩
  | 60 => ⟨S32768x2816, .f32⟩
  | 61 => ⟨S32768x2816, .f32⟩
  | 62 => ⟨S_, .f32⟩
  | 63 => ⟨S32768x2816, .f32⟩
  | 64 => ⟨S32768x2816, .f32⟩
  | 65 => ⟨S_, .f32⟩
  | 66 => ⟨S32768x2816, .f32⟩
  | 67 => ⟨S32768x2816, .f32⟩
  | 68 => ⟨S32768x2816, .f32⟩
  | 69 => ⟨S1x1x1024x2816, .f32⟩
  | 70 => ⟨S1024x2816, .f32⟩
  | 71 => ⟨S32768x2816, .f32⟩
  | 72 => ⟨S32768x2816, .f32⟩
  | 73 => ⟨S_, .f32⟩
  | 74 => ⟨S32768x1024, .f32⟩
  | 75 => ⟨S32768x1024, .f32⟩
  | 76 => ⟨S1x1x2816x1024, .f32⟩
  | 77 => ⟨S2816x1024, .f32⟩
  | 78 => ⟨S32768x1024, .f32⟩
  | 79 => ⟨S_, .f32⟩
  | 80 => ⟨S32768x1024, .f32⟩
  | 81 => ⟨S32768x1024, .f32⟩
  | 82 => ⟨S32768x1024, .f32⟩
  | 83 => ⟨S1x1x1024, .f32⟩
  | 84 => ⟨S1024, .f32⟩
  | 85 => ⟨S1x1x1024, .f32⟩
  | 86 => ⟨S1024, .f32⟩
  | 87 => ⟨S_, .f32⟩
  | 88 => ⟨S32768, .f32⟩
  | 89 => ⟨S32768x1, .f32⟩
  | 90 => ⟨S_, .f32⟩
  | 91 => ⟨S32768x1, .f32⟩
  | 92 => ⟨S32768x1, .f32⟩
  | 93 => ⟨S32768x1024, .f32⟩
  | 94 => ⟨S32768x1024, .f32⟩
  | 95 => ⟨S32768x1024, .f32⟩
  | 96 => ⟨S_, .f32⟩
  | 97 => ⟨S32768, .f32⟩
  | 98 => ⟨S32768x1, .f32⟩
  | 99 => ⟨S_, .f32⟩
  | 100 => ⟨S32768x1, .f32⟩
  | 101 => ⟨S32768x1, .f32⟩
  | 102 => ⟨S32768x1024, .f32⟩
  | 103 => ⟨S32768x1024, .f32⟩
  | 104 => ⟨S_, .f32⟩
  | 105 => ⟨S32768x1, .f32⟩
  | 106 => ⟨S32768x1, .f32⟩
  | 107 => ⟨S32768x1, .f32⟩
  | 108 => ⟨S32768x1024, .f32⟩
  | 109 => ⟨S32768x1024, .f32⟩
  | 110 => ⟨S1x1024, .f32⟩
  | 111 => ⟨S32768x1024, .f32⟩
  | 112 => ⟨S32768x1024, .f32⟩
  | 113 => ⟨S1x1024, .f32⟩
  | 114 => ⟨S32768x1024, .f32⟩
  | 115 => ⟨S32768x1024, .f32⟩
  | 116 => ⟨S1x1024x1024, .f32⟩
  | 117 => ⟨S1024x1024, .f32⟩
  | 118 => ⟨S32768x1024, .f32⟩
  | 119 => ⟨S32768x1024, .f32⟩
  | 120 => ⟨S32768x1024, .f32⟩
  | 121 => ⟨S_, .f32⟩
  | 122 => ⟨S32768x1024, .f32⟩
  | 123 => ⟨S32768x1024, .f32⟩
  | 124 => ⟨S_, .f32⟩
  | 125 => ⟨S32768x1024, .f32⟩
  | 126 => ⟨S32768x1024, .f32⟩
  | 127 => ⟨S1x32768x256, .f32⟩
  | _ => ⟨S4x8192x1024, .f32⟩

abbrev hbmTy0_1 (i : Nat) : BufTy := match i % 128 with
  | 0 => ⟨S32768x256, .f32⟩
  | 1 => ⟨S1x256x1024, .f32⟩
  | 2 => ⟨S256x1024, .f32⟩
  | 3 => ⟨S32768x1024, .f32⟩
  | 4 => ⟨S32768x1024, .f32⟩
  | 5 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_cst_8 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_9 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_cst_13 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Kernel6.lean ====
abbrev S4x8192x1024 : Shape := ⟨3, ![4, 8192, 1024]⟩
abbrev S2x3x1024 : Shape := ⟨3, ![2, 3, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S32768x1024 : Shape := ⟨2, ![32768, 1024]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S1x1x1024 : Shape := ⟨3, ![1, 1, 1024]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 31
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S2x3x1024, .f32⟩
  | .hbm, ⟨2, _⟩ => ⟨S2x3x1024, .f32⟩
  | .hbm, ⟨3, _⟩ => ⟨S1x1024x2048, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S1x1024x1024, .f32⟩
  | .hbm, ⟨10, _⟩ => ⟨S32768x1024, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x128x128, .f32⟩
  | .hbm, ⟨20, _⟩ => ⟨S8x128, .f32⟩
  | .hbm, ⟨21, _⟩ => ⟨S128x8, .f32⟩
  | .hbm, ⟨22, _⟩ => ⟨S1024x1024, .f32⟩
  | .hbm, ⟨23, _⟩ => ⟨S1024x1024, .bf16⟩
  | .hbm, ⟨24, _⟩ => ⟨S1x1x1024, .f32⟩
  | .hbm, ⟨25, _⟩ => ⟨S1024, .f32⟩
  | .hbm, ⟨26, _⟩ => ⟨S1x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel6Ideal.lean ====
variable {F : FTy → Type} [FloatOps F] [Named F]
def κ : String → Option EReal := fun
  | "gelu_cubic" => some ((80338380498831 / 1125899906842624 : ℝ) : EReal)
  | _ => none
-- ==== Reference6Ideal.lean ====
abbrev S4x8192x1024 : Shape := ⟨3, ![4, 8192, 1024]⟩
abbrev S2x3x1024 : Shape := ⟨3, ![2, 3, 1024]⟩
abbrev S1x1024x2048 : Shape := ⟨3, ![1, 1024, 2048]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S32768x1024 : Shape := ⟨2, ![32768, 1024]⟩
abbrev S1024x2048 : Shape := ⟨2, ![1024, 2048]⟩
abbrev S32768x2048 : Shape := ⟨2, ![32768, 2048]⟩
abbrev S2048 : Shape := ⟨1, ![2048]⟩
abbrev S_ : Shape := ⟨0, ![]⟩
abbrev S1024 : Shape := ⟨1, ![1024]⟩
abbrev S32768 : Shape := ⟨1, ![32768]⟩
abbrev S32768x1 : Shape := ⟨2, ![32768, 1]⟩
abbrev S256x128x8x128 : Shape := ⟨4, ![256, 128, 8, 128]⟩
abbrev S128x128 : Shape := ⟨2, ![128, 128]⟩
abbrev S8x128x128 : Shape := ⟨3, ![8, 128, 128]⟩
abbrev S8x256x128x128 : Shape := ⟨4, ![8, 256, 128, 128]⟩
abbrev S8x128 : Shape := ⟨2, ![8, 128]⟩
abbrev S128x8 : Shape := ⟨2, ![128, 8]⟩
abbrev S1x128x8x1 : Shape := ⟨4, ![1, 128, 8, 1]⟩
abbrev S1024x1024 : Shape := ⟨2, ![1024, 1024]⟩
abbrev S1x1x1024 : Shape := ⟨3, ![1, 1, 1024]⟩

abbrev nBuf : Space → Nat
  | .hbm => 133
  | .vmem => 0
  | .smem => 0
  | _ => 0

abbrev hbmTy0_0 (i : Nat) : BufTy := match i % 128 with
  | 0 => ⟨S4x8192x1024, .f32⟩
  | 1 => ⟨S2x3x1024, .f32⟩
  | 2 => ⟨S2x3x1024, .f32⟩
  | 3 => ⟨S1x1024x2048, .f32⟩
  | 4 => ⟨S1x2048, .f32⟩
  | 5 => ⟨S1x1024, .f32⟩
  | 6 => ⟨S1x1024, .f32⟩
  | 7 => ⟨S1x8x128x128, .f32⟩
  | 8 => ⟨S1x8x128, .f32⟩
  | 9 => ⟨S1x1024x1024, .f32⟩
  | 10 => ⟨S32768x1024, .f32⟩
  | 11 => ⟨S1024x2048, .f32⟩
  | 12 => ⟨S32768x2048, .f32⟩
  | 13 => ⟨S2048, .f32⟩
  | 14 => ⟨S1x2048, .f32⟩
  | 15 => ⟨S32768x2048, .f32⟩
  | 16 => ⟨S32768x2048, .f32⟩
  | 17 => ⟨S32768x2048, .f32⟩
  | 18 => ⟨S32768x2048, .f32⟩
  | 19 => ⟨S_, .f32⟩
  | 20 => ⟨S32768x2048, .f32⟩
  | 21 => ⟨S32768x2048, .f32⟩
  | 22 => ⟨S32768x2048, .f32⟩
  | 23 => ⟨S_, .f32⟩
  | 24 => ⟨S32768x2048, .f32⟩
  | 25 => ⟨S32768x2048, .f32⟩
  | 26 => ⟨S32768x2048, .f32⟩
  | 27 => ⟨S_, .f32⟩
  | 28 => ⟨S32768x2048, .f32⟩
  | 29 => ⟨S32768x2048, .f32⟩
  | 30 => ⟨S_, .f32⟩
  | 31 => ⟨S32768x2048, .f32⟩
  | 32 => ⟨S32768x2048, .f32⟩
  | 33 => ⟨S32768x2048, .f32⟩
  | 34 => ⟨S32768x1024, .f32⟩
  | 35 => ⟨S32768x1024, .f32⟩
  | 36 => ⟨S1024, .f32⟩
  | 37 => ⟨S1024, .f32⟩
  | 38 => ⟨S_, .f32⟩
  | 39 => ⟨S32768, .f32⟩
  | 40 => ⟨S32768x1, .f32⟩
  | 41 => ⟨S_, .f32⟩
  | 42 => ⟨S32768x1, .f32⟩
  | 43 => ⟨S32768x1, .f32⟩
  | 44 => ⟨S32768x1024, .f32⟩
  | 45 => ⟨S32768x1024, .f32⟩
  | 46 => ⟨S32768x1024, .f32⟩
  | 47 => ⟨S_, .f32⟩
  | 48 => ⟨S32768, .f32⟩
  | 49 => ⟨S32768x1, .f32⟩
  | 50 => ⟨S_, .f32⟩
  | 51 => ⟨S32768x1, .f32⟩
  | 52 => ⟨S32768x1, .f32⟩
  | 53 => ⟨S32768x1024, .f32⟩
  | 54 => ⟨S32768x1024, .f32⟩
  | 55 => ⟨S_, .f32⟩
  | 56 => ⟨S32768x1, .f32⟩
  | 57 => ⟨S32768x1, .f32⟩
  | 58 => ⟨S32768x1, .f32⟩
  | 59 => ⟨S32768x1024, .f32⟩
  | 60 => ⟨S32768x1024, .f32⟩
  | 61 => ⟨S1x1024, .f32⟩
  | 62 => ⟨S32768x1024, .f32⟩
  | 63 => ⟨S32768x1024, .f32⟩
  | 64 => ⟨S1x1024, .f32⟩
  | 65 => ⟨S32768x1024, .f32⟩
  | 66 => ⟨S32768x1024, .f32⟩
  | 67 => ⟨S256x128x8x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S8x128x128, .f32⟩
  | 80 => ⟨S_, .i32⟩
  | 81 => ⟨S_, .f32⟩
  | 82 => ⟨S8x128x128, .i1⟩
  | 83 => ⟨S8x128x128, .f32⟩
  | 84 => ⟨S8x128x128, .f32⟩
  | 85 => ⟨S8x256x128x128, .f32⟩
  | 86 => ⟨S256x128x8x128, .f32⟩
  | 87 => ⟨S8x128, .f32⟩
  | 88 => ⟨S128x8, .f32⟩
  | 89 => ⟨S1x128x8x1, .f32⟩
  | 90 => ⟨S256x128x8x128, .f32⟩
  | 91 => ⟨S256x128x8x128, .f32⟩
  | 92 => ⟨S32768x1024, .f32⟩
  | 93 => ⟨S32768x1024, .f32⟩
  | 94 => ⟨S_, .f32⟩
  | 95 => ⟨S32768x1024, .f32⟩
  | 96 => ⟨S32768x1024, .f32⟩
  | 97 => ⟨S1024x1024, .f32⟩
  | 98 => ⟨S32768x1024, .f32⟩
  | 99 => ⟨S32768x1024, .f32⟩
  | 100 => ⟨S1x1x1024, .f32⟩
  | 101 => ⟨S1024, .f32⟩
  | 102 => ⟨S1x1x1024, .f32⟩
  | 103 => ⟨S1024, .f32⟩
  | 104 => ⟨S_, .f32⟩
  | 105 => ⟨S32768, .f32⟩
  | 106 => ⟨S32768x1, .f32⟩
  | 107 => ⟨S_, .f32⟩
  | 108 => ⟨S32768x1, .f32⟩
  | 109 => ⟨S32768x1, .f32⟩
  | 110 => ⟨S32768x1024, .f32⟩
  | 111 => ⟨S32768x1024, .f32⟩
  | 112 => ⟨S32768x1024, .f32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S32768x1024, .f32⟩
  | 120 => ⟨S32768x1024, .f32⟩
  | 121 => ⟨S_, .f32⟩
  | 122 => ⟨S32768x1, .f32⟩
  | 123 => ⟨S32768x1, .f32⟩
  | 124 => ⟨S32768x1, .f32⟩
  | 125 => ⟨S32768x1024, .f32⟩
  | 126 => ⟨S32768x1024, .f32⟩
  | 127 => ⟨S1x1024, .f32⟩
  | _ => ⟨S4x8192x1024, .f32⟩

abbrev hbmTy0_1 (i : Nat) : BufTy := match i % 128 with
  | 0 => ⟨S32768x1024, .f32⟩
  | 1 => ⟨S32768x1024, .f32⟩
  | 2 => ⟨S1x1024, .f32⟩
  | 3 => ⟨S32768x1024, .f32⟩
  | 4 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_v49 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_14 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩

abbrev nD : Nat := 1
abbrev τ : Topo := Topo.v7x

variable {F : FTy → Type} [FloatOps F]
-- ==== Kernel7.lean ====
abbrev S4x8192x1024 : Shape := ⟨3, ![4, 8192, 1024]⟩
abbrev S1x1024x3080 : Shape := ⟨3, ![1, 1024, 3080]⟩
abbrev S1024x3080 : Shape := ⟨2, ![1024, 3080]⟩
abbrev S1024x512 : Shape := ⟨2, ![1024, 512]⟩
abbrev S1024x2048 : Shape := ⟨2, ![1024, 2048]⟩
abbrev S1024x8 : Shape := ⟨2, ![1024, 8]⟩
abbrev S1024x1032 : Shape := ⟨2, ![1024, 1032]⟩
abbrev S1032x1024 : Shape := ⟨2, ![1032, 1024]⟩
abbrev S4x8192x512 : Shape := ⟨3, ![4, 8192, 512]⟩
abbrev S4x8x512x1024 : Shape := ⟨4, ![4, 8, 512, 1024]⟩
abbrev S4x8x8192 : Shape := ⟨3, ![4, 8, 8192]⟩
abbrev S1x1024x1024 : Shape := ⟨3, ![1, 1024, 1024]⟩
abbrev S1x1024x512 : Shape := ⟨3, ![1, 1024, 512]⟩
abbrev S1x1x512x1024 : Shape := ⟨4, ![1, 1, 512, 1024]⟩
abbrev S1x8x1024 : Shape := ⟨3, ![1, 8, 1024]⟩
abbrev S1024x1024 : Shape := ⟨2, ![1024, 1024]⟩
abbrev S512x1024 : Shape := ⟨2, ![512, 1024]⟩
abbrev S8x1024 : Shape := ⟨2, ![8, 1024]⟩

abbrev nBuf : Space → Nat
  | .hbm => 22
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3080, .f32⟩
  | .hbm, ⟨2, _⟩ => ⟨S1024x3080, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x2048, .f32⟩
  | .hbm, ⟨8, _⟩ => ⟨S1024x2048, .bf16⟩
  | .hbm, ⟨9, _⟩ => ⟨S1024x512, .f32⟩
  | .hbm, ⟨10, _⟩ => ⟨S1024x512, .f32⟩
  | .hbm, ⟨11, _⟩ => ⟨S1024x8, .f32⟩
  | .hbm, ⟨12, _⟩ => ⟨S1024x1032, .f32⟩
  | .hbm, ⟨13, _⟩ => ⟨S1032x1024, .f32⟩
  | .hbm, ⟨14, _⟩ => ⟨S1032x1024, .bf16⟩
  | .hbm, ⟨15, _⟩ => ⟨S4x8192x512, .bf16⟩
  | .hbm, ⟨16, _⟩ => ⟨S4x8192x512, .bf16⟩
  | .hbm, ⟨17, _⟩ => ⟨S4x8192x512, .bf16⟩
  | .hbm, ⟨18, _⟩ => ⟨S4x8192x512, .bf16⟩
  | .hbm, ⟨19, _⟩ => ⟨S4x8x512x1024, .bf16⟩
  | .hbm, ⟨20, _⟩ => ⟨S4x8x512x1024, .bf16⟩
  | .hbm, ⟨21, _⟩ => ⟨S4x8x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2048, .bf16⟩
  | .local _ .vmem, ⟨3, _⟩ => ⟨S1032x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x512x1024, .bf16⟩
  | .local _ .vmem, ⟨15, _⟩ => ⟨S1x1x512x1024, .bf16⟩
  | .local _ .vmem, ⟨16, _⟩ => ⟨S1x8x1024, .f32⟩
  | .local _ .vmem, ⟨17, _⟩ => ⟨S1x8x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13_0 : Ref sig .tc := ⟨.hbm, 15, rfl⟩
abbrev main_v13_1 : Ref sig .tc := ⟨.hbm, 16, rfl⟩
abbrev main_v13_2 : Ref sig .tc := ⟨.hbm, 17, rfl⟩
abbrev main_v13_3 : Ref sig .tc := ⟨.hbm, 18, rfl⟩
abbrev main_v13_4 : Ref sig .tc := ⟨.hbm, 19, rfl⟩
abbrev main_v13_5 : Ref sig .tc := ⟨.hbm, 20, rfl⟩
abbrev main_v13_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1032x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S4x8192x1024 : Shape := ⟨3, ![4, 8192, 1024]⟩
abbrev S1x1024x3080 : Shape := ⟨3, ![1, 1024, 3080]⟩
abbrev S1024x3080 : Shape := ⟨2, ![1024, 3080]⟩
abbrev S4x8192x3080 : Shape := ⟨3, ![4, 8192, 3080]⟩
abbrev S4x8192x512 : Shape := ⟨3, ![4, 8192, 512]⟩
abbrev S_ : Shape := ⟨0, ![]⟩
abbrev S4x8x1024x512 : Shape := ⟨4, ![4, 8, 1024, 512]⟩
abbrev S4x8x512x1024 : Shape := ⟨4, ![4, 8, 512, 1024]⟩
abbrev S4x8192x8 : Shape := ⟨3, ![4, 8192, 8]⟩
abbrev S4x8x8192 : Shape := ⟨3, ![4, 8, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3080, .f32⟩
  | .hbm, ⟨2, _⟩ => ⟨S1024x3080, .f32⟩
  | .hbm, ⟨3, _⟩ => ⟨S4x8192x3080, .f32⟩
  | .hbm, ⟨4, _⟩ => ⟨S4x8192x512, .f32⟩
  | .hbm, ⟨5, _⟩ => ⟨S_, .f32⟩
  | .hbm, ⟨6, _⟩ => ⟨S4x8192x512, .f32⟩
  | .hbm, ⟨7, _⟩ => ⟨S4x8192x512, .f32⟩
  | .hbm, ⟨8, _⟩ => ⟨S4x8192x512, .bf16⟩
  | .hbm, ⟨9, _⟩ => ⟨S4x8192x512, .f32⟩
  | .hbm, ⟨10, _⟩ => ⟨S4x8192x512, .bf16⟩
  | .hbm, ⟨11, _⟩ => ⟨S4x8192x512, .f32⟩
  | .hbm, ⟨12, _⟩ => ⟨S_, .f32⟩
  | .hbm, ⟨13, _⟩ => ⟨S4x8192x512, .f32⟩
  | .hbm, ⟨14, _⟩ => ⟨S4x8192x512, .f32⟩
  | .hbm, ⟨15, _⟩ => ⟨S4x8192x512, .bf16⟩
  | .hbm, ⟨16, _⟩ => ⟨S4x8192x512, .f32⟩
  | .hbm, ⟨17, _⟩ => ⟨S4x8192x512, .bf16⟩
  | .hbm, ⟨18, _⟩ => ⟨S4x8192x512, .f32⟩
  | .hbm, ⟨19, _⟩ => ⟨S4x8x1024x512, .f32⟩
  | .hbm, ⟨20, _⟩ => ⟨S4x8x512x1024, .f32⟩
  | .hbm, ⟨21, _⟩ => ⟨S4x8x512x1024, .bf16⟩
  | .hbm, ⟨22, _⟩ => ⟨S4x8192x512, .f32⟩
  | .hbm, ⟨23, _⟩ => ⟨S4x8x1024x512, .f32⟩
  | .hbm, ⟨24, _⟩ => ⟨S4x8x512x1024, .f32⟩
  | .hbm, ⟨25, _⟩ => ⟨S4x8x512x1024, .bf16⟩
  | .hbm, ⟨26, _⟩ => ⟨S4x8192x8, .f32⟩
  | .hbm, ⟨27, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.RefFrame.lean ====
module

public import proofs.«01_k».proof.Proof.Gen.ReferenceIdeal.Run
public import Idealize.ShloMosaic.Lib.Quiescent
public import Idealize.ShloMosaic.PureOps.Ideal

/-! The reference's frame: a host program has no semaphore cells, so its counters end at zero. -/

@[expose] public section

noncomputable section

namespace Cert.ReferenceIdeal.Fox

open Idealize.ShloMosaic Idealize.SL.Sem Cert.ReferenceIdeal

/-- Every execution terminates with the arguments unchanged and no counter up. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems rfl r.2⟩) (Value.run m ρ)

end Cert.ReferenceIdeal.Fox

end
-- ==== Proof.Ideal.Loops.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- One trip of the pair loop: what it writes into the two rotating score buffers, their column maxima, the running maximum and the accumulator. -/
@[irreducible] def trip1 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (k : Fin (k0_t1_loop i).trips) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) :
    Σ' (L10 : List (View.Piece (Elt F) S8x1024x256 .f32)) (L11 : List (View.Piece (Elt F) S8x1024x256 .f32)) (L13 : List (View.Piece (Elt F) S8x1x256 .f32)) (L14 : List (View.Piece (Elt F) S8x1x256 .f32)) (L16 : List (View.Piece (Elt F) S8x1x256 .f32)), { L17 : List (View.Piece (Elt F) S8x80x256 .f32) //
      (iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17)) : sProp 𝕄) ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 0#32 0#32 0#32 0#32 0#32 0#1 k ())
        (fun _ => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)) ∗ (arg13.view.loc (c : Thread nD τ) ↦[arg13.view.set]{fullShare} (arg13.view.writes (Elt F) f13 L13)) ∗ (arg14.view.loc (c : Thread nD τ) ↦[arg14.view.set]{fullShare} (arg14.view.writes (Elt F) f14 L14)) ∗ (arg16.view.loc (c : Thread nD τ) ↦[arg16.view.set]{fullShare} (arg16.view.writes (Elt F) f16 L16)) ∗ (arg17.view.loc (c : Thread nD τ) ↦[arg17.view.set]{fullShare} (arg17.view.writes (Elt F) f17 L17)))) } := by
  refine ⟨?_, ?_, ?_, ?_, ?_, ?_, ?run⟩
  case run =>
    unfold k0_t1_body
    iintro ⟨H3, H6, H7, H10, H11, H13, H14, H16, H17⟩
    sl_exec_parts
    sl_step
    isplitl [H3]; · iexact H3
    isplitl [H6]; · iexact H6
    isplitl [H7]; · iexact H7
    isplitl [H10]; · iexact H10
    isplitl [H11]; · iexact H11
    isplitl [H13]; · iexact H13
    isplitl [H14]; · iexact H14
    isplitl [H16]; · iexact H16
    iexact H17

/-- The six buffers the pair loop works on. -/
structure LS (c : Dev nD) (arg10 : Memref sig .tc .vmem S8x1024x256 .f32) (arg11 : Memref sig .tc .vmem S8x1024x256 .f32) (arg13 : Memref sig .tc .vmem S8x1x256 .f32) (arg14 : Memref sig .tc .vmem S8x1x256 .f32) (arg16 : Memref sig .tc .vmem S8x1x256 .f32) (arg17 : Memref sig .tc .vmem S8x80x256 .f32) where
  f10 : Buf (Elt F) (arg10.view.loc (c : Thread nD τ))
  f11 : Buf (Elt F) (arg11.view.loc (c : Thread nD τ))
  f13 : Buf (Elt F) (arg13.view.loc (c : Thread nD τ))
  f14 : Buf (Elt F) (arg14.view.loc (c : Thread nD τ))
  f16 : Buf (Elt F) (arg16.view.loc (c : Thread nD τ))
  f17 : Buf (Elt F) (arg17.view.loc (c : Thread nD τ))

/-- The loop's buffers before trip `k`, from those at its entry. -/
def lst (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) (k : ℕ) : LS (F := F) c arg10 arg11 arg13 arg14 arg16 arg17 :=
  Nat.rec ⟨f10, f11, f13, f14, f16, f17⟩ (fun k s =>
    if h : k < (k0_t1_loop i).trips then
      ⟨arg10.view.writes (Elt F) s.f10 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).1,
       arg11.view.writes (Elt F) s.f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).2.1,
       arg13.view.writes (Elt F) s.f13 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).2.2.1,
       arg14.view.writes (Elt F) s.f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).2.2.2.1,
       arg16.view.writes (Elt F) s.f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).2.2.2.2.1,
       arg17.view.writes (Elt F) s.f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17).2.2.2.2.2.1⟩
    else s) k

/-- What the loop holds before trip `k`. -/
def inv1 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) (k : ℕ) : sProp 𝕄 :=
  match k with
  | 0 => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17))
  | k + 1 => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f10) ∗ (arg11.view.loc (c : Thread nD τ) ↦[arg11.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f11) ∗ (arg13.view.loc (c : Thread nD τ) ↦[arg13.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f13) ∗ (arg14.view.loc (c : Thread nD τ) ↦[arg14.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f14) ∗ (arg16.view.loc (c : Thread nD τ) ↦[arg16.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f16) ∗ (arg17.view.loc (c : Thread nD τ) ↦[arg17.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1)).f17))

theorem inv1_eq (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) (k : ℕ) :
    inv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k = iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f10) ∗ (arg11.view.loc (c : Thread nD τ) ↦[arg11.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f11) ∗ (arg13.view.loc (c : Thread nD τ) ↦[arg13.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f13) ∗ (arg14.view.loc (c : Thread nD τ) ↦[arg14.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f14) ∗ (arg16.view.loc (c : Thread nD τ) ↦[arg16.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f16) ∗ (arg17.view.loc (c : Thread nD τ) ↦[arg17.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f17)) := by
  cases k <;> rfl

@[instance_reducible, sl_loop] def loopInv1 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 0#32 0#32 0#32 0#32 0#32 0#1 where
  inv := fun k _ => inv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k
  step := fun k _ => by
    have hk : lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k.val + 1) = ⟨arg10.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).1,
       arg11.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.1,
       arg13.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.2.1,
       arg14.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.2.2.1,
       arg16.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.2.2.2.1,
       arg17.view.writes (Elt F) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.2.2.2.2.1⟩ := dif_pos k.isLt
    rw [inv1_eq, inv1_eq, hk]
    exact (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f10 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f11 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f13 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f14 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f16 (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k.val).f17).2.2.2.2.2.2

instance loopExit1 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec F S16x1024 .bf16) (v56 : FVec F S256x256 .bf16) (v97 : FVec F S256x256 .bf16) (v138 : FVec F S256x256 .bf16) (v179 : FVec F S256x256 .bf16) (v220 : FVec F S256x256 .bf16) (v261 : FVec F S256x256 .bf16) (v302 : FVec F S256x256 .bf16) (v343 : FVec F S256x256 .bf16) (k0_h4 : k0_cond4 i = 1#1) (f3 : Buf (Elt F) (arg3.view.loc (c : Thread nD τ))) (f6 : Buf (Elt F) (arg6.view.loc (c : Thread nD τ))) (f7 : Buf (Elt F) (arg7.view.loc (c : Thread nD τ))) (f10 : Buf (Elt F) (arg10.view.loc (c : Thread nD τ))) (f11 : Buf (Elt F) (arg11.view.loc (c : Thread nD τ))) (f13 : Buf (Elt F) (arg13.view.loc (c : Thread nD τ))) (f14 : Buf (Elt F) (arg14.view.loc (c : Thread nD τ))) (f16 : Buf (Elt F) (arg16.view.loc (c : Thread nD τ))) (f17 : Buf (Elt F) (arg17.view.loc (c : Thread nD τ))) : LoopExit (loopInv1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17) where
  post := fun _ => iprop((arg3.view.loc (c : Thread nD τ) ↦[arg3.view.set]{fullShare} f3) ∗ (arg6.view.loc (c : Thread nD τ) ↦[arg6.view.set]{fullShare} f6) ∗ (arg7.view.loc (c : Thread nD τ) ↦[arg7.view.set]{fullShare} f7) ∗ (arg10.view.loc (c : Thread nD τ) ↦[arg10.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f10) ∗ (arg11.view.loc (c : Thread nD τ) ↦[arg11.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f11) ∗ (arg13.view.loc (c : Thread nD τ) ↦[arg13.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f13) ∗ (arg14.view.loc (c : Thread nD τ) ↦[arg14.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f14) ∗ (arg16.view.loc (c : Thread nD τ) ↦[arg16.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f16) ∗ (arg17.view.loc (c : Thread nD τ) ↦[arg17.view.set]{fullShare} (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips).f17))
  exit := fun acc => by
    show inv1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k0_t1_loop i).trips ⊢ _
    rw [inv1_eq]

theorem trips2 (i : grid0.Coords) : (k0_t2_loop i).trips = 0 := by
  have h : ∀ g : Fin 8, Scf.trips (k0_t2_loop (fun a => match a with | ⟨0, _⟩ => (0 : Fin 4) | ⟨1, _⟩ => (0 : Fin 4) | ⟨2, _⟩ => g)).lb (k0_t2_loop (fun a => match a with | ⟨0, _⟩ => (0 : Fin 4) | ⟨1, _⟩ => (0 : Fin 4) | ⟨2, _⟩ => g)).ub (k0_t2_loop (fun a => match a with | ⟨0, _⟩ => (0 : Fin 4) | ⟨1, _⟩ => (0 : Fin 4) | ⟨2, _⟩ => g)).st = 0 := by decide +kernel
  exact h (i 2)

end Cert.KernelIdeal.Fox

end
-- ==== Proof.Ideal.RunA.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Ideal.Loops

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 16000000 in
/-- The body's run in case A: what it leaves in the output block and the scratch buffers. -/
@[irreducible] def runA (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : (Scalar.cmpi .ne (Scalar.extui (Scalar.cmpi .eq (BitVec.ofNat 32 (i 2).val) 0#32)) 0#32 : BitVec 1) = 1#1) (hc2 : k0_cond2 i = 1#1) (hc3 : k0_cond3 i = 1#1) (hc4 : ¬ k0_cond4 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) :
    Σ' (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))), { g17 : Buf (Elt F) (arg17.view.loc (c : Thread nD τ)) //
      ∀ K : PUnit → sProp 𝕄, (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩)) : sProp 𝕄) ⊢ wp frame (wpE (defs₀ (F := F)) Variants.none (c : Thread nD τ) none) Set.univ (cc0_fox_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?run⟩
  case run =>
    simp only [cc0_fox_attention_eq_skeleton]
    unfold cc0_fox_attention_skel

    intro K
    iintro ⟨H3, H4, H5, H6, H7, H8, H9, H10, H11, H12, H13, H14, H15, H16, H17, Hk⟩
    sl_exec_parts (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Fox

end
-- ==== Proof.Ideal.RunB.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Ideal.Loops

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 16000000 in
/-- The body's run in case B: what it leaves in the output block and the scratch buffers. -/
@[irreducible] def runB (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : ¬ (Scalar.cmpi .ne (Scalar.extui (Scalar.cmpi .eq (BitVec.ofNat 32 (i 2).val) 0#32)) 0#32 : BitVec 1) = 1#1) (hc2 : ¬ k0_cond2 i = 1#1) (hc3 : ¬ k0_cond3 i = 1#1) (hc4 : k0_cond4 i = 1#1) (hc5 : k0_cond5 i = 1#1) (hc6 : ¬ k0_cond6 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) :
    Σ' (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))), { g17 : Buf (Elt F) (arg17.view.loc (c : Thread nD τ)) //
      ∀ K : PUnit → sProp 𝕄, (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩)) : sProp 𝕄) ⊢ wp frame (wpE (defs₀ (F := F)) Variants.none (c : Thread nD τ) none) Set.univ (cc0_fox_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?run⟩
  case run =>
    simp only [cc0_fox_attention_eq_skeleton]
    unfold cc0_fox_attention_skel
    have htr := trips2 i
    intro K
    iintro ⟨H3, H4, H5, H6, H7, H8, H9, H10, H11, H12, H13, H14, H15, H16, H17, Hk⟩
    sl_exec_parts (disch := first | sl_exact hc1 | sl_exact hc2 | sl_exact hc3 | sl_exact hc4 | sl_exact hc5 | sl_exact hc6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Fox

end
-- ==== Proof.Ideal.RunC.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Ideal.Loops

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 16000000 in
/-- The body's run in case C: what it leaves in the output block and the scratch buffers. -/
@[irreducible] def runC (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : ¬ (Scalar.cmpi .ne (Scalar.extui (Scalar.cmpi .eq (BitVec.ofNat 32 (i 2).val) 0#32)) 0#32 : BitVec 1) = 1#1) (hc2 : ¬ k0_cond2 i = 1#1) (hc3 : ¬ k0_cond3 i = 1#1) (hc4 : k0_cond4 i = 1#1) (hc5 : ¬ k0_cond5 i = 1#1) (hc6 : k0_cond6 i = 1#1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) :
    Σ' (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))), { g17 : Buf (Elt F) (arg17.view.loc (c : Thread nD τ)) //
      ∀ K : PUnit → sProp 𝕄, (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17)) -∗ K ⟨⟩)) : sProp 𝕄) ⊢ wp frame (wpE (defs₀ (F := F)) Variants.none (c : Thread nD τ) none) Set.univ (cc0_fox_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?run⟩
  case run =>
    simp only [cc0_fox_attention_eq_skeleton]
    unfold cc0_fox_attention_skel
    have htr := trips2 i
    intro K
    iintro ⟨H3, H4, H5, H6, H7, H8, H9, H10, H11, H12, H13, H14, H15, H16, H17, Hk⟩
    sl_exec_parts (disch := first | sl_exact hc1 | sl_exact hc2 | sl_exact hc3 | sl_exact hc4 | sl_exact hc5 | sl_exact hc6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Fox

end
-- ==== Proof.Ideal.Frame.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Ideal.RunA
public import proofs.«01_k».proof.Proof.Ideal.RunB
public import proofs.«01_k».proof.Proof.Ideal.RunC
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-! ## Where the body runs -/

abbrev ms0 (t : Fin cfg0.N) := win0_0.stage (cfg0.slots t 0)
abbrev hs0 (t : Fin cfg0.N) := hstage0_0 ((cfg0.slots t 0).cast nbuf0_0)
abbrev ms1 (t : Fin cfg0.N) := win0_1.stage (cfg0.slots t 1)
abbrev hs1 (t : Fin cfg0.N) := hstage0_1 ((cfg0.slots t 1).cast nbuf0_1)
abbrev ms2 (t : Fin cfg0.N) := win0_2.stage (cfg0.slots t 2)
abbrev hs2 (t : Fin cfg0.N) := hstage0_2 ((cfg0.slots t 2).cast nbuf0_2)
abbrev ms3 (t : Fin cfg0.N) := win0_3.stage (cfg0.slots t 3)
abbrev hs3 (t : Fin cfg0.N) := hstage0_3 ((cfg0.slots t 3).cast nbuf0_3)
abbrev ms4 (t : Fin cfg0.N) := win0_4.stage (cfg0.slots t 4)
abbrev hs4 (t : Fin cfg0.N) := hstage0_4 ((cfg0.slots t 4).cast nbuf0_4)
abbrev ms5 (t : Fin cfg0.N) := win0_5.stage (cfg0.slots t 5)
abbrev hs5 (t : Fin cfg0.N) := hstage0_5 ((cfg0.slots t 5).cast nbuf0_5)
abbrev scM9 := Memref.whole cc0_scratch0
abbrev scM10 := Memref.whole cc0_scratch1
abbrev scM11 := Memref.whole cc0_scratch2
abbrev scM12 := Memref.whole cc0_scratch3
abbrev scM13 := Memref.whole cc0_scratch4
abbrev scM14 := Memref.whole cc0_scratch5
abbrev scM15 := Memref.whole cc0_scratch6
abbrev scM16 := Memref.whole cc0_scratch7
abbrev scM17 := Memref.whole cc0_scratch8

theorem PhiA_eq (c : Dev nD) : Pipeline.ΦA spec0 c = (iprop(iprop((∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ (∃ d, owns (c : Thread nD τ) scM13 fullShare d) ∗ (∃ d, owns (c : Thread nD τ) scM14 fullShare d) ∗ (∃ d, owns (c : Thread nD τ) scM15 fullShare d) ∗ (∃ d, owns (c : Thread nD τ) scM16 fullShare d) ∗ (∃ d, owns (c : Thread nD τ) scM17 fullShare d)) ∗ (∃ r, prngReg c r)) : sProp 𝕄) := by
  unfold Pipeline.ΦA; rw [scopedRest0_eq]; simp only [scM9, scM10, scM11, scM12, scM13, scM14, scM15, scM16, scM17, owns_whole]; try rfl

/-! ## Which case a point is in -/

theorem conds_A : ∀ t : Fin cfg0.N, t.val % 8 = 0 →
    (Scalar.cmpi .ne (Scalar.extui (Scalar.cmpi .eq (BitVec.ofNat 32 (grid0.coords t 2).val) 0#32)) 0#32 : BitVec 1) = 1#1
    ∧ k0_cond2 (grid0.coords t) = 1#1 ∧ k0_cond3 (grid0.coords t) = 1#1 ∧ ¬ k0_cond4 (grid0.coords t) = 1#1 := by decide +kernel

theorem conds_B : ∀ t : Fin cfg0.N, ¬ t.val % 8 = 0 → t.val % 2 = 0 →
    (¬ (Scalar.cmpi .ne (Scalar.extui (Scalar.cmpi .eq (BitVec.ofNat 32 (grid0.coords t 2).val) 0#32)) 0#32 : BitVec 1) = 1#1)
    ∧ (¬ k0_cond2 (grid0.coords t) = 1#1) ∧ (¬ k0_cond3 (grid0.coords t) = 1#1) ∧ k0_cond4 (grid0.coords t) = 1#1
    ∧ k0_cond5 (grid0.coords t) = 1#1 ∧ ¬ k0_cond6 (grid0.coords t) = 1#1 := by decide +kernel

theorem conds_C : ∀ t : Fin cfg0.N, ¬ t.val % 2 = 0 →
    (¬ (Scalar.cmpi .ne (Scalar.extui (Scalar.cmpi .eq (BitVec.ofNat 32 (grid0.coords t 2).val) 0#32)) 0#32 : BitVec 1) = 1#1)
    ∧ (¬ k0_cond2 (grid0.coords t) = 1#1) ∧ (¬ k0_cond3 (grid0.coords t) = 1#1) ∧ k0_cond4 (grid0.coords t) = 1#1
    ∧ (¬ k0_cond5 (grid0.coords t) = 1#1) ∧ k0_cond6 (grid0.coords t) = 1#1 := by decide +kernel

/-! ## The proof data: the output forgotten, every scratch at anything -/

def forgets0 : Fin 6 → Bool := fun w => w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d))
    ∗ (∃ d, owns (c : Thread nD τ) (ms5 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t)
    ∗ (∃ d, owns (c : Thread nD τ) (ms5 t) fullShare d))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, after_0, after_1, after_2, after_3, after_4]
  rw [show (dats m 0 c).Φ t.succ = Pipeline.ΦA spec0 c from rfl, show (dats m 0 c).Φ t.castSucc = Pipeline.ΦA spec0 c from rfl, PhiA_eq]
  unfold owns
  iintro ⟨⟨⟨⟨%d9, ⟨%f9, %h9, H9⟩⟩, ⟨%d10, ⟨%f10, %h10, H10⟩⟩, ⟨%d11, ⟨%f11, %h11, H11⟩⟩, ⟨%d12, ⟨%f12, %h12, H12⟩⟩, ⟨%d13, ⟨%f13, %h13, H13⟩⟩, ⟨%d14, ⟨%f14, %h14, H14⟩⟩, ⟨%d15, ⟨%f15, %h15, H15⟩⟩, ⟨%d16, ⟨%f16, %h16, H16⟩⟩, ⟨%d17, ⟨%f17, %h17, H17⟩⟩⟩, Hg⟩, Ho, ⟨%d3, ⟨%f3, %h3, H3⟩⟩, ⟨%d4, ⟨%f4, %h4, H4⟩⟩, ⟨%d5, ⟨%f5, %h5, H5⟩⟩, ⟨%d6, ⟨%f6, %h6, H6⟩⟩, ⟨%d7, ⟨%f7, %h7, H7⟩⟩, ⟨%d8, ⟨%f8, %h8, H8⟩⟩⟩
  by_cases hA : t.val % 8 = 0
  · have h := conds_A t hA
    iapply ((runA c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · isplitl [H9]; · (iexists _; iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; iexists _; isplitr; swap; · iexact H8
    ipureintro; rfl
  by_cases hB : t.val % 2 = 0
  · have h := conds_B t hA hB
    iapply ((runB c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · isplitl [H9]; · (iexists _; iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; iexists _; isplitr; swap; · iexact H8
    ipureintro; rfl
  · have h := conds_C t hB
    iapply ((runC c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · isplitl [H9]; · (iexists _; iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; iexists _; isplitr; swap; · iexact H8
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- Every run ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 2 rfl).trans ((A_eq m c 2).trans (V_main_arg0 m c)),
     (Pipeline.RDat.FramePost.arr_in h.1 c 0 rfl).trans ((A_eq m c 0).trans (V_main_arg1 m c)),
     ((h.1 c).2 main_arg2 (Pipeline.mem_restRefs_of main_arg2 (by decide) (by decide))).trans (V_main_arg2 m c),
     (Pipeline.RDat.FramePost.arr_in h.1 c 4 rfl).trans ((A_eq m c 4).trans (V_main_arg3 m c))⟩, h.2⟩) (run_main m ρ)

end Cert.KernelIdeal.Fox

end
-- ==== Proof.Ffn.Spec.lean ====
/-
  The feed-forward block of one token as plain maths over the extended reals, row by row: gate and up products, SiLU,
  the down product, the scaled residual sum, the layer norm over 1024 features and the per-layer embedding's gate.
  Every sum is over the whole axis; `sum_chunks` says that eleven partial sums of 256 columns add up to it.
-/
module

public import Idealize.ShloMosaic.Lib.Pointwise

@[expose] public section

noncomputable section

namespace Cert.Ffn

open Idealize.ShloMosaic

/-- The hidden unit `j` of a token: `silu (x · wg) * (x · wu)`. -/
def hid (x : Fin 1024 → EReal) (wg wu : Fin 1024 → Fin 2816 → EReal) (j : Fin 2816) : EReal :=
  (∑ k, x k * wg k j) * Ideal.logistic (∑ k, x k * wg k j) * ∑ k, x k * wu k j

/-- The block's output feature `d`: the hidden units times the down weights. -/
def down (x : Fin 1024 → EReal) (wg wu : Fin 1024 → Fin 2816 → EReal) (wd : Fin 2816 → Fin 1024 → EReal) (d : Fin 1024) : EReal :=
  ∑ j, hid x wg wu j * wd j d

/-- The residual sum `√2 x + ½ f` (the constants as the programs spell them). -/
def res (x f : Fin 1024 → EReal) (d : Fin 1024) : EReal :=
  Ideal.ofBits .f32 0x3FB504F3#32 * x d + Ideal.ofBits .f32 0x3F000000#32 * f d

/-- The mean of 1024 features. -/
def mean (y : Fin 1024 → EReal) : EReal := Ideal.div (∑ k, y k) (Ideal.ofBits .f32 0x44800000#32)

/-- The layer norm of a row with gain `g` and offset `b`. -/
def lnorm (y g b : Fin 1024 → EReal) (d : Fin 1024) : EReal :=
  (y d - mean y) * Ideal.rsqrt (mean (fun k => (y k - mean y) * (y k - mean y)) + Ideal.ofBits .f32 0x3727C5AC#32) * g d + b d

/-- A row plus its gated embedding: `z + sigmoid (z · pg) * (p · pp)`. -/
def ple (z : Fin 1024 → EReal) (p : Fin 256 → EReal) (pg : Fin 1024 → Fin 1024 → EReal) (pp : Fin 256 → Fin 1024 → EReal) (d : Fin 1024) : EReal :=
  z d + Ideal.logistic (∑ k, z k * pg k d) * ∑ k, p k * pp k d

/-- One token through the feed-forward block and its norm. -/
def ffn (x : Fin 1024 → EReal) (wg wu : Fin 1024 → Fin 2816 → EReal) (wd : Fin 2816 → Fin 1024 → EReal) (g b : Fin 1024 → EReal) : Fin 1024 → EReal :=
  lnorm (res x (down x wg wu wd)) g b

/-- A sum over eleven indices, written out. -/
theorem sum_eleven (g : Fin 11 → EReal) : ∑ j, g j = g 0 + g 1 + g 2 + g 3 + g 4 + g 5 + g 6 + g 7 + g 8 + g 9 + g 10 := by
  simp only [Fin.sum_univ_castSucc, Fin.sum_univ_zero, zero_add]
  rfl

/-- Eleven sums of 256 columns are the sum over 2816 columns. -/
theorem sum_chunks (f : Fin 2816 → EReal) :
    (∑ x : Fin 256, f ⟨x, by omega⟩) + (∑ x : Fin 256, f ⟨256 + x, by omega⟩) + (∑ x : Fin 256, f ⟨512 + x, by omega⟩)
      + (∑ x : Fin 256, f ⟨768 + x, by omega⟩) + (∑ x : Fin 256, f ⟨1024 + x, by omega⟩) + (∑ x : Fin 256, f ⟨1280 + x, by omega⟩)
      + (∑ x : Fin 256, f ⟨1536 + x, by omega⟩) + (∑ x : Fin 256, f ⟨1792 + x, by omega⟩) + (∑ x : Fin 256, f ⟨2048 + x, by omega⟩)
      + (∑ x : Fin 256, f ⟨2304 + x, by omega⟩) + (∑ x : Fin 256, f ⟨2560 + x, by omega⟩) = ∑ j, f j := by
  rw [Fin.sum_univ_tiles 11 256 rfl]
  rw [sum_eleven]
  refine congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_) ?_) ?_ <;>
  exact Finset.sum_congr rfl fun t _ => congrArg f (Fin.ext (by simp))

end Cert.Ffn

end
-- ==== Proof.Ffn.Kernel2.lean ====
module

public import proofs.«01_k».proof.Proof.Ffn.Spec
public import proofs.«01_k».proof.Proof.Gen.Kernel2Ideal.Value
public import Idealize.ShloMosaic.Lib.Pipeline.ValueKit

@[expose] public section
noncomputable section
namespace Cert.Kernel2Ideal.Ffn
open Idealize.ShloMosaic Cert.Kernel2Ideal Cert.Kernel2Ideal.Gen Cert.Ffn

set_option maxRecDepth 16384
variable (x0 : Vec Ideal S1024x1024 .f32) (x1 : Vec Ideal S1x1x1024x2816 .bf16) (x2 : Vec Ideal S1x1x1024x2816 .bf16) (x3 : Vec Ideal S1x1x2816x1024 .bf16)
  (x4 x5 : Vec Ideal S1x1x1x1024 .f32) (x6 : Vec Ideal S1x1024x256 .f32) (x7 : Vec Ideal S1x1024x1024 .bf16) (x8 : Vec Ideal S1x256x1024 .bf16)

theorem pay15 (r d : Fin 1024) :
   k0_pay15 (k0_pay18 x0 x1 x2 x3 x4 x5 x6 x7 x8) (k0_pay19 x0 x1 x2 x3 x4 x5 x6 x7 x8) (k0_pay20 x0 x1 x2 x3 x4 x5 x6 x7 x8)
     (View.ld x1 r0_21) (View.ld x2 r0_21) (View.ld x3 r0_22) (ix2 r d)
   = (fun y => y d - mean y) (res (fun k => x0 (ix2 r k)) (down (fun k => x0 (ix2 r k)) (fun k j => x1 (ix4 0 0 k j)) (fun k j => x2 (ix4 0 0 k j)) (fun j d => x3 (ix4 0 0 j d)))) := by
  unfold_payloads
  pointwise
  simp only [mean, res, down, hid, ← sum_chunks]

theorem pay16 (r : Fin 1024) :
   k0_pay16 (k0_pay18 x0 x1 x2 x3 x4 x5 x6 x7 x8) (k0_pay19 x0 x1 x2 x3 x4 x5 x6 x7 x8) (k0_pay20 x0 x1 x2 x3 x4 x5 x6 x7 x8)
     (View.ld x1 r0_21) (View.ld x2 r0_21) (View.ld x3 r0_22) (ix2 r 0)
   = (fun y => ∑ k, (y k - mean y) * (y k - mean y)) (res (fun k => x0 (ix2 r k)) (down (fun k => x0 (ix2 r k)) (fun k j => x1 (ix4 0 0 k j)) (fun k j => x2 (ix4 0 0 k j)) (fun j d => x3 (ix4 0 0 j d)))) := by
  unfold k0_pay16
  pointwise
  exact Finset.sum_congr rfl fun k _ => congrArg₂ (· * ·) (pay15 x0 x1 x2 x3 x4 x5 x6 x7 x8 r k) (pay15 x0 x1 x2 x3 x4 x5 x6 x7 x8 r k)

theorem out9 (r d : Fin 1024) :
   out0_9 x0 x1 x2 x3 x4 x5 x6 x7 x8 (ix2 r d)
   = ple (ffn (fun k => x0 (ix2 r k)) (fun k j => x1 (ix4 0 0 k j)) (fun k j => x2 (ix4 0 0 k j)) (fun j d => x3 (ix4 0 0 j d)) (fun k => x4 (ix4 0 0 0 k)) (fun k => x5 (ix4 0 0 0 k)))
      (fun k => x6 (ix3 0 r k)) (fun k d => x7 (ix3 0 k d)) (fun k d => x8 (ix3 0 k d)) d := by
  frame_out
  unfold k0_pay1 k0_pay17 k0_pay13 k0_pay14
  pointwise
  simp only [pay15, pay16]
  rfl

variable (m : (ℓ : Loc nD τ sig) → Buf (Elt Ideal) ℓ)
open Idealize.ShloMosaic.TcCoe Idealize.SL.Sem
theorem idx : ∀ t : Fin cfg0.N, win0_0.index t = ![t.val, 0] ∧ win0_1.index t = ![1, 1, 0, 0] ∧ win0_2.index t = ![1, 1, 0, 0]
   ∧ win0_3.index t = ![1, 1, 0, 0] ∧ win0_4.index t = ![1, 2, 0, 0] ∧ win0_5.index t = ![1, 2, 0, 0] ∧ win0_6.index t = ![1, t.val, 0]
   ∧ win0_7.index t = ![1, 0, 0] ∧ win0_8.index t = ![1, 0, 0] ∧ win0_9.index t = ![t.val, 0] :=
  (by decide +kernel : ∀ t : Fin grid0.N, _)

/-- The result as one function of the arguments, index by index. -/
def G (x : FVec Ideal S32768x1024 .f32) (p : FVec Ideal S2x32768x256 .f32) (g b : FVec Ideal S2x3x1024 .f32)
    (wg wu : FVec Ideal S2x2x1024x2816 .f32) (wd : FVec Ideal S2x2x2816x1024 .f32) (pp : FVec Ideal S2x256x1024 .f32)
    (pg : FVec Ideal S2x1024x1024 .f32) (i : S32768x1024.Idx) : EReal :=
  ple (ffn (fun k => x (ix2 (i 0) k)) (fun k j => wg (ix4 1 1 k j)) (fun k j => wu (ix4 1 1 k j)) (fun j d => wd (ix4 1 1 j d))
      (fun k => g (ix3 1 2 k)) (fun k => b (ix3 1 2 k)))
    (fun k => p (ix3 1 (i 0) k)) (fun k d => pg (ix3 1 k d)) (fun k d => pp (ix3 1 k d)) (i 1)

theorem point (c : Dev nD) (t : Fin cfg0.N) (r d : Fin 1024) :
    out0_9 (iblk m c 0 t) (iblk m c 1 t) (iblk m c 2 t) (iblk m c 3 t) (iblk m c 4 t) (iblk m c 5 t) (iblk m c 6 t) (iblk m c 7 t) (iblk m c 8 t) (ix2 r d)
    = G (shapeCast S32768x1024 (m ((c : Thread nD τ).loc main_arg0)) shapeCasts_S4x8192x1024_S32768x1024)
        (shapeCast S2x32768x256 (m ((c : Thread nD τ).loc main_arg1)) shapeCasts_S2x4x8192x256_S2x32768x256)
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (((cfg0.win 9).blk t).view.emb (ix2 r d)) := by
  rw [out9]
  unfold G
  have e0 : ∀ k : Fin 1024, iblk m c 0 t (ix2 r k) = (shapeCast S32768x1024 (m ((c : Thread nD τ).loc main_arg0)) shapeCasts_S4x8192x1024_S32768x1024 : FVec Ideal S32768x1024 .f32) (ix2 (((cfg0.win 9).blk t).view.emb (ix2 r d) 0) k) := by
    intro k
    blk_point [iblk, V, idx t]
  have e1 : ∀ (k : Fin 1024) (j : Fin 2816), iblk m c 1 t (ix4 0 0 k j) = (m ((c : Thread nD τ).loc main_arg4)) (ix4 1 1 k j) := by
    intro k j
    blk_point [iblk, V, idx t]
  have e2 : ∀ (k : Fin 1024) (j : Fin 2816), iblk m c 2 t (ix4 0 0 k j) = (m ((c : Thread nD τ).loc main_arg5)) (ix4 1 1 k j) := by
    intro k j
    blk_point [iblk, V, idx t]
  have e3 : ∀ (j : Fin 2816) (k : Fin 1024), iblk m c 3 t (ix4 0 0 j k) = (m ((c : Thread nD τ).loc main_arg6)) (ix4 1 1 j k) := by
    intro k j
    blk_point [iblk, V, idx t]
  have e4 : ∀ (k : Fin 1024), iblk m c 4 t (ix4 0 0 0 k) = (m ((c : Thread nD τ).loc main_arg2)) (ix3 1 2 k) := by
    intro k
    blk_point [iblk, V, idx t]
  have e5 : ∀ (k : Fin 1024), iblk m c 5 t (ix4 0 0 0 k) = (m ((c : Thread nD τ).loc main_arg3)) (ix3 1 2 k) := by
    intro k
    blk_point [iblk, V, idx t]
  have e6 : ∀ (k : Fin 256), iblk m c 6 t (ix3 0 r k) = (shapeCast S2x32768x256 (m ((c : Thread nD τ).loc main_arg1)) shapeCasts_S2x4x8192x256_S2x32768x256 : FVec Ideal S2x32768x256 .f32) (ix3 1 (((cfg0.win 9).blk t).view.emb (ix2 r d) 0) k) := by
    intro k
    blk_point [iblk, V, idx t]
  have e7 : ∀ (k d : Fin 1024), iblk m c 7 t (ix3 0 k d) = (m ((c : Thread nD τ).loc main_arg8)) (ix3 1 k d) := by
    intro k d
    blk_point [iblk, V, idx t]
  have e8 : ∀ (k : Fin 256) (d : Fin 1024), iblk m c 8 t (ix3 0 k d) = (m ((c : Thread nD τ).loc main_arg7)) (ix3 1 k d) := by
    intro k d
    blk_point [iblk, V, idx t]
  have e9 : ((cfg0.win 9).blk t).view.emb (ix2 r d) 1 = d := by
    refine Fin.ext ?_
    blk_simp [idx t]
  simp only [e0, e1, e2, e3, e4, e5, e6, e7, e8, e9]

theorem final (c : Dev nD) : (dats m 0 c).arrAt 9 cfg0.N
    = G (shapeCast S32768x1024 (m ((c : Thread nD τ).loc main_arg0)) shapeCasts_S4x8192x1024_S32768x1024)
        (shapeCast S2x32768x256 (m ((c : Thread nD τ).loc main_arg1)) shapeCasts_S2x4x8192x256_S2x32768x256)
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9, eq_ix2 y]
  exact point m c t _ _
end Cert.Kernel2Ideal.Ffn
end
-- ==== Proof.Ffn.Reference2.lean ====
module

public import proofs.«01_k».proof.Proof.Ffn.Spec
public import proofs.«01_k».proof.Proof.Gen.Reference2Ideal.Run
public import proofs.«01_k».proof.Proof.Gen.Reference2Ideal.Read
public import Idealize.ShloMosaic.Lib.Pointwise

@[expose] public section
noncomputable section
namespace Cert.Reference2Ideal.Ffn
open Idealize.ShloMosaic Cert.Reference2Ideal Cert.Reference2Ideal.Gen Cert.Reference2Ideal.Value Cert.Reference2Ideal.Read Cert.Ffn

set_option maxRecDepth 16384
variable (x0 : FVec Ideal S4x8192x1024 .f32) (x1 : FVec Ideal S2x4x8192x256 .f32) (x2 x3 : FVec Ideal S2x3x1024 .f32) (x4 x5 : FVec Ideal S2x2x1024x2816 .f32)
  (x6 : FVec Ideal S2x2x2816x1024 .f32) (x7 : FVec Ideal S2x256x1024 .f32) (x8 : FVec Ideal S2x1024x1024 .f32)

theorem v17 (r : Fin 32768) (d : Fin 1024) : val_main_v17 (F := Ideal) x0 x4 x5 x6 (ix2 r d)
   = res (fun k => val_main_v0 (F := Ideal) x0 (ix2 r k)) (down (fun k => val_main_v0 (F := Ideal) x0 (ix2 r k)) (fun k j => x4 (ix4 1 1 k j)) (fun k j => x5 (ix4 1 1 k j)) (fun j d => x6 (ix4 1 1 j d))) d := by
  unfold val_main_v17 val_main_v11 val_main_v10 val_main_cst val_main_v16 val_main_v15 val_main_cst_0 val_main_v14 val_main_v9 val_main_v5
    val_main_call0_v5 val_main_call0_v4 val_main_call0_cst_0 val_main_call0_v3 val_main_call0_v2 val_main_call0_cst val_main_call0_v1 val_main_call0_v0
    val_main_v4 val_main_v3 val_main_v2 val_main_v8 val_main_v7 val_main_v6 val_main_v13 val_main_v12
  pointwise
  rfl

theorem v21 (r : Fin 32768) : val_main_v21 (F := Ideal) x0 x4 x5 x6 (ix2 r 0) = mean (fun k => val_main_v17 (F := Ideal) x0 x4 x5 x6 (ix2 r k)) := by
  unfold val_main_v21 val_main_v20 val_main_cst_2 val_main_v19 val_main_v18 val_main_cst_1
  pointwise
  rfl

theorem v45 (r : Fin 32768) (d : Fin 1024) : val_main_v45 (F := Ideal) x0 x2 x3 x4 x5 x6 (ix2 r d)
   = lnorm (fun k => val_main_v17 (F := Ideal) x0 x4 x5 x6 (ix2 r k)) (fun k => x2 (ix3 1 2 k)) (fun k => x3 (ix3 1 2 k)) d := by
  unfold val_main_v45 val_main_v44 val_main_v43 val_main_v42 val_main_v41 val_main_v40 val_main_v39 val_main_v38 val_main_v37 val_main_v36 val_main_v35 val_main_v34
    val_main_v33 val_main_v32 val_main_v31 val_main_cst_5 val_main_v30 val_main_v29 val_main_v28 val_main_v27 val_main_cst_4 val_main_v26 val_main_v25 val_main_cst_3
    val_main_v24 val_main_v23 val_main_v22
  pointwise
  simp only [v21]
  rfl

theorem v61 (r : Fin 32768) (d : Fin 1024) : val_main_v61 (F := Ideal) x0 x1 x2 x3 x4 x5 x6 x7 x8 (ix2 r d)
   = ple (ffn (fun k => val_main_v0 (F := Ideal) x0 (ix2 r k)) (fun k j => x4 (ix4 1 1 k j)) (fun k j => x5 (ix4 1 1 k j)) (fun j d => x6 (ix4 1 1 j d)) (fun k => x2 (ix3 1 2 k)) (fun k => x3 (ix3 1 2 k)))
      (fun k => val_main_v1 (F := Ideal) x1 (ix3 1 r k)) (fun k d => x8 (ix3 1 k d)) (fun k d => x7 (ix3 1 k d)) d := by
  unfold val_main_v61 val_main_v60 val_main_v59 val_main_v58 val_main_v57 val_main_v56 val_main_v55 val_main_v54 val_main_v53 val_main_cst_7 val_main_v52 val_main_v51 val_main_cst_6
    val_main_v50 val_main_v49 val_main_v48 val_main_v47 val_main_v46
  pointwise
  simp only [v45, v17]
  rfl

end Cert.Reference2Ideal.Ffn
end
-- ==== Proof.Ffn.Claim2.lean ====
/-
  The feed-forward block with the per-layer embedding of the second layer: the kernel's result array and the
  reference's are the same function of the arguments, so the two programs agree at the ideal instance.
-/
module

public import proofs.«01_k».proof.Defs
public import proofs.«01_k».proof.Proof.Ffn.Kernel2
public import proofs.«01_k».proof.Proof.Ffn.Reference2
public import Idealize.ShloMosaic.Lib.Quiescent

@[expose] public section
noncomputable section
namespace Cert.Ffn
open Idealize.ShloMosaic Idealize.ShloMosaic.TcCoe Idealize.SL.Sem

set_option maxRecDepth 16384

theorem algebraic2 : Cert.algebraic_Kernel2Ideal_Reference2Ideal := by
  intro m g m' g' _ hagree
  refine ⟨fun c => Cert.Reference2Ideal.Value.res_main_v61 m' c, ?_, Cert.Reference2Ideal.Value.run m' g'⟩
  refine (θ_run _ _ _).mono (fun r h c => ⟨(h c).1.trans ?_, (h c).2⟩) (Cert.Kernel2Ideal.Value.run_blocks m g)
  obtain ⟨a0, a1, a2, a3, a4, a5, a6, a7, a8⟩ := hagree c
  rw [Cert.Kernel2Ideal.Ffn.final]
  refine Eq.trans ?_ (Cert.Reference2Ideal.Read.val_main_v61_eq m' c).symm
  rw [a0, a1, a2, a3, a4, a5, a6, a7, a8]
  funext i
  rw [ValueIdx.eq_ix2 i]
  exact (Cert.Reference2Ideal.Ffn.v61 _ _ _ _ _ _ _ _ _ (i 0) (i 1)).symm

/-- The reference has no semaphore cells, so its counters end at zero. -/
theorem refFrame2 : Cert.quiescent_Reference2Ideal := fun m g _ =>
  (θ_run _ _ _).mono (fun r h => ⟨fun c => (h c).2, sem_eq_zero_of_no_sems rfl r.2⟩) (Cert.Reference2Ideal.Value.run m g)

end Cert.Ffn
end
-- ==== Proof.Ffn.Kernel3.lean ====
/-
  The feed-forward call of the first layer: the kernel's block values, row by row, are the plain maths of `Ffn.Spec`,
  and the result array is one function of the arguments.
-/
module

public import proofs.«01_k».proof.Proof.Ffn.Spec
public import proofs.«01_k».proof.Proof.Gen.Kernel3Ideal.Value
public import Idealize.ShloMosaic.Lib.Pipeline.ValueKit

@[expose] public section
noncomputable section
namespace Cert.Kernel3Ideal.Ffn
open Idealize.ShloMosaic Cert.Kernel3Ideal Cert.Kernel3Ideal.Gen Cert.Ffn

set_option maxRecDepth 16384
variable (x0 : Vec Ideal S1024x1024 .f32) (x1 : Vec Ideal S1x1x1024x2816 .bf16) (x2 : Vec Ideal S1x1x1024x2816 .bf16) (x3 : Vec Ideal S1x1x2816x1024 .bf16)
  (x4 x5 : Vec Ideal S1x1x1x1024 .f32)

theorem pay15 (r d : Fin 1024) :
   k0_pay15 (k0_pay18 x0 x1 x2 x3 x4 x5) (k0_pay19 x0 x1 x2 x3 x4 x5) (k0_pay20 x0 x1 x2 x3 x4 x5)
     (View.ld x1 r0_21) (View.ld x2 r0_21) (View.ld x3 r0_22) (ix2 r d)
   = (fun y => y d - mean y) (res (fun k => x0 (ix2 r k)) (down (fun k => x0 (ix2 r k)) (fun k j => x1 (ix4 0 0 k j)) (fun k j => x2 (ix4 0 0 k j)) (fun j d => x3 (ix4 0 0 j d)))) := by
  unfold_payloads
  pointwise
  simp only [mean, res, down, hid, ← sum_chunks]

theorem pay16 (r : Fin 1024) :
   k0_pay16 (k0_pay18 x0 x1 x2 x3 x4 x5) (k0_pay19 x0 x1 x2 x3 x4 x5) (k0_pay20 x0 x1 x2 x3 x4 x5)
     (View.ld x1 r0_21) (View.ld x2 r0_21) (View.ld x3 r0_22) (ix2 r 0)
   = (fun y => ∑ k, (y k - mean y) * (y k - mean y)) (res (fun k => x0 (ix2 r k)) (down (fun k => x0 (ix2 r k)) (fun k j => x1 (ix4 0 0 k j)) (fun k j => x2 (ix4 0 0 k j)) (fun j d => x3 (ix4 0 0 j d)))) := by
  unfold k0_pay16
  pointwise
  exact Finset.sum_congr rfl fun k _ => congrArg₂ (· * ·) (pay15 x0 x1 x2 x3 x4 x5 r k) (pay15 x0 x1 x2 x3 x4 x5 r k)

theorem out6 (r d : Fin 1024) :
   out0_6 x0 x1 x2 x3 x4 x5 (ix2 r d)
   = ffn (fun k => x0 (ix2 r k)) (fun k j => x1 (ix4 0 0 k j)) (fun k j => x2 (ix4 0 0 k j)) (fun j d => x3 (ix4 0 0 j d)) (fun k => x4 (ix4 0 0 0 k)) (fun k => x5 (ix4 0 0 0 k)) d := by
  frame_out
  unfold k0_pay1 k0_pay17 k0_pay13 k0_pay14
  pointwise
  simp only [pay15, pay16]
  rfl

variable (m : (ℓ : Loc nD τ sig) → Buf (Elt Ideal) ℓ)
open Idealize.ShloMosaic.TcCoe Idealize.SL.Sem
theorem idx : ∀ t : Fin cfg0.N, win0_0.index t = ![t.val, 0] ∧ win0_1.index t = ![0, 0, 0, 0] ∧ win0_2.index t = ![0, 0, 0, 0]
   ∧ win0_3.index t = ![0, 0, 0, 0] ∧ win0_4.index t = ![0, 0, 0, 0] ∧ win0_5.index t = ![0, 0, 0, 0] ∧ win0_6.index t = ![t.val, 0] :=
  (by decide +kernel : ∀ t : Fin grid0.N, _)

/-- The result as one function of the arguments, index by index. -/
def G (x : FVec Ideal S32768x1024 .f32) (g b : FVec Ideal S2x3x1024 .f32)
    (wg wu : FVec Ideal S2x2x1024x2816 .f32) (wd : FVec Ideal S2x2x2816x1024 .f32) (i : S32768x1024.Idx) : EReal :=
  ffn (fun k => x (ix2 (i 0) k)) (fun k j => wg (ix4 0 0 k j)) (fun k j => wu (ix4 0 0 k j)) (fun j d => wd (ix4 0 0 j d))
      (fun k => g (ix3 0 0 k)) (fun k => b (ix3 0 0 k)) (i 1)

theorem point (c : Dev nD) (t : Fin cfg0.N) (r d : Fin 1024) :
    out0_6 (iblk m c 0 t) (iblk m c 1 t) (iblk m c 2 t) (iblk m c 3 t) (iblk m c 4 t) (iblk m c 5 t) (ix2 r d)
    = G (shapeCast S32768x1024 (m ((c : Thread nD τ).loc main_arg0)) shapeCasts_S4x8192x1024_S32768x1024)
        (m ((c : Thread nD τ).loc main_arg1)) (m ((c : Thread nD τ).loc main_arg2)) (m ((c : Thread nD τ).loc main_arg3)) (m ((c : Thread nD τ).loc main_arg4))
        (m ((c : Thread nD τ).loc main_arg5)) (((cfg0.win 6).blk t).view.emb (ix2 r d)) := by
  rw [out6]
  unfold G
  have e0 : ∀ k : Fin 1024, iblk m c 0 t (ix2 r k) = (shapeCast S32768x1024 (m ((c : Thread nD τ).loc main_arg0)) shapeCasts_S4x8192x1024_S32768x1024 : FVec Ideal S32768x1024 .f32) (ix2 (((cfg0.win 6).blk t).view.emb (ix2 r d) 0) k) := by
    intro k
    blk_point [iblk, V, idx t]
  have e1 : ∀ (k : Fin 1024) (j : Fin 2816), iblk m c 1 t (ix4 0 0 k j) = (m ((c : Thread nD τ).loc main_arg3)) (ix4 0 0 k j) := by
    intro k j
    blk_point [iblk, V, idx t]
  have e2 : ∀ (k : Fin 1024) (j : Fin 2816), iblk m c 2 t (ix4 0 0 k j) = (m ((c : Thread nD τ).loc main_arg4)) (ix4 0 0 k j) := by
    intro k j
    blk_point [iblk, V, idx t]
  have e3 : ∀ (j : Fin 2816) (k : Fin 1024), iblk m c 3 t (ix4 0 0 j k) = (m ((c : Thread nD τ).loc main_arg5)) (ix4 0 0 j k) := by
    intro k j
    blk_point [iblk, V, idx t]
  have e4 : ∀ (k : Fin 1024), iblk m c 4 t (ix4 0 0 0 k) = (m ((c : Thread nD τ).loc main_arg1)) (ix3 0 0 k) := by
    intro k
    blk_point [iblk, V, idx t]
  have e5 : ∀ (k : Fin 1024), iblk m c 5 t (ix4 0 0 0 k) = (m ((c : Thread nD τ).loc main_arg2)) (ix3 0 0 k) := by
    intro k
    blk_point [iblk, V, idx t]
  have e6 : ((cfg0.win 6).blk t).view.emb (ix2 r d) 1 = d := by
    refine Fin.ext ?_
    blk_simp [idx t]
  simp only [e0, e1, e2, e3, e4, e5, e6]

theorem final (c : Dev nD) : (dats m 0 c).arrAt 6 cfg0.N
    = G (shapeCast S32768x1024 (m ((c : Thread nD τ).loc main_arg0)) shapeCasts_S4x8192x1024_S32768x1024)
        (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6, eq_ix2 y]
  exact point m c t _ _
end Cert.Kernel3Ideal.Ffn
end
-- ==== Proof.Ffn.Reference3.lean ====
/-
  The reference of the first layer's feed-forward call, stage by stage: the residual sum, its mean, the layer norm.
-/
module

public import proofs.«01_k».proof.Proof.Ffn.Spec
public import proofs.«01_k».proof.Proof.Gen.Reference3Ideal.Run
public import proofs.«01_k».proof.Proof.Gen.Reference3Ideal.Read
public import Idealize.ShloMosaic.Lib.Pointwise

@[expose] public section
noncomputable section
namespace Cert.Reference3Ideal.Ffn
open Idealize.ShloMosaic Cert.Reference3Ideal Cert.Reference3Ideal.Gen Cert.Reference3Ideal.Value Cert.Reference3Ideal.Read Cert.Ffn

set_option maxRecDepth 16384
variable (x0 : FVec Ideal S4x8192x1024 .f32) (x1 x2 : FVec Ideal S2x3x1024 .f32) (x3 x4 : FVec Ideal S2x2x1024x2816 .f32)
  (x5 : FVec Ideal S2x2x2816x1024 .f32)

theorem v16 (r : Fin 32768) (d : Fin 1024) : val_main_v16 (F := Ideal) x0 x3 x4 x5 (ix2 r d)
   = res (fun k => val_main_v0 (F := Ideal) x0 (ix2 r k)) (down (fun k => val_main_v0 (F := Ideal) x0 (ix2 r k)) (fun k j => x3 (ix4 0 0 k j)) (fun k j => x4 (ix4 0 0 k j)) (fun j d => x5 (ix4 0 0 j d))) d := by
  unfold val_main_v16 val_main_v10 val_main_v9 val_main_cst val_main_v15 val_main_v14 val_main_cst_0 val_main_v13 val_main_v8 val_main_v4 val_main_call0_v5 val_main_call0_v4 val_main_call0_cst_0 val_main_call0_v3 val_main_call0_v2 val_main_call0_cst val_main_call0_v1 val_main_call0_v0 val_main_v7 val_main_v6 val_main_v5 val_main_v12 val_main_v11 val_main_v3 val_main_v2 val_main_v1
  pointwise
  rfl

theorem v20 (r : Fin 32768) : val_main_v20 (F := Ideal) x0 x3 x4 x5 (ix2 r 0) = mean (fun k => val_main_v16 (F := Ideal) x0 x3 x4 x5 (ix2 r k)) := by
  unfold val_main_v20 val_main_v18 val_main_v17 val_main_cst_1 val_main_v19 val_main_cst_2
  pointwise
  rfl

theorem v44 (r : Fin 32768) (d : Fin 1024) : val_main_v44 (F := Ideal) x0 x1 x2 x3 x4 x5 (ix2 r d)
   = ffn (fun k => val_main_v0 (F := Ideal) x0 (ix2 r k)) (fun k j => x3 (ix4 0 0 k j)) (fun k j => x4 (ix4 0 0 k j)) (fun j d => x5 (ix4 0 0 j d)) (fun k => x1 (ix3 0 0 k)) (fun k => x2 (ix3 0 0 k)) d := by
  unfold val_main_v44 val_main_v39 val_main_v34 val_main_v29 val_main_v28 val_main_v33 val_main_v32 val_main_v31 val_main_v27 val_main_v25 val_main_v24 val_main_v23 val_main_v22 val_main_v21 val_main_cst_3 val_main_v26 val_main_cst_4 val_main_v30 val_main_cst_5 val_main_v38 val_main_v37 val_main_v36 val_main_v35 val_main_v43 val_main_v42 val_main_v41 val_main_v40
  pointwise
  simp only [v20, v16]
  rfl

end Cert.Reference3Ideal.Ffn
end
-- ==== Proof.Ffn.Claim3.lean ====
/-
  The feed-forward call of the first layer: the kernel's result array and the reference's are the same function of
  the arguments, so the two programs agree at the ideal instance.
-/
module

public import proofs.«01_k».proof.Defs
public import proofs.«01_k».proof.Proof.Ffn.Kernel3
public import proofs.«01_k».proof.Proof.Ffn.Reference3
public import Idealize.ShloMosaic.Lib.Quiescent

@[expose] public section
noncomputable section
namespace Cert.Ffn
open Idealize.ShloMosaic Idealize.ShloMosaic.TcCoe Idealize.SL.Sem

set_option maxRecDepth 16384

theorem algebraic3 : Cert.algebraic_Kernel3Ideal_Reference3Ideal := by
  intro m g m' g' _ hagree
  refine ⟨fun c => Cert.Reference3Ideal.Value.res_main_v44 m' c, ?_, Cert.Reference3Ideal.Value.run m' g'⟩
  refine (θ_run _ _ _).mono (fun r h c => ⟨(h c).1.trans ?_, (h c).2⟩) (Cert.Kernel3Ideal.Value.run_blocks m g)
  obtain ⟨a0, a1, a2, a3, a4, a5⟩ := hagree c
  rw [Cert.Kernel3Ideal.Ffn.final]
  refine Eq.trans ?_ (Cert.Reference3Ideal.Read.val_main_v44_eq m' c).symm
  rw [a0, a1, a2, a3, a4, a5]
  funext i
  rw [ValueIdx.eq_ix2 i]
  exact (Cert.Reference3Ideal.Ffn.v44 _ _ _ _ _ _ (i 0) (i 1)).symm

/-- The reference has no semaphore cells, so its counters end at zero. -/
theorem refFrame3 : Cert.quiescent_Reference3Ideal := fun m g _ =>
  (θ_run _ _ _).mono (fun r h => ⟨fun c => (h c).2, sem_eq_zero_of_no_sems rfl r.2⟩) (Cert.Reference3Ideal.Value.run m g)

end Cert.Ffn
end
-- ==== Proof.Ffn.Kernel4.lean ====
/-
  The feed-forward call of the second layer: the kernel's block values, row by row, are the plain maths of `Ffn.Spec`,
  and the result array is one function of the arguments.
-/
module

public import proofs.«01_k».proof.Proof.Ffn.Spec
public import proofs.«01_k».proof.Proof.Gen.Kernel4Ideal.Value
public import Idealize.ShloMosaic.Lib.Pipeline.ValueKit

@[expose] public section
noncomputable section
namespace Cert.Kernel4Ideal.Ffn
open Idealize.ShloMosaic Cert.Kernel4Ideal Cert.Kernel4Ideal.Gen Cert.Ffn

set_option maxRecDepth 16384
variable (x0 : Vec Ideal S1024x1024 .f32) (x1 : Vec Ideal S1x1x1024x2816 .bf16) (x2 : Vec Ideal S1x1x1024x2816 .bf16) (x3 : Vec Ideal S1x1x2816x1024 .bf16)
  (x4 x5 : Vec Ideal S1x1x1x1024 .f32)

theorem pay15 (r d : Fin 1024) :
   k0_pay15 (k0_pay18 x0 x1 x2 x3 x4 x5) (k0_pay19 x0 x1 x2 x3 x4 x5) (k0_pay20 x0 x1 x2 x3 x4 x5)
     (View.ld x1 r0_21) (View.ld x2 r0_21) (View.ld x3 r0_22) (ix2 r d)
   = (fun y => y d - mean y) (res (fun k => x0 (ix2 r k)) (down (fun k => x0 (ix2 r k)) (fun k j => x1 (ix4 0 0 k j)) (fun k j => x2 (ix4 0 0 k j)) (fun j d => x3 (ix4 0 0 j d)))) := by
  unfold_payloads
  pointwise
  simp only [mean, res, down, hid, ← sum_chunks]

theorem pay16 (r : Fin 1024) :
   k0_pay16 (k0_pay18 x0 x1 x2 x3 x4 x5) (k0_pay19 x0 x1 x2 x3 x4 x5) (k0_pay20 x0 x1 x2 x3 x4 x5)
     (View.ld x1 r0_21) (View.ld x2 r0_21) (View.ld x3 r0_22) (ix2 r 0)
   = (fun y => ∑ k, (y k - mean y) * (y k - mean y)) (res (fun k => x0 (ix2 r k)) (down (fun k => x0 (ix2 r k)) (fun k j => x1 (ix4 0 0 k j)) (fun k j => x2 (ix4 0 0 k j)) (fun j d => x3 (ix4 0 0 j d)))) := by
  unfold k0_pay16
  pointwise
  exact Finset.sum_congr rfl fun k _ => congrArg₂ (· * ·) (pay15 x0 x1 x2 x3 x4 x5 r k) (pay15 x0 x1 x2 x3 x4 x5 r k)

theorem out6 (r d : Fin 1024) :
   out0_6 x0 x1 x2 x3 x4 x5 (ix2 r d)
   = ffn (fun k => x0 (ix2 r k)) (fun k j => x1 (ix4 0 0 k j)) (fun k j => x2 (ix4 0 0 k j)) (fun j d => x3 (ix4 0 0 j d)) (fun k => x4 (ix4 0 0 0 k)) (fun k => x5 (ix4 0 0 0 k)) d := by
  frame_out
  unfold k0_pay1 k0_pay17 k0_pay13 k0_pay14
  pointwise
  simp only [pay15, pay16]
  rfl

variable (m : (ℓ : Loc nD τ sig) → Buf (Elt Ideal) ℓ)
open Idealize.ShloMosaic.TcCoe Idealize.SL.Sem
theorem idx : ∀ t : Fin cfg0.N, win0_0.index t = ![t.val, 0] ∧ win0_1.index t = ![1, 0, 0, 0] ∧ win0_2.index t = ![1, 0, 0, 0]
   ∧ win0_3.index t = ![1, 0, 0, 0] ∧ win0_4.index t = ![1, 0, 0, 0] ∧ win0_5.index t = ![1, 0, 0, 0] ∧ win0_6.index t = ![t.val, 0] :=
  (by decide +kernel : ∀ t : Fin grid0.N, _)

/-- The result as one function of the arguments, index by index. -/
def G (x : FVec Ideal S32768x1024 .f32) (g b : FVec Ideal S2x3x1024 .f32)
    (wg wu : FVec Ideal S2x2x1024x2816 .f32) (wd : FVec Ideal S2x2x2816x1024 .f32) (i : S32768x1024.Idx) : EReal :=
  ffn (fun k => x (ix2 (i 0) k)) (fun k j => wg (ix4 1 0 k j)) (fun k j => wu (ix4 1 0 k j)) (fun j d => wd (ix4 1 0 j d))
      (fun k => g (ix3 1 0 k)) (fun k => b (ix3 1 0 k)) (i 1)

theorem point (c : Dev nD) (t : Fin cfg0.N) (r d : Fin 1024) :
    out0_6 (iblk m c 0 t) (iblk m c 1 t) (iblk m c 2 t) (iblk m c 3 t) (iblk m c 4 t) (iblk m c 5 t) (ix2 r d)
    = G (shapeCast S32768x1024 (m ((c : Thread nD τ).loc main_arg0)) shapeCasts_S4x8192x1024_S32768x1024)
        (m ((c : Thread nD τ).loc main_arg1)) (m ((c : Thread nD τ).loc main_arg2)) (m ((c : Thread nD τ).loc main_arg3)) (m ((c : Thread nD τ).loc main_arg4))
        (m ((c : Thread nD τ).loc main_arg5)) (((cfg0.win 6).blk t).view.emb (ix2 r d)) := by
  rw [out6]
  unfold G
  have e0 : ∀ k : Fin 1024, iblk m c 0 t (ix2 r k) = (shapeCast S32768x1024 (m ((c : Thread nD τ).loc main_arg0)) shapeCasts_S4x8192x1024_S32768x1024 : FVec Ideal S32768x1024 .f32) (ix2 (((cfg0.win 6).blk t).view.emb (ix2 r d) 0) k) := by
    intro k
    blk_point [iblk, V, idx t]
  have e1 : ∀ (k : Fin 1024) (j : Fin 2816), iblk m c 1 t (ix4 0 0 k j) = (m ((c : Thread nD τ).loc main_arg3)) (ix4 1 0 k j) := by
    intro k j
    blk_point [iblk, V, idx t]
  have e2 : ∀ (k : Fin 1024) (j : Fin 2816), iblk m c 2 t (ix4 0 0 k j) = (m ((c : Thread nD τ).loc main_arg4)) (ix4 1 0 k j) := by
    intro k j
    blk_point [iblk, V, idx t]
  have e3 : ∀ (j : Fin 2816) (k : Fin 1024), iblk m c 3 t (ix4 0 0 j k) = (m ((c : Thread nD τ).loc main_arg5)) (ix4 1 0 j k) := by
    intro k j
    blk_point [iblk, V, idx t]
  have e4 : ∀ (k : Fin 1024), iblk m c 4 t (ix4 0 0 0 k) = (m ((c : Thread nD τ).loc main_arg1)) (ix3 1 0 k) := by
    intro k
    blk_point [iblk, V, idx t]
  have e5 : ∀ (k : Fin 1024), iblk m c 5 t (ix4 0 0 0 k) = (m ((c : Thread nD τ).loc main_arg2)) (ix3 1 0 k) := by
    intro k
    blk_point [iblk, V, idx t]
  have e6 : ((cfg0.win 6).blk t).view.emb (ix2 r d) 1 = d := by
    refine Fin.ext ?_
    blk_simp [idx t]
  simp only [e0, e1, e2, e3, e4, e5, e6]

theorem final (c : Dev nD) : (dats m 0 c).arrAt 6 cfg0.N
    = G (shapeCast S32768x1024 (m ((c : Thread nD τ).loc main_arg0)) shapeCasts_S4x8192x1024_S32768x1024)
        (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6, eq_ix2 y]
  exact point m c t _ _
end Cert.Kernel4Ideal.Ffn
end
-- ==== Proof.Ffn.Reference4.lean ====
/-
  The reference of the second layer's feed-forward call, stage by stage: the residual sum, its mean, the layer norm.
-/
module

public import proofs.«01_k».proof.Proof.Ffn.Spec
public import proofs.«01_k».proof.Proof.Gen.Reference4Ideal.Run
public import proofs.«01_k».proof.Proof.Gen.Reference4Ideal.Read
public import Idealize.ShloMosaic.Lib.Pointwise

@[expose] public section
noncomputable section
namespace Cert.Reference4Ideal.Ffn
open Idealize.ShloMosaic Cert.Reference4Ideal Cert.Reference4Ideal.Gen Cert.Reference4Ideal.Value Cert.Reference4Ideal.Read Cert.Ffn

set_option maxRecDepth 16384
variable (x0 : FVec Ideal S4x8192x1024 .f32) (x1 x2 : FVec Ideal S2x3x1024 .f32) (x3 x4 : FVec Ideal S2x2x1024x2816 .f32)
  (x5 : FVec Ideal S2x2x2816x1024 .f32)

theorem v16 (r : Fin 32768) (d : Fin 1024) : val_main_v16 (F := Ideal) x0 x3 x4 x5 (ix2 r d)
   = res (fun k => val_main_v0 (F := Ideal) x0 (ix2 r k)) (down (fun k => val_main_v0 (F := Ideal) x0 (ix2 r k)) (fun k j => x3 (ix4 1 0 k j)) (fun k j => x4 (ix4 1 0 k j)) (fun j d => x5 (ix4 1 0 j d))) d := by
  unfold val_main_v16 val_main_v10 val_main_v9 val_main_cst val_main_v15 val_main_v14 val_main_cst_0 val_main_v13 val_main_v8 val_main_v4 val_main_call0_v5 val_main_call0_v4 val_main_call0_cst_0 val_main_call0_v3 val_main_call0_v2 val_main_call0_cst val_main_call0_v1 val_main_call0_v0 val_main_v7 val_main_v6 val_main_v5 val_main_v12 val_main_v11 val_main_v3 val_main_v2 val_main_v1
  pointwise
  rfl

theorem v20 (r : Fin 32768) : val_main_v20 (F := Ideal) x0 x3 x4 x5 (ix2 r 0) = mean (fun k => val_main_v16 (F := Ideal) x0 x3 x4 x5 (ix2 r k)) := by
  unfold val_main_v20 val_main_v18 val_main_v17 val_main_cst_1 val_main_v19 val_main_cst_2
  pointwise
  rfl

theorem v44 (r : Fin 32768) (d : Fin 1024) : val_main_v44 (F := Ideal) x0 x1 x2 x3 x4 x5 (ix2 r d)
   = ffn (fun k => val_main_v0 (F := Ideal) x0 (ix2 r k)) (fun k j => x3 (ix4 1 0 k j)) (fun k j => x4 (ix4 1 0 k j)) (fun j d => x5 (ix4 1 0 j d)) (fun k => x1 (ix3 1 0 k)) (fun k => x2 (ix3 1 0 k)) d := by
  unfold val_main_v44 val_main_v39 val_main_v34 val_main_v29 val_main_v28 val_main_v33 val_main_v32 val_main_v31 val_main_v27 val_main_v25 val_main_v24 val_main_v23 val_main_v22 val_main_v21 val_main_cst_3 val_main_v26 val_main_cst_4 val_main_v30 val_main_cst_5 val_main_v38 val_main_v37 val_main_v36 val_main_v35 val_main_v43 val_main_v42 val_main_v41 val_main_v40
  pointwise
  simp only [v20, v16]
  rfl

end Cert.Reference4Ideal.Ffn
end
-- ==== Proof.Ffn.Claim4.lean ====
/-
  The feed-forward call of the second layer: the kernel's result array and the reference's are the same function of
  the arguments, so the two programs agree at the ideal instance.
-/
module

public import proofs.«01_k».proof.Defs
public import proofs.«01_k».proof.Proof.Ffn.Kernel4
public import proofs.«01_k».proof.Proof.Ffn.Reference4
public import Idealize.ShloMosaic.Lib.Quiescent

@[expose] public section
noncomputable section
namespace Cert.Ffn
open Idealize.ShloMosaic Idealize.ShloMosaic.TcCoe Idealize.SL.Sem

set_option maxRecDepth 16384

theorem algebraic4 : Cert.algebraic_Kernel4Ideal_Reference4Ideal := by
  intro m g m' g' _ hagree
  refine ⟨fun c => Cert.Reference4Ideal.Value.res_main_v44 m' c, ?_, Cert.Reference4Ideal.Value.run m' g'⟩
  refine (θ_run _ _ _).mono (fun r h c => ⟨(h c).1.trans ?_, (h c).2⟩) (Cert.Kernel4Ideal.Value.run_blocks m g)
  obtain ⟨a0, a1, a2, a3, a4, a5⟩ := hagree c
  rw [Cert.Kernel4Ideal.Ffn.final]
  refine Eq.trans ?_ (Cert.Reference4Ideal.Read.val_main_v44_eq m' c).symm
  rw [a0, a1, a2, a3, a4, a5]
  funext i
  rw [ValueIdx.eq_ix2 i]
  exact (Cert.Reference4Ideal.Ffn.v44 _ _ _ _ _ _ (i 0) (i 1)).symm

/-- The reference has no semaphore cells, so its counters end at zero. -/
theorem refFrame4 : Cert.quiescent_Reference4Ideal := fun m g _ =>
  (θ_run _ _ _).mono (fun r h => ⟨fun c => (h c).2, sem_eq_zero_of_no_sems rfl r.2⟩) (Cert.Reference4Ideal.Value.run m g)

end Cert.Ffn
end
-- ==== Proof.Ffn.Mix.lean ====
/-
  The output projection of the attention heads as plain maths: the two halves of the concatenated heads times the two
  halves of the weights, and the scaled residual sum that goes with it.
-/
module

public import proofs.«01_k».proof.Proof.Ffn.Spec

@[expose] public section
noncomputable section
namespace Cert.Ffn
open Idealize.ShloMosaic

/-- Output feature `d` of the projection: 512 features of the first kind of head and 512 of the second. -/
def mix (a b : Fin 512 → EReal) (wa wb : Fin 512 → Fin 1024 → EReal) (d : Fin 1024) : EReal :=
  (∑ k, a k * wa k d) + ∑ k, b k * wb k d

/-- The residual sum `√2 x + m`. -/
def mres (x m : Fin 1024 → EReal) (d : Fin 1024) : EReal := Ideal.ofBits .f32 0x3FB504F3#32 * x d + m d

/-- One token after the attention heads: projection, residual sum and layer norm. -/
def mixed (x : Fin 1024 → EReal) (a b : Fin 512 → EReal) (wa wb : Fin 512 → Fin 1024 → EReal) (g o : Fin 1024 → EReal) : Fin 1024 → EReal :=
  lnorm (mres x (mix a b wa wb)) g o

end Cert.Ffn
end
-- ==== Proof.Ffn.Kernel5.lean ====
/-
  The call that projects the attention heads, runs the first layer's second feed-forward block and adds the embedding:
  the kernel's block values, row by row, and its result array as one function of the arguments.
-/
module

public import proofs.«01_k».proof.Proof.Ffn.Mix
public import proofs.«01_k».proof.Proof.Gen.Kernel5Ideal.Value
public import Idealize.ShloMosaic.Lib.Pipeline.ValueKit

@[expose] public section
noncomputable section
namespace Cert.Kernel5Ideal.Ffn
open Idealize.ShloMosaic Cert.Kernel5Ideal Cert.Kernel5Ideal.Gen Cert.Ffn

set_option maxRecDepth 16384
variable (x0 : Vec Ideal S1024x1024 .f32) (x1 x2 : Vec Ideal S1024x512 .bf16) (x3 x4 : Vec Ideal S1x1x512x1024 .bf16)
  (x5 x6 : Vec Ideal S1x1x1x1024 .f32) (x7 x8 : Vec Ideal S1x1x1024x2816 .bf16) (x9 : Vec Ideal S1x1x2816x1024 .bf16)
  (x10 x11 : Vec Ideal S1x1x1x1024 .f32) (x12 : Vec Ideal S1x1024x256 .f32) (x13 : Vec Ideal S1x1024x1024 .bf16) (x14 : Vec Ideal S1x256x1024 .bf16)

/-- The centred residual sum after the heads' projection. -/
theorem pay4 (r d : Fin 1024) : k0_pay4 (View.ld x0 r0_0) (View.ld x1 r0_1) (View.ld x3 r0_2) (View.ld x2 r0_1) (View.ld x4 r0_2) (ix2 r d)
    = (fun y => y d - mean y) (mres (fun k => x0 (ix2 r k)) (mix (fun k => x1 (ix2 r k)) (fun k => x2 (ix2 r k)) (fun k d => x3 (ix4 0 0 k d)) (fun k d => x4 (ix4 0 0 k d)))) := by
  unfold k0_pay4
  pointwise
  simp only [mean, mres, mix]

theorem pay7 (r d : Fin 1024) : k0_pay7 (k0_pay2 (View.ld x5 r0_3)) (k0_pay3 (View.ld x6 r0_3))
     (k0_pay4 (View.ld x0 r0_0) (View.ld x1 r0_1) (View.ld x3 r0_2) (View.ld x2 r0_1) (View.ld x4 r0_2))
     (k0_pay5 (View.ld x0 r0_0) (View.ld x1 r0_1) (View.ld x3 r0_2) (View.ld x2 r0_1) (View.ld x4 r0_2)) (k0_pay6 (F := Ideal)) (ix2 r d)
    = mixed (fun k => x0 (ix2 r k)) (fun k => x1 (ix2 r k)) (fun k => x2 (ix2 r k)) (fun k d => x3 (ix4 0 0 k d)) (fun k d => x4 (ix4 0 0 k d))
      (fun k => x5 (ix4 0 0 0 k)) (fun k => x6 (ix4 0 0 0 k)) d := by
  unfold k0_pay7 k0_pay5 k0_pay6 k0_pay2 k0_pay3
  pointwise
  simp only [pay4]
  rfl

/-- The centred residual sum after the feed-forward block, for any normed rows `k0_pay7 a b c e f`. -/
theorem pay23 (a b : FVec Ideal S1x1024 .f32) (c : FVec Ideal S1024x1024 .f32) (e f : FVec Ideal S1024x1 .f32) (r d : Fin 1024) :
    k0_pay23 (k0_pay7 a b c e f) (k0_pay8 a b c e f) (k0_pay19 (k0_pay8 a b c e f) (k0_pay17 (k0_pay8 a b c e f) (k0_pay15 (k0_pay8 a b c e f) (k0_pay13
       (k0_pay8 a b c e f) (k0_pay9 a b c e f (View.ld x7 r0_4) (View.ld x8 r0_4) (View.ld x9 r0_5)) (k0_pay10 a b c e f (View.ld x7 r0_6)) (k0_pay11 a b c e
       f (View.ld x8 r0_6)) (k0_pay12 a b c e f (View.ld x7 r0_6)) (View.ld x9 r0_7) (View.ld x7 r0_8) (View.ld x8 r0_8) (View.ld x9 r0_9)) (k0_pay14
       (k0_pay8 a b c e f) (View.ld x7 r0_10) (View.ld x8 r0_10)) (View.ld x9 r0_11) (View.ld x7 r0_12) (View.ld x8 r0_12) (View.ld x9 r0_13)) (k0_pay16
       (k0_pay8 a b c e f) (View.ld x7 r0_14) (View.ld x8 r0_14)) (View.ld x9 r0_15) (View.ld x7 r0_16) (View.ld x8 r0_16) (View.ld x9 r0_17)) (k0_pay18
       (k0_pay8 a b c e f) (View.ld x7 r0_18) (View.ld x8 r0_18)) (View.ld x9 r0_19) (View.ld x7 r0_20) (View.ld x8 r0_20) (View.ld x9 r0_21)) (k0_pay20
       (k0_pay8 a b c e f) (View.ld x7 r0_22) (View.ld x8 r0_22)) (View.ld x9 r0_23) (View.ld x7 r0_24) (View.ld x8 r0_24) (View.ld x9 r0_25) (ix2 r d)
    = (fun y => y d - mean y) (res (fun k => k0_pay7 a b c e f (ix2 r k)) (down (fun k => k0_pay7 a b c e f (ix2 r k)) (fun k j => x7 (ix4 0 0 k j)) (fun k j => x8 (ix4 0 0 k j)) (fun j d => x9 (ix4 0 0 j d)))) := by
  unfold k0_pay23 k0_pay20 k0_pay19 k0_pay18 k0_pay17 k0_pay16 k0_pay15 k0_pay14 k0_pay13 k0_pay12 k0_pay11 k0_pay10 k0_pay9 k0_pay8
  try unfold k0_pay10
  try unfold k0_pay8
  pointwise
  simp only [mean, res, down, hid, ← sum_chunks]

theorem out15 (r d : Fin 1024) :
   out0_15 x0 x1 x2 x3 x4 x5 x6 x7 x8 x9 x10 x11 x12 x13 x14 (ix2 r d)
   = ple (ffn (mixed (fun k => x0 (ix2 r k)) (fun k => x1 (ix2 r k)) (fun k => x2 (ix2 r k)) (fun k d => x3 (ix4 0 0 k d)) (fun k d => x4 (ix4 0 0 k d))
        (fun k => x5 (ix4 0 0 0 k)) (fun k => x6 (ix4 0 0 0 k)))
      (fun k j => x7 (ix4 0 0 k j)) (fun k j => x8 (ix4 0 0 k j)) (fun j d => x9 (ix4 0 0 j d)) (fun k => x10 (ix4 0 0 0 k)) (fun k => x11 (ix4 0 0 0 k)))
      (fun k => x12 (ix3 0 r k)) (fun k d => x13 (ix3 0 k d)) (fun k d => x14 (ix3 0 k d)) d := by
  frame_out
  unfold k0_pay1 k0_pay21 k0_pay22 k0_pay29 k0_pay24 k0_pay25 k0_pay26 k0_pay27 k0_pay28
  pointwise
  simp only [pay23, pay7]
  rfl

variable (m : (ℓ : Loc nD τ sig) → Buf (Elt Ideal) ℓ)
open Idealize.ShloMosaic.TcCoe Idealize.SL.Sem
theorem idx : ∀ t : Fin cfg0.N, win0_0.index t = ![t.val, 0] ∧ win0_1.index t = ![t.val, 0] ∧ win0_2.index t = ![t.val, 0]
   ∧ win0_3.index t = ![0, 0, 0, 0] ∧ win0_4.index t = ![0, 1, 0, 0] ∧ win0_5.index t = ![0, 1, 0, 0] ∧ win0_6.index t = ![0, 1, 0, 0]
   ∧ win0_7.index t = ![0, 1, 0, 0] ∧ win0_8.index t = ![0, 1, 0, 0] ∧ win0_9.index t = ![0, 1, 0, 0] ∧ win0_10.index t = ![0, 2, 0, 0]
   ∧ win0_11.index t = ![0, 2, 0, 0] ∧ win0_12.index t = ![0, t.val, 0] ∧ win0_13.index t = ![0, 0, 0] ∧ win0_14.index t = ![0, 0, 0]
   ∧ win0_15.index t = ![t.val, 0] :=
  (by decide +kernel : ∀ t : Fin grid0.N, _)

/-- The result as one function of the arguments, index by index. -/
def G (x : FVec Ideal S32768x1024 .f32) (oa ob : FVec Ideal S32768x512 .bf16) (p : FVec Ideal S2x32768x256 .f32) (g b : FVec Ideal S2x3x1024 .f32)
    (wg wu : FVec Ideal S2x2x1024x2816 .f32) (wd : FVec Ideal S2x2x2816x1024 .f32) (wo : FVec Ideal S1x1024x1024 .f32) (pp : FVec Ideal S2x256x1024 .f32)
    (pg : FVec Ideal S2x1024x1024 .f32) (i : S32768x1024.Idx) : EReal :=
  ple (ffn (mixed (fun k => x (ix2 (i 0) k)) (fun k => oa (ix2 (i 0) k)) (fun k => ob (ix2 (i 0) k))
        (fun k d => wo (ix3 0 ⟨k.val, by omega⟩ d)) (fun k d => wo (ix3 0 ⟨512 + k.val, by omega⟩ d)) (fun k => g (ix3 0 1 k)) (fun k => b (ix3 0 1 k)))
      (fun k j => wg (ix4 0 1 k j)) (fun k j => wu (ix4 0 1 k j)) (fun j d => wd (ix4 0 1 j d)) (fun k => g (ix3 0 2 k)) (fun k => b (ix3 0 2 k)))
    (fun k => p (ix3 0 (i 0) k)) (fun k d => pg (ix3 0 k d)) (fun k d => pp (ix3 0 k d)) (i 1)

theorem point (c : Dev nD) (t : Fin cfg0.N) (r d : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d)
    = G (shapeCast S32768x1024 (m ((c : Thread nD τ).loc main_arg0)) shapeCasts_S4x8192x1024_S32768x1024)
        (shapeCast S32768x512 (m ((c : Thread nD τ).loc main_arg1)) shapeCasts_S4x8192x512_S32768x512) (shapeCast S32768x512 (m ((c : Thread nD τ).loc main_arg2)) shapeCasts_S4x8192x512_S32768x512)
        (shapeCast S2x32768x256 (m ((c : Thread nD τ).loc main_arg3)) shapeCasts_S2x4x8192x256_S2x32768x256)
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (((cfg0.win 15).blk t).view.emb (ix2 r d)) := by
  rw [out15]
  unfold G
  have e0 : ∀ (k : Fin 1024), iblk m c 0 t (ix2 r k) = (shapeCast S32768x1024 (m ((c : Thread nD τ).loc main_arg0)) shapeCasts_S4x8192x1024_S32768x1024 : FVec Ideal S32768x1024 .f32) (ix2 (((cfg0.win 15).blk t).view.emb (ix2 r d) 0) k) := by
    intro k
    blk_point [iblk, V, idx t]
  have e1 : ∀ (k : Fin 512), iblk m c 1 t (ix2 r k) = (shapeCast S32768x512 (m ((c : Thread nD τ).loc main_arg1)) shapeCasts_S4x8192x512_S32768x512 : FVec Ideal S32768x512 .bf16) (ix2 (((cfg0.win 15).blk t).view.emb (ix2 r d) 0) k) := by
    intro k
    blk_point [iblk, V, idx t]
  have e2 : ∀ (k : Fin 512), iblk m c 2 t (ix2 r k) = (shapeCast S32768x512 (m ((c : Thread nD τ).loc main_arg2)) shapeCasts_S4x8192x512_S32768x512 : FVec Ideal S32768x512 .bf16) (ix2 (((cfg0.win 15).blk t).view.emb (ix2 r d) 0) k) := by
    intro k
    blk_point [iblk, V, idx t]
  have e3 : ∀ (k : Fin 512) (j : Fin 1024), iblk m c 3 t (ix4 0 0 k j) = (m ((c : Thread nD τ).loc main_arg9)) (ix3 0 ⟨k.val, by omega⟩ j) := by
    intro k j
    blk_point [iblk, V, idx t]
  have e4 : ∀ (k : Fin 512) (j : Fin 1024), iblk m c 4 t (ix4 0 0 k j) = (m ((c : Thread nD τ).loc main_arg9)) (ix3 0 ⟨512 + k.val, by omega⟩ j) := by
    intro k j
    blk_point [iblk, V, idx t]
  have e5 : ∀ (k : Fin 1024), iblk m c 5 t (ix4 0 0 0 k) = (m ((c : Thread nD τ).loc main_arg4)) (ix3 0 1 k) := by
    intro k
    blk_point [iblk, V, idx t]
  have e6 : ∀ (k : Fin 1024), iblk m c 6 t (ix4 0 0 0 k) = (m ((c : Thread nD τ).loc main_arg5)) (ix3 0 1 k) := by
    intro k
    blk_point [iblk, V, idx t]
  have e7 : ∀ (k : Fin 1024) (j : Fin 2816), iblk m c 7 t (ix4 0 0 k j) = (m ((c : Thread nD τ).loc main_arg6)) (ix4 0 1 k j) := by
    intro k j
    blk_point [iblk, V, idx t]
  have e8 : ∀ (k : Fin 1024) (j : Fin 2816), iblk m c 8 t (ix4 0 0 k j) = (m ((c : Thread nD τ).loc main_arg7)) (ix4 0 1 k j) := by
    intro k j
    blk_point [iblk, V, idx t]
  have e9 : ∀ (k : Fin 2816) (j : Fin 1024), iblk m c 9 t (ix4 0 0 k j) = (m ((c : Thread nD τ).loc main_arg8)) (ix4 0 1 k j) := by
    intro k j
    blk_point [iblk, V, idx t]
  have e10 : ∀ (k : Fin 1024), iblk m c 10 t (ix4 0 0 0 k) = (m ((c : Thread nD τ).loc main_arg4)) (ix3 0 2 k) := by
    intro k
    blk_point [iblk, V, idx t]
  have e11 : ∀ (k : Fin 1024), iblk m c 11 t (ix4 0 0 0 k) = (m ((c : Thread nD τ).loc main_arg5)) (ix3 0 2 k) := by
    intro k
    blk_point [iblk, V, idx t]
  have e12 : ∀ (k : Fin 256), iblk m c 12 t (ix3 0 r k) = (shapeCast S2x32768x256 (m ((c : Thread nD τ).loc main_arg3)) shapeCasts_S2x4x8192x256_S2x32768x256 : FVec Ideal S2x32768x256 .f32) (ix3 0 (((cfg0.win 15).blk t).view.emb (ix2 r d) 0) k) := by
    intro k
    blk_point [iblk, V, idx t]
  have e13 : ∀ (k : Fin 1024) (j : Fin 1024), iblk m c 13 t (ix3 0 k j) = (m ((c : Thread nD τ).loc main_arg11)) (ix3 0 k j) := by
    intro k j
    blk_point [iblk, V, idx t]
  have e14 : ∀ (k : Fin 256) (j : Fin 1024), iblk m c 14 t (ix3 0 k j) = (m ((c : Thread nD τ).loc main_arg10)) (ix3 0 k j) := by
    intro k j
    blk_point [iblk, V, idx t]
  have e15 : ((cfg0.win 15).blk t).view.emb (ix2 r d) 1 = d := by
    refine Fin.ext ?_
    blk_simp [idx t]
  simp only [e0, e1, e2, e3, e4, e5, e6, e7, e8, e9, e10, e11, e12, e13, e14, e15]

theorem final (c : Dev nD) : (dats m 0 c).arrAt 15 cfg0.N
    = G (shapeCast S32768x1024 (m ((c : Thread nD τ).loc main_arg0)) shapeCasts_S4x8192x1024_S32768x1024)
        (shapeCast S32768x512 (m ((c : Thread nD τ).loc main_arg1)) shapeCasts_S4x8192x512_S32768x512) (shapeCast S32768x512 (m ((c : Thread nD τ).loc main_arg2)) shapeCasts_S4x8192x512_S32768x512)
        (shapeCast S2x32768x256 (m ((c : Thread nD τ).loc main_arg3)) shapeCasts_S2x4x8192x256_S2x32768x256)
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15, eq_ix2 y]
  exact point m c t _ _
end Cert.Kernel5Ideal.Ffn
end
-- ==== Proof.Ffn.Reference5.lean ====
/-
  The reference of the same call, stage by stage: the heads' projection and its norm, the feed-forward block and its
  norm, and the embedding.
-/
module

public import proofs.«01_k».proof.Proof.Ffn.Mix
public import proofs.«01_k».proof.Proof.Gen.Reference5Ideal.Run
public import proofs.«01_k».proof.Proof.Gen.Reference5Ideal.Read
public import Idealize.ShloMosaic.Lib.Pointwise

@[expose] public section
noncomputable section
namespace Cert.Reference5Ideal.Ffn
open Idealize.ShloMosaic Cert.Reference5Ideal Cert.Reference5Ideal.Gen Cert.Reference5Ideal.Value Cert.Reference5Ideal.Read Cert.Ffn

set_option maxRecDepth 16384
variable (x0 : FVec Ideal S4x8192x1024 .f32) (x1 x2 : FVec Ideal S4x8192x512 .bf16) (x3 : FVec Ideal S2x4x8192x256 .f32) (x4 x5 : FVec Ideal S2x3x1024 .f32)
  (x6 x7 : FVec Ideal S2x2x1024x2816 .f32) (x8 : FVec Ideal S2x2x2816x1024 .f32) (x9 : FVec Ideal S1x1024x1024 .f32) (x10 : FVec Ideal S2x256x1024 .f32)
  (x11 : FVec Ideal S2x1024x1024 .f32)

/-- The concatenated heads' first half. -/
theorem v4_lo (r : Fin 32768) (k : Fin 512) : val_main_v4 (F := Ideal) x1 x2 (ix2 r ⟨k.val, by omega⟩) = val_main_v2 (F := Ideal) x1 (ix2 r k) := by
  unfold val_main_v4
  pointwise

/-- The concatenated heads' second half. -/
theorem v4_hi (r : Fin 32768) (k : Fin 512) : val_main_v4 (F := Ideal) x1 x2 (ix2 r ⟨512 + k.val, by omega⟩) = val_main_v3 (F := Ideal) x2 (ix2 r k) := by
  unfold val_main_v4
  pointwise

theorem v10 (r : Fin 32768) (d : Fin 1024) : val_main_v10 (F := Ideal) x0 x1 x2 x9 (ix2 r d)
   = mres (fun k => val_main_v0 (F := Ideal) x0 (ix2 r k)) (mix (fun k => val_main_v2 (F := Ideal) x1 (ix2 r k)) (fun k => val_main_v3 (F := Ideal) x2 (ix2 r k))
        (fun k d => x9 (ix3 0 ⟨k.val, by omega⟩ d)) (fun k d => x9 (ix3 0 ⟨512 + k.val, by omega⟩ d))) d := by
  unfold val_main_v10 val_main_v7 val_main_v6 val_main_cst val_main_v9 val_main_v5 val_main_v8
  pointwise
  unfold mres mix
  rw [Fin.sum_univ_two_halves (a := 512) (b := 512) rfl]
  simp only [v4_lo, v4_hi]

theorem v18 (r : Fin 32768) : val_main_v18 (F := Ideal) x0 x1 x2 x9 (ix2 r 0) = mean (fun k => val_main_v10 (F := Ideal) x0 x1 x2 x9 (ix2 r k)) := by
  unfold val_main_v18 val_main_v16 val_main_v15 val_main_cst_0 val_main_v17 val_main_cst_1
  pointwise
  rfl

theorem v38 (r : Fin 32768) (d : Fin 1024) : val_main_v38 (F := Ideal) x0 x1 x2 x4 x5 x9 (ix2 r d)
   = mixed (fun k => val_main_v0 (F := Ideal) x0 (ix2 r k)) (fun k => val_main_v2 (F := Ideal) x1 (ix2 r k)) (fun k => val_main_v3 (F := Ideal) x2 (ix2 r k))
        (fun k d => x9 (ix3 0 ⟨k.val, by omega⟩ d)) (fun k d => x9 (ix3 0 ⟨512 + k.val, by omega⟩ d)) (fun k => x4 (ix3 0 1 k)) (fun k => x5 (ix3 0 1 k)) d := by
  unfold val_main_v38 val_main_v35 val_main_v32 val_main_v27 val_main_v26 val_main_v31 val_main_v30 val_main_v29 val_main_v25 val_main_v23 val_main_v22 val_main_v21 val_main_v20 val_main_v19 val_main_cst_2 val_main_v24 val_main_cst_3 val_main_v28 val_main_cst_4 val_main_v34 val_main_v33 val_main_v12 val_main_v11 val_main_v37 val_main_v36 val_main_v14 val_main_v13
  pointwise
  simp only [v18, v10]
  rfl

theorem v54 (r : Fin 32768) (d : Fin 1024) : val_main_v54 (F := Ideal) x0 x1 x2 x4 x5 x6 x7 x8 x9 (ix2 r d)
   = res (fun k => val_main_v38 (F := Ideal) x0 x1 x2 x4 x5 x9 (ix2 r k)) (down (fun k => val_main_v38 (F := Ideal) x0 x1 x2 x4 x5 x9 (ix2 r k)) (fun k j => x6 (ix4 0 1 k j)) (fun k j => x7 (ix4 0 1 k j)) (fun j d => x8 (ix4 0 1 j d))) d := by
  unfold val_main_v54 val_main_v48 val_main_v47 val_main_cst_5 val_main_v53 val_main_v52 val_main_cst_6 val_main_v51 val_main_v46 val_main_v42 val_main_call0_v5 val_main_call0_v4 val_main_call0_cst_0 val_main_call0_v3 val_main_call0_v2 val_main_call0_cst val_main_call0_v1 val_main_call0_v0 val_main_v45 val_main_v44 val_main_v43 val_main_v50 val_main_v49 val_main_v41 val_main_v40 val_main_v39
  pointwise
  rfl

theorem v62 (r : Fin 32768) : val_main_v62 (F := Ideal) x0 x1 x2 x4 x5 x6 x7 x8 x9 (ix2 r 0) = mean (fun k => val_main_v54 (F := Ideal) x0 x1 x2 x4 x5 x6 x7 x8 x9 (ix2 r k)) := by
  unfold val_main_v62 val_main_v60 val_main_v59 val_main_cst_7 val_main_v61 val_main_cst_8
  pointwise
  rfl

theorem v82 (r : Fin 32768) (d : Fin 1024) : val_main_v82 (F := Ideal) x0 x1 x2 x4 x5 x6 x7 x8 x9 (ix2 r d)
   = lnorm (fun k => val_main_v54 (F := Ideal) x0 x1 x2 x4 x5 x6 x7 x8 x9 (ix2 r k)) (fun k => x4 (ix3 0 2 k)) (fun k => x5 (ix3 0 2 k)) d := by
  unfold val_main_v82 val_main_v79 val_main_v76 val_main_v71 val_main_v70 val_main_v75 val_main_v74 val_main_v73 val_main_v69 val_main_v67 val_main_v66 val_main_v65 val_main_v64 val_main_v63 val_main_cst_9 val_main_v68 val_main_cst_10 val_main_v72 val_main_cst_11 val_main_v78 val_main_v77 val_main_v56 val_main_v55 val_main_v81 val_main_v80 val_main_v58 val_main_v57
  pointwise
  simp only [v62]
  rfl

theorem v98 (r : Fin 32768) (d : Fin 1024) : val_main_v98 (F := Ideal) x0 x1 x2 x3 x4 x5 x6 x7 x8 x9 x10 x11 (ix2 r d)
   = ple (ffn (mixed (fun k => val_main_v0 (F := Ideal) x0 (ix2 r k)) (fun k => val_main_v2 (F := Ideal) x1 (ix2 r k)) (fun k => val_main_v3 (F := Ideal) x2 (ix2 r k))
        (fun k d => x9 (ix3 0 ⟨k.val, by omega⟩ d)) (fun k d => x9 (ix3 0 ⟨512 + k.val, by omega⟩ d)) (fun k => x4 (ix3 0 1 k)) (fun k => x5 (ix3 0 1 k)))
      (fun k j => x6 (ix4 0 1 k j)) (fun k j => x7 (ix4 0 1 k j)) (fun j d => x8 (ix4 0 1 j d)) (fun k => x4 (ix3 0 2 k)) (fun k => x5 (ix3 0 2 k)))
      (fun k => val_main_v1 (F := Ideal) x3 (ix3 0 r k)) (fun k d => x11 (ix3 0 k d)) (fun k d => x10 (ix3 0 k d)) d := by
  unfold val_main_v98 val_main_v97 val_main_v91 val_main_v90 val_main_cst_13 val_main_v89 val_main_v88 val_main_cst_12 val_main_v87 val_main_v86 val_main_v85 val_main_v84 val_main_v83 val_main_v96 val_main_v93 val_main_v92 val_main_v95 val_main_v94
  pointwise
  simp only [v82, v54, v38]
  rfl

end Cert.Reference5Ideal.Ffn
end
-- ==== Proof.Ffn.Claim5.lean ====
/-
  The call after the attention heads in the first layer: the kernel's result array and the reference's are the same function of
  the arguments, so the two programs agree at the ideal instance.
-/
module

public import proofs.«01_k».proof.Defs
public import proofs.«01_k».proof.Proof.Ffn.Kernel5
public import proofs.«01_k».proof.Proof.Ffn.Reference5
public import Idealize.ShloMosaic.Lib.Quiescent

@[expose] public section
noncomputable section
namespace Cert.Ffn
open Idealize.ShloMosaic Idealize.ShloMosaic.TcCoe Idealize.SL.Sem

set_option maxRecDepth 16384

theorem algebraic5 : Cert.algebraic_Kernel5Ideal_Reference5Ideal := by
  intro m g m' g' _ hagree
  refine ⟨fun c => Cert.Reference5Ideal.Read.val_main_v98 (F := Ideal) (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3)) (m' ((c : Thread Cert.Reference5Ideal.nD Cert.Reference5Ideal.τ).loc Cert.Reference5Ideal.main_arg4)) (m' ((c : Thread Cert.Reference5Ideal.nD Cert.Reference5Ideal.τ).loc Cert.Reference5Ideal.main_arg5)) (m' ((c : Thread Cert.Reference5Ideal.nD Cert.Reference5Ideal.τ).loc Cert.Reference5Ideal.main_arg6)) (m' ((c : Thread Cert.Reference5Ideal.nD Cert.Reference5Ideal.τ).loc Cert.Reference5Ideal.main_arg7)) (m' ((c : Thread Cert.Reference5Ideal.nD Cert.Reference5Ideal.τ).loc Cert.Reference5Ideal.main_arg8)) (m' ((c : Thread Cert.Reference5Ideal.nD Cert.Reference5Ideal.τ).loc Cert.Reference5Ideal.main_arg9)) (m' ((c : Thread Cert.Reference5Ideal.nD Cert.Reference5Ideal.τ).loc Cert.Reference5Ideal.main_arg10)) (m' ((c : Thread Cert.Reference5Ideal.nD Cert.Reference5Ideal.τ).loc Cert.Reference5Ideal.main_arg11)), ?_,
    (θ_run _ _ _).mono (fun r h c => ⟨(h c).1.trans (Cert.Reference5Ideal.Read.val_main_v98_eq _), (h c).2⟩) (Cert.Reference5Ideal.Value.run m' g')⟩
  refine (θ_run _ _ _).mono (fun r h c => ⟨(h c).1.trans ?_, (h c).2⟩) (Cert.Kernel5Ideal.Value.run_blocks m g)
  obtain ⟨a0, a1, a2, a3, a4, a5, a6, a7, a8, a9, a10, a11⟩ := hagree c
  rw [Cert.Kernel5Ideal.Ffn.final]
  beta_reduce
  rw [a0, a1, a2, a3, a4, a5, a6, a7, a8, a9, a10, a11]
  funext i
  rw [ValueIdx.eq_ix2 i]
  exact (Cert.Reference5Ideal.Ffn.v98 _ _ _ _ _ _ _ _ _ _ _ _ (i 0) (i 1)).symm

/-- The reference has no semaphore cells, so its counters end at zero. -/
theorem refFrame5 : Cert.quiescent_Reference5Ideal := fun m g _ =>
  (θ_run _ _ _).mono (fun r h => ⟨fun c => (h c).2, sem_eq_zero_of_no_sems rfl r.2⟩) (Cert.Reference5Ideal.Value.run m g)

end Cert.Ffn
end
-- ==== Proof.Sgu.Spec.lean ====
/-
  The gated mixing unit as plain maths: a row's gelu projection, gated by a causal mix of its chunk's normed rows, then the
  output projection, the residual sum and the norm; and the two ways of writing the gelu.
-/
module

public import proofs.«01_k».proof.Proof.Ffn.Mix
public import Idealize.ShloMosaic.Lib.Pointwise
public import Idealize.ShloMosaic.Lib.IdealHost

@[expose] public section
noncomputable section
namespace Cert.Sgu

open Idealize.ShloMosaic Cert.Ffn

/-- The gelu with its tanh written as a logistic function; `k` is the cubic coefficient. -/
def gelu (k x : EReal) : EReal := x * Ideal.logistic (x * (Ideal.ofBits .f32 0x3FCC422A#32 + k * (x * x)))

/-- A gelu projection of a row. -/
def up (κ : EReal) (x : Fin 1024 → EReal) (w : Fin 1024 → Fin 1024 → EReal) (b : Fin 1024 → EReal) (j : Fin 1024) : EReal :=
  gelu κ ((∑ k, x k * w k j) + b j)

/-- Row `a` of a chunk `X`, gated by the causal mix of the chunk's normed rows. -/
def gated (κ : EReal) (X : Fin 128 → Fin 1024 → EReal) (wu wv : Fin 1024 → Fin 1024 → EReal) (bu bv lg lb : Fin 1024 → EReal)
    (ws : Fin 8 → Fin 128 → Fin 128 → EReal) (bs : Fin 8 → Fin 128 → EReal) (a : Fin 128) (j : Fin 1024) : EReal :=
  up κ (X a) wu bu j * ((∑ s : Fin 128, (if s.val ≤ a.val then ws ⟨j.val / 128, by omega⟩ a s else 0) * lnorm (up κ (X s) wv bv) lg lb j) + bs ⟨j.val / 128, by omega⟩ a)

/-- Row `a` of a chunk through the unit and its norm. -/
def sgu (κ : EReal) (X : Fin 128 → Fin 1024 → EReal) (wu wv : Fin 1024 → Fin 1024 → EReal) (bu bv lg lb : Fin 1024 → EReal)
    (ws : Fin 8 → Fin 128 → Fin 128 → EReal) (bs : Fin 8 → Fin 128 → EReal) (wo : Fin 1024 → Fin 1024 → EReal) (g b : Fin 1024 → EReal)
    (a : Fin 128) : Fin 1024 → EReal :=
  lnorm (mres (X a) fun d => ∑ j, gated κ X wu wv bu bv lg lb ws bs a j * wo j d) g b

/-- The gelu as written with tanh. -/
def geluT (x : EReal) : EReal :=
  x * (Ideal.ofBits .f32 0x3F000000#32 * (1 + Ideal.tanh (Ideal.ofBits .f32 0x3F4C422A#32 * (x + Ideal.ofBits .f32 0x3D372713#32 * (x * x * x)))))

/-- The cubic coefficient: twice the product of the two constants of the tanh form. -/
def cubic : EReal := ((80338380498831 / 1125899906842624 : ℝ) : EReal)

theorem half_eq : Ideal.ofBits .f32 0x3F000000#32 = ((1 / 2 : ℝ) : EReal) := by
  simp [Ideal.ofBits, Ideal.ieee, -EReal.coe_mul]; norm_num

theorem lin_eq : Ideal.ofBits .f32 0x3F4C422A#32 = ((13386282 / 16777216 : ℝ) : EReal) := by
  simp [Ideal.ofBits, Ideal.ieee, -EReal.coe_mul]; norm_num

theorem lin2_eq : Ideal.ofBits .f32 0x3FCC422A#32 = ((13386282 / 8388608 : ℝ) : EReal) := by
  simp [Ideal.ofBits, Ideal.ieee, -EReal.coe_mul]; norm_num

theorem cub_eq : Ideal.ofBits .f32 0x3D372713#32 = ((12003091 / 268435456 : ℝ) : EReal) := by
  simp [Ideal.ofBits, Ideal.ieee, -EReal.coe_mul]; norm_num

/-- `1 + tanh u = 2 / (1 + e⁻²ᵘ)`. -/
theorem one_add_tanh (u : ℝ) : (1 / 2 : ℝ) * (1 + Real.tanh u) = (1 + Real.exp (-(2 * u)))⁻¹ := by
  have h : Real.exp (-(2 * u)) = Real.exp (-u) * Real.exp (-u) := by rw [← Real.exp_add]; congr 1; ring
  have h1 : Real.exp u * Real.exp (-u) = 1 := by rw [← Real.exp_add]; simp
  have p := Real.exp_pos u
  have q := Real.exp_pos (-u)
  have e : Real.exp (-u) = (Real.exp u)⁻¹ := eq_inv_of_mul_eq_one_right h1
  rw [Real.tanh_eq_sinh_div_cosh, Real.sinh_eq, Real.cosh_eq, h, e]
  field_simp
  ring

/-- The two forms of the gelu agree at every extended real. -/
theorem gelu_eq (x : EReal) : geluT x = gelu cubic x := by
  unfold geluT gelu cubic
  rw [half_eq, lin_eq, lin2_eq, cub_eq]
  induction x with
  | bot =>
    have a : (⊥ : EReal) * ⊥ = ⊤ := EReal.bot_mul_bot
    rw [a, EReal.top_mul_bot, EReal.coe_mul_bot_of_pos (by norm_num), EReal.bot_add, EReal.coe_mul_bot_of_pos (by norm_num), EReal.coe_mul_top_of_pos (by norm_num),
      EReal.coe_add_top, EReal.bot_mul_top, Ideal.tanh_bot, Ideal.logistic_bot]
    have z : (1 : EReal) + -1 = 0 := by
      rw [← EReal.coe_one, ← EReal.coe_neg, ← EReal.coe_add]
      norm_num
    rw [z, mul_zero]
  | top =>
    rw [EReal.top_mul_top, EReal.top_mul_top, EReal.coe_mul_top_of_pos (by norm_num), EReal.top_add_top, EReal.coe_mul_top_of_pos (by norm_num), EReal.coe_mul_top_of_pos (by norm_num),
      EReal.coe_add_top, EReal.top_mul_top, Ideal.tanh_top, Ideal.logistic_top]
    have z : (((1 / 2 : ℝ) : ℝ) : EReal) * (1 + 1) = 1 := by
      rw [← EReal.coe_one, ← EReal.coe_add, ← EReal.coe_mul]
      norm_num
    rw [z]
  | coe r =>
    rw [← EReal.coe_one]
    simp only [← EReal.coe_mul, ← EReal.coe_add, Ideal.tanh_coe, Ideal.logistic_coe]
    rw [one_add_tanh]
    congr 5
    ring

end Cert.Sgu
end
-- ==== Proof.Sgu.Kernel6.lean ====
/-
  The gated mixing unit's kernel: what a grid point writes back, its windows, and the result array as one function of the
  arguments.
-/
module

public import proofs.«01_k».proof.Proof.Sgu.Spec
public import proofs.«01_k».proof.Proof.Gen.Kernel6Ideal.Value
public import Idealize.ShloMosaic.Lib.Pipeline.ValueKit
public import Idealize.ShloMosaic.Lib.Pipeline.ReadBack

@[expose] public section
noncomputable section
namespace Cert.Kernel6Ideal.Sgu
open Idealize.ShloMosaic Cert.Kernel6Ideal Cert.Kernel6Ideal.Gen Cert.Ffn Cert.Sgu
set_option maxRecDepth 16384

theorem readCov_pieces {sig : RefSig} {κ : Kind} {sp : Space} {s : Shape} {e : EltTy} {Val : EltTy → Type} [∀ e, Nonempty (Val e)] (v : View sig κ sp s e)
   (L : List (View.Piece Val s e)) (B : LoadRect s) (G : s.Idx → Val e) (h : View.PiecesOf G L) (hc : ∀ y : s.Idx, ∃ p ∈ L, y ∈ p.1.set) : v.readCov L B = fun j => G (B.idx j) := by
  rw [View.readCov_eq_canon']
  funext j
  exact View.canon_apply_of_pieces G L h.mem _ (hc _)

/-- One entry of the mixed block: row `r` = row `a` of chunk `c`, column `j` of group `g`. -/
def Yc (u vb : S1024x1024.Idx → EReal) (x5 : S8x128x128.Idx → EReal) (x6 : S128x8.Idx → EReal) (c : Fin 8) (a : Fin 128) (g : Fin 8) (r j : Fin 1024) : EReal :=
  u (ix2 r j) * ((∑ s : Fin 128, (if s.val ≤ a.val then x5 (ix3 g a s) else 0) * vb (ix2 ⟨128 * c.val + s.val, by omega⟩ j)) + x6 (ix2 a g))

/-- The mixed block: the row's chunk and the column's group are their quotients by 128. -/
def Y (u vb : S1024x1024.Idx → EReal) (x5 : S8x128x128.Idx → EReal) (x6 : S128x8.Idx → EReal) (i : S1024x1024.Idx) : EReal :=
  Yc u vb x5 x6 ⟨(i 0).val / 128, by have : (i 0).val < 1024 := (i 0).isLt; omega⟩ ⟨(i 0).val % 128, by omega⟩ ⟨(i 1).val / 128, by have : (i 1).val < 1024 := (i 1).isLt; omega⟩ (i 0) (i 1)

theorem mask (ws : FVec Ideal S128x128 .f32) (a s : Fin 128) :
   (truncf .bf16 (select (cmpi .sge (iota .tc S128x128 32 [0] iota_S128x128_d0_w32) (iota .tc S128x128 32 [1] iota_S128x128_d1_w32)) ws (broadcast S128x128 (Scalar.ofBits (F := Ideal) .f32 0x00000000#32))) bitsLt_bf16_f32 : FVec Ideal S128x128 .bf16) (ix2 a s)
    = if s.val ≤ a.val then ws (ix2 a s) else 0 := by
  have h : ∀ a s : Fin 128, IntOp.cmpi .sge (BitVec.ofNat 32 a.val) (BitVec.ofNat 32 s.val) = if s.val ≤ a.val then 1#1 else 0#1 := by decide +kernel
  pointwise
  rw [h]
  split_ifs <;> rfl

theorem inner (U : FVec Ideal S128x128 .f32) (W V : FVec Ideal S128x128 .bf16) (b : FVec Ideal S128x1 .f32) (a d : Fin 128) :
   shapeCast S128x128 (truncf .bf16 (mulf U (addf (matmul dot_S128x128_S128x128_S128x128_1_0_0_1_n_n none W V (constant S128x128 .f32 0x00000000#32))
      (broadcastTo S128x128 b broadcasts_S128x1_S128x128))) bitsLt_bf16_f32) shapeCasts_S128x128_S128x128 (ix2 a d)
    = U (ix2 a d) * ((∑ s : Fin 128, W (ix2 a s) * V (ix2 s d)) + b (ix2 a 0)) := by
  pointwise

theorem wsl (x5 : Vec Ideal S8x128x128 .f32) (g : ℕ) (hg : g < 8) (inb5 : ∀ a, (![g, 0, 0] : Fin 3 → ℕ) a + S1x128x128.size a ≤ S8x128x128.size a) (a s : Fin 128) :
  shapeCast S128x128 (View.ld x5 (Rect.unit (s := S8x128x128) ![g, 0, 0] S1x128x128.size inb5)) shapeCasts_S1x128x128_S128x128 (ix2 a s) = x5 (ix3 ⟨g, hg⟩ a s) := by
  have h : ∀ v : FVec Ideal S1x128x128 .f32, shapeCast S128x128 v shapeCasts_S1x128x128_S128x128 (ix2 a s) = v (ix3 0 a s) := by
    intro v
    pointwise
  have h2 : View.ld x5 (Rect.unit (s := S8x128x128) ![g, 0, 0] S1x128x128.size inb5) (ix3 0 a s) = x5 (ix3 ⟨g, hg⟩ a s) := by
    pointwise
  exact (h _).trans h2

theorem bsl (x6 : Vec Ideal S128x8 .f32) (g : ℕ) (hg : g < 8) (inb6 : ∀ a, (![0, g] : Fin 2 → ℕ) a + S128x1.size a ≤ S128x8.size a) (a : Fin 128) :
   (shapeCast S128x1 (View.ld x6 (Rect.unit (s := S128x8) ![0, g] S128x1.size inb6)) shapeCasts_S128x1_S128x1) (ix2 a 0) = x6 (ix2 a ⟨g, hg⟩) := by
  pointwise

theorem sl {f : FTy} (u : FVec Ideal S1024x1024 f) (o p : ℕ) (h : S1024x1024.Slices ![o, p] S128x128) (ho : o ≤ 896) (hp : p ≤ 896) (a d : Fin 128) :
  extractStridedSlice S128x128 ![o, p] u h (ix2 a d) = u (ix2 ⟨o + a.val, by omega⟩ ⟨p + d.val, by omega⟩) := by
  pointwise
theorem block (u : FVec Ideal S1024x1024 .f32) (vb : FVec Ideal S1024x1024 .bf16) (x5 : Vec Ideal S8x128x128 .f32) (x6 : Vec Ideal S128x8 .f32)
   (o p g c : ℕ) (h h' : S1024x1024.Slices ![o, p] S128x128) (inb5 : ∀ a, (![g, 0, 0] : Fin 3 → ℕ) a + S1x128x128.size a ≤ S8x128x128.size a)
   (inb6 : ∀ a, (![0, g] : Fin 2 → ℕ) a + S128x1.size a ≤ S128x8.size a) (inb : ∀ a, (![o, p] : Fin 2 → ℕ) a + S128x128.size a ≤ S1024x1024.size a) (ho : o = 128 * c) (hp : p = 128 * g) (hg : g < 8) (hc : c < 8) (x : S128x128.Idx) :
   shapeCast S128x128 (truncf .bf16 (mulf (extractStridedSlice S128x128 ![o, p] u h) (addf (matmul dot_S128x128_S128x128_S128x128_1_0_0_1_n_n none
     (truncf .bf16 (select (cmpi .sge (iota .tc S128x128 32 [0] iota_S128x128_d0_w32) (iota .tc S128x128 32 [1] iota_S128x128_d1_w32)) (shapeCast S128x128 (View.ld x5 (Rect.unit (s := S8x128x128) ![g, 0, 0] S1x128x128.size inb5)) shapeCasts_S1x128x128_S128x128) (broadcast S128x128 (Scalar.ofBits (F := Ideal) .f32 0x00000000#32))) bitsLt_bf16_f32)
      (extractStridedSlice S128x128 ![o, p] vb h') (constant S128x128 .f32 0x00000000#32))
      (broadcastTo S128x128 (shapeCast S128x1 (View.ld x6 (Rect.unit (s := S128x8) ![0, g] S128x1.size inb6)) shapeCasts_S128x1_S128x1) broadcasts_S128x1_S128x128))) bitsLt_bf16_f32) shapeCasts_S128x128_S128x128 x
     = Y u vb x5 x6 ((Rect.unit (s := S1024x1024) ![o, p] S128x128.size inb).emb x) := by
  have e : ((Rect.unit (s := S1024x1024) ![o, p] S128x128.size inb).emb x) = ix2 (⟨o + (x 0).val, by have : (x 0).val < 128 := (x 0).isLt; omega⟩ : Fin 1024) (⟨p + (x 1).val, by have : (x 1).val < 128 := (x 1).isLt; omega⟩ : Fin 1024) := by
    blk_ext
  rw [e]
  obtain ⟨a, d, rfl⟩ : ∃ (a : Fin 128) (d : Fin 128), x = ix2 a d := ⟨x 0, x 1, ValueIdx.eq_ix2 x⟩
  rw [inner, bsl x6 g hg, sl u o p h (by omega) (by omega)]
  have hY : Y u vb x5 x6 (ix2 (⟨o + a.val, by omega⟩ : Fin 1024) (⟨p + d.val, by omega⟩ : Fin 1024)) = Yc u vb x5 x6 ⟨c, hc⟩ a ⟨g, hg⟩ ⟨o + a.val, by omega⟩ ⟨p + d.val, by omega⟩ := by
    have e1 : (⟨(o + a.val) / 128, by omega⟩ : Fin 8) = ⟨c, hc⟩ := Fin.ext (by dsimp only; omega)
    have e2 : (⟨(o + a.val) % 128, by omega⟩ : Fin 128) = a := Fin.ext (by dsimp only; omega)
    have e3 : (⟨(p + d.val) / 128, by omega⟩ : Fin 8) = ⟨g, hg⟩ := Fin.ext (by dsimp only; omega)
    show Yc u vb x5 x6 ⟨(o + a.val) / 128, _⟩ ⟨(o + a.val) % 128, _⟩ ⟨(p + d.val) / 128, _⟩ _ _ = _
    rw [e1, e2, e3]
    rfl
  refine Eq.trans ?_ hY.symm
  unfold Yc
  refine congrArg₂ (· * ·) rfl (congrArg₂ (· + ·) (Finset.sum_congr rfl fun s _ => congrArg₂ (· * ·) ((mask _ a s).trans ?_) ((sl vb o p h' (by omega) (by omega) s d).trans ?_)) rfl)
  · rw [wsl x5 g hg]
  · exact congrArg (fun r => vb (ix2 r _)) (Fin.ext (by dsimp only; omega))

/-- The cubic coefficient the idealized kernel uses. -/
abbrev K : EReal := Named.named (F := Ideal) (φ := .f32) κ "gelu_cubic" 0x3D922279#32

variable (x0 : Vec Ideal S1024x1024 .f32) (x1 : Vec Ideal S1024x2048 .bf16) (x2 : Vec Ideal S1x2048 .f32) (x3 x4 : Vec Ideal S1x1024 .f32) (x5 : Vec Ideal S8x128x128 .f32) (x6 : Vec Ideal S128x8 .f32)
  (x7 : Vec Ideal S1024x1024 .bf16) (x8 x9 : Vec Ideal S1x1024 .f32)

theorem pay4 (w : Vec Ideal S1024x1024 .bf16) (b : Vec Ideal S1x1024 .f32) (r d : Fin 1024) : k0_pay4 x0 w b (ix2 r d) = up K (fun k => x0 (ix2 r k)) (fun k j => w (ix2 k j)) (fun j => b (ix2 0 j)) d := by
  unfold k0_pay4 k0_pay3 k0_pay2
  pointwise
  rfl

theorem pay5 (w : Vec Ideal S1024x1024 .bf16) (b : Vec Ideal S1x1024 .f32) (r d : Fin 1024) : k0_pay5 x0 w b (ix2 r d) = up K (fun k => x0 (ix2 r k)) (fun k j => w (ix2 k j)) (fun j => b (ix2 0 j)) d := by
  unfold k0_pay5 k0_pay3 k0_pay2
  pointwise
  rfl

theorem pay9 (w : Vec Ideal S1024x1024 .bf16) (b : Vec Ideal S1x1024 .f32) (r d : Fin 1024) : k0_pay9 (k0_pay5 x0 w b) (k0_pay6 x3) (k0_pay7 x4) (k0_pay8 x0 w b) (ix2 r d)
    = lnorm (up K (fun k => x0 (ix2 r k)) (fun k j => w (ix2 k j)) (fun j => b (ix2 0 j))) (fun k => x3 (ix2 0 k)) (fun k => x4 (ix2 0 k)) d := by
  unfold k0_pay9 k0_pay8 k0_pay6 k0_pay7
  pointwise
  simp only [pay5]
  rfl

theorem pay1 (y : Vec Ideal S1024x1024 .bf16) (r d : Fin 1024) :
   k0_pay1 (k0_pay103 x8) (k0_pay104 x9) (k0_pay105 (k0_pay2 x0) y x7) (k0_pay106 (k0_pay2 x0) y x7) (ix2 r d)
   = lnorm (mres (fun k => x0 (ix2 r k)) fun d => ∑ j, y (ix2 r j) * x7 (ix2 j d)) (fun k => x8 (ix2 0 k)) (fun k => x9 (ix2 0 k)) d := by
  unfold k0_pay1 k0_pay103 k0_pay104 k0_pay106 k0_pay105 k0_pay2
  pointwise
  rfl

open Idealize.ShloMosaic.TcCoe Idealize.SL.Sem
variable (m : (ℓ : Loc nD τ sig) → Buf (Elt Ideal) ℓ)

theorem idx_whole (inb : ∀ a, (![0, 0] : Fin 2 → ℕ) a + S1024x1024.size a ≤ S1024x1024.size a) (j : S1024x1024.Idx) :
    (Rect.unit (s := S1024x1024) ![0, 0] S1024x1024.size inb).toLoadRect.idx j = j := by
  show (Rect.unit (s := S1024x1024) ![0, 0] S1024x1024.size inb).emb j = j
  blk_ext

theorem out (c : Dev nD) (t : Fin cfg0.N) (r d : Fin 1024) : outsAt0 m c t (ix2 r d)
    = k0_pay1 (k0_pay103 (iblk m c 8 t)) (k0_pay104 (iblk m c 9 t)) (k0_pay105 (k0_pay2 (iblk m c 0 t))
       (Y (k0_pay4 (iblk m c 0 t) (View.ld (iblk m c 1 t) (Rect.unit ![0, 0] S1024x1024.size inb_S1024x2048_S1024x1024_0_0)) (View.ld (iblk m c 2 t) (Rect.unit ![0, 0] S1x1024.size inb_S1x2048_S1x1024_0_0)))
          (k0_pay9 (k0_pay5 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024)))
            (k0_pay6 (iblk m c 3 t)) (k0_pay7 (iblk m c 4 t)) (k0_pay8 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024))))
          (iblk m c 5 t) (iblk m c 6 t)) (iblk m c 7 t))
       (k0_pay106 (k0_pay2 (iblk m c 0 t))
       (Y (k0_pay4 (iblk m c 0 t) (View.ld (iblk m c 1 t) (Rect.unit ![0, 0] S1024x1024.size inb_S1024x2048_S1024x1024_0_0)) (View.ld (iblk m c 2 t) (Rect.unit ![0, 0] S1x1024.size inb_S1x2048_S1x1024_0_0)))
          (k0_pay9 (k0_pay5 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024)))
            (k0_pay6 (iblk m c 3 t)) (k0_pay7 (iblk m c 4 t)) (k0_pay8 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024))))
          (iblk m c 5 t) (iblk m c 6 t)) (iblk m c 7 t)) (ix2 r d) := by
  unfold outsAt0
  frame_out
  rw [readCov_pieces _ _ _ (Y (k0_pay4 (iblk m c 0 t) (View.ld (iblk m c 1 t) (Rect.unit ![0, 0] S1024x1024.size inb_S1024x2048_S1024x1024_0_0)) (View.ld (iblk m c 2 t) (Rect.unit ![0, 0] S1x1024.size inb_S1x2048_S1x1024_0_0)))
          (k0_pay9 (k0_pay5 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024)))
            (k0_pay6 (iblk m c 3 t)) (k0_pay7 (iblk m c 4 t)) (k0_pay8 (iblk m c 0 t) (View.ld (iblk m c 1 t) (Rect.unit ![0, 1024] S1024x1024.size inb_S1024x2048_S1024x1024_0_1024)) (View.ld (iblk m c 2 t) (Rect.unit ![0, 1024] S1x1024.size inb_S1x2048_S1x1024_0_1024))))
          (iblk m c 5 t) (iblk m c 6 t)) ?_ (View.cover_of_tiledL _ ![128, 128] (by sl_kernel_rfl))]
  · have e : ∀ G : S1024x1024.Idx → EReal, (fun j : S1024x1024.Idx => G ((Rect.unit (s := S1024x1024) ![0, 0] S1024x1024.size inb_S1024x1024_S1024x1024_0_0).toLoadRect.idx j)) = G :=
      fun G => funext fun j => congrArg G (idx_whole _ j)
    exact congrArg (fun y => k0_pay1 (k0_pay103 (iblk m c 8 t)) (k0_pay104 (iblk m c 9 t)) (k0_pay105 (k0_pay2 (iblk m c 0 t)) y (iblk m c 7 t)) (k0_pay106 (k0_pay2 (iblk m c 0 t)) y (iblk m c 7 t)) (ix2 r d)) (e _)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact block _ _ _ _ _ _ 7 7 _ _ _ _ (by decide) rfl rfl (by decide) (by decide)
  · exact block _ _ _ _ _ _ 7 6 _ _ _ _ (by decide) rfl rfl (by decide) (by decide)
  · exact block _ _ _ _ _ _ 7 5 _ _ _ _ (by decide) rfl rfl (by decide) (by decide)
  · exact block _ _ _ _ _ _ 7 4 _ _ _ _ (by decide) rfl rfl (by decide) (by decide)
  · exact block _ _ _ _ _ _ 7 3 _ _ _ _ (by decide) rfl rfl (by decide) (by decide)
  · exact block _ _ _ _ _ _ 7 2 _ _ _ _ (by decide) rfl rfl (by decide) (by decide)
  · exact block _ _ _ _ _ _ 7 1 _ _ _ _ (by decide) rfl rfl (by decide) (by decide)
  · exact block _ _ _ _ _ _ 7 0 _ _ _ _ (by decide) rfl rfl (by decide) (by decide)
  · exact block _ _ _ _ _ _ 6 7 _ _ _ _ (by decide) rfl rfl (by decide) (by decide)
  · exact block _ _ _ _ _ _ 6 6 _ _ _ _ (by decide) rfl rfl (by decide) (by decide)
  · exact block _ _ _ _ _ _ 6 5 _ _ _ _ (by decide) rfl rfl (by decide) (by decide)
  · exact block _ _ _ _ _ _ 6 4 _ _ _ _ (by decide) rfl rfl (by decide) (by decide)
  · exact block _ _ _ _ _ _ 6 3 _ _ _ _ (by decide) rfl rfl (by decide) (by decide)
  · exact block _ _ _ _ _ _ 6 2 _ _ _ _ (by decide) rfl rfl (by decide) (by decide)
  · exact block _ _ _ _ _ _ 6 1 _ _ _ _ (by decide) rfl rfl (by decide) (by decide)
  · exact block _ _ _ _ _ _ 6 0 _ _ _ _ (by decide) rfl rfl (by decide) (by decide)
  · exact block _ _ _ _ _ _ 5 7 _ _ _ _ (by decide) rfl rfl (by decide) (by decide)
  · exact block _ _ _ _ _ _ 5 6 _ _ _ _ (by decide) rfl rfl (by decide) (by decide)
  · exact block _ _ _ _ _ _ 5 5 _ _ _ _ (by decide) rfl rfl (by decide) (by decide)
  · exact block _ _ _ _ _ _ 5 4 _ _ _ _ (by decide) rfl rfl (by decide) (by decide)
  · exact block _ _ _ _ _ _ 5 3 _ _ _ _ (by decide) rfl rfl (by decide) (by decide)
  · exact block _ _ _ _ _ _ 5 2 _ _ _ _ (by decide) rfl rfl (by decide) (by decide)
  · exact block _ _ _ _ _ _ 5 1 _ _ _ _ (by decide) rfl rfl (by decide) (by decide)
  · exact block _ _ _ _ _ _ 5 0 _ _ _ _ (by decide) rfl rfl (by decide) (by decide)
  · exact block _ _ _ _ _ _ 4 7 _ _ _ _ (by decide) rfl rfl (by decide) (by decide)
  · exact block _ _ _ _ _ _ 4 6 _ _ _ _ (by decide) rfl rfl (by decide) (by decide)
  · exact block _ _ _ _ _ _ 4 5 _ _ _ _ (by decide) rfl rfl (by decide) (by decide)
  · exact block _ _ _ _ _ _ 4 4 _ _ _ _ (by decide) rfl rfl (by decide) (by decide)
  · exact block _ _ _ _ _ _ 4 3 _ _ _ _ (by decide) rfl rfl (by decide) (by decide)
  · exact block _ _ _ _ _ _ 4 2 _ _ _ _ (by decide) rfl rfl (by decide) (by decide)
  · exact block _ _ _ _ _ _ 4 1 _ _ _ _ (by decide) rfl rfl (by decide) (by decide)
  · exact block _ _ _ _ _ _ 4 0 _ _ _ _ (by decide) rfl rfl (by decide) (by decide)
  · exact block _ _ _ _ _ _ 3 7 _ _ _ _ (by decide) rfl rfl (by decide) (by decide)
  · exact block _ _ _ _ _ _ 3 6 _ _ _ _ (by decide) rfl rfl (by decide) (by decide)
  · exact block _ _ _ _ _ _ 3 5 _ _ _ _ (by decide) rfl rfl (by decide) (by decide)
  · exact block _ _ _ _ _ _ 3 4 _ _ _ _ (by decide) rfl rfl (by decide) (by decide)
  · exact block _ _ _ _ _ _ 3 3 _ _ _ _ (by decide) rfl rfl (by decide) (by decide)
  · exact block _ _ _ _ _ _ 3 2 _ _ _ _ (by decide) rfl rfl (by decide) (by decide)
  · exact block _ _ _ _ _ _ 3 1 _ _ _ _ (by decide) rfl rfl (by decide) (by decide)
  · exact block _ _ _ _ _ _ 3 0 _ _ _ _ (by decide) rfl rfl (by decide) (by decide)
  · exact block _ _ _ _ _ _ 2 7 _ _ _ _ (by decide) rfl rfl (by decide) (by decide)
  · exact block _ _ _ _ _ _ 2 6 _ _ _ _ (by decide) rfl rfl (by decide) (by decide)
  · exact block _ _ _ _ _ _ 2 5 _ _ _ _ (by decide) rfl rfl (by decide) (by decide)
  · exact block _ _ _ _ _ _ 2 4 _ _ _ _ (by decide) rfl rfl (by decide) (by decide)
  · exact block _ _ _ _ _ _ 2 3 _ _ _ _ (by decide) rfl rfl (by decide) (by decide)
  · exact block _ _ _ _ _ _ 2 2 _ _ _ _ (by decide) rfl rfl (by decide) (by decide)
  · exact block _ _ _ _ _ _ 2 1 _ _ _ _ (by decide) rfl rfl (by decide) (by decide)
  · exact block _ _ _ _ _ _ 2 0 _ _ _ _ (by decide) rfl rfl (by decide) (by decide)
  · exact block _ _ _ _ _ _ 1 7 _ _ _ _ (by decide) rfl rfl (by decide) (by decide)
  · exact block _ _ _ _ _ _ 1 6 _ _ _ _ (by decide) rfl rfl (by decide) (by decide)
  · exact block _ _ _ _ _ _ 1 5 _ _ _ _ (by decide) rfl rfl (by decide) (by decide)
  · exact block _ _ _ _ _ _ 1 4 _ _ _ _ (by decide) rfl rfl (by decide) (by decide)
  · exact block _ _ _ _ _ _ 1 3 _ _ _ _ (by decide) rfl rfl (by decide) (by decide)
  · exact block _ _ _ _ _ _ 1 2 _ _ _ _ (by decide) rfl rfl (by decide) (by decide)
  · exact block _ _ _ _ _ _ 1 1 _ _ _ _ (by decide) rfl rfl (by decide) (by decide)
  · exact block _ _ _ _ _ _ 1 0 _ _ _ _ (by decide) rfl rfl (by decide) (by decide)
  · exact block _ _ _ _ _ _ 0 7 _ _ _ _ (by decide) rfl rfl (by decide) (by decide)
  · exact block _ _ _ _ _ _ 0 6 _ _ _ _ (by decide) rfl rfl (by decide) (by decide)
  · exact block _ _ _ _ _ _ 0 5 _ _ _ _ (by decide) rfl rfl (by decide) (by decide)
  · exact block _ _ _ _ _ _ 0 4 _ _ _ _ (by decide) rfl rfl (by decide) (by decide)
  · exact block _ _ _ _ _ _ 0 3 _ _ _ _ (by decide) rfl rfl (by decide) (by decide)
  · exact block _ _ _ _ _ _ 0 2 _ _ _ _ (by decide) rfl rfl (by decide) (by decide)
  · exact block _ _ _ _ _ _ 0 1 _ _ _ _ (by decide) rfl rfl (by decide) (by decide)
  · exact block _ _ _ _ _ _ 0 0 _ _ _ _ (by decide) rfl rfl (by decide) (by decide)

theorem ldu (x1 : Vec Ideal S1024x2048 .bf16) (k j : Fin 1024) : View.ld x1 (Rect.unit (s := S1024x2048) ![0, 0] S1024x1024.size inb_S1024x2048_S1024x1024_0_0) (ix2 k j) = x1 (ix2 k ⟨j.val, by omega⟩) := by
  pointwise

theorem ldv (x1 : Vec Ideal S1024x2048 .bf16) (k j : Fin 1024) : View.ld x1 (Rect.unit (s := S1024x2048) ![0, 1024] S1024x1024.size inb_S1024x2048_S1024x1024_0_1024) (ix2 k j) = x1 (ix2 k ⟨1024 + j.val, by omega⟩) := by
  pointwise

theorem bu (x2 : Vec Ideal S1x2048 .f32) (j : Fin 1024) : View.ld x2 (Rect.unit (s := S1x2048) ![0, 0] S1x1024.size inb_S1x2048_S1x1024_0_0) (ix2 0 j) = x2 (ix2 0 ⟨j.val, by omega⟩) := by
  pointwise

theorem bv (x2 : Vec Ideal S1x2048 .f32) (j : Fin 1024) : View.ld x2 (Rect.unit (s := S1x2048) ![0, 1024] S1x1024.size inb_S1x2048_S1x1024_0_1024) (ix2 0 j) = x2 (ix2 0 ⟨1024 + j.val, by omega⟩) := by
  pointwise

/-- What a point writes back, row by row: the row's chunk through the unit. -/
theorem out_eq (c : Dev nD) (t : Fin cfg0.N) (r d : Fin 1024) : outsAt0 m c t (ix2 r d)
    = sgu K (fun s k => iblk m c 0 t (ix2 ⟨128 * (r.val / 128) + s.val, by omega⟩ k)) (fun k j => iblk m c 1 t (ix2 k ⟨j.val, by omega⟩)) (fun k j => iblk m c 1 t (ix2 k ⟨1024 + j.val, by omega⟩))
       (fun j => iblk m c 2 t (ix2 0 ⟨j.val, by omega⟩)) (fun j => iblk m c 2 t (ix2 0 ⟨1024 + j.val, by omega⟩)) (fun k => iblk m c 3 t (ix2 0 k)) (fun k => iblk m c 4 t (ix2 0 k))
       (fun g a s => iblk m c 5 t (ix3 g a s)) (fun g a => iblk m c 6 t (ix2 a g)) (fun k j => iblk m c 7 t (ix2 k j)) (fun k => iblk m c 8 t (ix2 0 k)) (fun k => iblk m c 9 t (ix2 0 k)) ⟨r.val % 128, by omega⟩ d := by
  have er : (⟨128 * (r.val / 128) + r.val % 128, by omega⟩ : Fin 1024) = r := Fin.ext (by dsimp only; omega)
  rw [out, pay1]
  unfold sgu gated
  dsimp only
  rw [er]
  refine congrArg (fun f => lnorm (mres _ f) _ _ d) (funext fun d => Finset.sum_congr rfl fun j _ => congrArg (· * _) ?_)
  show Yc _ _ _ _ ⟨r.val / 128, _⟩ ⟨r.val % 128, _⟩ ⟨j.val / 128, _⟩ r j = _
  unfold Yc
  refine congrArg₂ (· * ·) ((pay4 _ _ _ r j).trans (congrArg₂ (fun W B => up K _ W B j) (funext fun k => funext fun j => ldu _ k j) (funext fun j => bu _ j)))
    (congrArg (· + _) (Finset.sum_congr rfl fun s _ => congrArg (_ * ·) ((pay9 _ _ _ _ _ _ j).trans
      (congrArg₂ (fun W B => lnorm (up K _ W B) _ _ j) (funext fun k => funext fun j => ldv _ k j) (funext fun j => bv _ j)))))

theorem idx : ∀ t : Fin cfg0.N, win0_0.index t = ![t.val, 0] ∧ win0_1.index t = ![0, 0] ∧ win0_2.index t = ![0, 0] ∧ win0_3.index t = ![0, 0] ∧ win0_4.index t = ![0, 0]
   ∧ win0_5.index t = ![0, 0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- The result as one function of the arguments, index by index. -/
def G (x : FVec Ideal S32768x1024 .f32) (g b : FVec Ideal S2x3x1024 .f32) (w : FVec Ideal S1x1024x2048 .f32) (wb : FVec Ideal S1x2048 .f32) (lg lb : FVec Ideal S1x1024 .f32)
    (ws : FVec Ideal S1x8x128x128 .f32) (bs : FVec Ideal S1x8x128 .f32) (wo : FVec Ideal S1x1024x1024 .f32) (i : S32768x1024.Idx) : EReal :=
  sgu K (fun s k => x (ix2 ⟨128 * ((i 0).val / 128) + s.val, by have : (i 0).val < 32768 := (i 0).isLt; omega⟩ k)) (fun k j => w (ix3 0 k ⟨j.val, by omega⟩)) (fun k j => w (ix3 0 k ⟨1024 + j.val, by omega⟩))
    (fun j => wb (ix2 0 ⟨j.val, by omega⟩)) (fun j => wb (ix2 0 ⟨1024 + j.val, by omega⟩)) (fun k => lg (ix2 0 k)) (fun k => lb (ix2 0 k))
    (fun g a s => ws (ix4 0 g a s)) (fun g a => bs (ix3 0 g a)) (fun k j => wo (ix3 0 k j)) (fun k => g (ix3 1 1 k)) (fun k => b (ix3 1 1 k)) ⟨(i 0).val % 128, by omega⟩ (i 1)

theorem point (c : Dev nD) (t : Fin cfg0.N) (r d : Fin 1024) : outsAt0 m c t (ix2 r d)
    = G (shapeCast S32768x1024 (m ((c : Thread nD τ).loc main_arg0)) shapeCasts_S4x8192x1024_S32768x1024) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 r d)) := by
  rw [out_eq]
  have hr : (((cfg0.win 10).blk t).view.emb (ix2 r d) 0).val = t.val * 1024 + r.val := by
    blk_simp [idx t]
  have hd : (((cfg0.win 10).blk t).view.emb (ix2 r d) 1) = d := by
    refine Fin.ext ?_
    blk_simp [idx t]
  have e0 : ∀ (s : Fin 128) (k : Fin 1024), iblk m c 0 t (ix2 ⟨128 * (r.val / 128) + s.val, by omega⟩ k)
      = (shapeCast S32768x1024 (m ((c : Thread nD τ).loc main_arg0)) shapeCasts_S4x8192x1024_S32768x1024 : FVec Ideal S32768x1024 .f32) (ix2 ⟨128 * ((((cfg0.win 10).blk t).view.emb (ix2 r d) 0).val / 128) + s.val, by have : (((cfg0.win 10).blk t).view.emb (ix2 r d) 0).val < 32768 := (((cfg0.win 10).blk t).view.emb (ix2 r d) 0).isLt; omega⟩ k) := by
    intro s k
    have h : ∀ q : Fin 1024, iblk m c 0 t (ix2 q k) = (shapeCast S32768x1024 (m ((c : Thread nD τ).loc main_arg0)) shapeCasts_S4x8192x1024_S32768x1024 : FVec Ideal S32768x1024 .f32) (ix2 ⟨t.val * 1024 + q.val, by have : t.val < 32 := t.isLt; omega⟩ k) := by
      intro q
      blk_point [iblk, V, idx t]
    refine (h _).trans (congrArg (fun q => (shapeCast S32768x1024 (m ((c : Thread nD τ).loc main_arg0)) shapeCasts_S4x8192x1024_S32768x1024 : FVec Ideal S32768x1024 .f32) (ix2 q k)) (Fin.ext ?_))
    dsimp only
    rw [hr]
    omega
  have e1 : ∀ (k : Fin 1024) (j : Fin 2048), iblk m c 1 t (ix2 k j) = (m ((c : Thread nD τ).loc main_arg3)) (ix3 0 k j) := by
    intro k j
    blk_point [iblk, V, idx t]
  have e2 : ∀ (k : Fin 2048), iblk m c 2 t (ix2 0 k) = (m ((c : Thread nD τ).loc main_arg4)) (ix2 0 k) := by
    intro k
    blk_point [iblk, V, idx t]
  have e3 : ∀ (k : Fin 1024), iblk m c 3 t (ix2 0 k) = (m ((c : Thread nD τ).loc main_arg5)) (ix2 0 k) := by
    intro k
    blk_point [iblk, V, idx t]
  have e4 : ∀ (k : Fin 1024), iblk m c 4 t (ix2 0 k) = (m ((c : Thread nD τ).loc main_arg6)) (ix2 0 k) := by
    intro k
    blk_point [iblk, V, idx t]
  have e5 : ∀ (g : Fin 8) (a : Fin 128) (s : Fin 128), iblk m c 5 t (ix3 g a s) = (m ((c : Thread nD τ).loc main_arg7)) (ix4 0 g a s) := by
    intro g a s
    blk_point [iblk, V, idx t]
  have e6 : ∀ (a : Fin 128) (g : Fin 8), iblk m c 6 t (ix2 a g) = (m ((c : Thread nD τ).loc main_arg8)) (ix3 0 g a) := by
    intro a g
    blk_point [iblk, V, idx t]
  have e7 : ∀ (k : Fin 1024) (j : Fin 1024), iblk m c 7 t (ix2 k j) = (m ((c : Thread nD τ).loc main_arg9)) (ix3 0 k j) := by
    intro k j
    blk_point [iblk, V, idx t]
  have e8 : ∀ (k : Fin 1024), iblk m c 8 t (ix2 0 k) = (m ((c : Thread nD τ).loc main_arg1)) (ix3 1 1 k) := by
    intro k
    blk_point [iblk, V, idx t]
  have e9 : ∀ (k : Fin 1024), iblk m c 9 t (ix2 0 k) = (m ((c : Thread nD τ).loc main_arg2)) (ix3 1 1 k) := by
    intro k
    blk_point [iblk, V, idx t]
  have hm : (⟨(((cfg0.win 10).blk t).view.emb (ix2 r d) 0).val % 128, by omega⟩ : Fin 128) = ⟨r.val % 128, by omega⟩ := Fin.ext (by dsimp only; rw [hr]; omega)
  unfold G
  simp only [e0, e1, e2, e3, e4, e5, e6, e7, e8, e9, hd, hm]

theorem final (c : Dev nD) : (dats m 0 c).arrAt 10 cfg0.N = G (shapeCast S32768x1024 (m ((c : Thread nD τ).loc main_arg0)) shapeCasts_S4x8192x1024_S32768x1024) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10, ValueIdx.eq_ix2 y]
  exact point m c t _ _
end Cert.Kernel6Ideal.Sgu
end
-- ==== Proof.Sgu.Reference6.lean ====
/-
  The reference of the gated mixing unit, stage by stage.
-/
module

public import proofs.«01_k».proof.Proof.Sgu.Spec
public import proofs.«01_k».proof.Proof.Gen.Reference6Ideal.Run
public import proofs.«01_k».proof.Proof.Gen.Reference6Ideal.Read

@[expose] public section
noncomputable section
namespace Cert.Reference6Ideal.Sgu
open Idealize.ShloMosaic Cert.Reference6Ideal Cert.Reference6Ideal.Gen Cert.Reference6Ideal.Value Cert.Reference6Ideal.Read Cert.Ffn Cert.Sgu

set_option maxRecDepth 16384
variable (x0 : FVec Ideal S4x8192x1024 .f32) (x1 x2 : FVec Ideal S2x3x1024 .f32) (x3 : FVec Ideal S1x1024x2048 .f32) (x4 : FVec Ideal S1x2048 .f32) (x5 x6 : FVec Ideal S1x1024 .f32)
  (x7 : FVec Ideal S1x8x128x128 .f32) (x8 : FVec Ideal S1x8x128 .f32) (x9 : FVec Ideal S1x1024x1024 .f32)

theorem v6 (r : Fin 32768) (j : Fin 2048) : val_main_v6 (F := Ideal) x0 x3 x4 (ix2 r j)
   = (∑ k : Fin 1024, val_main_v0 (F := Ideal) x0 (ix2 r k) * x3 (ix3 0 k j)) + x4 (ix2 0 j) := by
  unfold val_main_v6 val_main_v5 val_main_v4 val_main_v3 val_main_v2 val_main_v1
  pointwise

theorem v19 (r : Fin 32768) (j : Fin 2048) : val_main_v19 (F := Ideal) x0 x3 x4 (ix2 r j)
   = gelu cubic (val_main_v6 (F := Ideal) x0 x3 x4 (ix2 r j)) := by
  unfold val_main_v19 val_main_v18 val_main_v16 val_main_v14 val_main_v13 val_main_v11 val_main_v10 val_main_v8 val_main_v7 val_main_v9 val_main_cst val_main_v12 val_main_cst_0 val_main_v15 val_main_cst_1 val_main_v17 val_main_cst_2
  pointwise
  rw [← gelu_eq]
  rfl

theorem v20 (r : Fin 32768) (j : Fin 1024) : val_main_v20 (F := Ideal) x0 x3 x4 (ix2 r j)
   = up cubic (fun k => val_main_v0 (F := Ideal) x0 (ix2 r k)) (fun k j => x3 (ix3 0 k ⟨j.val, by omega⟩)) (fun j => x4 (ix2 0 ⟨j.val, by omega⟩)) j := by
  unfold val_main_v20
  pointwise
  simp only [v19, v6]
  rfl

theorem v21 (r : Fin 32768) (j : Fin 1024) : val_main_v21 (F := Ideal) x0 x3 x4 (ix2 r j)
   = up cubic (fun k => val_main_v0 (F := Ideal) x0 (ix2 r k)) (fun k j => x3 (ix3 0 k ⟨1024 + j.val, by omega⟩)) (fun j => x4 (ix2 0 ⟨1024 + j.val, by omega⟩)) j := by
  unfold val_main_v21
  pointwise
  simp only [v19, v6]
  rfl

theorem v27 (r : Fin 32768) : val_main_v27 (F := Ideal) x0 x3 x4 (ix2 r 0)
   = mean (up cubic (fun k => val_main_v0 (F := Ideal) x0 (ix2 r k)) (fun k j => x3 (ix3 0 k ⟨1024 + j.val, by omega⟩)) (fun j => x4 (ix2 0 ⟨1024 + j.val, by omega⟩))) := by
  unfold val_main_v27 val_main_v26 val_main_cst_4 val_main_v25 val_main_v24 val_main_cst_3
  pointwise
  simp only [v21]
  rfl

theorem v47 (r : Fin 32768) (j : Fin 1024) : val_main_v47 (F := Ideal) x0 x3 x4 x5 x6 (ix2 r j)
   = lnorm (up cubic (fun k => val_main_v0 (F := Ideal) x0 (ix2 r k)) (fun k j => x3 (ix3 0 k ⟨1024 + j.val, by omega⟩)) (fun j => x4 (ix2 0 ⟨1024 + j.val, by omega⟩))) (fun k => x5 (ix2 0 k)) (fun k => x6 (ix2 0 k)) j := by
  unfold val_main_v47 val_main_v46 val_main_v45 val_main_v23 val_main_v44 val_main_v43 val_main_v42 val_main_v22 val_main_v41 val_main_v40 val_main_v39 val_main_v38 val_main_v37 val_main_cst_7 val_main_v34 val_main_v33 val_main_cst_6 val_main_v32 val_main_v31 val_main_cst_5 val_main_v30 val_main_v29 val_main_v28 val_main_v36 val_main_v35
  pointwise
  simp only [v27, v21]
  rfl

theorem v48 (c : Fin 256) (s : Fin 128) (g : Fin 8) (d : Fin 128) : val_main_v48 (F := Ideal) x0 x3 x4 x5 x6 (ix4 c s g d)
   = val_main_v47 (F := Ideal) x0 x3 x4 x5 x6 (ix2 ⟨128 * c.val + s.val, by omega⟩ ⟨128 * g.val + d.val, by omega⟩) := by
  unfold val_main_v48
  pointwise
  exact congrArg₂ (fun a b => val_main_v47 (F := Ideal) x0 x3 x4 x5 x6 (ix2 a b)) (Fin.ext (by dsimp only; omega)) (Fin.ext (by dsimp only; omega))

theorem v52 (g : Fin 8) (a s : Fin 128) : val_main_v52 (F := Ideal) x7 (ix3 g a s)
   = if s.val ≤ a.val then x7 (ix4 0 g a s) else 0 := by
  unfold val_main_v52 val_main_call1_v2 val_main_call1_v0 val_main_c_8 val_main_v51 val_main_call1_v1 val_main_v50 val_main_call0_v5 val_main_call0_c_0 val_main_v49 val_main_c val_main_call0_v4 val_main_call0_v3 val_main_call0_v2 val_main_call0_v1 val_main_call0_c val_main_call0_v0
  pointwise
  have h : ∀ a s : Fin 128, IntOp.cmpi .sge (BitVec.ofNat 32 a.val) (BitVec.ofNat 32 s.val) = if s.val ≤ a.val then 1#1 else 0#1 := by decide +kernel
  have e : IntOp.addi (BitVec.ofNat 32 a.val) 0#32 = BitVec.ofNat 32 a.val := by simp [IntOp.addi]
  have z : (FloatOps.sitofp .f32 0#32 : Ideal .f32) = 0 := by simp [FloatOps.sitofp]
  rw [e, h]
  split_ifs
  · rfl
  · exact z

theorem v59 (c : Fin 256) (a : Fin 128) (g : Fin 8) (d : Fin 128) : val_main_v59 (F := Ideal) x0 x3 x4 x5 x6 x7 x8 (ix4 c a g d)
   = (∑ s : Fin 128, (if s.val ≤ a.val then x7 (ix4 0 g a s) else 0) * val_main_v47 (F := Ideal) x0 x3 x4 x5 x6 (ix2 ⟨128 * c.val + s.val, by omega⟩ ⟨128 * g.val + d.val, by omega⟩)) + x8 (ix3 0 g a) := by
  unfold val_main_v59 val_main_v58 val_main_v57 val_main_v56 val_main_v55 val_main_v54 val_main_v53
  pointwise
  refine congrArg (· + _) (Finset.sum_congr rfl fun s _ => ?_)
  rw [v48, v52, mul_comm]

theorem v60 (r : Fin 32768) (j : Fin 1024) : val_main_v60 (F := Ideal) x0 x3 x4 x5 x6 x7 x8 (ix2 r j)
   = val_main_v59 (F := Ideal) x0 x3 x4 x5 x6 x7 x8 (ix4 ⟨r.val / 128, by omega⟩ ⟨r.val % 128, by omega⟩ ⟨j.val / 128, by omega⟩ ⟨j.val % 128, by omega⟩) := by
  unfold val_main_v60
  pointwise

theorem v61 (r : Fin 32768) (j : Fin 1024) : val_main_v61 (F := Ideal) x0 x3 x4 x5 x6 x7 x8 (ix2 r j)
   = gated cubic (fun s k => val_main_v0 (F := Ideal) x0 (ix2 ⟨128 * (r.val / 128) + s.val, by omega⟩ k)) (fun k j => x3 (ix3 0 k ⟨j.val, by omega⟩)) (fun k j => x3 (ix3 0 k ⟨1024 + j.val, by omega⟩)) (fun j => x4 (ix2 0 ⟨j.val, by omega⟩)) (fun j => x4 (ix2 0 ⟨1024 + j.val, by omega⟩)) (fun k => x5 (ix2 0 k)) (fun k => x6 (ix2 0 k)) (fun g a s => x7 (ix4 0 g a s)) (fun g a => x8 (ix3 0 g a)) ⟨r.val % 128, by omega⟩ j := by
  have er : (⟨128 * (r.val / 128) + r.val % 128, by omega⟩ : Fin 32768) = r := Fin.ext (by dsimp only; omega)
  have ej : (⟨128 * (j.val / 128) + j.val % 128, by omega⟩ : Fin 1024) = j := Fin.ext (by dsimp only; omega)
  unfold val_main_v61
  pointwise
  rw [v20, v60, v59]
  simp only [v47]
  unfold gated
  dsimp only
  rw [er, ej]

theorem v66 (r : Fin 32768) (d : Fin 1024) : val_main_v66 (F := Ideal) x0 x3 x4 x5 x6 x7 x8 x9 (ix2 r d)
   = (mres (fun k => val_main_v0 (F := Ideal) x0 (ix2 r k)) fun d => ∑ j : Fin 1024, gated cubic (fun s k => val_main_v0 (F := Ideal) x0 (ix2 ⟨128 * (r.val / 128) + s.val, by omega⟩ k)) (fun k j => x3 (ix3 0 k ⟨j.val, by omega⟩)) (fun k j => x3 (ix3 0 k ⟨1024 + j.val, by omega⟩)) (fun j => x4 (ix2 0 ⟨j.val, by omega⟩)) (fun j => x4 (ix2 0 ⟨1024 + j.val, by omega⟩)) (fun k => x5 (ix2 0 k)) (fun k => x6 (ix2 0 k)) (fun g a s => x7 (ix4 0 g a s)) (fun g a => x8 (ix3 0 g a)) ⟨r.val % 128, by omega⟩ j * x9 (ix3 0 j d)) d := by
  unfold val_main_v66 val_main_v65 val_main_v64 val_main_v63 val_main_v62 val_main_cst_9
  pointwise
  simp only [v61]
  rfl

theorem v74 (r : Fin 32768) : val_main_v74 (F := Ideal) x0 x3 x4 x5 x6 x7 x8 x9 (ix2 r 0)
   = mean (mres (fun k => val_main_v0 (F := Ideal) x0 (ix2 r k)) fun d => ∑ j : Fin 1024, gated cubic (fun s k => val_main_v0 (F := Ideal) x0 (ix2 ⟨128 * (r.val / 128) + s.val, by omega⟩ k)) (fun k j => x3 (ix3 0 k ⟨j.val, by omega⟩)) (fun k j => x3 (ix3 0 k ⟨1024 + j.val, by omega⟩)) (fun j => x4 (ix2 0 ⟨j.val, by omega⟩)) (fun j => x4 (ix2 0 ⟨1024 + j.val, by omega⟩)) (fun k => x5 (ix2 0 k)) (fun k => x6 (ix2 0 k)) (fun g a s => x7 (ix4 0 g a s)) (fun g a => x8 (ix3 0 g a)) ⟨r.val % 128, by omega⟩ j * x9 (ix3 0 j d)) := by
  unfold val_main_v74 val_main_v73 val_main_cst_11 val_main_v72 val_main_v71 val_main_cst_10
  pointwise
  simp only [v66]
  rfl

/-- The reference's result. -/
theorem v94 (r : Fin 32768) (d : Fin 1024) : val_main_v94 (F := Ideal) x0 x1 x2 x3 x4 x5 x6 x7 x8 x9 (ix2 r d)
   = sgu cubic (fun s k => val_main_v0 (F := Ideal) x0 (ix2 ⟨128 * (r.val / 128) + s.val, by omega⟩ k)) (fun k j => x3 (ix3 0 k ⟨j.val, by omega⟩)) (fun k j => x3 (ix3 0 k ⟨1024 + j.val, by omega⟩)) (fun j => x4 (ix2 0 ⟨j.val, by omega⟩)) (fun j => x4 (ix2 0 ⟨1024 + j.val, by omega⟩)) (fun k => x5 (ix2 0 k)) (fun k => x6 (ix2 0 k)) (fun g a s => x7 (ix4 0 g a s)) (fun g a => x8 (ix3 0 g a)) (fun k j => x9 (ix3 0 k j)) (fun k => x1 (ix3 1 1 k)) (fun k => x2 (ix3 1 1 k)) ⟨r.val % 128, by omega⟩ d := by
  have er : (⟨128 * (r.val / 128) + r.val % 128, by omega⟩ : Fin 32768) = r := Fin.ext (by dsimp only; omega)
  unfold sgu
  dsimp only
  rw [er]
  unfold val_main_v94 val_main_v93 val_main_v92 val_main_v70 val_main_v69 val_main_v91 val_main_v90 val_main_v89 val_main_v68 val_main_v67 val_main_v88 val_main_v87 val_main_v86 val_main_v85 val_main_v84 val_main_cst_14 val_main_v81 val_main_v80 val_main_cst_13 val_main_v79 val_main_v78 val_main_cst_12 val_main_v77 val_main_v76 val_main_v75 val_main_v83 val_main_v82
  pointwise
  simp only [v74, v66]
  rfl

end Cert.Reference6Ideal.Sgu
end
-- ==== Proof.Sgu.Claim6.lean ====
/-
  The gated mixing unit: the kernel's result array and the reference's are the same function of the arguments, so the two
  programs agree at the ideal instance.
-/
module

public import proofs.«01_k».proof.Defs
public import proofs.«01_k».proof.Proof.Sgu.Kernel6
public import proofs.«01_k».proof.Proof.Sgu.Reference6
public import Idealize.ShloMosaic.Lib.Quiescent

@[expose] public section
noncomputable section
namespace Cert.Sgu
open Idealize.ShloMosaic Idealize.ShloMosaic.TcCoe Idealize.SL.Sem

set_option maxRecDepth 16384

theorem cubic_eq : Cert.Kernel6Ideal.Sgu.K = cubic := IdealRules.named_const.ideal_named_scalar _ _ _ _ rfl

theorem algebraic6 : Cert.algebraic_Kernel6Ideal_Reference6Ideal := by
  intro m g m' g' _ hagree
  refine ⟨fun c => Cert.Reference6Ideal.Read.val_main_v94 (F := Ideal) (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg5)) (m' ((c : Thread Cert.Reference6Ideal.nD Cert.Reference6Ideal.τ).loc Cert.Reference6Ideal.main_arg6)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8)) (m' ((c : Thread Cert.Reference6Ideal.nD Cert.Reference6Ideal.τ).loc Cert.Reference6Ideal.main_arg9)), ?_,
    (θ_run _ _ _).mono (fun r h c => ⟨(h c).1.trans (Cert.Reference6Ideal.Read.val_main_v94_eq _), (h c).2⟩) (Cert.Reference6Ideal.Value.run m' g')⟩
  refine (θ_run _ _ _).mono (fun r h c => ⟨(h c).1.trans ?_, (h c).2⟩) (Cert.Kernel6Ideal.Value.run_blocks m g)
  obtain ⟨a0, a1, a2, a3, a4, a5, a6, a7, a8, a9⟩ := hagree c
  rw [Cert.Kernel6Ideal.Sgu.final]
  beta_reduce
  rw [a0, a1, a2, a3, a4, a5, a6, a7, a8, a9]
  funext i
  rw [ValueIdx.eq_ix2 i]
  unfold Cert.Kernel6Ideal.Sgu.G
  rw [cubic_eq]
  exact (Cert.Reference6Ideal.Sgu.v94 _ _ _ _ _ _ _ _ _ _ (i 0) (i 1)).symm

/-- The reference has no semaphore cells, so its counters end at zero. -/
theorem refFrame6 : Cert.quiescent_Reference6Ideal := fun m g _ =>
  (θ_run _ _ _).mono (fun r h => ⟨fun c => (h c).2, sem_eq_zero_of_no_sems rfl r.2⟩) (Cert.Reference6Ideal.Value.run m g)

end Cert.Sgu
end
-- ==== Proof.Proj.Spec.lean ====
/-
  One column of a projection: a row of the input against a column of the weights.
-/
module

public import Idealize.ShloMosaic.Lib.Pointwise

@[expose] public section
noncomputable section
namespace Cert.Proj
open Idealize.ShloMosaic

/-- The product of one row of the input with one column of the weights. -/
def col (x w : Fin 1024 → EReal) : EReal := ∑ k, x k * w k

/-- The scale both programs put on the queries. -/
def scale : EReal := Ideal.ofBits .f32 0x3E38AA3B#32

end Cert.Proj
end
-- ==== Proof.Proj.Host.lean ====
/-
  The weights as the host code lays them out for the projection call: four blocks of columns side by side, and three blocks
  of columns side by side and transposed.
-/
module

public import proofs.«01_k».proof.Proof.Proj.Spec
public import proofs.«01_k».proof.Proof.Gen.Kernel7Ideal.Value
public import Idealize.ShloMosaic.Lib.Pipeline.ValueKit

@[expose] public section
noncomputable section
namespace Cert.Kernel7Ideal.Proj
open Idealize.ShloMosaic Cert.Kernel7Ideal Cert.Kernel7Ideal.Gen Cert.Proj
open Idealize.ShloMosaic.TcCoe Idealize.SL.Sem

set_option maxRecDepth 16384

/-- The weight matrix without its leading axis. -/
abbrev W (w : FVec Ideal S1x1024x3080 .f32) : FVec Ideal S1024x3080 .f32 := shapeCast S1024x3080 w shapeCasts_S1x1024x3080_S1024x3080

/-- Equal blocks side by side are equal. -/
theorem four {a b c d a' b' c' d' : FVec Ideal S1024x512 .f32} (ha : a = a') (hb : b = b') (hc : c = c') (hd : d = d') :
    (concatenate S1024x2048 1 [⟨S1024x512, a⟩, ⟨S1024x512, b⟩, ⟨S1024x512, c⟩, ⟨S1024x512, d⟩]
      concatenates_S1024x512_S1024x512_S1024x512_S1024x512_S1024x2048_d1 : FVec Ideal S1024x2048 .f32)
    = concatenate S1024x2048 1 [⟨S1024x512, a'⟩, ⟨S1024x512, b'⟩, ⟨S1024x512, c'⟩, ⟨S1024x512, d'⟩]
      concatenates_S1024x512_S1024x512_S1024x512_S1024x512_S1024x2048_d1 := by
  subst ha hb hc hd; rfl

theorem three {a b a' b' : FVec Ideal S1024x512 .f32} {c c' : FVec Ideal S1024x8 .f32} (ha : a = a') (hb : b = b') (hc : c = c') :
    (concatenate S1024x1032 1 [⟨S1024x512, a⟩, ⟨S1024x512, b⟩, ⟨S1024x8, c⟩]
      concatenates_S1024x512_S1024x512_S1024x8_S1024x1032_d1 : FVec Ideal S1024x1032 .f32)
    = concatenate S1024x1032 1 [⟨S1024x512, a'⟩, ⟨S1024x512, b'⟩, ⟨S1024x8, c'⟩]
      concatenates_S1024x512_S1024x512_S1024x8_S1024x1032_d1 := by
  subst ha hb hc; rfl

variable (m : (ℓ : Loc nD τ sig) → Buf (Elt Ideal) ℓ)

theorem V6 (c : Dev nD) : V m c main_v6 = (truncf .bf16 (concatenate S1024x2048 1
      [⟨S1024x512, extractStridedSlice S1024x512 ![0, 0] (W (m ((c : Thread nD τ).loc main_arg1))) slices_S1024x3080_S1024x512_0_0⟩,
       ⟨S1024x512, extractStridedSlice S1024x512 ![0, 512] (W (m ((c : Thread nD τ).loc main_arg1))) slices_S1024x3080_S1024x512_0_512⟩,
       ⟨S1024x512, extractStridedSlice S1024x512 ![0, 1536] (W (m ((c : Thread nD τ).loc main_arg1))) slices_S1024x3080_S1024x512_0_1536⟩,
       ⟨S1024x512, extractStridedSlice S1024x512 ![0, 2048] (W (m ((c : Thread nD τ).loc main_arg1))) slices_S1024x3080_S1024x512_0_2048⟩]
      concatenates_S1024x512_S1024x512_S1024x512_S1024x512_S1024x2048_d1) bitsLt_bf16_f32 : FVec Ideal S1024x2048 .bf16) := by
  simp only [V, StableHlo.after_cons, StableHlo.after_nil]
  after_results_simp
  refine congrArg (fun a => truncf .bf16 a bitsLt_bf16_f32) (four ?_ ?_ ?_ ?_)
  all_goals
    simp only [Matrix.cons_val]
    after_results_simp
    rfl

theorem V12 (c : Dev nD) : V m c main_v12 = (truncf .bf16 (transpose S1032x1024 [1, 0] (concatenate S1024x1032 1
      [⟨S1024x512, extractStridedSlice S1024x512 ![0, 1024] (W (m ((c : Thread nD τ).loc main_arg1))) slices_S1024x3080_S1024x512_0_1024⟩,
       ⟨S1024x512, extractStridedSlice S1024x512 ![0, 2560] (W (m ((c : Thread nD τ).loc main_arg1))) slices_S1024x3080_S1024x512_0_2560⟩,
       ⟨S1024x8, extractStridedSlice S1024x8 ![0, 3072] (W (m ((c : Thread nD τ).loc main_arg1))) slices_S1024x3080_S1024x8_0_3072⟩]
      concatenates_S1024x512_S1024x512_S1024x8_S1024x1032_d1) transposes_S1024x1032_S1032x1024_1_0) bitsLt_bf16_f32 : FVec Ideal S1032x1024 .bf16) := by
  simp only [V, StableHlo.after_cons, StableHlo.after_nil]
  after_results_simp
  refine congrArg (fun a => truncf .bf16 (transpose S1032x1024 [1, 0] a transposes_S1024x1032_S1032x1024_1_0) bitsLt_bf16_f32) (three ?_ ?_ ?_)
  all_goals
    simp only [Matrix.cons_val]
    after_results_simp
    rfl

end Cert.Kernel7Ideal.Proj
end
-- ==== Proof.Proj.Kernel7.lean ====
/-
  The attention projection: each result block of the kernel is a block of columns of the product with the weights, and each
  result array is one function of the arguments.
-/
module

public import proofs.«01_k».proof.Proof.Proj.Spec
public import proofs.«01_k».proof.Proof.Proj.Host
public import Idealize.ShloMosaic.Lib.Pipeline.ValueKit

@[expose] public section
noncomputable section
namespace Cert.Kernel7Ideal.Proj
open Idealize.ShloMosaic Cert.Kernel7Ideal Cert.Kernel7Ideal.Gen Cert.Proj

set_option maxRecDepth 16384
variable (x0 : Vec Ideal S1x1024x1024 .f32) (x1 : Vec Ideal S1024x2048 .bf16) (x2 : Vec Ideal S1032x1024 .bf16)

theorem out3 (r : Fin 1024) (d : Fin 512) : out0_3 x0 x1 x2 (ix3 0 r d)
    = col (fun k => x0 (ix3 0 r k)) (fun k => x1 (ix2 k ⟨0 + d.val, by omega⟩)) * scale := by
  frame_out
  unfold_payloads
  pointwise
  rfl

theorem out4 (r : Fin 1024) (d : Fin 512) : out0_4 x0 x1 x2 (ix3 0 r d)
    = col (fun k => x0 (ix3 0 r k)) (fun k => x1 (ix2 k ⟨512 + d.val, by omega⟩)) := by
  frame_out
  unfold_payloads
  pointwise
  rfl

theorem out5 (r : Fin 1024) (d : Fin 512) : out0_5 x0 x1 x2 (ix3 0 r d)
    = col (fun k => x0 (ix3 0 r k)) (fun k => x1 (ix2 k ⟨1024 + d.val, by omega⟩)) * scale := by
  frame_out
  unfold_payloads
  pointwise
  rfl

theorem out6 (r : Fin 1024) (d : Fin 512) : out0_6 x0 x1 x2 (ix3 0 r d)
    = col (fun k => x0 (ix3 0 r k)) (fun k => x1 (ix2 k ⟨1536 + d.val, by omega⟩)) := by
  frame_out
  unfold_payloads
  pointwise
  rfl

theorem out7 (d : Fin 512) (r : Fin 1024) : out0_7 x0 x1 x2 (ix4 0 0 d r)
    = col (fun k => x0 (ix3 0 r k)) (fun k => x2 (ix2 ⟨0 + d.val, by omega⟩ k)) := by
  frame_out
  unfold_payloads
  pointwise
  exact Finset.sum_congr rfl fun k _ => mul_comm _ _

theorem out8 (d : Fin 512) (r : Fin 1024) : out0_8 x0 x1 x2 (ix4 0 0 d r)
    = col (fun k => x0 (ix3 0 r k)) (fun k => x2 (ix2 ⟨512 + d.val, by omega⟩ k)) := by
  frame_out
  unfold_payloads
  pointwise
  exact Finset.sum_congr rfl fun k _ => mul_comm _ _

theorem out9 (d : Fin 8) (r : Fin 1024) : out0_9 x0 x1 x2 (ix3 0 d r)
    = col (fun k => x0 (ix3 0 r k)) (fun k => x2 (ix2 ⟨1024 + d.val, by omega⟩ k)) := by
  frame_out
  unfold_payloads
  pointwise
  exact Finset.sum_congr rfl fun k _ => mul_comm _ _

variable (m : (ℓ : Loc nD τ sig) → Buf (Elt Ideal) ℓ)
open Idealize.ShloMosaic.TcCoe Idealize.SL.Sem
theorem idx : ∀ t : Fin cfg0.N, win0_0.index t = ![t.val / 8, t.val % 8, 0] ∧ win0_1.index t = ![0, 0] ∧ win0_2.index t = ![0, 0]
   ∧ win0_3.index t = ![t.val / 8, t.val % 8, 0] ∧ win0_4.index t = ![t.val / 8, t.val % 8, 0] ∧ win0_5.index t = ![t.val / 8, t.val % 8, 0]
   ∧ win0_6.index t = ![t.val / 8, t.val % 8, 0] ∧ win0_7.index t = ![t.val / 8, t.val % 8, 0, 0] ∧ win0_8.index t = ![t.val / 8, t.val % 8, 0, 0]
   ∧ win0_9.index t = ![t.val / 8, 0, t.val % 8] :=
  (by decide +kernel : ∀ t : Fin grid0.N, _)

/-- A block of columns of the product, from column `o`, laid out by rows. -/
def rows (o : ℕ) (h : o + 512 ≤ 3080) (x : FVec Ideal S4x8192x1024 .f32) (w : FVec Ideal S1x1024x3080 .f32) (i : S4x8192x512.Idx) : EReal :=
  col (fun k => x (ix3 (i 0) (i 1) k)) (fun k => w (ix3 0 k ⟨o + (i 2).val, by have : (i 2).val < 512 := (i 2).isLt; omega⟩))

/-- The same block of columns, with the rows in blocks of 1024 and each block transposed. -/
def blocks (o : ℕ) (h : o + 512 ≤ 3080) (x : FVec Ideal S4x8192x1024 .f32) (w : FVec Ideal S1x1024x3080 .f32) (i : S4x8x512x1024.Idx) : EReal :=
  col (fun k => x (ix3 (i 0) ⟨(i 1).val * 1024 + (i 3).val, by have : (i 1).val < 8 := (i 1).isLt; have : (i 3).val < 1024 := (i 3).isLt; omega⟩ k))
    (fun k => w (ix3 0 k ⟨o + (i 2).val, by have : (i 2).val < 512 := (i 2).isLt; omega⟩))

/-- The eight forget columns, transposed. -/
def forget (x : FVec Ideal S4x8192x1024 .f32) (w : FVec Ideal S1x1024x3080 .f32) (i : S4x8x8192.Idx) : EReal :=
  col (fun k => x (ix3 (i 0) (i 2) k)) (fun k => w (ix3 0 k ⟨3072 + (i 1).val, by have : (i 1).val < 8 := (i 1).isLt; omega⟩))

theorem e0 (c : Dev nD) (t : Fin cfg0.N) (r k : Fin 1024) (ht : t.val < 32) : iblk m c 0 t (ix3 0 r k)
    = (m ((c : Thread nD τ).loc main_arg0) : FVec Ideal S4x8192x1024 .f32) (ix3 ⟨t.val / 8, by omega⟩ ⟨t.val % 8 * 1024 + r.val, by omega⟩ k) := by
  blk_point [iblk, V, idx t]

theorem e1a (c : Dev nD) (t : Fin cfg0.N) (k : Fin 1024) (d : Fin 512) : iblk m c 1 t (ix2 k ⟨0 + d.val, by omega⟩)
    = (m ((c : Thread nD τ).loc main_arg1) : FVec Ideal S1x1024x3080 .f32) (ix3 0 k ⟨0 + d.val, by omega⟩) := by
  blk_simp [iblk, idx t]
  rw [V6]
  pointwise
  blk_simp [idx t]
  dsimp only
  split_ifs <;> first | (exfalso; omega) | blk_ext [idx t]

theorem e1b (c : Dev nD) (t : Fin cfg0.N) (k : Fin 1024) (d : Fin 512) : iblk m c 1 t (ix2 k ⟨512 + d.val, by omega⟩)
    = (m ((c : Thread nD τ).loc main_arg1) : FVec Ideal S1x1024x3080 .f32) (ix3 0 k ⟨512 + d.val, by omega⟩) := by
  blk_simp [iblk, idx t]
  rw [V6]
  pointwise
  blk_simp [idx t]
  dsimp only
  split_ifs <;> first | (exfalso; omega) | blk_ext [idx t]

theorem e1c (c : Dev nD) (t : Fin cfg0.N) (k : Fin 1024) (d : Fin 512) : iblk m c 1 t (ix2 k ⟨1024 + d.val, by omega⟩)
    = (m ((c : Thread nD τ).loc main_arg1) : FVec Ideal S1x1024x3080 .f32) (ix3 0 k ⟨1536 + d.val, by omega⟩) := by
  blk_simp [iblk, idx t]
  rw [V6]
  pointwise
  blk_simp [idx t]
  dsimp only
  split_ifs <;> first | (exfalso; omega) | blk_ext [idx t]

theorem e1d (c : Dev nD) (t : Fin cfg0.N) (k : Fin 1024) (d : Fin 512) : iblk m c 1 t (ix2 k ⟨1536 + d.val, by omega⟩)
    = (m ((c : Thread nD τ).loc main_arg1) : FVec Ideal S1x1024x3080 .f32) (ix3 0 k ⟨2048 + d.val, by omega⟩) := by
  blk_simp [iblk, idx t]
  rw [V6]
  pointwise
  blk_simp [idx t]
  dsimp only
  split_ifs <;> first | (exfalso; omega) | blk_ext [idx t]

theorem e2a (c : Dev nD) (t : Fin cfg0.N) (k : Fin 1024) (d : Fin 512) : iblk m c 2 t (ix2 ⟨0 + d.val, by omega⟩ k)
    = (m ((c : Thread nD τ).loc main_arg1) : FVec Ideal S1x1024x3080 .f32) (ix3 0 k ⟨1024 + d.val, by omega⟩) := by
  blk_simp [iblk, idx t]
  rw [V12]
  pointwise
  blk_simp [idx t]
  dsimp only
  split_ifs <;> first | (exfalso; omega) | blk_ext [idx t]

theorem e2b (c : Dev nD) (t : Fin cfg0.N) (k : Fin 1024) (d : Fin 512) : iblk m c 2 t (ix2 ⟨512 + d.val, by omega⟩ k)
    = (m ((c : Thread nD τ).loc main_arg1) : FVec Ideal S1x1024x3080 .f32) (ix3 0 k ⟨2560 + d.val, by omega⟩) := by
  blk_simp [iblk, idx t]
  rw [V12]
  pointwise
  blk_simp [idx t]
  dsimp only
  split_ifs <;> first | (exfalso; omega) | blk_ext [idx t]

theorem e2c (c : Dev nD) (t : Fin cfg0.N) (k : Fin 1024) (d : Fin 8) : iblk m c 2 t (ix2 ⟨1024 + d.val, by omega⟩ k)
    = (m ((c : Thread nD τ).loc main_arg1) : FVec Ideal S1x1024x3080 .f32) (ix3 0 k ⟨3072 + d.val, by omega⟩) := by
  blk_simp [iblk, idx t]
  rw [V12]
  pointwise
  blk_simp [idx t]
  dsimp only
  split_ifs <;> first | (exfalso; omega) | blk_ext [idx t]

theorem bound : ∀ t : Fin cfg0.N, t.val < 32 := (by decide +kernel : ∀ t : Fin grid0.N, _)

theorem point3 (c : Dev nD) (t : Fin cfg0.N) (a : Fin 1) (r : Fin 1024) (d : Fin 512) :
    out0_3 (iblk m c 0 t) (iblk m c 1 t) (iblk m c 2 t) (ix3 a r d)
    = rows 0 (by omega) (m ((c : Thread nD τ).loc main_arg0)) (m ((c : Thread nD τ).loc main_arg1)) (((cfg0.win 3).blk t).view.emb (ix3 a r d)) * scale := by
  obtain rfl : a = 0 := Subsingleton.elim _ _
  have ht := bound t
  have h0 : ((cfg0.win 3).blk t).view.emb (ix3 0 r d) 0 = ((⟨t.val / 8, by omega⟩) : Fin 4) := by
    refine Fin.ext ?_
    blk_simp [idx t] <;> rfl
  have h1 : ((cfg0.win 3).blk t).view.emb (ix3 0 r d) 1 = ((⟨t.val % 8 * 1024 + r.val, by omega⟩) : Fin 8192) := by
    refine Fin.ext ?_
    blk_simp [idx t] <;> rfl
  have h2 : ((cfg0.win 3).blk t).view.emb (ix3 0 r d) 2 = ((d) : Fin 512) := by
    refine Fin.ext ?_
    blk_simp [idx t] <;> rfl
  rw [out3]
  simp only [rows, h0, h1, h2, e0 m c t _ _ ht, e1a]

theorem final3 (c : Dev nD) : (dats m 0 c).arrAt 3 cfg0.N = fun i => rows 0 (by omega) (m ((c : Thread nD τ).loc main_arg0)) (m ((c : Thread nD τ).loc main_arg1)) i * scale := by
  refine (dats m 0 c).arrAt_eq_of_covers 3 _ (by decide +kernel) fun t _ y => ?_
  blk_simp
  rw [after0_3, eq_ix3 y]
  exact point3 m c t _ _ _

theorem point4 (c : Dev nD) (t : Fin cfg0.N) (a : Fin 1) (r : Fin 1024) (d : Fin 512) :
    out0_4 (iblk m c 0 t) (iblk m c 1 t) (iblk m c 2 t) (ix3 a r d)
    = rows 512 (by omega) (m ((c : Thread nD τ).loc main_arg0)) (m ((c : Thread nD τ).loc main_arg1)) (((cfg0.win 4).blk t).view.emb (ix3 a r d)) := by
  obtain rfl : a = 0 := Subsingleton.elim _ _
  have ht := bound t
  have h0 : ((cfg0.win 4).blk t).view.emb (ix3 0 r d) 0 = ((⟨t.val / 8, by omega⟩) : Fin 4) := by
    refine Fin.ext ?_
    blk_simp [idx t] <;> rfl
  have h1 : ((cfg0.win 4).blk t).view.emb (ix3 0 r d) 1 = ((⟨t.val % 8 * 1024 + r.val, by omega⟩) : Fin 8192) := by
    refine Fin.ext ?_
    blk_simp [idx t] <;> rfl
  have h2 : ((cfg0.win 4).blk t).view.emb (ix3 0 r d) 2 = ((d) : Fin 512) := by
    refine Fin.ext ?_
    blk_simp [idx t] <;> rfl
  rw [out4]
  simp only [rows, h0, h1, h2, e0 m c t _ _ ht, e1b]

theorem final4 (c : Dev nD) : (dats m 0 c).arrAt 4 cfg0.N = fun i => rows 512 (by omega) (m ((c : Thread nD τ).loc main_arg0)) (m ((c : Thread nD τ).loc main_arg1)) i := by
  refine (dats m 0 c).arrAt_eq_of_covers 4 _ (by decide +kernel) fun t _ y => ?_
  blk_simp
  rw [after0_4, eq_ix3 y]
  exact point4 m c t _ _ _

theorem point5 (c : Dev nD) (t : Fin cfg0.N) (a : Fin 1) (r : Fin 1024) (d : Fin 512) :
    out0_5 (iblk m c 0 t) (iblk m c 1 t) (iblk m c 2 t) (ix3 a r d)
    = rows 1536 (by omega) (m ((c : Thread nD τ).loc main_arg0)) (m ((c : Thread nD τ).loc main_arg1)) (((cfg0.win 5).blk t).view.emb (ix3 a r d)) * scale := by
  obtain rfl : a = 0 := Subsingleton.elim _ _
  have ht := bound t
  have h0 : ((cfg0.win 5).blk t).view.emb (ix3 0 r d) 0 = ((⟨t.val / 8, by omega⟩) : Fin 4) := by
    refine Fin.ext ?_
    blk_simp [idx t] <;> rfl
  have h1 : ((cfg0.win 5).blk t).view.emb (ix3 0 r d) 1 = ((⟨t.val % 8 * 1024 + r.val, by omega⟩) : Fin 8192) := by
    refine Fin.ext ?_
    blk_simp [idx t] <;> rfl
  have h2 : ((cfg0.win 5).blk t).view.emb (ix3 0 r d) 2 = ((d) : Fin 512) := by
    refine Fin.ext ?_
    blk_simp [idx t] <;> rfl
  rw [out5]
  simp only [rows, h0, h1, h2, e0 m c t _ _ ht, e1c]

theorem final5 (c : Dev nD) : (dats m 0 c).arrAt 5 cfg0.N = fun i => rows 1536 (by omega) (m ((c : Thread nD τ).loc main_arg0)) (m ((c : Thread nD τ).loc main_arg1)) i * scale := by
  refine (dats m 0 c).arrAt_eq_of_covers 5 _ (by decide +kernel) fun t _ y => ?_
  blk_simp
  rw [after0_5, eq_ix3 y]
  exact point5 m c t _ _ _

theorem point6 (c : Dev nD) (t : Fin cfg0.N) (a : Fin 1) (r : Fin 1024) (d : Fin 512) :
    out0_6 (iblk m c 0 t) (iblk m c 1 t) (iblk m c 2 t) (ix3 a r d)
    = rows 2048 (by omega) (m ((c : Thread nD τ).loc main_arg0)) (m ((c : Thread nD τ).loc main_arg1)) (((cfg0.win 6).blk t).view.emb (ix3 a r d)) := by
  obtain rfl : a = 0 := Subsingleton.elim _ _
  have ht := bound t
  have h0 : ((cfg0.win 6).blk t).view.emb (ix3 0 r d) 0 = ((⟨t.val / 8, by omega⟩) : Fin 4) := by
    refine Fin.ext ?_
    blk_simp [idx t] <;> rfl
  have h1 : ((cfg0.win 6).blk t).view.emb (ix3 0 r d) 1 = ((⟨t.val % 8 * 1024 + r.val, by omega⟩) : Fin 8192) := by
    refine Fin.ext ?_
    blk_simp [idx t] <;> rfl
  have h2 : ((cfg0.win 6).blk t).view.emb (ix3 0 r d) 2 = ((d) : Fin 512) := by
    refine Fin.ext ?_
    blk_simp [idx t] <;> rfl
  rw [out6]
  simp only [rows, h0, h1, h2, e0 m c t _ _ ht, e1d]

theorem final6 (c : Dev nD) : (dats m 0 c).arrAt 6 cfg0.N = fun i => rows 2048 (by omega) (m ((c : Thread nD τ).loc main_arg0)) (m ((c : Thread nD τ).loc main_arg1)) i := by
  refine (dats m 0 c).arrAt_eq_of_covers 6 _ (by decide +kernel) fun t _ y => ?_
  blk_simp
  rw [after0_6, eq_ix3 y]
  exact point6 m c t _ _ _

theorem point7 (c : Dev nD) (t : Fin cfg0.N) (a b : Fin 1) (d : Fin 512) (r : Fin 1024) :
    out0_7 (iblk m c 0 t) (iblk m c 1 t) (iblk m c 2 t) (ix4 a b d r)
    = blocks 1024 (by omega) (m ((c : Thread nD τ).loc main_arg0)) (m ((c : Thread nD τ).loc main_arg1)) (((cfg0.win 7).blk t).view.emb (ix4 a b d r)) := by
  obtain rfl : a = 0 := Subsingleton.elim _ _
  obtain rfl : b = 0 := Subsingleton.elim _ _
  have ht := bound t
  have h0 : ((cfg0.win 7).blk t).view.emb (ix4 0 0 d r) 0 = ((⟨t.val / 8, by omega⟩) : Fin 4) := by
    refine Fin.ext ?_
    blk_simp [idx t] <;> rfl
  have h1 : ((cfg0.win 7).blk t).view.emb (ix4 0 0 d r) 1 = ((⟨t.val % 8, by omega⟩) : Fin 8) := by
    refine Fin.ext ?_
    blk_simp [idx t] <;> rfl
  have h2 : ((cfg0.win 7).blk t).view.emb (ix4 0 0 d r) 2 = ((d) : Fin 512) := by
    refine Fin.ext ?_
    blk_simp [idx t] <;> rfl
  have h3 : ((cfg0.win 7).blk t).view.emb (ix4 0 0 d r) 3 = ((r) : Fin 1024) := by
    refine Fin.ext ?_
    blk_simp [idx t] <;> rfl
  rw [out7]
  simp only [blocks, h0, h1, h2, h3, e0 m c t _ _ ht, e2a]

theorem final7 (c : Dev nD) : (dats m 0 c).arrAt 7 cfg0.N = fun i => blocks 1024 (by omega) (m ((c : Thread nD τ).loc main_arg0)) (m ((c : Thread nD τ).loc main_arg1)) i := by
  refine (dats m 0 c).arrAt_eq_of_covers 7 _ (by decide +kernel) fun t _ y => ?_
  blk_simp
  rw [after0_7, eq_ix4 y]
  exact point7 m c t _ _ _ _

theorem point8 (c : Dev nD) (t : Fin cfg0.N) (a b : Fin 1) (d : Fin 512) (r : Fin 1024) :
    out0_8 (iblk m c 0 t) (iblk m c 1 t) (iblk m c 2 t) (ix4 a b d r)
    = blocks 2560 (by omega) (m ((c : Thread nD τ).loc main_arg0)) (m ((c : Thread nD τ).loc main_arg1)) (((cfg0.win 8).blk t).view.emb (ix4 a b d r)) := by
  obtain rfl : a = 0 := Subsingleton.elim _ _
  obtain rfl : b = 0 := Subsingleton.elim _ _
  have ht := bound t
  have h0 : ((cfg0.win 8).blk t).view.emb (ix4 0 0 d r) 0 = ((⟨t.val / 8, by omega⟩) : Fin 4) := by
    refine Fin.ext ?_
    blk_simp [idx t] <;> rfl
  have h1 : ((cfg0.win 8).blk t).view.emb (ix4 0 0 d r) 1 = ((⟨t.val % 8, by omega⟩) : Fin 8) := by
    refine Fin.ext ?_
    blk_simp [idx t] <;> rfl
  have h2 : ((cfg0.win 8).blk t).view.emb (ix4 0 0 d r) 2 = ((d) : Fin 512) := by
    refine Fin.ext ?_
    blk_simp [idx t] <;> rfl
  have h3 : ((cfg0.win 8).blk t).view.emb (ix4 0 0 d r) 3 = ((r) : Fin 1024) := by
    refine Fin.ext ?_
    blk_simp [idx t] <;> rfl
  rw [out8]
  simp only [blocks, h0, h1, h2, h3, e0 m c t _ _ ht, e2b]

theorem final8 (c : Dev nD) : (dats m 0 c).arrAt 8 cfg0.N = fun i => blocks 2560 (by omega) (m ((c : Thread nD τ).loc main_arg0)) (m ((c : Thread nD τ).loc main_arg1)) i := by
  refine (dats m 0 c).arrAt_eq_of_covers 8 _ (by decide +kernel) fun t _ y => ?_
  blk_simp
  rw [after0_8, eq_ix4 y]
  exact point8 m c t _ _ _ _

theorem point9 (c : Dev nD) (t : Fin cfg0.N) (a : Fin 1) (d : Fin 8) (r : Fin 1024) :
    out0_9 (iblk m c 0 t) (iblk m c 1 t) (iblk m c 2 t) (ix3 a d r)
    = forget (m ((c : Thread nD τ).loc main_arg0)) (m ((c : Thread nD τ).loc main_arg1)) (((cfg0.win 9).blk t).view.emb (ix3 a d r)) := by
  obtain rfl : a = 0 := Subsingleton.elim _ _
  have ht := bound t
  have h0 : ((cfg0.win 9).blk t).view.emb (ix3 0 d r) 0 = ((⟨t.val / 8, by omega⟩) : Fin 4) := by
    refine Fin.ext ?_
    blk_simp [idx t] <;> rfl
  have h1 : ((cfg0.win 9).blk t).view.emb (ix3 0 d r) 1 = ((d) : Fin 8) := by
    refine Fin.ext ?_
    blk_simp [idx t] <;> rfl
  have h2 : ((cfg0.win 9).blk t).view.emb (ix3 0 d r) 2 = ((⟨t.val % 8 * 1024 + r.val, by omega⟩) : Fin 8192) := by
    refine Fin.ext ?_
    blk_simp [idx t] <;> rfl
  rw [out9]
  simp only [forget, h0, h1, h2, e0 m c t _ _ ht, e2c]

theorem final9 (c : Dev nD) : (dats m 0 c).arrAt 9 cfg0.N = fun i => forget (m ((c : Thread nD τ).loc main_arg0)) (m ((c : Thread nD τ).loc main_arg1)) i := by
  refine (dats m 0 c).arrAt_eq_of_covers 9 _ (by decide +kernel) fun t _ y => ?_
  blk_simp
  rw [after0_9, eq_ix3 y]
  exact point9 m c t _ _ _

end Cert.Kernel7Ideal.Proj
end
-- ==== Proof.Proj.Reference7.lean ====
/-
  The reference of the attention projection: each of its seven results is the same function of the arguments as the kernel's.
-/
module

public import proofs.«01_k».proof.Proof.Proj.Kernel7
public import proofs.«01_k».proof.Proof.Gen.Reference7Ideal.Run
public import proofs.«01_k».proof.Proof.Gen.Reference7Ideal.Read
public import Idealize.ShloMosaic.Lib.Pointwise

@[expose] public section
noncomputable section
namespace Cert.Reference7Ideal.Proj
open Idealize.ShloMosaic Cert.Reference7Ideal Cert.Reference7Ideal.Gen Cert.Reference7Ideal.Value Cert.Reference7Ideal.Read Cert.Proj
open Cert.Kernel7Ideal.Proj (rows blocks forget)

set_option maxRecDepth 16384
variable (x0 : FVec Ideal S4x8192x1024 .f32) (x1 : FVec Ideal S1x1024x3080 .f32)

theorem v5 : val_main_v5 (F := Ideal) x0 x1 = fun i => rows 0 (by omega) x0 x1 i * scale := by
  funext i
  rw [ValueIdx.eq_ix3 i]
  unfold val_main_v5 val_main_v4 val_main_v2 val_main_v1 val_main_v0 val_main_v3 val_main_cst rows col scale
  pointwise

theorem v7 : val_main_v7 (F := Ideal) x0 x1 = fun i => rows 512 (by omega) x0 x1 i := by
  funext i
  rw [ValueIdx.eq_ix3 i]
  unfold val_main_v7 val_main_v6 val_main_v1 val_main_v0 rows col
  pointwise

theorem v11 : val_main_v11 (F := Ideal) x0 x1 = fun i => rows 1536 (by omega) x0 x1 i * scale := by
  funext i
  rw [ValueIdx.eq_ix3 i]
  unfold val_main_v11 val_main_v10 val_main_v8 val_main_v1 val_main_v0 val_main_v9 val_main_cst_0 rows col scale
  pointwise

theorem v13 : val_main_v13 (F := Ideal) x0 x1 = fun i => rows 2048 (by omega) x0 x1 i := by
  funext i
  rw [ValueIdx.eq_ix3 i]
  unfold val_main_v13 val_main_v12 val_main_v1 val_main_v0 rows col
  pointwise

theorem v17 : val_main_v17 (F := Ideal) x0 x1 = fun i => blocks 1024 (by omega) x0 x1 i := by
  funext i
  rw [ValueIdx.eq_ix4 i]
  unfold val_main_v17 val_main_v16 val_main_v15 val_main_v14 val_main_v1 val_main_v0 blocks col
  pointwise

theorem v21 : val_main_v21 (F := Ideal) x0 x1 = fun i => blocks 2560 (by omega) x0 x1 i := by
  funext i
  rw [ValueIdx.eq_ix4 i]
  unfold val_main_v21 val_main_v20 val_main_v19 val_main_v18 val_main_v1 val_main_v0 blocks col
  pointwise

theorem v23 : val_main_v23 (F := Ideal) x0 x1 = fun i => forget x0 x1 i := by
  funext i
  rw [ValueIdx.eq_ix3 i]
  unfold val_main_v23 val_main_v22 val_main_v1 val_main_v0 forget col
  pointwise

end Cert.Reference7Ideal.Proj
end
-- ==== Proof.Proj.Claim7.lean ====
/-
  The attention projection: the kernel's seven result arrays and the reference's are the same functions of the arguments, so
  the two programs agree at the ideal instance.
-/
module

public import proofs.«01_k».proof.Defs
public import proofs.«01_k».proof.Proof.Proj.Kernel7
public import proofs.«01_k».proof.Proof.Proj.Reference7
public import Idealize.ShloMosaic.Lib.Quiescent

@[expose] public section
noncomputable section
namespace Cert.Proj
open Idealize.ShloMosaic Idealize.ShloMosaic.TcCoe Idealize.SL.Sem

set_option maxRecDepth 16384

theorem algebraic7 : Cert.algebraic_Kernel7Ideal_Reference7Ideal := by
  intro m g m' g' _ hagree
  refine ⟨fun c => Cert.Reference7Ideal.Read.val_main_v5 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v7 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v11 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v13 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v17 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v21 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), fun c => Cert.Reference7Ideal.Read.val_main_v23 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)), ?_, Cert.Reference7Ideal.Value.run m' g'⟩
  refine (θ_run _ _ _).mono (fun r h c => ?_) (Cert.Kernel7Ideal.Value.run_blocks m g)
  obtain ⟨a0, a1⟩ := hagree c
  obtain ⟨h0, h1, h2, h3, h4, h5, h6, hr⟩ := h c
  refine ⟨h0.trans ?_, h1.trans ?_, h2.trans ?_, h3.trans ?_, h4.trans ?_, h5.trans ?_, h6.trans ?_, hr⟩ <;> beta_reduce
  · rw [a0, a1, Cert.Kernel7Ideal.Proj.final3, Cert.Reference7Ideal.Proj.v5]
  · rw [a0, a1, Cert.Kernel7Ideal.Proj.final4, Cert.Reference7Ideal.Proj.v7]
  · rw [a0, a1, Cert.Kernel7Ideal.Proj.final5, Cert.Reference7Ideal.Proj.v11]
  · rw [a0, a1, Cert.Kernel7Ideal.Proj.final6, Cert.Reference7Ideal.Proj.v13]
  · rw [a0, a1, Cert.Kernel7Ideal.Proj.final7, Cert.Reference7Ideal.Proj.v17]
  · rw [a0, a1, Cert.Kernel7Ideal.Proj.final8, Cert.Reference7Ideal.Proj.v21]
  · rw [a0, a1, Cert.Kernel7Ideal.Proj.final9, Cert.Reference7Ideal.Proj.v23]

/-- The reference has no semaphore cells, so its counters end at zero. -/
theorem refFrame7 : Cert.quiescent_Reference7Ideal := fun m g _ =>
  (θ_run _ _ _).mono (fun r h => ⟨fun c => (h c).2.2.2.2.2.2.2, sem_eq_zero_of_no_sems rfl r.2⟩) (Cert.Reference7Ideal.Value.run m g)

end Cert.Proj
end
-- ==== Proof.Fox.Online.lean ====
module
public import Idealize.ShloMosaic.Lib.Pointwise

@[expose] public section

/-! Attention taken block by block, over the extended reals.

A row of scores `S` (none of them `⊤`, a masked one `⊥`) weights the values `V` by `2 ^ (S - μ)` for some real shift `μ`. Blocks of keys
are absorbed one after another; each time the shift may rise, and what was summed before is scaled to the new one. The quotient of the two
sums does not depend on the shift. -/

namespace Cert.Fox

open Idealize.ShloMosaic
open Finset

theorem exp2_coe (r : ℝ) : Ideal.exp2 (r : EReal) = (Real.rpow 2 r : ℝ) := rfl
theorem exp2_bot : Ideal.exp2 ⊥ = 0 := rfl

theorem exp2_nonneg (x : EReal) : 0 ≤ Ideal.exp2 x := by
  induction x with
  | bot => exact le_rfl
  | top => exact le_top
  | coe r => exact EReal.coe_nonneg.mpr (Real.rpow_nonneg (by norm_num) r)

theorem coe_or_bot {x : EReal} (h : x ≠ ⊤) : x = ⊥ ∨ ∃ r : ℝ, x = r := by
  induction x with
  | bot => exact Or.inl rfl
  | top => exact absurd rfl h
  | coe r => exact Or.inr ⟨r, rfl⟩

/-- Raising the shift from `μ` to `μ'` scales every weight by `2 ^ (μ - μ')`. -/
theorem exp2_shift {s : EReal} (hs : s ≠ ⊤) (μ μ' : ℝ) :
    Ideal.exp2 ((μ : EReal) - μ') * Ideal.exp2 (s - μ) = Ideal.exp2 (s - μ') := by
  rcases coe_or_bot hs with rfl | ⟨r, rfl⟩
  · rw [EReal.bot_sub, EReal.bot_sub, exp2_bot, mul_zero]
  · rw [← EReal.coe_sub, ← EReal.coe_sub, ← EReal.coe_sub, exp2_coe, exp2_coe, exp2_coe, ← EReal.coe_mul]
    congr 1
    show (2 : ℝ) ^ (μ - μ') * (2 : ℝ) ^ (r - μ) = (2 : ℝ) ^ (r - μ')
    rw [← Real.rpow_add (by norm_num)]
    congr 1; ring

/-- A real factor that is not negative goes into a sum. -/
theorem mul_sum_real {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [sum_insert ha, sum_insert ha, EReal.left_distrib_of_nonneg_of_ne_top h0 ht, ih]

theorem exp2_sub_ne_top (μ μ' : ℝ) : Ideal.exp2 ((μ : EReal) - μ') ≠ ⊤ := by
  rw [← EReal.coe_sub, exp2_coe]; exact EReal.coe_ne_top _

/-- One block of scores, as issued: `len` rows from key `base`, and for every query a bound for the shift that is real where the block's
first key is not masked. -/
def Iss (S : Fin 256 → ℕ → EReal) (base len : ℕ) (s : Fin len → Fin 256 → EReal) (mx : Fin 256 → EReal) : Prop :=
  (∀ r t, s r t = S t (base + r.val)) ∧ ∀ t, mx t ≠ ⊤ ∧ (S t base ≠ ⊥ → mx t ≠ ⊥)

/-- What has been absorbed of keys `lo` to `hi`: for every query a real shift, and the weighted sums at that shift. -/
def Abs (S : Fin 256 → ℕ → EReal) (V : Fin 80 → ℕ → EReal) (lo hi : ℕ) (m : Fin 256 → EReal) (a : Fin 80 → Fin 256 → EReal) : Prop :=
  ∀ t, ∃ μ : ℝ, m t = μ ∧ ∀ d, a d t = ∑ pos ∈ Ico lo hi, V d pos * Ideal.exp2 (S t pos - μ)

theorem sum_block (f : ℕ → EReal) (base len : ℕ) : ∑ r : Fin len, f (base + r.val) = ∑ pos ∈ Ico base (base + len), f pos := by
  rw [Finset.sum_Ico_eq_sum_range, Nat.add_sub_cancel_left, ← Fin.sum_univ_eq_sum_range (fun r => f (base + r))]

/-- Absorbing the block before what has been absorbed. -/
theorem Abs.step {S : Fin 256 → ℕ → EReal} {V : Fin 80 → ℕ → EReal} {lo hi base len : ℕ} {m mx : Fin 256 → EReal} {a : Fin 80 → Fin 256 → EReal}
    {s : Fin len → Fin 256 → EReal} (hS : ∀ t pos, S t pos ≠ ⊤) (hA : Abs S V lo hi m a) (hI : Iss S base len s mx) (hlo : base + len = lo)
    (hhi : lo ≤ hi) {v : Fin 80 → Fin len → EReal} (hv : ∀ d r, v d r = V d (base + r.val)) :
    Abs S V base hi (fun t => max (m t) (mx t))
      (fun d t => Ideal.exp2 (m t - max (m t) (mx t)) * a d t + ∑ r, v d r * Ideal.exp2 (s r t - max (m t) (mx t))) := by
  intro t
  obtain ⟨μ, hm, ha⟩ := hA t
  obtain ⟨hs, hmx⟩ := hI
  have hx : ∃ μ' : ℝ, max (m t) (mx t) = μ' := by
    rcases coe_or_bot (hmx t).1 with h | ⟨r, h⟩
    · exact ⟨μ, by rw [h, hm]; exact max_bot_right _⟩
    · exact ⟨max μ r, by rw [h, hm]; exact (EReal.coe_strictMono.monotone.map_max (a := μ) (b := r)).symm⟩
  obtain ⟨μ', hμ'⟩ := hx
  refine ⟨μ', hμ', fun d => ?_⟩
  show Ideal.exp2 (m t - max (m t) (mx t)) * a d t + ∑ r, v d r * Ideal.exp2 (s r t - max (m t) (mx t)) = _
  rw [hμ', hm, ha d, mul_sum_real _ _ (exp2_nonneg _) (exp2_sub_ne_top _ _)]
  rw [sum_congr rfl (fun pos _ => show Ideal.exp2 ((μ : EReal) - μ') * (V d pos * Ideal.exp2 (S t pos - μ)) = V d pos * Ideal.exp2 (S t pos - μ') by
    rw [mul_left_comm, exp2_shift (hS t pos)])]
  rw [sum_congr (s₁ := (univ : Finset (Fin len))) rfl (fun r _ => by rw [hv d r, hs r t]),
    sum_block (fun pos => V d pos * Ideal.exp2 (S t pos - μ')) base len, hlo, add_comm]
  exact sum_Ico_consecutive _ (by omega) hhi

/-- Absorbing the first block, into nothing: the shift was `⊥`, the sums were nought. Keys past the block, up to `hi`, are masked. -/
theorem Abs.first {S : Fin 256 → ℕ → EReal} {V : Fin 80 → ℕ → EReal} {hi base len : ℕ} {mx : Fin 256 → EReal}
    {s : Fin len → Fin 256 → EReal} (hI : Iss S base len s mx) (hb : ∀ t, S t base ≠ ⊥) (hm : ∀ t pos, base + len ≤ pos → S t pos = ⊥)
    (hhi : base + len ≤ hi) {v : Fin 80 → Fin len → EReal} (hv : ∀ d r, v d r = V d (base + r.val)) :
    Abs S V base hi (fun t => max ⊥ (mx t))
      (fun d t => Ideal.exp2 (⊥ - max ⊥ (mx t)) * 0 + ∑ r, v d r * Ideal.exp2 (s r t - max ⊥ (mx t))) := by
  intro t
  obtain ⟨hs, hmx⟩ := hI
  rcases coe_or_bot (hmx t).1 with h | ⟨μ, h⟩
  · exact absurd h ((hmx t).2 (hb t))
  have hμ : max ⊥ (mx t) = (μ : EReal) := by rw [h]; exact max_bot_left _
  refine ⟨μ, hμ, fun d => ?_⟩
  show Ideal.exp2 (⊥ - max ⊥ (mx t)) * 0 + ∑ r, v d r * Ideal.exp2 (s r t - max ⊥ (mx t)) = _
  rw [hμ, mul_zero, zero_add, sum_congr (s₁ := (univ : Finset (Fin len))) rfl (fun r _ => by rw [hv d r, hs r t]),
    sum_block (fun pos => V d pos * Ideal.exp2 (S t pos - μ)) base len, ← sum_Ico_consecutive _ (show base ≤ base + len by omega) hhi]
  rw [sum_eq_zero (s := Ico (base + len) hi) (fun pos hp => by
    rw [hm t pos (mem_Ico.mp hp).1, EReal.bot_sub, exp2_bot, mul_zero]), add_zero]

theorem exp2_real {s : EReal} (hs : s ≠ ⊤) (μ : ℝ) : ∃ r : ℝ, 0 ≤ r ∧ Ideal.exp2 (s - μ) = r ∧ (s ≠ ⊥ → 0 < r) := by
  rcases coe_or_bot hs with rfl | ⟨x, rfl⟩
  · exact ⟨0, le_rfl, by rw [EReal.bot_sub]; rfl, fun h => absurd rfl h⟩
  · exact ⟨Real.rpow 2 (x - μ), Real.rpow_nonneg (by norm_num) _, by rw [← EReal.coe_sub, exp2_coe], fun _ => Real.rpow_pos_of_pos (by norm_num) _⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem div_pos {x : EReal} {D : ℝ} (hD : 0 < D) : Ideal.div x (D : EReal) = ((D⁻¹ : ℝ) : EReal) * x := by
  have h : (D : EReal) ≠ 0 := by exact_mod_cast hD.ne'
  rw [Ideal.div, if_neg h, mul_comm, EReal.coe_inv]

theorem pow_two {s : EReal} (hs : s ≠ ⊤) (C M : ℝ) : Ideal.pow ((2 : ℝ) : EReal) (s + C - M) = Ideal.exp2 (s - ((M - C : ℝ) : EReal)) := by
  rcases coe_or_bot hs with rfl | ⟨x, rfl⟩
  · rw [EReal.bot_add, EReal.bot_sub, EReal.bot_sub]
    show (if (2 : ℝ) < 0 then (⊥ : EReal) else if 1 < (2 : ℝ) then 0 else _) = 0
    rw [if_neg (by norm_num), if_pos (by norm_num)]
  · rw [← EReal.coe_add, ← EReal.coe_sub, ← EReal.coe_sub, exp2_coe]
    show ((Real.rpow 2 (x + C - M) : ℝ) : EReal) = _
    congr 2; ring

/-- The quotient of the absorbed sums is the row's softmax in base two, whatever the shift: scores moved by a common real `C`, weights shifted
by any real `M` and divided by their sum before the values are summed. -/
theorem out_eq {hi N : ℕ} (hN : hi ≤ N) (S : ℕ → EReal) (hS : ∀ pos, S pos ≠ ⊤) (h0 : S 0 ≠ ⊥) (hpos : 0 < hi) (hm : ∀ pos, hi ≤ pos → S pos = ⊥)
    (μ M C : ℝ) (v : ℕ → EReal) :
    Ideal.div (∑ pos ∈ Ico 0 hi, v pos * Ideal.exp2 (S pos - μ)) (∑ pos ∈ Ico 0 hi, 1 * Ideal.exp2 (S pos - μ))
      = ∑ s : Fin N, Ideal.div (Ideal.pow ((2 : ℝ) : EReal) (S s.val + C - M)) (∑ s' : Fin N, Ideal.pow ((2 : ℝ) : EReal) (S s'.val + C - M)) * v s.val := by
  choose w hw0 hw hwp using fun pos => exp2_real (hS pos) μ
  have hz : ∀ pos, hi ≤ pos → w pos = 0 := fun pos hp => by
    have := hw pos
    rw [hm pos hp, EReal.bot_sub, exp2_bot] at this
    exact_mod_cast this.symm
  set κ : ℝ := Real.rpow 2 (μ - (M - C)) with hκ
  have hκp : 0 < κ := Real.rpow_pos_of_pos (by norm_num) _
  have hp : ∀ pos, Ideal.pow ((2 : ℝ) : EReal) (S pos + C - M) = ((κ * w pos : ℝ) : EReal) := fun pos => by
    rw [pow_two (hS pos), ← exp2_shift (hS pos) μ, hw, ← EReal.coe_sub, exp2_coe, ← EReal.coe_mul]
  set D : ℝ := ∑ pos ∈ Ico 0 hi, w pos with hDd
  have hD : 0 < D := sum_pos' (fun pos _ => hw0 pos) ⟨0, mem_Ico.mpr ⟨le_rfl, hpos⟩, hwp 0 h0⟩
  have hsum : ∀ f : ℕ → EReal, (∀ pos, hi ≤ pos → f pos = 0) → ∑ s : Fin N, f s.val = ∑ pos ∈ Ico 0 hi, f pos := fun f hf => by
    rw [Fin.sum_univ_eq_sum_range f N, ← Nat.Ico_zero_eq_range, ← sum_Ico_consecutive f (Nat.zero_le hi) hN,
      sum_eq_zero (s := Ico hi N) (fun pos h => hf pos (mem_Ico.mp h).1), add_zero]
  have hP : (∑ s' : Fin N, Ideal.pow ((2 : ℝ) : EReal) (S s'.val + C - M)) = ((κ * D : ℝ) : EReal) := by
    rw [hsum (fun pos => Ideal.pow ((2 : ℝ) : EReal) (S pos + C - M)) (fun pos h => by rw [hp, hz pos h, mul_zero]; rfl),
      sum_congr rfl (fun pos _ => hp pos), ← coe_sum, hDd, mul_sum]
  have hDs : (∑ pos ∈ Ico 0 hi, 1 * Ideal.exp2 (S pos - μ)) = (D : EReal) := by
    rw [hDd, coe_sum]; exact sum_congr rfl fun pos _ => by rw [one_mul, hw]
  rw [hP, hDs, div_pos hD, mul_sum_real _ _ (EReal.coe_nonneg.mpr (inv_nonneg.mpr hD.le)) (EReal.coe_ne_top _)]
  rw [hsum (fun pos => Ideal.div (Ideal.pow ((2 : ℝ) : EReal) (S pos + C - M)) ((κ * D : ℝ) : EReal) * v pos) (fun pos h => by
    rw [hp, hz pos h, mul_zero, div_pos (mul_pos hκp hD), EReal.coe_zero, mul_zero, zero_mul])]
  refine sum_congr rfl fun pos _ => ?_
  rw [hp, hw, div_pos (mul_pos hκp hD), ← EReal.coe_mul, mul_comm (v pos), ← mul_assoc, ← EReal.coe_mul]
  congr 2
  field_simp

end Cert.Fox
-- ==== Proof.Fox.Vec.lean ====
module
public import proofs.«01_k».proof.Proof.Fox.Online
public import proofs.«01_k».proof.Proof.Gen.KernelIdeal.Skeleton
public import Idealize.ShloMosaic.Lib.Pipeline.ValueKit
public import Idealize.ShloMosaic.Lib.Pipeline.ReadBack

@[expose] public section

/-! The FoX attention kernel's vector steps over the extended reals, read at an index: the scores of one block of keys against one tile of
queries, the maximum of a block, the absorption of a block into the running sums, and the quotient at the end. -/

set_option maxRecDepth 16384
noncomputable section
namespace Cert.KernelIdeal.Fox
open Idealize.ShloMosaic Cert.KernelIdeal Cert.KernelIdeal.Gen Cert.Fox

/-- A load from a buffer of eight streams, read where it lies. -/
theorem rdAt3 {sig : RefSig} {κ : Kind} {sp : Space} {e : EltTy} {Val : EltTy → Type} {N A A' : ℕ} (v : View sig κ sp ⟨3, ![N, A, 256]⟩ e)
    (f : v.ty.Contents Val) (n o : ℕ) (hn : n < N) {inb} (a : Fin A') (t : Fin 256) (ha : o + a.val < A) :
    View.readAt Val v (Rect.unit (s := ⟨3, ![N, A, 256]⟩) ![n, o, 0] (⟨3, ![1, A', 256]⟩ : Shape).size inb).toLoadRect f (ix3 0 a t) = v.read Val f (ix3 ⟨n, hn⟩ ⟨o + a.val, ha⟩ t) := by
  refine congrArg (v.read Val f) (funext fun b => Fin.ext ?_)
  match b with
  | ⟨0, _⟩ => show n + 1 * 0 = n; omega
  | ⟨1, _⟩ => show o + 1 * a.val = o + a.val; omega
  | ⟨2, _⟩ => show 0 + 1 * t.val = t.val; omega

theorem rdAt3' {sig : RefSig} {κ : Kind} {sp : Space} {e : EltTy} {Val : EltTy → Type} {N A A' : ℕ} (v : View sig κ sp ⟨3, ![N, A, 256]⟩ e)
    (f : v.ty.Contents Val) (n : ℕ) (hn : n < N) {inb} (hA : A' ≤ A) (a : Fin A') (t : Fin 256) :
    View.readAt Val v (Rect.unit (s := ⟨3, ![N, A, 256]⟩) ![n, 0, 0] (⟨3, ![1, A', 256]⟩ : Shape).size inb).toLoadRect f (ix3 0 a t) = v.read Val f (ix3 ⟨n, hn⟩ ⟨a.val, a.isLt.trans_le hA⟩ t) :=
  (rdAt3 v f n 0 hn a t (by have := a.isLt; omega)).trans (congrArg (fun b => v.read Val f (ix3 ⟨n, hn⟩ b t)) (Fin.ext (Nat.zero_add _)))

/-- What a read gives after a list of writes: the newest write, where it holds the place. -/
theorem wr_hit {sig : RefSig} {κ : Kind} {sp : Space} {e : EltTy} {Val : EltTy → Type} {N A A' : ℕ} (v : View sig κ sp ⟨3, ![N, A, 256]⟩ e)
    (f : v.ty.Contents Val) (n : ℕ) (hn : n < N) {inb} (w : (⟨3, ![1, A', 256]⟩ : Shape).Idx → Val e) (L) (a : Fin A) (t : Fin 256) (ha : a.val < A') :
    v.read Val (v.writes Val f (⟨Rect.unit (s := ⟨3, ![N, A, 256]⟩) ![n, 0, 0] (⟨3, ![1, A', 256]⟩ : Shape).size inb, w⟩ :: L)) (ix3 ⟨n, hn⟩ a t) = w (ix3 0 ⟨a.val, ha⟩ t) := by
  refine View.read_writes_cons_hit v f (Rect.unit (s := ⟨3, ![N, A, 256]⟩) ![n, 0, 0] (⟨3, ![1, A', 256]⟩ : Shape).size inb) w L (ix3 0 ⟨a.val, ha⟩ t) _ (funext fun b => Fin.ext ?_)
  match b with
  | ⟨0, _⟩ => show n + 1 * 0 = n; omega
  | ⟨1, _⟩ => show 0 + 1 * a.val = a.val; omega
  | ⟨2, _⟩ => show 0 + 1 * t.val = t.val; omega

theorem wr_miss {sig : RefSig} {κ : Kind} {sp : Space} {e : EltTy} {Val : EltTy → Type} {N A A' : ℕ} (v : View sig κ sp ⟨3, ![N, A, 256]⟩ e)
    (f : v.ty.Contents Val) (n : Fin N) (n' : ℕ) (hne : n.val ≠ n') {inb} (w : (⟨3, ![1, A', 256]⟩ : Shape).Idx → Val e) (L) (a : Fin A) (t : Fin 256) :
    v.read Val (v.writes Val f (⟨Rect.unit (s := ⟨3, ![N, A, 256]⟩) ![n', 0, 0] (⟨3, ![1, A', 256]⟩ : Shape).size inb, w⟩ :: L)) (ix3 n a t) = v.read Val (v.writes Val f L) (ix3 n a t) :=
  View.read_writes_cons_miss_of_axis v f _ L (ix3 n a t : (⟨3, ![N, A, 256]⟩ : Shape).Idx) 0 n' 1 rfl rfl rfl (by show n.val < n' ∨ n' + 1 ≤ n.val; omega)

/-- What a read of the canonical contents gives: the same. -/
theorem cn_hit {e : EltTy} {Val : EltTy → Type} [∀ e, Nonempty (Val e)] {N A A' : ℕ}
    (n : ℕ) (hn : n < N) {inb} (w : (⟨3, ![1, A', 256]⟩ : Shape).Idx → Val e) (L : List (View.Piece Val ⟨3, ![N, A, 256]⟩ e)) (a : Fin A) (t : Fin 256) (ha : a.val < A') :
    View.canon (⟨Rect.unit (s := ⟨3, ![N, A, 256]⟩) ![n, 0, 0] (⟨3, ![1, A', 256]⟩ : Shape).size inb, w⟩ :: L) (ix3 ⟨n, hn⟩ a t) = w (ix3 0 ⟨a.val, ha⟩ t) := by
  have h : (Rect.unit (s := ⟨3, ![N, A, 256]⟩) ![n, 0, 0] (⟨3, ![1, A', 256]⟩ : Shape).size inb).emb (ix3 0 ⟨a.val, ha⟩ t) = ix3 ⟨n, hn⟩ a t := by
    refine funext fun b => Fin.ext ?_
    match b with
    | ⟨0, _⟩ => show n + 1 * 0 = n; omega
    | ⟨1, _⟩ => show 0 + 1 * a.val = a.val; omega
    | ⟨2, _⟩ => show 0 + 1 * t.val = t.val; omega
  rw [← h]
  exact View.canon_cons_emb (Rect.unit (s := ⟨3, ![N, A, 256]⟩) ![n, 0, 0] (⟨3, ![1, A', 256]⟩ : Shape).size inb) w L _

theorem cn_miss {e : EltTy} {Val : EltTy → Type} [∀ e, Nonempty (Val e)] {N A A' : ℕ}
    (n : Fin N) (n' : ℕ) (hne : n.val ≠ n') {inb} (w : (⟨3, ![1, A', 256]⟩ : Shape).Idx → Val e) (L : List (View.Piece Val ⟨3, ![N, A, 256]⟩ e)) (a : Fin A) (t : Fin 256) :
    View.canon (⟨Rect.unit (s := ⟨3, ![N, A, 256]⟩) ![n', 0, 0] (⟨3, ![1, A', 256]⟩ : Shape).size inb, w⟩ :: L) (ix3 n a t) = View.canon L (ix3 n a t) :=
  View.canon_cons_of_not_mem _ L (Rect.not_mem_set_of_axis _ (ix3 n a t : (⟨3, ![N, A, 256]⟩ : Shape).Idx) 0 n' 1 rfl rfl rfl (by show n.val < n' ∨ n' + 1 ≤ n.val; omega))

theorem cov3 {sig : RefSig} {κ : Kind} {sp : Space} {e : EltTy} {Val : EltTy → Type} [∀ e, Nonempty (Val e)] {N A A' : ℕ} (v : View sig κ sp ⟨3, ![N, A, 256]⟩ e)
    (L : List (View.Piece Val ⟨3, ![N, A, 256]⟩ e)) (n o : ℕ) (hn : n < N) {inb} (a : Fin A') (t : Fin 256) (ha : o + a.val < A) :
    v.readCov L (Rect.unit (s := ⟨3, ![N, A, 256]⟩) ![n, o, 0] (⟨3, ![1, A', 256]⟩ : Shape).size inb).toLoadRect (ix3 0 a t) = View.canon L (ix3 ⟨n, hn⟩ ⟨o + a.val, ha⟩ t) := by
  rw [View.readCov_eq_canon']
  refine congrArg (View.canon L) (funext fun b => Fin.ext ?_)
  match b with
  | ⟨0, _⟩ => show n + 1 * 0 = n; omega
  | ⟨1, _⟩ => show o + 1 * a.val = o + a.val; omega
  | ⟨2, _⟩ => show 0 + 1 * t.val = t.val; omega

theorem cov3' {sig : RefSig} {κ : Kind} {sp : Space} {e : EltTy} {Val : EltTy → Type} [∀ e, Nonempty (Val e)] {N A A' : ℕ} (v : View sig κ sp ⟨3, ![N, A, 256]⟩ e)
    (L : List (View.Piece Val ⟨3, ![N, A, 256]⟩ e)) (n : ℕ) (hn : n < N) {inb} (hA : A' ≤ A) (a : Fin A') (t : Fin 256) :
    v.readCov L (Rect.unit (s := ⟨3, ![N, A, 256]⟩) ![n, 0, 0] (⟨3, ![1, A', 256]⟩ : Shape).size inb).toLoadRect (ix3 0 a t) = View.canon L (ix3 ⟨n, hn⟩ ⟨a.val, a.isLt.trans_le hA⟩ t) :=
  (cov3 v L n 0 hn a t (by have := a.isLt; omega)).trans (congrArg (fun b => View.canon L (ix3 ⟨n, hn⟩ b t)) (Fin.ext (Nat.zero_add _)))

/-! ## The absorption of a block -/

def mNew (m mx : FVec Ideal S1x1x256 .f32) : FVec Ideal S1x256 .f32 :=
  maximumf (shapeCast S1x256 m shapeCasts_S1x1x256_S1x256) (shapeCast S1x256 mx shapeCasts_S1x1x256_S1x256)
def mOut (m mx : FVec Ideal S1x1x256 .f32) : FVec Ideal S1x1x256 .f32 := shapeCast S1x1x256 (mNew m mx) shapeCasts_S1x256_S1x1x256

theorem mOut_apply (m mx : FVec Ideal S1x1x256 .f32) (t : Fin 256) : mOut m mx (ix3 0 0 t) = max (m (ix3 0 0 t)) (mx (ix3 0 0 t)) := by
  unfold mOut mNew
  pointwise

def aOut256 (m mx : FVec Ideal S1x1x256 .f32) (a : FVec Ideal S1x80x256 .f32) (s : FVec Ideal S1x256x256 .f32) (vl : FVec Ideal S1x1x64x256 .bf16) (o : FVec Ideal S16x256 .bf16) :
    FVec Ideal S1x80x256 .f32 :=
  shapeCast S1x80x256
    (addf (mulf (broadcastTo S80x256 (exp2 (subf (shapeCast S1x256 m shapeCasts_S1x1x256_S1x256) (mNew m mx))) broadcasts_S1x256_S80x256)
        (shapeCast S80x256 a shapeCasts_S1x80x256_S80x256))
      (matmul dot_S80x256_S256x256_S80x256_1_0_0_1_n_n none
        (concatenate S80x256 0 [⟨S64x256, shapeCast S64x256 vl shapeCasts_S1x1x64x256_S64x256⟩, ⟨S16x256, o⟩] concatenates_S64x256_S16x256_S80x256_d0)
        (truncf .bf16 (exp2 (subf (shapeCast S256x256 s shapeCasts_S1x256x256_S256x256) (broadcastTo S256x256 (mNew m mx) broadcasts_S1x256_S256x256))) bitsLt_bf16_f32)
        (constant S80x256 .f32 0x00000000#32))) shapeCasts_S80x256_S1x80x256

theorem aOut256_apply (m mx : FVec Ideal S1x1x256 .f32) (a : FVec Ideal S1x80x256 .f32) (s : FVec Ideal S1x256x256 .f32) (vl : FVec Ideal S1x1x64x256 .bf16) (o : FVec Ideal S16x256 .bf16)
    (d : Fin 80) (t : Fin 256) :
    aOut256 m mx a s vl o (ix3 0 d t) = Ideal.exp2 (m (ix3 0 0 t) - max (m (ix3 0 0 t)) (mx (ix3 0 0 t))) * a (ix3 0 d t)
      + ∑ r : Fin 256, (if h : d.val < 64 then vl (ix4 0 0 ⟨d.val, h⟩ r) else o (ix2 ⟨d.val - 64, by omega⟩ r))
          * Ideal.exp2 (s (ix3 0 r t) - max (m (ix3 0 0 t)) (mx (ix3 0 0 t))) := by
  unfold aOut256 mNew
  pointwise
  rfl

theorem absorb256 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x256x256 .f32} {vl : FVec Ideal S1x1x64x256 .bf16} {o : FVec Ideal S16x256 .bf16}
    {m mx : Fin 256 → EReal} {a : Fin 80 → Fin 256 → EReal} {s : Fin 256 → Fin 256 → EReal}
    (habs : Abs S V lo hi m a) (hiss : Iss S base 256 s mx) (hlo : base + 256 = lo) (hhi : lo ≤ hi)
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut256 M MX A X vl o (ix3 0 d t)) := by
  have h := habs.step hS hiss hlo hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut256_apply, hM, hMX, hA, hX] using h

theorem first256 {S : Fin 256 → ℕ → EReal} {V : Fin 80 → ℕ → EReal} {hi base : ℕ}
    {M MX : FVec Ideal S1x1x256 .f32} {A : FVec Ideal S1x80x256 .f32} {X : FVec Ideal S1x256x256 .f32} {vl : FVec Ideal S1x1x64x256 .bf16} {o : FVec Ideal S16x256 .bf16}
    {mx : Fin 256 → EReal} {s : Fin 256 → Fin 256 → EReal}
    (hiss : Iss S base 256 s mx) (hb : ∀ t, S t base ≠ ⊥) (hm : ∀ t pos, base + 256 ≤ pos → S t pos = ⊥) (hhi : base + 256 ≤ hi)
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut256 M MX A X vl o (ix3 0 d t)) := by
  have h := Abs.first (V := V) hiss hb hm hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut256_apply, hM, hMX, hA, hX] using h

def aOut512 (m mx : FVec Ideal S1x1x256 .f32) (a : FVec Ideal S1x80x256 .f32) (s : FVec Ideal S1x512x256 .f32) (vl : FVec Ideal S1x1x64x512 .bf16) (o : FVec Ideal S16x512 .bf16) :
    FVec Ideal S1x80x256 .f32 :=
  shapeCast S1x80x256
    (addf (mulf (broadcastTo S80x256 (exp2 (subf (shapeCast S1x256 m shapeCasts_S1x1x256_S1x256) (mNew m mx))) broadcasts_S1x256_S80x256)
        (shapeCast S80x256 a shapeCasts_S1x80x256_S80x256))
      (matmul dot_S80x512_S512x256_S80x256_1_0_0_1_n_n none
        (concatenate S80x512 0 [⟨S64x512, shapeCast S64x512 vl shapeCasts_S1x1x64x512_S64x512⟩, ⟨S16x512, o⟩] concatenates_S64x512_S16x512_S80x512_d0)
        (truncf .bf16 (exp2 (subf (shapeCast S512x256 s shapeCasts_S1x512x256_S512x256) (broadcastTo S512x256 (mNew m mx) broadcasts_S1x256_S512x256))) bitsLt_bf16_f32)
        (constant S80x256 .f32 0x00000000#32))) shapeCasts_S80x256_S1x80x256

theorem aOut512_apply (m mx : FVec Ideal S1x1x256 .f32) (a : FVec Ideal S1x80x256 .f32) (s : FVec Ideal S1x512x256 .f32) (vl : FVec Ideal S1x1x64x512 .bf16) (o : FVec Ideal S16x512 .bf16)
    (d : Fin 80) (t : Fin 256) :
    aOut512 m mx a s vl o (ix3 0 d t) = Ideal.exp2 (m (ix3 0 0 t) - max (m (ix3 0 0 t)) (mx (ix3 0 0 t))) * a (ix3 0 d t)
      + ∑ r : Fin 512, (if h : d.val < 64 then vl (ix4 0 0 ⟨d.val, h⟩ r) else o (ix2 ⟨d.val - 64, by omega⟩ r))
          * Ideal.exp2 (s (ix3 0 r t) - max (m (ix3 0 0 t)) (mx (ix3 0 0 t))) := by
  unfold aOut512 mNew
  pointwise
  rfl

theorem absorb512 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x512x256 .f32} {vl : FVec Ideal S1x1x64x512 .bf16} {o : FVec Ideal S16x512 .bf16}
    {m mx : Fin 256 → EReal} {a : Fin 80 → Fin 256 → EReal} {s : Fin 512 → Fin 256 → EReal}
    (habs : Abs S V lo hi m a) (hiss : Iss S base 512 s mx) (hlo : base + 512 = lo) (hhi : lo ≤ hi)
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut512 M MX A X vl o (ix3 0 d t)) := by
  have h := habs.step hS hiss hlo hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut512_apply, hM, hMX, hA, hX] using h

theorem first512 {S : Fin 256 → ℕ → EReal} {V : Fin 80 → ℕ → EReal} {hi base : ℕ}
    {M MX : FVec Ideal S1x1x256 .f32} {A : FVec Ideal S1x80x256 .f32} {X : FVec Ideal S1x512x256 .f32} {vl : FVec Ideal S1x1x64x512 .bf16} {o : FVec Ideal S16x512 .bf16}
    {mx : Fin 256 → EReal} {s : Fin 512 → Fin 256 → EReal}
    (hiss : Iss S base 512 s mx) (hb : ∀ t, S t base ≠ ⊥) (hm : ∀ t pos, base + 512 ≤ pos → S t pos = ⊥) (hhi : base + 512 ≤ hi)
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut512 M MX A X vl o (ix3 0 d t)) := by
  have h := Abs.first (V := V) hiss hb hm hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut512_apply, hM, hMX, hA, hX] using h

def aOut768 (m mx : FVec Ideal S1x1x256 .f32) (a : FVec Ideal S1x80x256 .f32) (s : FVec Ideal S1x768x256 .f32) (vl : FVec Ideal S1x1x64x768 .bf16) (o : FVec Ideal S16x768 .bf16) :
    FVec Ideal S1x80x256 .f32 :=
  shapeCast S1x80x256
    (addf (mulf (broadcastTo S80x256 (exp2 (subf (shapeCast S1x256 m shapeCasts_S1x1x256_S1x256) (mNew m mx))) broadcasts_S1x256_S80x256)
        (shapeCast S80x256 a shapeCasts_S1x80x256_S80x256))
      (matmul dot_S80x768_S768x256_S80x256_1_0_0_1_n_n none
        (concatenate S80x768 0 [⟨S64x768, shapeCast S64x768 vl shapeCasts_S1x1x64x768_S64x768⟩, ⟨S16x768, o⟩] concatenates_S64x768_S16x768_S80x768_d0)
        (truncf .bf16 (exp2 (subf (shapeCast S768x256 s shapeCasts_S1x768x256_S768x256) (broadcastTo S768x256 (mNew m mx) broadcasts_S1x256_S768x256))) bitsLt_bf16_f32)
        (constant S80x256 .f32 0x00000000#32))) shapeCasts_S80x256_S1x80x256

theorem aOut768_apply (m mx : FVec Ideal S1x1x256 .f32) (a : FVec Ideal S1x80x256 .f32) (s : FVec Ideal S1x768x256 .f32) (vl : FVec Ideal S1x1x64x768 .bf16) (o : FVec Ideal S16x768 .bf16)
    (d : Fin 80) (t : Fin 256) :
    aOut768 m mx a s vl o (ix3 0 d t) = Ideal.exp2 (m (ix3 0 0 t) - max (m (ix3 0 0 t)) (mx (ix3 0 0 t))) * a (ix3 0 d t)
      + ∑ r : Fin 768, (if h : d.val < 64 then vl (ix4 0 0 ⟨d.val, h⟩ r) else o (ix2 ⟨d.val - 64, by omega⟩ r))
          * Ideal.exp2 (s (ix3 0 r t) - max (m (ix3 0 0 t)) (mx (ix3 0 0 t))) := by
  unfold aOut768 mNew
  pointwise
  rfl

theorem absorb768 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x768x256 .f32} {vl : FVec Ideal S1x1x64x768 .bf16} {o : FVec Ideal S16x768 .bf16}
    {m mx : Fin 256 → EReal} {a : Fin 80 → Fin 256 → EReal} {s : Fin 768 → Fin 256 → EReal}
    (habs : Abs S V lo hi m a) (hiss : Iss S base 768 s mx) (hlo : base + 768 = lo) (hhi : lo ≤ hi)
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut768 M MX A X vl o (ix3 0 d t)) := by
  have h := habs.step hS hiss hlo hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut768_apply, hM, hMX, hA, hX] using h

theorem first768 {S : Fin 256 → ℕ → EReal} {V : Fin 80 → ℕ → EReal} {hi base : ℕ}
    {M MX : FVec Ideal S1x1x256 .f32} {A : FVec Ideal S1x80x256 .f32} {X : FVec Ideal S1x768x256 .f32} {vl : FVec Ideal S1x1x64x768 .bf16} {o : FVec Ideal S16x768 .bf16}
    {mx : Fin 256 → EReal} {s : Fin 768 → Fin 256 → EReal}
    (hiss : Iss S base 768 s mx) (hb : ∀ t, S t base ≠ ⊥) (hm : ∀ t pos, base + 768 ≤ pos → S t pos = ⊥) (hhi : base + 768 ≤ hi)
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut768 M MX A X vl o (ix3 0 d t)) := by
  have h := Abs.first (V := V) hiss hb hm hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut768_apply, hM, hMX, hA, hX] using h

def aOut1024 (m mx : FVec Ideal S1x1x256 .f32) (a : FVec Ideal S1x80x256 .f32) (s : FVec Ideal S1x1024x256 .f32) (vl : FVec Ideal S1x1x64x1024 .bf16) (o : FVec Ideal S16x1024 .bf16) :
    FVec Ideal S1x80x256 .f32 :=
  shapeCast S1x80x256
    (addf (mulf (broadcastTo S80x256 (exp2 (subf (shapeCast S1x256 m shapeCasts_S1x1x256_S1x256) (mNew m mx))) broadcasts_S1x256_S80x256)
        (shapeCast S80x256 a shapeCasts_S1x80x256_S80x256))
      (matmul dot_S80x1024_S1024x256_S80x256_1_0_0_1_n_n none
        (concatenate S80x1024 0 [⟨S64x1024, shapeCast S64x1024 vl shapeCasts_S1x1x64x1024_S64x1024⟩, ⟨S16x1024, o⟩] concatenates_S64x1024_S16x1024_S80x1024_d0)
        (truncf .bf16 (exp2 (subf (shapeCast S1024x256 s shapeCasts_S1x1024x256_S1024x256) (broadcastTo S1024x256 (mNew m mx) broadcasts_S1x256_S1024x256))) bitsLt_bf16_f32)
        (constant S80x256 .f32 0x00000000#32))) shapeCasts_S80x256_S1x80x256

theorem aOut1024_apply (m mx : FVec Ideal S1x1x256 .f32) (a : FVec Ideal S1x80x256 .f32) (s : FVec Ideal S1x1024x256 .f32) (vl : FVec Ideal S1x1x64x1024 .bf16) (o : FVec Ideal S16x1024 .bf16)
    (d : Fin 80) (t : Fin 256) :
    aOut1024 m mx a s vl o (ix3 0 d t) = Ideal.exp2 (m (ix3 0 0 t) - max (m (ix3 0 0 t)) (mx (ix3 0 0 t))) * a (ix3 0 d t)
      + ∑ r : Fin 1024, (if h : d.val < 64 then vl (ix4 0 0 ⟨d.val, h⟩ r) else o (ix2 ⟨d.val - 64, by omega⟩ r))
          * Ideal.exp2 (s (ix3 0 r t) - max (m (ix3 0 0 t)) (mx (ix3 0 0 t))) := by
  unfold aOut1024 mNew
  pointwise
  rfl

theorem absorb1024 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x1024x256 .f32} {vl : FVec Ideal S1x1x64x1024 .bf16} {o : FVec Ideal S16x1024 .bf16}
    {m mx : Fin 256 → EReal} {a : Fin 80 → Fin 256 → EReal} {s : Fin 1024 → Fin 256 → EReal}
    (habs : Abs S V lo hi m a) (hiss : Iss S base 1024 s mx) (hlo : base + 1024 = lo) (hhi : lo ≤ hi)
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut1024 M MX A X vl o (ix3 0 d t)) := by
  have h := habs.step hS hiss hlo hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut1024_apply, hM, hMX, hA, hX] using h

theorem first1024 {S : Fin 256 → ℕ → EReal} {V : Fin 80 → ℕ → EReal} {hi base : ℕ}
    {M MX : FVec Ideal S1x1x256 .f32} {A : FVec Ideal S1x80x256 .f32} {X : FVec Ideal S1x1024x256 .f32} {vl : FVec Ideal S1x1x64x1024 .bf16} {o : FVec Ideal S16x1024 .bf16}
    {mx : Fin 256 → EReal} {s : Fin 1024 → Fin 256 → EReal}
    (hiss : Iss S base 1024 s mx) (hb : ∀ t, S t base ≠ ⊥) (hm : ∀ t pos, base + 1024 ≤ pos → S t pos = ⊥) (hhi : base + 1024 ≤ hi)
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi (fun t => mOut M MX (ix3 0 0 t)) (fun d t => aOut1024 M MX A X vl o (ix3 0 d t)) := by
  have h := Abs.first (V := V) hiss hb hm hhi (v := fun d r => if h : d.val < 64 then vl (ix4 0 0 ⟨d.val, h⟩ r) else o (ix2 ⟨d.val - 64, by omega⟩ r)) (fun d r => by
    by_cases h : d.val < 64
    · rw [dif_pos h]; exact hv ⟨d.val, h⟩ r
    · rw [dif_neg h, ho, hone d _ (not_lt.mp h)])
  simpa only [mOut_apply, aOut1024_apply, hM, hMX, hA, hX] using h

/-! ## The scores of a block -/

/-- A block's keys, and after them its terms. -/
def kx (kl : FVec Ideal S1x1024x128 .bf16) (cl : FVec Ideal S1x1x1024x128 .bf16) : FVec Ideal S1024x256 .bf16 :=
  concatenate S1024x256 1 [⟨S1024x128, shapeCast S1024x128 kl shapeCasts_S1x1024x128_S1024x128⟩, ⟨S1024x128, shapeCast S1024x128 cl shapeCasts_S1x1x1024x128_S1024x128⟩]
    concatenates_S1024x128_S1024x128_S1024x256_d1

theorem kx_apply (kl : FVec Ideal S1x1024x128 .bf16) (cl : FVec Ideal S1x1x1024x128 .bf16) (r : Fin 1024) (d : Fin 256) :
    kx kl cl (ix2 r d) = if h : d.val < 128 then kl (ix3 0 r ⟨d.val, h⟩) else cl (ix4 0 0 r ⟨d.val - 128, by omega⟩) := by
  unfold kx
  pointwise

theorem ofBits_bot : Ideal.ofBits .f32 4286578688#32 = ⊥ := by
  simp [Ideal.ofBits, Ideal.ieee]

theorem fold_max_bounds {n : ℕ} (f : Fin n → EReal) (hf : ∀ r, f r ≠ ⊤) : Finset.univ.fold max ⊥ f ≠ ⊤ ∧ ∀ r, f r ≤ Finset.univ.fold max ⊥ f := by
  constructor
  · intro h
    rcases (Finset.le_fold_max ⊤).mp h.ge with h | ⟨r, _, h⟩
    · exact absurd h (by decide)
    · exact hf r (top_le_iff.mp h)
  · intro r
    exact (Finset.le_fold_max _).mpr (Or.inr ⟨r, Finset.mem_univ _, le_rfl⟩)

def mxOut256 (x : FVec Ideal S256x256 .f32) : FVec Ideal S1x1x256 .f32 :=
  shapeCast S1x1x256 (shapeCast S1x256 (multiReduction .maximumf [0] S256 x 0xFF800000#32 reduces_S256x256_S256 (.inl rfl) rfl) shapeCasts_S256_S1x256) shapeCasts_S1x256_S1x1x256

theorem mxOut256_apply (x : FVec Ideal S256x256 .f32) (t : Fin 256) : mxOut256 x (ix3 0 0 t) = Finset.univ.fold max ⊥ fun r : Fin 256 => x (ix2 r t) := by
  unfold mxOut256
  pointwise
  rw [ofBits_bot]

theorem iss_of256 {S : Fin 256 → ℕ → EReal} (hS : ∀ t pos, S t pos ≠ ⊤) {base : ℕ} {x : FVec Ideal S256x256 .f32} (h : ∀ r t, x (ix2 r t) = S t (base + r.val)) :
    Iss S base 256 (fun r t => shapeCast S1x256x256 x shapeCasts_S256x256_S1x256x256 (ix3 0 r t)) (fun t => mxOut256 x (ix3 0 0 t)) := by
  refine ⟨fun r t => ?_, fun t => ?_⟩
  · show shapeCast S1x256x256 x shapeCasts_S256x256_S1x256x256 (ix3 0 r t) = S t (base + r.val)
    rw [← h]
    pointwise
  · show mxOut256 x (ix3 0 0 t) ≠ ⊤ ∧ (S t base ≠ ⊥ → mxOut256 x (ix3 0 0 t) ≠ ⊥)
    rw [mxOut256_apply]
    obtain ⟨h1, h2⟩ := fold_max_bounds (fun r : Fin 256 => x (ix2 r t)) (fun r => by rw [h]; exact hS _ _)
    refine ⟨h1, fun hb he => hb ?_⟩
    have := h2 0
    rw [he, le_bot_iff, h] at this
    exact this

def mxOut512 (x : FVec Ideal S512x256 .f32) : FVec Ideal S1x1x256 .f32 :=
  shapeCast S1x1x256 (shapeCast S1x256 (multiReduction .maximumf [0] S256 x 0xFF800000#32 reduces_S512x256_S256 (.inl rfl) rfl) shapeCasts_S256_S1x256) shapeCasts_S1x256_S1x1x256

theorem mxOut512_apply (x : FVec Ideal S512x256 .f32) (t : Fin 256) : mxOut512 x (ix3 0 0 t) = Finset.univ.fold max ⊥ fun r : Fin 512 => x (ix2 r t) := by
  unfold mxOut512
  pointwise
  rw [ofBits_bot]

theorem iss_of512 {S : Fin 256 → ℕ → EReal} (hS : ∀ t pos, S t pos ≠ ⊤) {base : ℕ} {x : FVec Ideal S512x256 .f32} (h : ∀ r t, x (ix2 r t) = S t (base + r.val)) :
    Iss S base 512 (fun r t => shapeCast S1x512x256 x shapeCasts_S512x256_S1x512x256 (ix3 0 r t)) (fun t => mxOut512 x (ix3 0 0 t)) := by
  refine ⟨fun r t => ?_, fun t => ?_⟩
  · show shapeCast S1x512x256 x shapeCasts_S512x256_S1x512x256 (ix3 0 r t) = S t (base + r.val)
    rw [← h]
    pointwise
  · show mxOut512 x (ix3 0 0 t) ≠ ⊤ ∧ (S t base ≠ ⊥ → mxOut512 x (ix3 0 0 t) ≠ ⊥)
    rw [mxOut512_apply]
    obtain ⟨h1, h2⟩ := fold_max_bounds (fun r : Fin 512 => x (ix2 r t)) (fun r => by rw [h]; exact hS _ _)
    refine ⟨h1, fun hb he => hb ?_⟩
    have := h2 0
    rw [he, le_bot_iff, h] at this
    exact this

def mxOut768 (x : FVec Ideal S768x256 .f32) : FVec Ideal S1x1x256 .f32 :=
  shapeCast S1x1x256 (shapeCast S1x256 (multiReduction .maximumf [0] S256 x 0xFF800000#32 reduces_S768x256_S256 (.inl rfl) rfl) shapeCasts_S256_S1x256) shapeCasts_S1x256_S1x1x256

theorem mxOut768_apply (x : FVec Ideal S768x256 .f32) (t : Fin 256) : mxOut768 x (ix3 0 0 t) = Finset.univ.fold max ⊥ fun r : Fin 768 => x (ix2 r t) := by
  unfold mxOut768
  pointwise
  rw [ofBits_bot]

theorem iss_of768 {S : Fin 256 → ℕ → EReal} (hS : ∀ t pos, S t pos ≠ ⊤) {base : ℕ} {x : FVec Ideal S768x256 .f32} (h : ∀ r t, x (ix2 r t) = S t (base + r.val)) :
    Iss S base 768 (fun r t => shapeCast S1x768x256 x shapeCasts_S768x256_S1x768x256 (ix3 0 r t)) (fun t => mxOut768 x (ix3 0 0 t)) := by
  refine ⟨fun r t => ?_, fun t => ?_⟩
  · show shapeCast S1x768x256 x shapeCasts_S768x256_S1x768x256 (ix3 0 r t) = S t (base + r.val)
    rw [← h]
    pointwise
  · show mxOut768 x (ix3 0 0 t) ≠ ⊤ ∧ (S t base ≠ ⊥ → mxOut768 x (ix3 0 0 t) ≠ ⊥)
    rw [mxOut768_apply]
    obtain ⟨h1, h2⟩ := fold_max_bounds (fun r : Fin 768 => x (ix2 r t)) (fun r => by rw [h]; exact hS _ _)
    refine ⟨h1, fun hb he => hb ?_⟩
    have := h2 0
    rw [he, le_bot_iff, h] at this
    exact this

def mxOut1024 (x : FVec Ideal S1024x256 .f32) : FVec Ideal S1x1x256 .f32 :=
  shapeCast S1x1x256 (shapeCast S1x256 (multiReduction .maximumf [0] S256 x 0xFF800000#32 reduces_S1024x256_S256 (.inl rfl) rfl) shapeCasts_S256_S1x256) shapeCasts_S1x256_S1x1x256

theorem mxOut1024_apply (x : FVec Ideal S1024x256 .f32) (t : Fin 256) : mxOut1024 x (ix3 0 0 t) = Finset.univ.fold max ⊥ fun r : Fin 1024 => x (ix2 r t) := by
  unfold mxOut1024
  pointwise
  rw [ofBits_bot]

theorem iss_of1024 {S : Fin 256 → ℕ → EReal} (hS : ∀ t pos, S t pos ≠ ⊤) {base : ℕ} {x : FVec Ideal S1024x256 .f32} (h : ∀ r t, x (ix2 r t) = S t (base + r.val)) :
    Iss S base 1024 (fun r t => shapeCast S1x1024x256 x shapeCasts_S1024x256_S1x1024x256 (ix3 0 r t)) (fun t => mxOut1024 x (ix3 0 0 t)) := by
  refine ⟨fun r t => ?_, fun t => ?_⟩
  · show shapeCast S1x1024x256 x shapeCasts_S1024x256_S1x1024x256 (ix3 0 r t) = S t (base + r.val)
    rw [← h]
    pointwise
  · show mxOut1024 x (ix3 0 0 t) ≠ ⊤ ∧ (S t base ≠ ⊥ → mxOut1024 x (ix3 0 0 t) ≠ ⊥)
    rw [mxOut1024_apply]
    obtain ⟨h1, h2⟩ := fold_max_bounds (fun r : Fin 1024 => x (ix2 r t)) (fun r => by rw [h]; exact hS _ _)
    refine ⟨h1, fun hb he => hb ?_⟩
    have := h2 0
    rw [he, le_bot_iff, h] at this
    exact this

/-- A whole block's scores. -/
def far (kl : FVec Ideal S1x1024x128 .bf16) (cl : FVec Ideal S1x1x1024x128 .bf16) (q : FVec Ideal S256x256 .bf16) : FVec Ideal S1024x256 .f32 :=
  matmul dot_S1024x256_S256x256_S1024x256_1_1_0_0_n_n none (kx kl cl) q (constant S1024x256 .f32 0x00000000#32)

theorem far_apply (kl : FVec Ideal S1x1024x128 .bf16) (cl : FVec Ideal S1x1x1024x128 .bf16) (q : FVec Ideal S256x256 .bf16) (r : Fin 1024) (t : Fin 256) :
    far kl cl q (ix2 r t) = ∑ d : Fin 256, kx kl cl (ix2 r d) * q (ix2 t d) := by
  unfold far
  generalize kx kl cl = x
  pointwise

/-- The scores of a row's own block against its 1st tile of queries, masked. -/
def diag256 (kl : FVec Ideal S1x1024x128 .bf16) (cl : FVec Ideal S1x1x1024x128 .bf16) (q : FVec Ideal S256x256 .bf16) (mk : FVec Ideal S1x256x256 .f32) : FVec Ideal S256x256 .f32 :=
  addf (matmul dot_S256x256_S256x256_S256x256_1_1_0_0_n_n none (extractStridedSlice S256x256 ![0, 0] (kx kl cl) slices_S1024x256_o0_0_S256x256) q (constant S256x256 .f32 0x00000000#32))
    (shapeCast S256x256 mk shapeCasts_S1x256x256_S256x256)

theorem diag256_apply (kl : FVec Ideal S1x1024x128 .bf16) (cl : FVec Ideal S1x1x1024x128 .bf16) (q : FVec Ideal S256x256 .bf16) (mk : FVec Ideal S1x256x256 .f32) (r : Fin 256) (t : Fin 256) :
    diag256 kl cl q mk (ix2 r t) = ∑ d : Fin 256, kx kl cl (ix2 ⟨r.val, by omega⟩ d) * q (ix2 t d) + mk (ix3 0 r t) := by
  unfold diag256
  generalize kx kl cl = x
  pointwise

/-- The scores of a row's own block against its 2nd tile of queries, masked. -/
def diag512 (kl : FVec Ideal S1x1024x128 .bf16) (cl : FVec Ideal S1x1x1024x128 .bf16) (q : FVec Ideal S256x256 .bf16) (mk : FVec Ideal S1x512x256 .f32) : FVec Ideal S512x256 .f32 :=
  addf (matmul dot_S512x256_S256x256_S512x256_1_1_0_0_n_n none (extractStridedSlice S512x256 ![0, 0] (kx kl cl) slices_S1024x256_o0_0_S512x256) q (constant S512x256 .f32 0x00000000#32))
    (shapeCast S512x256 mk shapeCasts_S1x512x256_S512x256)

theorem diag512_apply (kl : FVec Ideal S1x1024x128 .bf16) (cl : FVec Ideal S1x1x1024x128 .bf16) (q : FVec Ideal S256x256 .bf16) (mk : FVec Ideal S1x512x256 .f32) (r : Fin 512) (t : Fin 256) :
    diag512 kl cl q mk (ix2 r t) = ∑ d : Fin 256, kx kl cl (ix2 ⟨r.val, by omega⟩ d) * q (ix2 t d) + mk (ix3 0 r t) := by
  unfold diag512
  generalize kx kl cl = x
  pointwise

/-- The scores of a row's own block against its 3rd tile of queries, masked. -/
def diag768 (kl : FVec Ideal S1x1024x128 .bf16) (cl : FVec Ideal S1x1x1024x128 .bf16) (q : FVec Ideal S256x256 .bf16) (mk : FVec Ideal S1x768x256 .f32) : FVec Ideal S768x256 .f32 :=
  addf (matmul dot_S768x256_S256x256_S768x256_1_1_0_0_n_n none (extractStridedSlice S768x256 ![0, 0] (kx kl cl) slices_S1024x256_o0_0_S768x256) q (constant S768x256 .f32 0x00000000#32))
    (shapeCast S768x256 mk shapeCasts_S1x768x256_S768x256)

theorem diag768_apply (kl : FVec Ideal S1x1024x128 .bf16) (cl : FVec Ideal S1x1x1024x128 .bf16) (q : FVec Ideal S256x256 .bf16) (mk : FVec Ideal S1x768x256 .f32) (r : Fin 768) (t : Fin 256) :
    diag768 kl cl q mk (ix2 r t) = ∑ d : Fin 256, kx kl cl (ix2 ⟨r.val, by omega⟩ d) * q (ix2 t d) + mk (ix3 0 r t) := by
  unfold diag768
  generalize kx kl cl = x
  pointwise

/-- The scores of a row's own block against its 4th tile of queries, masked. -/
def diag1024 (kl : FVec Ideal S1x1024x128 .bf16) (cl : FVec Ideal S1x1x1024x128 .bf16) (q : FVec Ideal S256x256 .bf16) (mk : FVec Ideal S1x1024x256 .f32) : FVec Ideal S1024x256 .f32 :=
  addf (matmul dot_S1024x256_S256x256_S1024x256_1_1_0_0_n_n none (kx kl cl) q (constant S1024x256 .f32 0x00000000#32))
    (shapeCast S1024x256 mk shapeCasts_S1x1024x256_S1024x256)

theorem diag1024_apply (kl : FVec Ideal S1x1024x128 .bf16) (cl : FVec Ideal S1x1x1024x128 .bf16) (q : FVec Ideal S256x256 .bf16) (mk : FVec Ideal S1x1024x256 .f32) (r : Fin 1024) (t : Fin 256) :
    diag1024 kl cl q mk (ix2 r t) = ∑ d : Fin 256, kx kl cl (ix2 r d) * q (ix2 t d) + mk (ix3 0 r t) := by
  unfold diag1024
  generalize kx kl cl = x
  pointwise

/-! ## A tile of queries: its head's lanes, and minus one on the head's terms -/

def laneIota : IVec S256x128 32 := iota .tc S256x128 32 [1] iota_S256x128_d1_w32
def bc (x : BitVec 32) : IVec S256x128 32 := broadcast S256x128 x
def laneHead : IVec S256x128 32 :=
  select (andi (cmpi .ne (subi (extui 32 (cmpi .sgt laneIota (bc 0#32)) natLt_1_32) (extui 32 (cmpi .slt laneIota (bc 0#32)) natLt_1_32)) (bc 1#32))
      (cmpi .ne (remsi laneIota (bc 64#32)) (bc 0#32)))
    (subi (divsi laneIota (bc 64#32)) (bc 1#32)) (divsi laneIota (bc 64#32))

theorem laneHead_apply (t : Fin 256) (d : Fin 128) : laneHead (ix2 t d) = BitVec.ofNat 32 (d.val / 64) := by
  unfold laneHead laneIota bc
  pointwise
  revert d
  decide +kernel

def qx (h lo hi : BitVec 32) (q : FVec Ideal S1x256x128 .bf16) : FVec Ideal S256x256 .bf16 :=
  concatenate S256x256 1
    [⟨S256x128, select (cmpi .eq laneHead (bc h)) (shapeCast S256x128 q shapeCasts_S1x256x128_S256x128) (broadcast S256x128 (Scalar.ofBits .bf16 0x0000#16))⟩,
     ⟨S256x128, truncf .bf16 (select (andi (cmpi .sge laneIota (bc lo)) (cmpi .slt laneIota (bc hi)))
        (broadcast S256x128 (Scalar.ofBits .f32 0xBF800000#32)) (broadcast S256x128 (Scalar.ofBits .f32 0x00000000#32))) bitsLt_bf16_f32⟩]
    concatenates_S256x128_S256x128_S256x256_d1

/-- One entry of a tile of queries of head `h`. -/
def qxf (h : ℕ) (q : Fin 128 → EReal) (d : Fin 256) : EReal :=
  if hd : d.val < 128 then (if d.val / 64 = h then q ⟨d.val, hd⟩ else 0) else (if 3 * h ≤ d.val - 128 ∧ d.val - 128 < 3 * h + 3 then -1 else 0)

theorem ofBits_neg_one : Ideal.ofBits .f32 3212836864#32 = -1 := by
  simp [Ideal.ofBits, Ideal.ieee, -EReal.coe_mul]; norm_num

theorem qx0_apply (q : FVec Ideal S1x256x128 .bf16) (t d : Fin 256) : qx 0#32 0#32 3#32 q (ix2 t d) = qxf 0 (fun e => q (ix3 0 t e)) d := by
  have h1 : ∀ d : Fin 128, IntOp.cmpi .eq (BitVec.ofNat 32 (d.val / 64)) 0#32 = if d.val / 64 = 0 then 1#1 else 0#1 := by decide +kernel
  have h2 : ∀ d : Fin 128, IntOp.andi (IntOp.cmpi .sge (BitVec.ofNat 32 d.val) 0#32) (IntOp.cmpi .slt (BitVec.ofNat 32 d.val) 3#32) = if 3 * 0 ≤ d.val ∧ d.val < 3 * 0 + 3 then 1#1 else 0#1 := by decide +kernel
  have hL := laneHead_apply
  unfold qx
  generalize laneHead = L at hL ⊢
  unfold laneIota bc
  pointwise
  unfold qxf
  by_cases hd : d.val < 128
  · rw [dif_pos hd, dif_pos hd, hL]
    have := h1 ⟨d.val, hd⟩
    dsimp only at this
    rw [this]
    split_ifs <;> rfl
  · rw [dif_neg hd, dif_neg hd]
    have := h2 ⟨d.val - 128, by omega⟩
    dsimp only at this
    rw [this, ofBits_neg_one]
    split_ifs <;> rfl

theorem qx1_apply (q : FVec Ideal S1x256x128 .bf16) (t d : Fin 256) : qx 1#32 3#32 6#32 q (ix2 t d) = qxf 1 (fun e => q (ix3 0 t e)) d := by
  have h1 : ∀ d : Fin 128, IntOp.cmpi .eq (BitVec.ofNat 32 (d.val / 64)) 1#32 = if d.val / 64 = 1 then 1#1 else 0#1 := by decide +kernel
  have h2 : ∀ d : Fin 128, IntOp.andi (IntOp.cmpi .sge (BitVec.ofNat 32 d.val) 3#32) (IntOp.cmpi .slt (BitVec.ofNat 32 d.val) 6#32) = if 3 * 1 ≤ d.val ∧ d.val < 3 * 1 + 3 then 1#1 else 0#1 := by decide +kernel
  have hL := laneHead_apply
  unfold qx
  generalize laneHead = L at hL ⊢
  unfold laneIota bc
  pointwise
  unfold qxf
  by_cases hd : d.val < 128
  · rw [dif_pos hd, dif_pos hd, hL]
    have := h1 ⟨d.val, hd⟩
    dsimp only at this
    rw [this]
    split_ifs <;> rfl
  · rw [dif_neg hd, dif_neg hd]
    have := h2 ⟨d.val - 128, by omega⟩
    dsimp only at this
    rw [this, ofBits_neg_one]
    split_ifs <;> rfl

theorem ones_apply (y : S16x1024.Idx) : (k0_pay745 : FVec Ideal S16x1024 .bf16) y = 1 := by
  show Ideal.ofBits .bf16 0x3F80#16 = 1
  simp [Ideal.ofBits, Ideal.ieee, -EReal.coe_mul]; norm_num

theorem pay747_apply (y : S8x1x256.Idx) : (k0_pay747 : FVec Ideal S8x1x256 .f32) y = ⊥ := rfl
theorem pay748_apply (y : S8x80x256.Idx) : (k0_pay748 : FVec Ideal S8x80x256 .f32) y = 0 := by
  show Ideal.ofBits .f32 0#32 = 0
  simp [Ideal.ofBits, Ideal.ieee]

/-! ## The quotient, two heads side by side -/

def quot (n0 : FVec Ideal S1x64x256 .f32) (d0 : FVec Ideal S1x1x256 .f32) (n1 : FVec Ideal S1x64x256 .f32) (d1 : FVec Ideal S1x1x256 .f32) : FVec Ideal S1x256x128 .bf16 :=
  shapeCast S1x256x128 (truncf .bf16 (transpose S256x128 [1, 0] (concatenate S128x256 0
    [⟨S64x256, divf (shapeCast S64x256 n0 shapeCasts_S1x64x256_S64x256) (broadcastTo S64x256 (shapeCast S1x256 d0 shapeCasts_S1x1x256_S1x256) broadcasts_S1x256_S64x256)⟩,
     ⟨S64x256, divf (shapeCast S64x256 n1 shapeCasts_S1x64x256_S64x256) (broadcastTo S64x256 (shapeCast S1x256 d1 shapeCasts_S1x1x256_S1x256) broadcasts_S1x256_S64x256)⟩]
    concatenates_S64x256_S64x256_S128x256_d0) transposes_S128x256_p1_0_S256x128) bitsLt_bf16_f32) shapeCasts_S256x128_S1x256x128

theorem quot_apply (n0 : FVec Ideal S1x64x256 .f32) (d0 : FVec Ideal S1x1x256 .f32) (n1 : FVec Ideal S1x64x256 .f32) (d1 : FVec Ideal S1x1x256 .f32) (t : Fin 256) (l : Fin 128) :
    quot n0 d0 n1 d1 (ix3 0 t l) = if h : l.val < 64 then Ideal.div (n0 (ix3 0 ⟨l.val, h⟩ t)) (d0 (ix3 0 0 t)) else Ideal.div (n1 (ix3 0 ⟨l.val - 64, by omega⟩ t)) (d1 (ix3 0 0 t)) := by
  unfold quot
  pointwise

/-! ## The mask of a row's own block -/

def maskT (o : BitVec 32) : FVec Ideal S1x1024x256 .f32 :=
  shapeCast S1x1024x256 (select (cmpi .sle (iota .tc S1024x256 32 [0] iota_S1024x256_d0_w32) (addi (iota .tc S1024x256 32 [1] iota_S1024x256_d1_w32) (broadcast S1024x256 o)))
    (broadcast S1024x256 (Scalar.ofBits .f32 0x00000000#32)) (broadcast S1024x256 (Named.named κ "mask" 0xF149F2CA#32))) shapeCasts_S1024x256_S1x1024x256

theorem maskT_apply (o : BitVec 32) (ho : o.toNat ≤ 768) (r : Fin 1024) (t : Fin 256) : maskT o (ix3 0 r t) = if r.val ≤ t.val + o.toNat then 0 else ⊥ := by
  have h : IntOp.cmpi .sle (BitVec.ofNat 32 r.val) (IntOp.addi (BitVec.ofNat 32 t.val) o) = if r.val ≤ t.val + o.toNat then 1#1 else 0#1 := by
    have e1 : (BitVec.ofNat 32 r.val).toInt = r.val := by
      rw [BitVec.toInt_eq_toNat_cond, BitVec.toNat_ofNat, Nat.mod_eq_of_lt (by omega), if_pos (by omega)]
    have e2 : (BitVec.ofNat 32 t.val + o).toInt = (t.val + o.toNat : ℕ) := by
      rw [BitVec.toInt_eq_toNat_cond, BitVec.toNat_add, BitVec.toNat_ofNat, Nat.mod_eq_of_lt (a := t.val) (by omega), Nat.mod_eq_of_lt (by omega), if_pos (by omega)]
    show BitVec.ofBool (BitVec.sle (BitVec.ofNat 32 r.val) (BitVec.ofNat 32 t.val + o)) = _
    unfold BitVec.sle
    rw [e1, e2]
    by_cases hrt : r.val ≤ t.val + o.toNat
    · rw [if_pos hrt, decide_eq_true (by exact_mod_cast hrt)]; rfl
    · rw [if_neg hrt, decide_eq_false (by exact_mod_cast hrt)]; rfl
  unfold maskT
  pointwise
  rw [h]
  split_ifs <;> rfl

end Cert.KernelIdeal.Fox
-- ==== Proof.Fox.Score.lean ====
module
public import proofs.«01_k».proof.Proof.Fox.Vec

@[expose] public section

/-! The FoX attention kernel's scores, values and window offsets, as functions of what its windows hold. -/

set_option maxRecDepth 16384
noncomputable section
namespace Cert.KernelIdeal.Fox
open Idealize.ShloMosaic Cert.KernelIdeal Cert.KernelIdeal.Gen Cert.Fox

/-- A key's 128 lanes, and after them its terms' 128. -/
def kxf (Kf : S1x8192x128.Idx → EReal) (Cf : S1x1x8192x128.Idx → EReal) (pos : ℕ) (d : Fin 256) : EReal :=
  if hp : pos < 8192 then (if h : d.val < 128 then Kf (ix3 0 ⟨pos, hp⟩ ⟨d.val, h⟩) else Cf (ix4 0 0 ⟨pos, hp⟩ ⟨d.val - 128, by omega⟩)) else 0

/-- Row `t` of tile `j` of a block of queries. -/
def qrow (Qf : S1x1024x128.Idx → EReal) (j : Fin 4) (t : Fin 256) (e : Fin 128) : EReal := Qf (ix3 0 ⟨256 * j.val + t.val, by omega⟩ e)

/-- The score of a key against a query of head `h`, not masked. -/
def raw (Kf : S1x8192x128.Idx → EReal) (Cf : S1x1x8192x128.Idx → EReal) (Qf : S1x1024x128.Idx → EReal) (h : Fin 2) (j : Fin 4) (t : Fin 256) (pos : ℕ) : EReal :=
  ∑ d : Fin 256, kxf Kf Cf pos d * qxf h.val (qrow Qf j t) d

/-- The masked score, for the block of queries `g`. -/
def sc (Kf : S1x8192x128.Idx → EReal) (Cf : S1x1x8192x128.Idx → EReal) (Qf : S1x1024x128.Idx → EReal) (g : ℕ) (h : Fin 2) (j : Fin 4) (t : Fin 256) (pos : ℕ) : EReal :=
  raw Kf Cf Qf h j t pos + if pos ≤ 1024 * g + 256 * j.val + t.val then 0 else ⊥

/-- The 64 values of a key in head `h`, and sixteen ones after them. -/
def vx (Vf : S1x8x128x1024.Idx → EReal) (h : Fin 2) (d : Fin 80) (pos : ℕ) : EReal :=
  if hd : d.val < 64 then (if hp : pos < 8192 then Vf (ix4 0 ⟨pos / 1024, by omega⟩ ⟨64 * h.val + d.val, by omega⟩ ⟨pos % 1024, by omega⟩) else 0) else 1

theorem vx_one (Vf : S1x8x128x1024.Idx → EReal) (h : Fin 2) (d : Fin 80) (pos : ℕ) (hd : 64 ≤ d.val) : vx Vf h d pos = 1 := dif_neg (not_lt.mpr hd)

/-- Scores that are real before they are masked. -/
def RealRaw (Kf : S1x8192x128.Idx → EReal) (Cf : S1x1x8192x128.Idx → EReal) (Qf : S1x1024x128.Idx → EReal) : Prop :=
  ∀ (h : Fin 2) (j : Fin 4) (t : Fin 256) (pos : ℕ), ∃ r : ℝ, raw Kf Cf Qf h j t pos = r

section
variable {Kf : S1x8192x128.Idx → EReal} {Cf : S1x1x8192x128.Idx → EReal} {Qf : S1x1024x128.Idx → EReal}

theorem sc_ne_top (hR : RealRaw Kf Cf Qf) (g : ℕ) (h : Fin 2) (j : Fin 4) (t : Fin 256) (pos : ℕ) : sc Kf Cf Qf g h j t pos ≠ ⊤ := by
  obtain ⟨r, hr⟩ := hR h j t pos
  unfold sc
  rw [hr]
  split_ifs
  · rw [add_zero]; exact EReal.coe_ne_top _
  · rw [EReal.add_bot]; exact bot_ne_top

theorem sc_far {g : ℕ} {h : Fin 2} {j : Fin 4} {t : Fin 256} {pos : ℕ} (hp : pos ≤ 1024 * g) : sc Kf Cf Qf g h j t pos = raw Kf Cf Qf h j t pos := by
  unfold sc
  rw [if_pos (by omega), add_zero]

theorem sc_masked {g : ℕ} {h : Fin 2} {j : Fin 4} {t : Fin 256} {pos : ℕ} (hp : 1024 * g + 256 * j.val + 256 ≤ pos) : sc Kf Cf Qf g h j t pos = ⊥ := by
  unfold sc
  rw [if_neg (by omega), EReal.add_bot]

theorem sc_base (hR : RealRaw Kf Cf Qf) (g : ℕ) (h : Fin 2) (j : Fin 4) (t : Fin 256) {pos : ℕ} (hp : pos ≤ 1024 * g) : sc Kf Cf Qf g h j t pos ≠ ⊥ := by
  obtain ⟨r, hr⟩ := hR h j t pos
  rw [sc_far hp, hr]
  exact EReal.coe_ne_bot _
end

/-! ## Loads from the windows -/

theorem rdK {sig : RefSig} {κ : Kind} {sp : Space} (v : View sig κ sp S1x8192x128 .bf16) (f : v.ty.Contents (Elt Ideal)) {off : Fin 3 → ℕ} {inb} (c : ℕ) (hc : c < 8)
    (ho : ∀ a, off a = (![0, 1024 * c, 0] : Fin 3 → ℕ) a) (r : Fin 1024) (d : Fin 128) :
    View.readAt (Elt Ideal) v (Rect.unit (s := S1x8192x128) off S1x1024x128.size inb).toLoadRect f (ix3 0 r d) = v.read (Elt Ideal) f (ix3 0 ⟨1024 * c + r.val, by omega⟩ d) := by
  refine congrArg (v.read (Elt Ideal) f) (funext fun b => Fin.ext ?_)
  match b with
  | ⟨0, _⟩ => show off 0 + 1 * 0 = 0; rw [ho 0]; rfl
  | ⟨1, _⟩ => show off 1 + 1 * r.val = 1024 * c + r.val; rw [ho 1]; show 1024 * c + 1 * r.val = _; omega
  | ⟨2, _⟩ => show off 2 + 1 * d.val = d.val; rw [ho 2]; show 0 + 1 * d.val = _; omega

theorem rdC {sig : RefSig} {κ : Kind} {sp : Space} (v : View sig κ sp S1x1x8192x128 .bf16) (f : v.ty.Contents (Elt Ideal)) {off : Fin 4 → ℕ} {inb} (c : ℕ) (hc : c < 8)
    (ho : ∀ a, off a = (![0, 0, 1024 * c, 0] : Fin 4 → ℕ) a) (r : Fin 1024) (d : Fin 128) :
    View.readAt (Elt Ideal) v (Rect.unit (s := S1x1x8192x128) off S1x1x1024x128.size inb).toLoadRect f (ix4 0 0 r d) = v.read (Elt Ideal) f (ix4 0 0 ⟨1024 * c + r.val, by omega⟩ d) := by
  refine congrArg (v.read (Elt Ideal) f) (funext fun b => Fin.ext ?_)
  match b with
  | ⟨0, _⟩ => show off 0 + 1 * 0 = 0; rw [ho 0]; rfl
  | ⟨1, _⟩ => show off 1 + 1 * 0 = 0; rw [ho 1]; rfl
  | ⟨2, _⟩ => show off 2 + 1 * r.val = 1024 * c + r.val; rw [ho 2]; show 1024 * c + 1 * r.val = _; omega
  | ⟨3, _⟩ => show off 3 + 1 * d.val = d.val; rw [ho 3]; show 0 + 1 * d.val = _; omega

theorem rdQ {sig : RefSig} {κ : Kind} {sp : Space} (v : View sig κ sp S1x1024x128 .bf16) (f : v.ty.Contents (Elt Ideal)) (o : ℕ) (j : Fin 4) (hj : o = 256 * j.val) {inb} (t : Fin 256) (d : Fin 128) :
    View.readAt (Elt Ideal) v (Rect.unit (s := S1x1024x128) ![0, o, 0] S1x256x128.size inb).toLoadRect f (ix3 0 t d) = qrow (v.read (Elt Ideal) f) j t d := by
  subst hj
  refine congrArg (v.read (Elt Ideal) f) (funext fun b => Fin.ext ?_)
  match b with
  | ⟨0, _⟩ => show 0 + 1 * 0 = 0; rfl
  | ⟨1, _⟩ => show 256 * j.val + 1 * t.val = 256 * j.val + t.val; omega
  | ⟨2, _⟩ => show 0 + 1 * d.val = d.val; omega

/-- A block's keys and terms, loaded, are the block's of the windows. -/
theorem kx_load {kl : FVec Ideal S1x1024x128 .bf16} {cl : FVec Ideal S1x1x1024x128 .bf16} {Kf : S1x8192x128.Idx → EReal} {Cf : S1x1x8192x128.Idx → EReal} (c : ℕ) (hc : c < 8)
    (hk : ∀ r d, kl (ix3 0 r d) = Kf (ix3 0 ⟨1024 * c + r.val, by omega⟩ d)) (hcl : ∀ r d, cl (ix4 0 0 r d) = Cf (ix4 0 0 ⟨1024 * c + r.val, by omega⟩ d)) (r : Fin 1024) (d : Fin 256) :
    kx kl cl (ix2 r d) = kxf Kf Cf (1024 * c + r.val) d := by
  rw [kx_apply]
  unfold kxf
  rw [dif_pos (show 1024 * c + r.val < 8192 by omega)]
  by_cases h : d.val < 128
  · rw [dif_pos h, dif_pos h, hk]
  · rw [dif_neg h, dif_neg h, hcl]

/-- A whole block's scores, loaded and multiplied, as issued. -/
theorem far_iss {kl : FVec Ideal S1x1024x128 .bf16} {cl : FVec Ideal S1x1x1024x128 .bf16} {q : FVec Ideal S256x256 .bf16} {Kf : S1x8192x128.Idx → EReal} {Cf : S1x1x8192x128.Idx → EReal}
    {Qf : S1x1024x128.Idx → EReal} (hR : RealRaw Kf Cf Qf) {g : ℕ} {h : Fin 2} {j : Fin 4} (c : ℕ) (hg : g < 8) (hc : c < g)
    (hk : ∀ r d, kl (ix3 0 r d) = Kf (ix3 0 ⟨1024 * c + r.val, by omega⟩ d)) (hcl : ∀ r d, cl (ix4 0 0 r d) = Cf (ix4 0 0 ⟨1024 * c + r.val, by omega⟩ d))
    (hq : ∀ t d, q (ix2 t d) = qxf h.val (qrow Qf j t) d) :
    Iss (sc Kf Cf Qf g h j) (1024 * c) 1024 (fun r t => shapeCast S1x1024x256 (far kl cl q) shapeCasts_S1024x256_S1x1024x256 (ix3 0 r t)) (fun t => mxOut1024 (far kl cl q) (ix3 0 0 t)) := by
  refine iss_of1024 (sc_ne_top hR g h j) fun r t => ?_
  rw [far_apply, sc_far (by omega)]
  unfold raw
  exact Finset.sum_congr rfl fun d _ => by rw [kx_load c (by omega) hk hcl, hq]

theorem diag256_iss {kl : FVec Ideal S1x1024x128 .bf16} {cl : FVec Ideal S1x1x1024x128 .bf16} {q : FVec Ideal S256x256 .bf16} {mk : FVec Ideal S1x256x256 .f32}
    {Kf : S1x8192x128.Idx → EReal} {Cf : S1x1x8192x128.Idx → EReal}
    {Qf : S1x1024x128.Idx → EReal} (hR : RealRaw Kf Cf Qf) {g : ℕ} {h : Fin 2} {j : Fin 4} (hg : g < 8)
    (hk : ∀ r d, kl (ix3 0 r d) = Kf (ix3 0 ⟨1024 * g + r.val, by omega⟩ d)) (hcl : ∀ r d, cl (ix4 0 0 r d) = Cf (ix4 0 0 ⟨1024 * g + r.val, by omega⟩ d))
    (hq : ∀ t d, q (ix2 t d) = qxf h.val (qrow Qf j t) d) (hm : ∀ r t, mk (ix3 0 r t) = if r.val ≤ t.val + 256 * j.val then 0 else ⊥) :
    Iss (sc Kf Cf Qf g h j) (1024 * g) 256 (fun r t => shapeCast S1x256x256 (diag256 kl cl q mk) shapeCasts_S256x256_S1x256x256 (ix3 0 r t)) (fun t => mxOut256 (diag256 kl cl q mk) (ix3 0 0 t)) := by
  refine iss_of256 (sc_ne_top hR g h j) fun r t => ?_
  rw [diag256_apply, hm]
  unfold sc raw
  refine congrArg₂ (· + ·) (Finset.sum_congr rfl fun d _ => by rw [kx_load g hg hk hcl, hq]) ?_
  by_cases h' : r.val ≤ t.val + 256 * j.val
  · rw [if_pos h', if_pos (by omega)]
  · rw [if_neg h', if_neg (by omega)]

theorem rdV256 {sig : RefSig} {κ : Kind} {sp : Space} (v : View sig κ sp S1x8x128x1024 .bf16) (f : v.ty.Contents (Elt Ideal)) {off : Fin 4 → ℕ} {inb} (c : ℕ) (hc : c < 8) (h : Fin 2)
    (ho : ∀ a, off a = (![0, c, 64 * h.val, 0] : Fin 4 → ℕ) a) (d : Fin 64) (r : Fin 256) :
    View.readAt (Elt Ideal) v (Rect.unit (s := S1x8x128x1024) off S1x1x64x256.size inb).toLoadRect f (ix4 0 0 d r) = vx (v.read (Elt Ideal) f) h ⟨d.val, by omega⟩ (1024 * c + r.val) := by
  have e1 : (1024 * c + r.val) / 1024 = c := by omega
  have e2 : (1024 * c + r.val) % 1024 = r.val := by omega
  unfold vx
  rw [dif_pos d.isLt, dif_pos (show 1024 * c + r.val < 8192 by omega)]
  refine congrArg (v.read (Elt Ideal) f) (funext fun b => Fin.ext ?_)
  match b with
  | ⟨0, _⟩ => show off 0 + 1 * 0 = 0; rw [ho 0]; rfl
  | ⟨1, _⟩ => show off 1 + 1 * 0 = (1024 * c + r.val) / 1024; rw [ho 1, e1]; rfl
  | ⟨2, _⟩ => show off 2 + 1 * d.val = 64 * h.val + d.val; rw [ho 2]; show 64 * h.val + 1 * d.val = _; omega
  | ⟨3, _⟩ => show off 3 + 1 * r.val = (1024 * c + r.val) % 1024; rw [ho 3, e2]; show 0 + 1 * r.val = _; omega

theorem diag512_iss {kl : FVec Ideal S1x1024x128 .bf16} {cl : FVec Ideal S1x1x1024x128 .bf16} {q : FVec Ideal S256x256 .bf16} {mk : FVec Ideal S1x512x256 .f32}
    {Kf : S1x8192x128.Idx → EReal} {Cf : S1x1x8192x128.Idx → EReal}
    {Qf : S1x1024x128.Idx → EReal} (hR : RealRaw Kf Cf Qf) {g : ℕ} {h : Fin 2} {j : Fin 4} (hg : g < 8)
    (hk : ∀ r d, kl (ix3 0 r d) = Kf (ix3 0 ⟨1024 * g + r.val, by omega⟩ d)) (hcl : ∀ r d, cl (ix4 0 0 r d) = Cf (ix4 0 0 ⟨1024 * g + r.val, by omega⟩ d))
    (hq : ∀ t d, q (ix2 t d) = qxf h.val (qrow Qf j t) d) (hm : ∀ r t, mk (ix3 0 r t) = if r.val ≤ t.val + 256 * j.val then 0 else ⊥) :
    Iss (sc Kf Cf Qf g h j) (1024 * g) 512 (fun r t => shapeCast S1x512x256 (diag512 kl cl q mk) shapeCasts_S512x256_S1x512x256 (ix3 0 r t)) (fun t => mxOut512 (diag512 kl cl q mk) (ix3 0 0 t)) := by
  refine iss_of512 (sc_ne_top hR g h j) fun r t => ?_
  rw [diag512_apply, hm]
  unfold sc raw
  refine congrArg₂ (· + ·) (Finset.sum_congr rfl fun d _ => by rw [kx_load g hg hk hcl, hq]) ?_
  by_cases h' : r.val ≤ t.val + 256 * j.val
  · rw [if_pos h', if_pos (by omega)]
  · rw [if_neg h', if_neg (by omega)]

theorem rdV512 {sig : RefSig} {κ : Kind} {sp : Space} (v : View sig κ sp S1x8x128x1024 .bf16) (f : v.ty.Contents (Elt Ideal)) {off : Fin 4 → ℕ} {inb} (c : ℕ) (hc : c < 8) (h : Fin 2)
    (ho : ∀ a, off a = (![0, c, 64 * h.val, 0] : Fin 4 → ℕ) a) (d : Fin 64) (r : Fin 512) :
    View.readAt (Elt Ideal) v (Rect.unit (s := S1x8x128x1024) off S1x1x64x512.size inb).toLoadRect f (ix4 0 0 d r) = vx (v.read (Elt Ideal) f) h ⟨d.val, by omega⟩ (1024 * c + r.val) := by
  have e1 : (1024 * c + r.val) / 1024 = c := by omega
  have e2 : (1024 * c + r.val) % 1024 = r.val := by omega
  unfold vx
  rw [dif_pos d.isLt, dif_pos (show 1024 * c + r.val < 8192 by omega)]
  refine congrArg (v.read (Elt Ideal) f) (funext fun b => Fin.ext ?_)
  match b with
  | ⟨0, _⟩ => show off 0 + 1 * 0 = 0; rw [ho 0]; rfl
  | ⟨1, _⟩ => show off 1 + 1 * 0 = (1024 * c + r.val) / 1024; rw [ho 1, e1]; rfl
  | ⟨2, _⟩ => show off 2 + 1 * d.val = 64 * h.val + d.val; rw [ho 2]; show 64 * h.val + 1 * d.val = _; omega
  | ⟨3, _⟩ => show off 3 + 1 * r.val = (1024 * c + r.val) % 1024; rw [ho 3, e2]; show 0 + 1 * r.val = _; omega

theorem diag768_iss {kl : FVec Ideal S1x1024x128 .bf16} {cl : FVec Ideal S1x1x1024x128 .bf16} {q : FVec Ideal S256x256 .bf16} {mk : FVec Ideal S1x768x256 .f32}
    {Kf : S1x8192x128.Idx → EReal} {Cf : S1x1x8192x128.Idx → EReal}
    {Qf : S1x1024x128.Idx → EReal} (hR : RealRaw Kf Cf Qf) {g : ℕ} {h : Fin 2} {j : Fin 4} (hg : g < 8)
    (hk : ∀ r d, kl (ix3 0 r d) = Kf (ix3 0 ⟨1024 * g + r.val, by omega⟩ d)) (hcl : ∀ r d, cl (ix4 0 0 r d) = Cf (ix4 0 0 ⟨1024 * g + r.val, by omega⟩ d))
    (hq : ∀ t d, q (ix2 t d) = qxf h.val (qrow Qf j t) d) (hm : ∀ r t, mk (ix3 0 r t) = if r.val ≤ t.val + 256 * j.val then 0 else ⊥) :
    Iss (sc Kf Cf Qf g h j) (1024 * g) 768 (fun r t => shapeCast S1x768x256 (diag768 kl cl q mk) shapeCasts_S768x256_S1x768x256 (ix3 0 r t)) (fun t => mxOut768 (diag768 kl cl q mk) (ix3 0 0 t)) := by
  refine iss_of768 (sc_ne_top hR g h j) fun r t => ?_
  rw [diag768_apply, hm]
  unfold sc raw
  refine congrArg₂ (· + ·) (Finset.sum_congr rfl fun d _ => by rw [kx_load g hg hk hcl, hq]) ?_
  by_cases h' : r.val ≤ t.val + 256 * j.val
  · rw [if_pos h', if_pos (by omega)]
  · rw [if_neg h', if_neg (by omega)]

theorem rdV768 {sig : RefSig} {κ : Kind} {sp : Space} (v : View sig κ sp S1x8x128x1024 .bf16) (f : v.ty.Contents (Elt Ideal)) {off : Fin 4 → ℕ} {inb} (c : ℕ) (hc : c < 8) (h : Fin 2)
    (ho : ∀ a, off a = (![0, c, 64 * h.val, 0] : Fin 4 → ℕ) a) (d : Fin 64) (r : Fin 768) :
    View.readAt (Elt Ideal) v (Rect.unit (s := S1x8x128x1024) off S1x1x64x768.size inb).toLoadRect f (ix4 0 0 d r) = vx (v.read (Elt Ideal) f) h ⟨d.val, by omega⟩ (1024 * c + r.val) := by
  have e1 : (1024 * c + r.val) / 1024 = c := by omega
  have e2 : (1024 * c + r.val) % 1024 = r.val := by omega
  unfold vx
  rw [dif_pos d.isLt, dif_pos (show 1024 * c + r.val < 8192 by omega)]
  refine congrArg (v.read (Elt Ideal) f) (funext fun b => Fin.ext ?_)
  match b with
  | ⟨0, _⟩ => show off 0 + 1 * 0 = 0; rw [ho 0]; rfl
  | ⟨1, _⟩ => show off 1 + 1 * 0 = (1024 * c + r.val) / 1024; rw [ho 1, e1]; rfl
  | ⟨2, _⟩ => show off 2 + 1 * d.val = 64 * h.val + d.val; rw [ho 2]; show 64 * h.val + 1 * d.val = _; omega
  | ⟨3, _⟩ => show off 3 + 1 * r.val = (1024 * c + r.val) % 1024; rw [ho 3, e2]; show 0 + 1 * r.val = _; omega

theorem diag1024_iss {kl : FVec Ideal S1x1024x128 .bf16} {cl : FVec Ideal S1x1x1024x128 .bf16} {q : FVec Ideal S256x256 .bf16} {mk : FVec Ideal S1x1024x256 .f32}
    {Kf : S1x8192x128.Idx → EReal} {Cf : S1x1x8192x128.Idx → EReal}
    {Qf : S1x1024x128.Idx → EReal} (hR : RealRaw Kf Cf Qf) {g : ℕ} {h : Fin 2} {j : Fin 4} (hg : g < 8)
    (hk : ∀ r d, kl (ix3 0 r d) = Kf (ix3 0 ⟨1024 * g + r.val, by omega⟩ d)) (hcl : ∀ r d, cl (ix4 0 0 r d) = Cf (ix4 0 0 ⟨1024 * g + r.val, by omega⟩ d))
    (hq : ∀ t d, q (ix2 t d) = qxf h.val (qrow Qf j t) d) (hm : ∀ r t, mk (ix3 0 r t) = if r.val ≤ t.val + 256 * j.val then 0 else ⊥) :
    Iss (sc Kf Cf Qf g h j) (1024 * g) 1024 (fun r t => shapeCast S1x1024x256 (diag1024 kl cl q mk) shapeCasts_S1024x256_S1x1024x256 (ix3 0 r t)) (fun t => mxOut1024 (diag1024 kl cl q mk) (ix3 0 0 t)) := by
  refine iss_of1024 (sc_ne_top hR g h j) fun r t => ?_
  rw [diag1024_apply, hm]
  unfold sc raw
  refine congrArg₂ (· + ·) (Finset.sum_congr rfl fun d _ => by rw [kx_load g hg hk hcl, hq]) ?_
  by_cases h' : r.val ≤ t.val + 256 * j.val
  · rw [if_pos h', if_pos (by omega)]
  · rw [if_neg h', if_neg (by omega)]

theorem rdV1024 {sig : RefSig} {κ : Kind} {sp : Space} (v : View sig κ sp S1x8x128x1024 .bf16) (f : v.ty.Contents (Elt Ideal)) {off : Fin 4 → ℕ} {inb} (c : ℕ) (hc : c < 8) (h : Fin 2)
    (ho : ∀ a, off a = (![0, c, 64 * h.val, 0] : Fin 4 → ℕ) a) (d : Fin 64) (r : Fin 1024) :
    View.readAt (Elt Ideal) v (Rect.unit (s := S1x8x128x1024) off S1x1x64x1024.size inb).toLoadRect f (ix4 0 0 d r) = vx (v.read (Elt Ideal) f) h ⟨d.val, by omega⟩ (1024 * c + r.val) := by
  have e1 : (1024 * c + r.val) / 1024 = c := by omega
  have e2 : (1024 * c + r.val) % 1024 = r.val := by omega
  unfold vx
  rw [dif_pos d.isLt, dif_pos (show 1024 * c + r.val < 8192 by omega)]
  refine congrArg (v.read (Elt Ideal) f) (funext fun b => Fin.ext ?_)
  match b with
  | ⟨0, _⟩ => show off 0 + 1 * 0 = 0; rw [ho 0]; rfl
  | ⟨1, _⟩ => show off 1 + 1 * 0 = (1024 * c + r.val) / 1024; rw [ho 1, e1]; rfl
  | ⟨2, _⟩ => show off 2 + 1 * d.val = 64 * h.val + d.val; rw [ho 2]; show 64 * h.val + 1 * d.val = _; omega
  | ⟨3, _⟩ => show off 3 + 1 * r.val = (1024 * c + r.val) % 1024; rw [ho 3, e2]; show 0 + 1 * r.val = _; omega

/-! ## An absorption's results, and a block's scores, read where they were written -/

theorem Iss_congr {S : Fin 256 → ℕ → EReal} {base len : ℕ} {s s' : Fin len → Fin 256 → EReal} {mx mx' : Fin 256 → EReal}
    (hs : ∀ r t, s' r t = s r t) (hm : ∀ t, mx' t = mx t) (h : Iss S base len s mx) : Iss S base len s' mx' :=
  ⟨fun r t => (hs r t).trans (h.1 r t), fun t => by rw [hm]; exact h.2 t⟩

theorem Abs_congr {S : Fin 256 → ℕ → EReal} {V : Fin 80 → ℕ → EReal} {lo hi : ℕ} {m m' : Fin 256 → EReal} {a a' : Fin 80 → Fin 256 → EReal}
    (hm : ∀ t, m' t = m t) (ha : ∀ d t, a' d t = a d t) (h : Abs S V lo hi m a) : Abs S V lo hi m' a' :=
  fun t => by
    obtain ⟨μ, h1, h2⟩ := h t
    exact ⟨μ, (hm t).trans h1, fun d => (ha d t).trans (h2 d)⟩

theorem absTo256 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x256x256 .f32} {vl : FVec Ideal S1x1x64x256 .bf16} {o : FVec Ideal S16x256 .bf16}
    {m mx m' : Fin 256 → EReal} {a a' : Fin 80 → Fin 256 → EReal} {s : Fin 256 → Fin 256 → EReal}
    (habs : Abs S V lo hi m a) (hiss : Iss S base 256 s mx) (hlo : base + 256 = lo) (hhi : lo ≤ hi)
    (hm' : ∀ t, m' t = mOut M MX (ix3 0 0 t)) (ha' : ∀ d t, a' d t = aOut256 M MX A X vl o (ix3 0 d t))
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (absorb256 hS habs hiss hlo hhi hM hMX hA hX hv ho hone)

theorem firstTo256 {S : Fin 256 → ℕ → EReal} {V : Fin 80 → ℕ → EReal} {hi base : ℕ}
    {M MX : FVec Ideal S1x1x256 .f32} {A : FVec Ideal S1x80x256 .f32} {X : FVec Ideal S1x256x256 .f32} {vl : FVec Ideal S1x1x64x256 .bf16} {o : FVec Ideal S16x256 .bf16}
    {mx m' : Fin 256 → EReal} {a' : Fin 80 → Fin 256 → EReal} {s : Fin 256 → Fin 256 → EReal}
    (hiss : Iss S base 256 s mx) (hb : ∀ t, S t base ≠ ⊥) (hm : ∀ t pos, base + 256 ≤ pos → S t pos = ⊥) (hhi : base + 256 ≤ hi)
    (hm' : ∀ t, m' t = mOut M MX (ix3 0 0 t)) (ha' : ∀ d t, a' d t = aOut256 M MX A X vl o (ix3 0 d t))
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (first256 hiss hb hm hhi hM hMX hA hX hv ho hone)

theorem absTo512 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x512x256 .f32} {vl : FVec Ideal S1x1x64x512 .bf16} {o : FVec Ideal S16x512 .bf16}
    {m mx m' : Fin 256 → EReal} {a a' : Fin 80 → Fin 256 → EReal} {s : Fin 512 → Fin 256 → EReal}
    (habs : Abs S V lo hi m a) (hiss : Iss S base 512 s mx) (hlo : base + 512 = lo) (hhi : lo ≤ hi)
    (hm' : ∀ t, m' t = mOut M MX (ix3 0 0 t)) (ha' : ∀ d t, a' d t = aOut512 M MX A X vl o (ix3 0 d t))
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (absorb512 hS habs hiss hlo hhi hM hMX hA hX hv ho hone)

theorem firstTo512 {S : Fin 256 → ℕ → EReal} {V : Fin 80 → ℕ → EReal} {hi base : ℕ}
    {M MX : FVec Ideal S1x1x256 .f32} {A : FVec Ideal S1x80x256 .f32} {X : FVec Ideal S1x512x256 .f32} {vl : FVec Ideal S1x1x64x512 .bf16} {o : FVec Ideal S16x512 .bf16}
    {mx m' : Fin 256 → EReal} {a' : Fin 80 → Fin 256 → EReal} {s : Fin 512 → Fin 256 → EReal}
    (hiss : Iss S base 512 s mx) (hb : ∀ t, S t base ≠ ⊥) (hm : ∀ t pos, base + 512 ≤ pos → S t pos = ⊥) (hhi : base + 512 ≤ hi)
    (hm' : ∀ t, m' t = mOut M MX (ix3 0 0 t)) (ha' : ∀ d t, a' d t = aOut512 M MX A X vl o (ix3 0 d t))
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (first512 hiss hb hm hhi hM hMX hA hX hv ho hone)

theorem absTo768 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x768x256 .f32} {vl : FVec Ideal S1x1x64x768 .bf16} {o : FVec Ideal S16x768 .bf16}
    {m mx m' : Fin 256 → EReal} {a a' : Fin 80 → Fin 256 → EReal} {s : Fin 768 → Fin 256 → EReal}
    (habs : Abs S V lo hi m a) (hiss : Iss S base 768 s mx) (hlo : base + 768 = lo) (hhi : lo ≤ hi)
    (hm' : ∀ t, m' t = mOut M MX (ix3 0 0 t)) (ha' : ∀ d t, a' d t = aOut768 M MX A X vl o (ix3 0 d t))
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (absorb768 hS habs hiss hlo hhi hM hMX hA hX hv ho hone)

theorem firstTo768 {S : Fin 256 → ℕ → EReal} {V : Fin 80 → ℕ → EReal} {hi base : ℕ}
    {M MX : FVec Ideal S1x1x256 .f32} {A : FVec Ideal S1x80x256 .f32} {X : FVec Ideal S1x768x256 .f32} {vl : FVec Ideal S1x1x64x768 .bf16} {o : FVec Ideal S16x768 .bf16}
    {mx m' : Fin 256 → EReal} {a' : Fin 80 → Fin 256 → EReal} {s : Fin 768 → Fin 256 → EReal}
    (hiss : Iss S base 768 s mx) (hb : ∀ t, S t base ≠ ⊥) (hm : ∀ t pos, base + 768 ≤ pos → S t pos = ⊥) (hhi : base + 768 ≤ hi)
    (hm' : ∀ t, m' t = mOut M MX (ix3 0 0 t)) (ha' : ∀ d t, a' d t = aOut768 M MX A X vl o (ix3 0 d t))
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (first768 hiss hb hm hhi hM hMX hA hX hv ho hone)

theorem absTo1024 {S : Fin 256 → ℕ → EReal} {V : Fin 80 → ℕ → EReal} {lo hi base : ℕ} (hS : ∀ t pos, S t pos ≠ ⊤)
    {M MX : FVec Ideal S1x1x256 .f32} {A : FVec Ideal S1x80x256 .f32} {X : FVec Ideal S1x1024x256 .f32} {vl : FVec Ideal S1x1x64x1024 .bf16} {o : FVec Ideal S16x1024 .bf16}
    {m mx m' : Fin 256 → EReal} {a a' : Fin 80 → Fin 256 → EReal} {s : Fin 1024 → Fin 256 → EReal}
    (habs : Abs S V lo hi m a) (hiss : Iss S base 1024 s mx) (hlo : base + 1024 = lo) (hhi : lo ≤ hi)
    (hm' : ∀ t, m' t = mOut M MX (ix3 0 0 t)) (ha' : ∀ d t, a' d t = aOut1024 M MX A X vl o (ix3 0 d t))
    (hM : ∀ t, M (ix3 0 0 t) = m t) (hMX : ∀ t, MX (ix3 0 0 t) = mx t) (hA : ∀ d t, A (ix3 0 d t) = a d t) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (absorb1024 hS habs hiss hlo hhi hM hMX hA hX hv ho hone)

theorem firstTo1024 {S : Fin 256 → ℕ → EReal} {V : Fin 80 → ℕ → EReal} {hi base : ℕ}
    {M MX : FVec Ideal S1x1x256 .f32} {A : FVec Ideal S1x80x256 .f32} {X : FVec Ideal S1x1024x256 .f32} {vl : FVec Ideal S1x1x64x1024 .bf16} {o : FVec Ideal S16x1024 .bf16}
    {mx m' : Fin 256 → EReal} {a' : Fin 80 → Fin 256 → EReal} {s : Fin 1024 → Fin 256 → EReal}
    (hiss : Iss S base 1024 s mx) (hb : ∀ t, S t base ≠ ⊥) (hm : ∀ t pos, base + 1024 ≤ pos → S t pos = ⊥) (hhi : base + 1024 ≤ hi)
    (hm' : ∀ t, m' t = mOut M MX (ix3 0 0 t)) (ha' : ∀ d t, a' d t = aOut1024 M MX A X vl o (ix3 0 d t))
    (hM : ∀ t, M (ix3 0 0 t) = ⊥) (hMX : ∀ t, MX (ix3 0 0 t) = mx t) (hA : ∀ d t, A (ix3 0 d t) = 0) (hX : ∀ r t, X (ix3 0 r t) = s r t)
    (hv : ∀ (d : Fin 64) r, vl (ix4 0 0 d r) = V ⟨d.val, by omega⟩ (base + r.val)) (ho : ∀ y, o y = 1) (hone : ∀ (d : Fin 80) pos, 64 ≤ d.val → V d pos = 1) :
    Abs S V base hi m' a' :=
  Abs_congr hm' ha' (first1024 hiss hb hm hhi hM hMX hA hX hv ho hone)

/-! ## The offsets -/

theorem trips_eq : ∀ i : grid0.Coords, k0_cond4 i = 1#1 → (k0_t1_loop i).trips = ((i 2).val - 1) / 2 := by decide +kernel

theorem off1 : ∀ (i : grid0.Coords), k0_cond2 i = 1#1 → ∀ a, k0_off1 i a = (![0, 1024 * (i 2).val, 0] : Fin 3 → ℕ) a := by decide +kernel
theorem off2 : ∀ (i : grid0.Coords), k0_cond2 i = 1#1 → ∀ a, k0_off2 i a = (![0, 0, 1024 * (i 2).val, 0] : Fin 4 → ℕ) a := by decide +kernel
theorem off3 : ∀ (i : grid0.Coords), k0_cond3 i = 1#1 → ∀ a, k0_off3 i a = (![0, (i 2).val, 0, 0] : Fin 4 → ℕ) a := by decide +kernel
theorem off4 : ∀ (i : grid0.Coords), k0_cond3 i = 1#1 → ∀ a, k0_off4 i a = (![0, (i 2).val, 0, 0] : Fin 4 → ℕ) a := by decide +kernel
theorem off5 : ∀ (i : grid0.Coords), k0_cond3 i = 1#1 → ∀ a, k0_off5 i a = (![0, (i 2).val, 0, 0] : Fin 4 → ℕ) a := by decide +kernel
theorem off6 : ∀ (i : grid0.Coords), k0_cond3 i = 1#1 → ∀ a, k0_off6 i a = (![0, (i 2).val, 0, 0] : Fin 4 → ℕ) a := by decide +kernel
theorem off7 : ∀ (i : grid0.Coords), k0_cond3 i = 1#1 → ∀ a, k0_off7 i a = (![0, (i 2).val, 64, 0] : Fin 4 → ℕ) a := by decide +kernel
theorem off8 : ∀ (i : grid0.Coords), k0_cond3 i = 1#1 → ∀ a, k0_off8 i a = (![0, (i 2).val, 64, 0] : Fin 4 → ℕ) a := by decide +kernel
theorem off9 : ∀ (i : grid0.Coords), k0_cond3 i = 1#1 → ∀ a, k0_off9 i a = (![0, (i 2).val, 64, 0] : Fin 4 → ℕ) a := by decide +kernel
theorem off10 : ∀ (i : grid0.Coords), k0_cond3 i = 1#1 → ∀ a, k0_off10 i a = (![0, (i 2).val, 64, 0] : Fin 4 → ℕ) a := by decide +kernel
theorem off11 : ∀ (i : grid0.Coords), k0_cond3 i = 1#1 → ∀ a, k0_off11 i a = (![0, 1024 * min ((i 2).val + 1) 7, 0] : Fin 3 → ℕ) a := by decide +kernel
theorem off12 : ∀ (i : grid0.Coords), k0_cond3 i = 1#1 → ∀ a, k0_off12 i a = (![0, 0, 1024 * min ((i 2).val + 1) 7, 0] : Fin 4 → ℕ) a := by decide +kernel
theorem off13 : ∀ (i : grid0.Coords), k0_cond4 i = 1#1 → ∀ a, k0_off13 i a = (![0, 1024 * ((i 2).val - 1), 0] : Fin 3 → ℕ) a := by decide +kernel
theorem off14 : ∀ (i : grid0.Coords), k0_cond4 i = 1#1 → ∀ a, k0_off14 i a = (![0, 0, 1024 * ((i 2).val - 1), 0] : Fin 4 → ℕ) a := by decide +kernel
theorem off15 : ∀ (i : grid0.Coords), k0_cond4 i = 1#1 → ∀ a, k0_off15 i a = (![0, (i 2).val, 0, 0] : Fin 4 → ℕ) a := by decide +kernel
theorem off16 : ∀ (i : grid0.Coords), k0_cond4 i = 1#1 → ∀ a, k0_off16 i a = (![0, (i 2).val, 0, 0] : Fin 4 → ℕ) a := by decide +kernel
theorem off17 : ∀ (i : grid0.Coords), k0_cond4 i = 1#1 → ∀ a, k0_off17 i a = (![0, (i 2).val, 0, 0] : Fin 4 → ℕ) a := by decide +kernel
theorem off18 : ∀ (i : grid0.Coords), k0_cond4 i = 1#1 → ∀ a, k0_off18 i a = (![0, (i 2).val, 0, 0] : Fin 4 → ℕ) a := by decide +kernel
theorem off19 : ∀ (i : grid0.Coords), k0_cond4 i = 1#1 → ∀ a, k0_off19 i a = (![0, (i 2).val, 64, 0] : Fin 4 → ℕ) a := by decide +kernel
theorem off20 : ∀ (i : grid0.Coords), k0_cond4 i = 1#1 → ∀ a, k0_off20 i a = (![0, (i 2).val, 64, 0] : Fin 4 → ℕ) a := by decide +kernel
theorem off21 : ∀ (i : grid0.Coords), k0_cond4 i = 1#1 → ∀ a, k0_off21 i a = (![0, (i 2).val, 64, 0] : Fin 4 → ℕ) a := by decide +kernel
theorem off22 : ∀ (i : grid0.Coords), k0_cond4 i = 1#1 → ∀ a, k0_off22 i a = (![0, (i 2).val, 64, 0] : Fin 4 → ℕ) a := by decide +kernel
theorem off23 : ∀ (i : grid0.Coords) (k : Fin (k0_t1_loop i).trips), k0_cond4 i = 1#1 → ∀ a, k0_off23 i k a = (![0, 1024 * ((i 2).val - 2 - 2 * k.val), 0] : Fin 3 → ℕ) a := by decide +kernel
theorem off24 : ∀ (i : grid0.Coords) (k : Fin (k0_t1_loop i).trips), k0_cond4 i = 1#1 → ∀ a, k0_off24 i k a = (![0, 0, 1024 * ((i 2).val - 2 - 2 * k.val), 0] : Fin 4 → ℕ) a := by decide +kernel
theorem off25 : ∀ (i : grid0.Coords) (k : Fin (k0_t1_loop i).trips), k0_cond4 i = 1#1 → ∀ a, k0_off25 i k a = (![0, (i 2).val - 1 - 2 * k.val, 0, 0] : Fin 4 → ℕ) a := by decide +kernel
theorem off26 : ∀ (i : grid0.Coords) (k : Fin (k0_t1_loop i).trips), k0_cond4 i = 1#1 → ∀ a, k0_off26 i k a = (![0, (i 2).val - 1 - 2 * k.val, 64, 0] : Fin 4 → ℕ) a := by decide +kernel
theorem off27 : ∀ (i : grid0.Coords) (k : Fin (k0_t1_loop i).trips), k0_cond4 i = 1#1 → ∀ a, k0_off27 i k a = (![0, 1024 * ((i 2).val - 3 - 2 * k.val), 0] : Fin 3 → ℕ) a := by decide +kernel
theorem off28 : ∀ (i : grid0.Coords) (k : Fin (k0_t1_loop i).trips), k0_cond4 i = 1#1 → ∀ a, k0_off28 i k a = (![0, 0, 1024 * ((i 2).val - 3 - 2 * k.val), 0] : Fin 4 → ℕ) a := by decide +kernel
theorem off29 : ∀ (i : grid0.Coords) (k : Fin (k0_t1_loop i).trips), k0_cond4 i = 1#1 → ∀ a, k0_off29 i k a = (![0, (i 2).val - 2 - 2 * k.val, 0, 0] : Fin 4 → ℕ) a := by decide +kernel
theorem off30 : ∀ (i : grid0.Coords) (k : Fin (k0_t1_loop i).trips), k0_cond4 i = 1#1 → ∀ a, k0_off30 i k a = (![0, (i 2).val - 2 - 2 * k.val, 64, 0] : Fin 4 → ℕ) a := by decide +kernel
theorem off39 : ∀ (i : grid0.Coords), k0_cond5 i = 1#1 → ∀ a, k0_off39 i a = (![0, 1024 * min ((i 2).val + 1) 7, 0] : Fin 3 → ℕ) a := by decide +kernel
theorem off40 : ∀ (i : grid0.Coords), k0_cond5 i = 1#1 → ∀ a, k0_off40 i a = (![0, 0, 1024 * min ((i 2).val + 1) 7, 0] : Fin 4 → ℕ) a := by decide +kernel
theorem off41 : ∀ (i : grid0.Coords), k0_cond6 i = 1#1 → ∀ a, k0_off41 i a = (![0, 1024 * min ((i 2).val + 1) 7, 0] : Fin 3 → ℕ) a := by decide +kernel
theorem off42 : ∀ (i : grid0.Coords), k0_cond6 i = 1#1 → ∀ a, k0_off42 i a = (![0, 0, 1024 * min ((i 2).val + 1) 7, 0] : Fin 4 → ℕ) a := by decide +kernel
end Cert.KernelIdeal.Fox
-- ==== Proof.Fox.Trip0.lean ====
module
public import proofs.«01_k».proof.Proof.Fox.Score
public import proofs.«01_k».proof.Proof.Ideal.Loops

@[expose] public section

/-! One trip of the FoX attention kernel's pair loop, stream by stream: two blocks absorbed, the next one issued. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

set_option maxHeartbeats 8000000 in
theorem trip_0 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v56 (ix2 t d) = qxf 0 (qrow Qf 0 t) d) (ho : ∀ y, v3 y = 1)
    (hA : Abs (sc (arg3.view.read (Elt Ideal) f3) (arg6.view.read (Elt Ideal) f6) Qf (i 2).val 0 0) (vx (arg7.view.read (Elt Ideal) f7) 0) (1024 * ((i 2).val - 2 * k.val)) (1024 * ((i 2).val + 1)) (fun t => arg16.view.read (Elt Ideal) f16 (ix3 0 0 t)) (fun r t => arg17.view.read (Elt Ideal) f17 (ix3 0 r t)))
    (hI : Iss (sc (arg3.view.read (Elt Ideal) f3) (arg6.view.read (Elt Ideal) f6) Qf (i 2).val 0 0) (1024 * ((i 2).val - 1 - 2 * k.val)) 1024 (fun r t => arg11.view.read (Elt Ideal) f11 (ix3 0 r t)) (fun t => arg14.view.read (Elt Ideal) f14 (ix3 0 0 t))) :
    Abs (sc (arg3.view.read (Elt Ideal) f3) (arg6.view.read (Elt Ideal) f6) Qf (i 2).val 0 0) (vx (arg7.view.read (Elt Ideal) f7) 0) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 0 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 0 r t))
      ∧ Iss (sc (arg3.view.read (Elt Ideal) f3) (arg6.view.read (Elt Ideal) f6) Qf (i 2).val 0 0) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 0 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 0 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 0 0
  have hone : ∀ (d : Fin 80) pos, 64 ≤ d.val → (vx (arg7.view.read (Elt Ideal) f7) 0) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hM => exact fun t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hA => exact fun d t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hMX => exact fun t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hX => exact fun r t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hv => exact fun d r => rdV1024 _ _ _ (by omega) 0 (off29 i k k0_h4) _ _
  case hM0 => exact fun t => (rdAt3' _ _ 0 (by decide) le_rfl _ _)
  case hX0 => exact fun t => (rdAt3' _ _ 0 (by decide) le_rfl _ _)
  case hA0 => exact fun d t => (rdAt3' _ _ 0 (by decide) le_rfl _ _)
  case hS0 => exact fun r t => (rdAt3' _ _ 0 (by decide) le_rfl _ _)
  case hv0 => exact fun d r => rdV1024 _ _ _ (by omega) 0 (off25 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk' => exact fun r d => rdK _ _ _ (by omega) (off27 i k k0_h4) _ _
  case hc' => exact fun r d => rdC _ _ _ (by omega) (off28 i k k0_h4) _ _

set_option maxHeartbeats 8000000 in
theorem trip_1 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v97 (ix2 t d) = qxf 0 (qrow Qf 1 t) d) (ho : ∀ y, v3 y = 1)
    (hA : Abs (sc (arg3.view.read (Elt Ideal) f3) (arg6.view.read (Elt Ideal) f6) Qf (i 2).val 0 1) (vx (arg7.view.read (Elt Ideal) f7) 0) (1024 * ((i 2).val - 2 * k.val)) (1024 * ((i 2).val + 1)) (fun t => arg16.view.read (Elt Ideal) f16 (ix3 1 0 t)) (fun r t => arg17.view.read (Elt Ideal) f17 (ix3 1 r t)))
    (hI : Iss (sc (arg3.view.read (Elt Ideal) f3) (arg6.view.read (Elt Ideal) f6) Qf (i 2).val 0 1) (1024 * ((i 2).val - 1 - 2 * k.val)) 1024 (fun r t => arg11.view.read (Elt Ideal) f11 (ix3 1 r t)) (fun t => arg14.view.read (Elt Ideal) f14 (ix3 1 0 t))) :
    Abs (sc (arg3.view.read (Elt Ideal) f3) (arg6.view.read (Elt Ideal) f6) Qf (i 2).val 0 1) (vx (arg7.view.read (Elt Ideal) f7) 0) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 1 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 1 r t))
      ∧ Iss (sc (arg3.view.read (Elt Ideal) f3) (arg6.view.read (Elt Ideal) f6) Qf (i 2).val 0 1) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 1 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 1 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 0 1
  have hone : ∀ (d : Fin 80) pos, 64 ≤ d.val → (vx (arg7.view.read (Elt Ideal) f7) 0) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hM => exact fun t => ((cov3' _ _ 1 (by decide) le_rfl _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _))))))))))
  case hA => exact fun d t => ((cov3' _ _ 1 (by decide) le_rfl _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _))))))))))
  case hMX => exact fun t => ((cov3' _ _ 1 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hX => exact fun r t => ((cov3' _ _ 1 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hv => exact fun d r => rdV1024 _ _ _ (by omega) 0 (off29 i k k0_h4) _ _
  case hM0 => exact fun t => (rdAt3' _ _ 1 (by decide) le_rfl _ _)
  case hX0 => exact fun t => (rdAt3' _ _ 1 (by decide) le_rfl _ _)
  case hA0 => exact fun d t => (rdAt3' _ _ 1 (by decide) le_rfl _ _)
  case hS0 => exact fun r t => (rdAt3' _ _ 1 (by decide) le_rfl _ _)
  case hv0 => exact fun d r => rdV1024 _ _ _ (by omega) 0 (off25 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk' => exact fun r d => rdK _ _ _ (by omega) (off27 i k k0_h4) _ _
  case hc' => exact fun r d => rdC _ _ _ (by omega) (off28 i k k0_h4) _ _

set_option maxHeartbeats 8000000 in
theorem trip_2 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v138 (ix2 t d) = qxf 0 (qrow Qf 2 t) d) (ho : ∀ y, v3 y = 1)
    (hA : Abs (sc (arg3.view.read (Elt Ideal) f3) (arg6.view.read (Elt Ideal) f6) Qf (i 2).val 0 2) (vx (arg7.view.read (Elt Ideal) f7) 0) (1024 * ((i 2).val - 2 * k.val)) (1024 * ((i 2).val + 1)) (fun t => arg16.view.read (Elt Ideal) f16 (ix3 2 0 t)) (fun r t => arg17.view.read (Elt Ideal) f17 (ix3 2 r t)))
    (hI : Iss (sc (arg3.view.read (Elt Ideal) f3) (arg6.view.read (Elt Ideal) f6) Qf (i 2).val 0 2) (1024 * ((i 2).val - 1 - 2 * k.val)) 1024 (fun r t => arg11.view.read (Elt Ideal) f11 (ix3 2 r t)) (fun t => arg14.view.read (Elt Ideal) f14 (ix3 2 0 t))) :
    Abs (sc (arg3.view.read (Elt Ideal) f3) (arg6.view.read (Elt Ideal) f6) Qf (i 2).val 0 2) (vx (arg7.view.read (Elt Ideal) f7) 0) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 2 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 2 r t))
      ∧ Iss (sc (arg3.view.read (Elt Ideal) f3) (arg6.view.read (Elt Ideal) f6) Qf (i 2).val 0 2) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 2 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 2 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 0 2
  have hone : ∀ (d : Fin 80) pos, 64 ≤ d.val → (vx (arg7.view.read (Elt Ideal) f7) 0) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hM => exact fun t => ((cov3' _ _ 2 (by decide) le_rfl _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))))
  case hA => exact fun d t => ((cov3' _ _ 2 (by decide) le_rfl _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))))
  case hMX => exact fun t => ((cov3' _ _ 2 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hX => exact fun r t => ((cov3' _ _ 2 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hv => exact fun d r => rdV1024 _ _ _ (by omega) 0 (off29 i k k0_h4) _ _
  case hM0 => exact fun t => (rdAt3' _ _ 2 (by decide) le_rfl _ _)
  case hX0 => exact fun t => (rdAt3' _ _ 2 (by decide) le_rfl _ _)
  case hA0 => exact fun d t => (rdAt3' _ _ 2 (by decide) le_rfl _ _)
  case hS0 => exact fun r t => (rdAt3' _ _ 2 (by decide) le_rfl _ _)
  case hv0 => exact fun d r => rdV1024 _ _ _ (by omega) 0 (off25 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk' => exact fun r d => rdK _ _ _ (by omega) (off27 i k k0_h4) _ _
  case hc' => exact fun r d => rdC _ _ _ (by omega) (off28 i k k0_h4) _ _

set_option maxHeartbeats 8000000 in
theorem trip_3 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v179 (ix2 t d) = qxf 0 (qrow Qf 3 t) d) (ho : ∀ y, v3 y = 1)
    (hA : Abs (sc (arg3.view.read (Elt Ideal) f3) (arg6.view.read (Elt Ideal) f6) Qf (i 2).val 0 3) (vx (arg7.view.read (Elt Ideal) f7) 0) (1024 * ((i 2).val - 2 * k.val)) (1024 * ((i 2).val + 1)) (fun t => arg16.view.read (Elt Ideal) f16 (ix3 3 0 t)) (fun r t => arg17.view.read (Elt Ideal) f17 (ix3 3 r t)))
    (hI : Iss (sc (arg3.view.read (Elt Ideal) f3) (arg6.view.read (Elt Ideal) f6) Qf (i 2).val 0 3) (1024 * ((i 2).val - 1 - 2 * k.val)) 1024 (fun r t => arg11.view.read (Elt Ideal) f11 (ix3 3 r t)) (fun t => arg14.view.read (Elt Ideal) f14 (ix3 3 0 t))) :
    Abs (sc (arg3.view.read (Elt Ideal) f3) (arg6.view.read (Elt Ideal) f6) Qf (i 2).val 0 3) (vx (arg7.view.read (Elt Ideal) f7) 0) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 3 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 3 r t))
      ∧ Iss (sc (arg3.view.read (Elt Ideal) f3) (arg6.view.read (Elt Ideal) f6) Qf (i 2).val 0 3) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 3 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 3 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 0 3
  have hone : ∀ (d : Fin 80) pos, 64 ≤ d.val → (vx (arg7.view.read (Elt Ideal) f7) 0) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hM => exact fun t => ((cov3' _ _ 3 (by decide) le_rfl _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _))))))))))
  case hA => exact fun d t => ((cov3' _ _ 3 (by decide) le_rfl _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _))))))))))
  case hMX => exact fun t => ((cov3' _ _ 3 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hX => exact fun r t => ((cov3' _ _ 3 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hv => exact fun d r => rdV1024 _ _ _ (by omega) 0 (off29 i k k0_h4) _ _
  case hM0 => exact fun t => (rdAt3' _ _ 3 (by decide) le_rfl _ _)
  case hX0 => exact fun t => (rdAt3' _ _ 3 (by decide) le_rfl _ _)
  case hA0 => exact fun d t => (rdAt3' _ _ 3 (by decide) le_rfl _ _)
  case hS0 => exact fun r t => (rdAt3' _ _ 3 (by decide) le_rfl _ _)
  case hv0 => exact fun d r => rdV1024 _ _ _ (by omega) 0 (off25 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk' => exact fun r d => rdK _ _ _ (by omega) (off27 i k k0_h4) _ _
  case hc' => exact fun r d => rdC _ _ _ (by omega) (off28 i k k0_h4) _ _

end Cert.KernelIdeal.Fox
-- ==== Proof.Fox.Trip1.lean ====
module
public import proofs.«01_k».proof.Proof.Fox.Score
public import proofs.«01_k».proof.Proof.Ideal.Loops

@[expose] public section

/-! One trip of the FoX attention kernel's pair loop, stream by stream: two blocks absorbed, the next one issued. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

set_option maxHeartbeats 8000000 in
theorem trip_4 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v220 (ix2 t d) = qxf 1 (qrow Qf 0 t) d) (ho : ∀ y, v3 y = 1)
    (hA : Abs (sc (arg3.view.read (Elt Ideal) f3) (arg6.view.read (Elt Ideal) f6) Qf (i 2).val 1 0) (vx (arg7.view.read (Elt Ideal) f7) 1) (1024 * ((i 2).val - 2 * k.val)) (1024 * ((i 2).val + 1)) (fun t => arg16.view.read (Elt Ideal) f16 (ix3 4 0 t)) (fun r t => arg17.view.read (Elt Ideal) f17 (ix3 4 r t)))
    (hI : Iss (sc (arg3.view.read (Elt Ideal) f3) (arg6.view.read (Elt Ideal) f6) Qf (i 2).val 1 0) (1024 * ((i 2).val - 1 - 2 * k.val)) 1024 (fun r t => arg11.view.read (Elt Ideal) f11 (ix3 4 r t)) (fun t => arg14.view.read (Elt Ideal) f14 (ix3 4 0 t))) :
    Abs (sc (arg3.view.read (Elt Ideal) f3) (arg6.view.read (Elt Ideal) f6) Qf (i 2).val 1 0) (vx (arg7.view.read (Elt Ideal) f7) 1) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 4 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 4 r t))
      ∧ Iss (sc (arg3.view.read (Elt Ideal) f3) (arg6.view.read (Elt Ideal) f6) Qf (i 2).val 1 0) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 4 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 4 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 1 0
  have hone : ∀ (d : Fin 80) pos, 64 ≤ d.val → (vx (arg7.view.read (Elt Ideal) f7) 1) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case ha' => exact fun d t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hM => exact fun t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans (cn_hit 4 (by decide) _ _ _ _ (Fin.isLt _))))))))))
  case hA => exact fun d t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans (cn_hit 4 (by decide) _ _ _ _ (Fin.isLt _))))))))))
  case hMX => exact fun t => ((cov3' _ _ 4 (by decide) le_rfl _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hX => exact fun r t => ((cov3' _ _ 4 (by decide) le_rfl _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hv => exact fun d r => rdV1024 _ _ _ (by omega) 1 (off30 i k k0_h4) _ _
  case hM0 => exact fun t => (rdAt3' _ _ 4 (by decide) le_rfl _ _)
  case hX0 => exact fun t => (rdAt3' _ _ 4 (by decide) le_rfl _ _)
  case hA0 => exact fun d t => (rdAt3' _ _ 4 (by decide) le_rfl _ _)
  case hS0 => exact fun r t => (rdAt3' _ _ 4 (by decide) le_rfl _ _)
  case hv0 => exact fun d r => rdV1024 _ _ _ (by omega) 1 (off26 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk' => exact fun r d => rdK _ _ _ (by omega) (off27 i k k0_h4) _ _
  case hc' => exact fun r d => rdC _ _ _ (by omega) (off28 i k k0_h4) _ _

set_option maxHeartbeats 8000000 in
theorem trip_5 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v261 (ix2 t d) = qxf 1 (qrow Qf 1 t) d) (ho : ∀ y, v3 y = 1)
    (hA : Abs (sc (arg3.view.read (Elt Ideal) f3) (arg6.view.read (Elt Ideal) f6) Qf (i 2).val 1 1) (vx (arg7.view.read (Elt Ideal) f7) 1) (1024 * ((i 2).val - 2 * k.val)) (1024 * ((i 2).val + 1)) (fun t => arg16.view.read (Elt Ideal) f16 (ix3 5 0 t)) (fun r t => arg17.view.read (Elt Ideal) f17 (ix3 5 r t)))
    (hI : Iss (sc (arg3.view.read (Elt Ideal) f3) (arg6.view.read (Elt Ideal) f6) Qf (i 2).val 1 1) (1024 * ((i 2).val - 1 - 2 * k.val)) 1024 (fun r t => arg11.view.read (Elt Ideal) f11 (ix3 5 r t)) (fun t => arg14.view.read (Elt Ideal) f14 (ix3 5 0 t))) :
    Abs (sc (arg3.view.read (Elt Ideal) f3) (arg6.view.read (Elt Ideal) f6) Qf (i 2).val 1 1) (vx (arg7.view.read (Elt Ideal) f7) 1) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 5 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 5 r t))
      ∧ Iss (sc (arg3.view.read (Elt Ideal) f3) (arg6.view.read (Elt Ideal) f6) Qf (i 2).val 1 1) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 5 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 5 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 1 1
  have hone : ∀ (d : Fin 80) pos, 64 ≤ d.val → (vx (arg7.view.read (Elt Ideal) f7) 1) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans ((wr_miss _ _ _ 6 (by decide) _ _ _ _).trans (wr_hit _ _ 5 (by decide) _ _ _ _ (Fin.isLt _))))
  case ha' => exact fun d t => ((wr_miss _ _ _ 7 (by decide) _ _ _ _).trans ((wr_miss _ _ _ 6 (by decide) _ _ _ _).trans (wr_hit _ _ 5 (by decide) _ _ _ _ (Fin.isLt _))))
  case hM => exact fun t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans (cn_hit 5 (by decide) _ _ _ _ (Fin.isLt _))))))))))
  case hA => exact fun d t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans (cn_hit 5 (by decide) _ _ _ _ (Fin.isLt _))))))))))
  case hMX => exact fun t => ((cov3' _ _ 5 (by decide) le_rfl _ _).trans ((cn_miss _ 7 (by decide) _ _ _ _).trans ((cn_miss _ 6 (by decide) _ _ _ _).trans (cn_hit 5 (by decide) _ _ _ _ (Fin.isLt _)))))
  case hX => exact fun r t => ((cov3' _ _ 5 (by decide) le_rfl _ _).trans ((cn_miss _ 7 (by decide) _ _ _ _).trans ((cn_miss _ 6 (by decide) _ _ _ _).trans (cn_hit 5 (by decide) _ _ _ _ (Fin.isLt _)))))
  case hv => exact fun d r => rdV1024 _ _ _ (by omega) 1 (off30 i k k0_h4) _ _
  case hM0 => exact fun t => (rdAt3' _ _ 5 (by decide) le_rfl _ _)
  case hX0 => exact fun t => (rdAt3' _ _ 5 (by decide) le_rfl _ _)
  case hA0 => exact fun d t => (rdAt3' _ _ 5 (by decide) le_rfl _ _)
  case hS0 => exact fun r t => (rdAt3' _ _ 5 (by decide) le_rfl _ _)
  case hv0 => exact fun d r => rdV1024 _ _ _ (by omega) 1 (off26 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans ((wr_miss _ _ _ 6 (by decide) _ _ _ _).trans (wr_hit _ _ 5 (by decide) _ _ _ _ (Fin.isLt _))))
  case hmx => exact fun t => ((wr_miss _ _ _ 7 (by decide) _ _ _ _).trans ((wr_miss _ _ _ 6 (by decide) _ _ _ _).trans (wr_hit _ _ 5 (by decide) _ _ _ _ (Fin.isLt _))))
  case hk' => exact fun r d => rdK _ _ _ (by omega) (off27 i k k0_h4) _ _
  case hc' => exact fun r d => rdC _ _ _ (by omega) (off28 i k k0_h4) _ _

set_option maxHeartbeats 8000000 in
theorem trip_6 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v302 (ix2 t d) = qxf 1 (qrow Qf 2 t) d) (ho : ∀ y, v3 y = 1)
    (hA : Abs (sc (arg3.view.read (Elt Ideal) f3) (arg6.view.read (Elt Ideal) f6) Qf (i 2).val 1 2) (vx (arg7.view.read (Elt Ideal) f7) 1) (1024 * ((i 2).val - 2 * k.val)) (1024 * ((i 2).val + 1)) (fun t => arg16.view.read (Elt Ideal) f16 (ix3 6 0 t)) (fun r t => arg17.view.read (Elt Ideal) f17 (ix3 6 r t)))
    (hI : Iss (sc (arg3.view.read (Elt Ideal) f3) (arg6.view.read (Elt Ideal) f6) Qf (i 2).val 1 2) (1024 * ((i 2).val - 1 - 2 * k.val)) 1024 (fun r t => arg11.view.read (Elt Ideal) f11 (ix3 6 r t)) (fun t => arg14.view.read (Elt Ideal) f14 (ix3 6 0 t))) :
    Abs (sc (arg3.view.read (Elt Ideal) f3) (arg6.view.read (Elt Ideal) f6) Qf (i 2).val 1 2) (vx (arg7.view.read (Elt Ideal) f7) 1) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 6 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 6 r t))
      ∧ Iss (sc (arg3.view.read (Elt Ideal) f3) (arg6.view.read (Elt Ideal) f6) Qf (i 2).val 1 2) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 6 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 6 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 1 2
  have hone : ∀ (d : Fin 80) pos, 64 ≤ d.val → (vx (arg7.view.read (Elt Ideal) f7) 1) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => ((wr_miss _ _ _ 7 (by decide) _ _ _ _).trans (wr_hit _ _ 6 (by decide) _ _ _ _ (Fin.isLt _)))
  case ha' => exact fun d t => ((wr_miss _ _ _ 7 (by decide) _ _ _ _).trans (wr_hit _ _ 6 (by decide) _ _ _ _ (Fin.isLt _)))
  case hM => exact fun t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans (cn_hit 6 (by decide) _ _ _ _ (Fin.isLt _))))))))))
  case hA => exact fun d t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans (cn_hit 6 (by decide) _ _ _ _ (Fin.isLt _))))))))))
  case hMX => exact fun t => ((cov3' _ _ 6 (by decide) le_rfl _ _).trans ((cn_miss _ 7 (by decide) _ _ _ _).trans (cn_hit 6 (by decide) _ _ _ _ (Fin.isLt _))))
  case hX => exact fun r t => ((cov3' _ _ 6 (by decide) le_rfl _ _).trans ((cn_miss _ 7 (by decide) _ _ _ _).trans (cn_hit 6 (by decide) _ _ _ _ (Fin.isLt _))))
  case hv => exact fun d r => rdV1024 _ _ _ (by omega) 1 (off30 i k k0_h4) _ _
  case hM0 => exact fun t => (rdAt3' _ _ 6 (by decide) le_rfl _ _)
  case hX0 => exact fun t => (rdAt3' _ _ 6 (by decide) le_rfl _ _)
  case hA0 => exact fun d t => (rdAt3' _ _ 6 (by decide) le_rfl _ _)
  case hS0 => exact fun r t => (rdAt3' _ _ 6 (by decide) le_rfl _ _)
  case hv0 => exact fun d r => rdV1024 _ _ _ (by omega) 1 (off26 i k k0_h4) _ _
  case hk => exact fun r d => rdK _ _ _ (by omega) (off23 i k k0_h4) _ _
  case hc => exact fun r d => rdC _ _ _ (by omega) (off24 i k k0_h4) _ _
  case hs => exact fun r t => ((wr_miss _ _ _ 7 (by decide) _ _ _ _).trans (wr_hit _ _ 6 (by decide) _ _ _ _ (Fin.isLt _)))
  case hmx => exact fun t => ((wr_miss _ _ _ 7 (by decide) _ _ _ _).trans (wr_hit _ _ 6 (by decide) _ _ _ _ (Fin.isLt _)))
  case hk' => exact fun r d => rdK _ _ _ (by omega) (off27 i k k0_h4) _ _
  case hc' => exact fun r d => rdC _ _ _ (by omega) (off28 i k k0_h4) _ _

set_option maxHeartbeats 8000000 in
theorem trip_7 (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (k : Fin (k0_t1_loop i).trips) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf)
    (hq : ∀ t d, v343 (ix2 t d) = qxf 1 (qrow Qf 3 t) d) (ho : ∀ y, v3 y = 1)
    (hA : Abs (sc (arg3.view.read (Elt Ideal) f3) (arg6.view.read (Elt Ideal) f6) Qf (i 2).val 1 3) (vx (arg7.view.read (Elt Ideal) f7) 1) (1024 * ((i 2).val - 2 * k.val)) (1024 * ((i 2).val + 1)) (fun t => arg16.view.read (Elt Ideal) f16 (ix3 7 0 t)) (fun r t => arg17.view.read (Elt Ideal) f17 (ix3 7 r t)))
    (hI : Iss (sc (arg3.view.read (Elt Ideal) f3) (arg6.view.read (Elt Ideal) f6) Qf (i 2).val 1 3) (1024 * ((i 2).val - 1 - 2 * k.val)) 1024 (fun r t => arg11.view.read (Elt Ideal) f11 (ix3 7 r t)) (fun t => arg14.view.read (Elt Ideal) f14 (ix3 7 0 t))) :
    Abs (sc (arg3.view.read (Elt Ideal) f3) (arg6.view.read (Elt Ideal) f6) Qf (i 2).val 1 3) (vx (arg7.view.read (Elt Ideal) f7) 1) (1024 * ((i 2).val - 2 * (k.val + 1))) (1024 * ((i 2).val + 1))
        (fun t => arg16.view.read (Elt Ideal) (arg16.view.writes (Elt Ideal) f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.1) (ix3 7 0 t)) (fun r t => arg17.view.read (Elt Ideal) (arg17.view.writes (Elt Ideal) f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.2.2.1) (ix3 7 r t))
      ∧ Iss (sc (arg3.view.read (Elt Ideal) f3) (arg6.view.read (Elt Ideal) f6) Qf (i 2).val 1 3) (1024 * ((i 2).val - 1 - 2 * (k.val + 1))) 1024 (fun r t => arg11.view.read (Elt Ideal) (arg11.view.writes (Elt Ideal) f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.1) (ix3 7 r t))
        (fun t => arg14.view.read (Elt Ideal) (arg14.view.writes (Elt Ideal) f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 k f3 f6 f7 f10 f11 f13 f14 f16 f17).2.2.2.1) (ix3 7 0 t)) := by
  have hk : k.val < ((i 2).val - 1) / 2 := by
    have h1 := k.isLt
    have h2 := trips_eq i k0_h4
    omega
  have hg : (i 2).val < 8 := (i 2).isLt
  have e1 : (i 2).val - 1 - 2 * (k.val + 1) = (i 2).val - 3 - 2 * k.val := by omega
  have e2 : (i 2).val - 2 * (k.val + 1) = (i 2).val - 2 - 2 * k.val := by omega
  rw [e1, e2]
  have hS := sc_ne_top hR (i 2).val 1 3
  have hone : ∀ (d : Fin 80) pos, 64 ≤ d.val → (vx (arg7.view.read (Elt Ideal) f7) 1) d pos = 1 := vx_one _ _
  unfold trip1
  dsimp only
  refine' ⟨absTo1024 hS (absorb1024 hS hA hI (by omega) (by omega) ?hM0 ?hX0 ?hA0 ?hS0 ?hv0 ho hone)
      (far_iss hR ((i 2).val - 2 - 2 * k.val) hg (by omega) ?hk ?hc hq) (by omega) (by omega) ?hm' ?ha' ?hM ?hMX ?hA ?hX ?hv ho hone,
    Iss_congr ?hs ?hmx (far_iss hR ((i 2).val - 3 - 2 * k.val) hg (by omega) ?hk' ?hc' hq)⟩
  case hm' => exact fun t => (wr_hit _ _ 7 (by decide) _ _ _ _ (Fin.isLt _))
  case ha' => exact fun d t => (wr_hit _ _ 7 (by decide) _ _ _ _ (Fin.isLt _))
  case hM => exact fun t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans (cn_hit 7 (by decide) _ _ _ _ (Fin.isLt _))))))))))
  case hA => exact fun d t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans (cn_hit 7 (by decide) _ _ _ _ (Fin.isLt _))))))))))
  case hMX => exact fun t => ((cov3' _ _ 7 (by decide) le_rfl _ _).trans (cn_hit 7 (by decide) _ _ _ _ (Fin.isLt _)))
  case hX => exact fun r t => ((cov3' _ _ 7 (by decide) le_rfl _ _).trans (cn_hit 7 (by decide) _ _ _ _ (Fin.isLt _)))
  case hv => exact fun d r => rdV1024 _ _ _ (by omega) 1 (off30 i k k0_h4) _ _
  case hM0 => exact fun t => (rdAt3' _ _ 7 (by decide) le_rfl _ _)
  case hX0 => exact fun t => (rdAt3' _ _ 7 (by decide) le_rfl _ _)
  case hA0 => exact fun d t => (rdAt3' _ _ 7 (by decide) le_rfl _ _)
  case hS0 => exact fun r t => (rdAt3' _ _ 7 (by decide) le_rfl _ _)
  case hv0 => exact fun d r => rdV1024 _ _ _ (by omega) 1 (off26 i k k0_h4) _ _
  case hk => exact fun r d => rdK _ _ _ (by omega) (off23 i k k0_h4) _ _
  case hc => exact fun r d => rdC _ _ _ (by omega) (off24 i k k0_h4) _ _
  case hs => exact fun r t => (wr_hit _ _ 7 (by decide) _ _ _ _ (Fin.isLt _))
  case hmx => exact fun t => (wr_hit _ _ 7 (by decide) _ _ _ _ (Fin.isLt _))
  case hk' => exact fun r d => rdK _ _ _ (by omega) (off27 i k k0_h4) _ _
  case hc' => exact fun r d => rdC _ _ _ (by omega) (off28 i k k0_h4) _ _

end Cert.KernelIdeal.Fox
-- ==== Proof.Fox.Loop.lean ====
module
public import proofs.«01_k».proof.Proof.Fox.Trip0
public import proofs.«01_k».proof.Proof.Fox.Trip1

@[expose] public section

/-! The FoX attention kernel's pair loop: all eight streams through every trip. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

/-- The head and the tile of queries of a stream. -/
def hd (n : Fin 8) : Fin 2 := ⟨n.val / 4, by omega⟩
def tl (n : Fin 8) : Fin 4 := ⟨n.val % 4, by omega⟩

theorem all8 {P : Fin 8 → Prop} (h0 : P 0) (h1 : P 1) (h2 : P 2) (h3 : P 3) (h4 : P 4) (h5 : P 5) (h6 : P 6) (h7 : P 7) : ∀ n, P n
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

/-- Every stream's running shift and sums, over keys `lo` to `hi`. -/
def StA (Kf : S1x8192x128.Idx → EReal) (Cf : S1x1x8192x128.Idx → EReal) (Vf : S1x8x128x1024.Idx → EReal) (Qf : S1x1024x128.Idx → EReal) (g lo hi : ℕ)
    (R16 : S8x1x256.Idx → EReal) (R17 : S8x80x256.Idx → EReal) (n : Fin 8) : Prop :=
  Abs (sc Kf Cf Qf g (hd n) (tl n)) (vx Vf (hd n)) lo hi (fun t => R16 (ix3 n 0 t)) (fun d t => R17 (ix3 n d t))

/-- Every stream's scores against the block of keys at `base`, and their maxima. -/
def StI (Kf : S1x8192x128.Idx → EReal) (Cf : S1x1x8192x128.Idx → EReal) (Qf : S1x1024x128.Idx → EReal) (g base : ℕ)
    (R : S8x1024x256.Idx → EReal) (R' : S8x1x256.Idx → EReal) (n : Fin 8) : Prop :=
  Iss (sc Kf Cf Qf g (hd n) (tl n)) base 1024 (fun r t => R (ix3 n r t)) (fun t => R' (ix3 n 0 t))

set_option maxHeartbeats 4000000 in
/-- Before trip `k` the blocks after the `2 * k + 1`st before the rows' own have been absorbed, and that one's scores are issued. -/
theorem loop_inv (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (arg2 : BitVec 32) (v3 : FVec Ideal S16x1024 .bf16) (v56 : FVec Ideal S256x256 .bf16) (v97 : FVec Ideal S256x256 .bf16) (v138 : FVec Ideal S256x256 .bf16) (v179 : FVec Ideal S256x256 .bf16) (v220 : FVec Ideal S256x256 .bf16) (v261 : FVec Ideal S256x256 .bf16) (v302 : FVec Ideal S256x256 .bf16) (v343 : FVec Ideal S256x256 .bf16) (k0_h4 : k0_cond4 i = 1#1) (f3 : Buf (Elt Ideal) (arg3.view.loc (c : Thread nD τ))) (f6 : Buf (Elt Ideal) (arg6.view.loc (c : Thread nD τ))) (f7 : Buf (Elt Ideal) (arg7.view.loc (c : Thread nD τ))) (f10 : Buf (Elt Ideal) (arg10.view.loc (c : Thread nD τ))) (f11 : Buf (Elt Ideal) (arg11.view.loc (c : Thread nD τ))) (f13 : Buf (Elt Ideal) (arg13.view.loc (c : Thread nD τ))) (f14 : Buf (Elt Ideal) (arg14.view.loc (c : Thread nD τ))) (f16 : Buf (Elt Ideal) (arg16.view.loc (c : Thread nD τ))) (f17 : Buf (Elt Ideal) (arg17.view.loc (c : Thread nD τ))) {Qf : S1x1024x128.Idx → EReal}
    (hR : RealRaw (arg3.view.read (Elt Ideal) f3) (arg6.view.read (Elt Ideal) f6) Qf) (hq0 : ∀ t d, v56 (ix2 t d) = qxf 0 (qrow Qf 0 t) d) (hq1 : ∀ t d, v97 (ix2 t d) = qxf 0 (qrow Qf 1 t) d) (hq2 : ∀ t d, v138 (ix2 t d) = qxf 0 (qrow Qf 2 t) d) (hq3 : ∀ t d, v179 (ix2 t d) = qxf 0 (qrow Qf 3 t) d) (hq4 : ∀ t d, v220 (ix2 t d) = qxf 1 (qrow Qf 0 t) d) (hq5 : ∀ t d, v261 (ix2 t d) = qxf 1 (qrow Qf 1 t) d) (hq6 : ∀ t d, v302 (ix2 t d) = qxf 1 (qrow Qf 2 t) d) (hq7 : ∀ t d, v343 (ix2 t d) = qxf 1 (qrow Qf 3 t) d) (ho : ∀ y, v3 y = 1)
    (hA : ∀ n, StA (arg3.view.read (Elt Ideal) f3) (arg6.view.read (Elt Ideal) f6) (arg7.view.read (Elt Ideal) f7) Qf (i 2).val (1024 * ((i 2).val)) (1024 * ((i 2).val + 1)) (arg16.view.read (Elt Ideal) f16) (arg17.view.read (Elt Ideal) f17) n) (hI : ∀ n, StI (arg3.view.read (Elt Ideal) f3) (arg6.view.read (Elt Ideal) f6) Qf (i 2).val (1024 * ((i 2).val - 1)) (arg11.view.read (Elt Ideal) f11) (arg14.view.read (Elt Ideal) f14) n) (k : ℕ) (hk : k ≤ (k0_t1_loop i).trips) :
    ∀ n, StA (arg3.view.read (Elt Ideal) f3) (arg6.view.read (Elt Ideal) f6) (arg7.view.read (Elt Ideal) f7) Qf (i 2).val (1024 * ((i 2).val - 2 * k)) (1024 * ((i 2).val + 1)) (arg16.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f16) (arg17.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f17) n ∧ StI (arg3.view.read (Elt Ideal) f3) (arg6.view.read (Elt Ideal) f6) Qf (i 2).val (1024 * ((i 2).val - 1 - 2 * k)) (arg11.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f11) (arg14.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f14) n := by
  induction k with
  | zero => exact fun n => ⟨hA n, hI n⟩
  | succ k ih =>
    have h : k < (k0_t1_loop i).trips := hk
    have ih := ih (Nat.le_of_lt h)
    have e : lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 (k + 1) = ⟨arg10.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f10 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).1,
        arg11.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f11 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).2.1,
        arg13.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f13 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).2.2.1,
        arg14.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f14 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).2.2.2.1,
        arg16.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f16 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).2.2.2.2.1,
        arg17.view.writes (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k).f17 (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f10 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f11 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f13 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f14 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f16 ((lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k)).f17).2.2.2.2.2.1⟩ := dif_pos h
    rw [e]
    generalize (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 f3 f6 f7 f10 f11 f13 f14 f16 f17 k) = s at ih ⊢
    exact all8
      (trip_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq0 ho (ih 0).1 (ih 0).2)
      (trip_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq1 ho (ih 1).1 (ih 1).2)
      (trip_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq2 ho (ih 2).1 (ih 2).2)
      (trip_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq3 ho (ih 3).1 (ih 3).2)
      (trip_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq4 ho (ih 4).1 (ih 4).2)
      (trip_5 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq5 ho (ih 5).1 (ih 5).2)
      (trip_6 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq6 ho (ih 6).1 (ih 6).2)
      (trip_7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v3 v56 v97 v138 v179 v220 v261 v302 v343 k0_h4 ⟨k, h⟩ f3 f6 f7 s.f10 s.f11 s.f13 s.f14 s.f16 s.f17 hR hq7 ho (ih 7).1 (ih 7).2)

end Cert.KernelIdeal.Fox
-- ==== Proof.Fox.Sem.lean ====
module
public import proofs.«01_k».proof.Proof.Fox.Loop

@[expose] public section

/-! What the FoX attention kernel's body carries from one block of queries to the next, and what it writes. -/

set_option maxRecDepth 16384
noncomputable section
namespace Cert.KernelIdeal.Fox
open Idealize.ShloMosaic Idealize.ShloMosaic.TcCoe Cert.KernelIdeal Cert.KernelIdeal.Gen Cert.Fox
open Finset

theorem cond4_pos : ∀ i : grid0.Coords, k0_cond4 i = 1#1 → 1 ≤ (i 2).val := by decide +kernel
theorem cond5_even : ∀ i : grid0.Coords, k0_cond5 i = 1#1 → (i 2).val % 2 = 0 := by decide +kernel
theorem cond6_odd : ∀ i : grid0.Coords, k0_cond6 i = 1#1 → (i 2).val % 2 = 1 := by decide +kernel
theorem cond2_zero : ∀ i : grid0.Coords, k0_cond2 i = 1#1 → (i 2).val = 0 := by decide +kernel

theorem hq0_of {x : FVec Ideal S256x256 .bf16} {ql : FVec Ideal S1x256x128 .bf16} {Qf : S1x1024x128.Idx → EReal} {j : Fin 4}
    (hx : x = qx 0#32 0#32 3#32 ql) (hql : ∀ t e, ql (ix3 0 t e) = qrow Qf j t e) : ∀ t d, x (ix2 t d) = qxf (0 : Fin 2).val (qrow Qf j t) d := fun t d => by
  rw [hx, qx0_apply]
  exact congrArg (fun q => qxf 0 q d) (funext fun e => hql t e)

theorem hq1_of {x : FVec Ideal S256x256 .bf16} {ql : FVec Ideal S1x256x128 .bf16} {Qf : S1x1024x128.Idx → EReal} {j : Fin 4}
    (hx : x = qx 1#32 3#32 6#32 ql) (hql : ∀ t e, ql (ix3 0 t e) = qrow Qf j t e) : ∀ t d, x (ix2 t d) = qxf (1 : Fin 2).val (qrow Qf j t) d := fun t d => by
  rw [hx, qx1_apply]
  exact congrArg (fun q => qxf 1 q d) (funext fun e => hql t e)

theorem cn_whole {e : EltTy} {Val : EltTy → Type} [∀ e, Nonempty (Val e)] {N A : ℕ} {inb} (w : (⟨3, ![N, A, 256]⟩ : Shape).Idx → Val e)
    (L : List (View.Piece Val ⟨3, ![N, A, 256]⟩ e)) (n : Fin N) (a : Fin A) (t : Fin 256) :
    View.canon (⟨Rect.unit (s := ⟨3, ![N, A, 256]⟩) ![0, 0, 0] (⟨3, ![N, A, 256]⟩ : Shape).size inb, w⟩ :: L) (ix3 n a t) = w (ix3 n a t) := by
  have h : (Rect.unit (s := ⟨3, ![N, A, 256]⟩) ![0, 0, 0] (⟨3, ![N, A, 256]⟩ : Shape).size inb).emb (ix3 n a t) = ix3 n a t := by
    refine funext fun b => Fin.ext ?_
    match b with
    | ⟨0, _⟩ => show 0 + 1 * n.val = n.val; omega
    | ⟨1, _⟩ => show 0 + 1 * a.val = a.val; omega
    | ⟨2, _⟩ => show 0 + 1 * t.val = t.val; omega
  have h' := View.canon_cons_emb (Rect.unit (s := ⟨3, ![N, A, 256]⟩) ![0, 0, 0] (⟨3, ![N, A, 256]⟩ : Shape).size inb) w L (ix3 n a t)
  rwa [h] at h'

theorem wo_hit {sig : RefSig} {κ : Kind} {sp : Space} (v : View sig κ sp S1x1024x128 .bf16)
    (f : v.ty.Contents (Elt Ideal)) (o : ℕ) {inb} (w : S1x256x128.Idx → Elt Ideal .bf16) (L) (t : Fin 256) (l : Fin 128) (ho : o + t.val < 1024) :
    v.read (Elt Ideal) (v.writes (Elt Ideal) f (⟨Rect.unit (s := S1x1024x128) ![0, o, 0] S1x256x128.size inb, w⟩ :: L)) (ix3 0 ⟨o + t.val, ho⟩ l) = w (ix3 0 t l) := by
  refine View.read_writes_cons_hit v f (Rect.unit (s := S1x1024x128) ![0, o, 0] S1x256x128.size inb) w L (ix3 0 t l) _ (funext fun b => Fin.ext ?_)
  match b with
  | ⟨0, _⟩ => show 0 + 1 * 0 = 0; omega
  | ⟨1, _⟩ => show o + 1 * t.val = o + t.val; omega
  | ⟨2, _⟩ => show 0 + 1 * l.val = l.val; omega

theorem wo_miss {sig : RefSig} {κ : Kind} {sp : Space} (v : View sig κ sp S1x1024x128 .bf16)
    (f : v.ty.Contents (Elt Ideal)) (o : ℕ) {inb} (w : S1x256x128.Idx → Elt Ideal .bf16) (L) (r : Fin 1024) (l : Fin 128) (hr : r.val < o) :
    v.read (Elt Ideal) (v.writes (Elt Ideal) f (⟨Rect.unit (s := S1x1024x128) ![0, o, 0] S1x256x128.size inb, w⟩ :: L)) (ix3 0 r l) = v.read (Elt Ideal) (v.writes (Elt Ideal) f L) (ix3 0 r l) :=
  View.read_writes_cons_miss_of_axis v f _ L (ix3 0 r l : S1x1024x128.Idx) 1 o 256 rfl rfl rfl (Or.inl hr)

/-- The scores of a block of queries against its own keys, as far as each stream's tile needs them, and their maxima. -/
def StD (Kf : S1x8192x128.Idx → EReal) (Cf : S1x1x8192x128.Idx → EReal) (Qf : S1x1024x128.Idx → EReal) (g : ℕ)
    (R : S8x1024x256.Idx → EReal) (R' : S8x1x256.Idx → EReal) (n : Fin 8) : Prop :=
  (∀ (r : Fin 1024) (t : Fin 256), r.val < 256 * ((tl n).val + 1) → R (ix3 n r t) = sc Kf Cf Qf g (hd n) (tl n) t (1024 * g + r.val))
    ∧ ∀ t : Fin 256, R' (ix3 n 0 t) ≠ ⊤ ∧ (sc Kf Cf Qf g (hd n) (tl n) t (1024 * g) ≠ ⊥ → R' (ix3 n 0 t) ≠ ⊥)

section
variable {Kf : S1x8192x128.Idx → EReal} {Cf : S1x1x8192x128.Idx → EReal} {Qf : S1x1024x128.Idx → EReal} {Vf : S1x8x128x1024.Idx → EReal} {g : ℕ}

theorem StD.iss {R : S8x1024x256.Idx → EReal} {R' : S8x1x256.Idx → EReal} {n : Fin 8} (h : StD Kf Cf Qf g R R' n) (K : ℕ) (hK : K = 256 * ((tl n).val + 1)) (hK' : K ≤ 1024) :
    Iss (sc Kf Cf Qf g (hd n) (tl n)) (1024 * g) K (fun r t => R (ix3 n ⟨r.val, r.isLt.trans_le hK'⟩ t)) (fun t => R' (ix3 n 0 t)) :=
  ⟨fun r t => h.1 ⟨r.val, r.isLt.trans_le hK'⟩ t (hK ▸ r.isLt), h.2⟩

theorem StD.of {R : S8x1024x256.Idx → EReal} {R' : S8x1x256.Idx → EReal} {n : Fin 8} (K : ℕ) (hK : K = 256 * ((tl n).val + 1)) (hK' : K ≤ 1024)
    {s : Fin K → Fin 256 → EReal} {mx : Fin 256 → EReal} (h : Iss (sc Kf Cf Qf g (hd n) (tl n)) (1024 * g) K s mx)
    (hs : ∀ (r : Fin 1024) (t : Fin 256) (hr : r.val < K), R (ix3 n r t) = s ⟨r.val, hr⟩ t) (hm : ∀ t, R' (ix3 n 0 t) = mx t) : StD Kf Cf Qf g R R' n :=
  ⟨fun r t hr => (hs r t (hK ▸ hr)).trans (h.1 ⟨r.val, hK ▸ hr⟩ t), fun t => by rw [hm]; exact h.2 t⟩

/-- A tile of the output: for one head, each row's absorbed values divided by its absorbed weights. -/
def OutOK (Kf : S1x8192x128.Idx → EReal) (Cf : S1x1x8192x128.Idx → EReal) (Vf : S1x8x128x1024.Idx → EReal) (Qf : S1x1024x128.Idx → EReal) (g : ℕ)
    (R : S1x1024x128.Idx → EReal) (h : Fin 2) (j : Fin 4) : Prop :=
  ∀ t : Fin 256, ∃ μ : ℝ, ∀ d : Fin 64, R (ix3 0 ⟨256 * j.val + t.val, by omega⟩ ⟨64 * h.val + d.val, by omega⟩)
    = Ideal.div (∑ pos ∈ Ico 0 (1024 * (g + 1)), vx Vf h ⟨d.val, by omega⟩ pos * Ideal.exp2 (sc Kf Cf Qf g h j t pos - μ))
        (∑ pos ∈ Ico 0 (1024 * (g + 1)), 1 * Ideal.exp2 (sc Kf Cf Qf g h j t pos - μ))

theorem quotTo {j : Fin 4} {m0 m1 : Fin 256 → EReal} {a0 a1 : Fin 80 → Fin 256 → EReal} {R : S1x1024x128.Idx → EReal}
    {n0 n1 : FVec Ideal S1x64x256 .f32} {d0 d1 : FVec Ideal S1x1x256 .f32}
    (h0 : Abs (sc Kf Cf Qf g 0 j) (vx Vf 0) 0 (1024 * (g + 1)) m0 a0) (h1 : Abs (sc Kf Cf Qf g 1 j) (vx Vf 1) 0 (1024 * (g + 1)) m1 a1)
    (ho : ∀ t l, R (ix3 0 ⟨256 * j.val + t.val, by omega⟩ l) = quot n0 d0 n1 d1 (ix3 0 t l))
    (hn0 : ∀ (d : Fin 64) t, n0 (ix3 0 d t) = a0 ⟨d.val, by omega⟩ t) (hd0 : ∀ t, d0 (ix3 0 0 t) = a0 ⟨64, by decide⟩ t)
    (hn1 : ∀ (d : Fin 64) t, n1 (ix3 0 d t) = a1 ⟨d.val, by omega⟩ t) (hd1 : ∀ t, d1 (ix3 0 0 t) = a1 ⟨64, by decide⟩ t) :
    OutOK Kf Cf Vf Qf g R 0 j ∧ OutOK Kf Cf Vf Qf g R 1 j := by
  constructor
  · intro t
    obtain ⟨μ, _, ha⟩ := h0 t
    refine ⟨μ, fun d => ?_⟩
    rw [ho, quot_apply, dif_pos (show 64 * (0 : Fin 2).val + d.val < 64 by have := d.isLt; show 64 * 0 + d.val < 64; omega)]
    have e : (⟨64 * (0 : Fin 2).val + d.val, by have := d.isLt; show 64 * 0 + d.val < 64; omega⟩ : Fin 64) = d := Fin.ext (by show 64 * 0 + d.val = d.val; omega)
    rw [e, hn0, hd0, ha, ha]
    refine congrArg (Ideal.div _) (Finset.sum_congr rfl fun pos _ => ?_)
    rw [vx_one _ _ _ _ (le_refl 64)]
  · intro t
    obtain ⟨μ, _, ha⟩ := h1 t
    refine ⟨μ, fun d => ?_⟩
    rw [ho, quot_apply, dif_neg (show ¬ 64 * (1 : Fin 2).val + d.val < 64 by show ¬ 64 * 1 + d.val < 64; omega)]
    have e : (⟨64 * (1 : Fin 2).val + d.val - 64, by have := d.isLt; show 64 * 1 + d.val - 64 < 64; omega⟩ : Fin 64) = d := Fin.ext (by show 64 * 1 + d.val - 64 = d.val; omega)
    rw [e, hn1, hd1, ha, ha]
    refine congrArg (Ideal.div _) (Finset.sum_congr rfl fun pos _ => ?_)
    rw [vx_one _ _ _ _ (le_refl 64)]
end

/-- The mask of a block's own keys: each key up to the query's own. -/
def MaskOK (R : S4x1024x256.Idx → EReal) : Prop :=
  ∀ (j : Fin 4) (r : Fin 1024) (t : Fin 256), R (ix3 j r t) = if r.val ≤ t.val + 256 * j.val then 0 else ⊥

end Cert.KernelIdeal.Fox
-- ==== Proof.Fox.SemA.lean ====
module
public import proofs.«01_k».proof.Proof.Fox.Sem
public import proofs.«01_k».proof.Proof.Ideal.RunA

@[expose] public section

/-! The body on the first block of queries. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

theorem Abs_lo {S : Fin 256 → ℕ → EReal} {V : Fin 80 → ℕ → EReal} {lo lo' hi : ℕ} {m : Fin 256 → EReal} {a : Fin 80 → Fin 256 → EReal}
    (h : lo = lo') (H : Abs S V lo hi m a) : Abs S V lo' hi m a := h ▸ H

theorem cn_hit' {e : EltTy} {Val : EltTy → Type} [∀ e, Nonempty (Val e)] {N A A' : ℕ}
    (n : ℕ) (hn : n < N) {inb} (w : (⟨3, ![1, A', 256]⟩ : Shape).Idx → Val e) (L : List (View.Piece Val ⟨3, ![N, A, 256]⟩ e)) (r : Fin A') (t : Fin 256) (h : r.val < A) :
    View.canon (⟨Rect.unit (s := ⟨3, ![N, A, 256]⟩) ![n, 0, 0] (⟨3, ![1, A', 256]⟩ : Shape).size inb, w⟩ :: L) (ix3 ⟨n, hn⟩ ⟨r.val, h⟩ t) = w (ix3 0 r t) :=
  cn_hit n hn w L ⟨r.val, h⟩ t r.isLt

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : (Scalar.cmpi .ne (Scalar.extui (Scalar.cmpi .eq (BitVec.ofNat 32 (i 2).val) 0#32)) 0#32 : BitVec 1) = 1#1} {hc2 : k0_cond2 i = 1#1} {hc3 : k0_cond3 i = 1#1} {hc4 : ¬ k0_cond4 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runA_O0 (hR : RealRaw (arg3.view.read (Elt Ideal) f3) (arg6.view.read (Elt Ideal) f6) (arg4.view.read (Elt Ideal) f4)) :
    OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 0 0 ∧ OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 1 0 := by
  have hg : (i 2).val < 8 := (i 2).isLt
  have h0 := cond2_zero i hc2
  unfold runA
  dsimp only
  refine' quotTo (Abs_lo (show 1024 * (i 2).val = 0 by rw [h0]) (first256 (diag256_iss hR (g := (i 2).val) (h := 0) (j := 0) hg ?hk0 ?hc0 ?hq0 ?hm0)
      (fun t => sc_base hR (i 2).val 0 0 t le_rfl) (fun t pos hp => sc_masked (show 1024 * (i 2).val + 256 * 0 + 256 ≤ pos by omega)) (by omega) ?hM0 ?hX0 ?hA0 ?hS0 ?hv0 ?hO0 (vx_one _ _))) (Abs_lo (show 1024 * (i 2).val = 0 by rw [h0]) (first256 (diag256_iss hR (g := (i 2).val) (h := 1) (j := 0) hg ?hk1 ?hc1 ?hq1 ?hm1)
      (fun t => sc_base hR (i 2).val 1 0 t le_rfl) (fun t pos hp => sc_masked (show 1024 * (i 2).val + 256 * 0 + 256 ≤ pos by omega)) (by omega) ?hM1 ?hX1 ?hA1 ?hS1 ?hv1 ?hO1 (vx_one _ _))) ?ho ?hn0 ?hd0 ?hn1 ?hd1
  case ho => exact fun t l => ((wo_miss _ _ 768 _ _ _ _ (by have := t.isLt; show 256 * 0 + t.val < 768; omega)).trans ((wo_miss _ _ 512 _ _ _ _ (by have := t.isLt; show 256 * 0 + t.val < 512; omega)).trans ((wo_miss _ _ 256 _ _ _ _ (by have := t.isLt; show 256 * 0 + t.val < 256; omega)).trans (wo_hit _ _ 0 _ _ t l _))))
  case hn0 => exact fun d t => ((cov3' _ _ 0 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hn1 => exact fun d t => ((cov3' _ _ 4 (by decide) (by decide) _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hd0 => exact fun t => ((cov3 _ _ 0 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (by decide))))))))))
  case hd1 => exact fun t => ((cov3 _ _ 4 64 (by decide) _ _ (by decide)).trans ((cn_miss _ 7 (by decide) _ _ _ _).trans ((cn_miss _ 6 (by decide) _ _ _ _).trans ((cn_miss _ 5 (by decide) _ _ _ _).trans (cn_hit 4 (by decide) _ _ _ _ (by decide))))))
  case hS0 => exact fun r t => ((cov3' _ _ 0 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit' 0 (by decide) _ _ r t _)))))))))
  case hX0 => exact fun t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hM0 => exact fun t => ((cov3' _ _ 0 (by decide) le_rfl _ _).trans ((cn_whole _ _ _ _ _).trans (pay747_apply _)))
  case hA0 => exact fun d t => ((cov3' _ _ 0 (by decide) le_rfl _ _).trans ((cn_whole _ _ _ _ _).trans (pay748_apply _)))
  case hv0 => exact fun d r => rdV256 _ _ _ hg 0 (off3 i hc3) _ _
  case hO0 => exact fun y => ones_apply (ix2 0 0)
  case hq0 => exact hq0_of rfl (fun t e => rdQ _ _ 0 0 rfl t e)
  case hk0 => exact fun r d => rdK _ _ _ hg (off1 i hc2) _ _
  case hc0 => exact fun r d => rdC _ _ _ hg (off2 i hc2) _ _
  case hm0 => exact fun r t => ((cov3' _ _ 0 (by decide) (by decide) _ _).trans ((cn_miss _ 3 (by decide) _ _ _ _).trans ((cn_miss _ 2 (by decide) _ _ _ _).trans ((cn_miss _ 1 (by decide) _ _ _ _).trans ((cn_hit 0 (by decide) _ _ _ _ (Fin.isLt _)).trans (maskT_apply 0#32 (by decide) _ t))))))
  case hS1 => exact fun r t => ((cov3' _ _ 4 (by decide) (by decide) _ _).trans ((cn_miss _ 7 (by decide) _ _ _ _).trans ((cn_miss _ 6 (by decide) _ _ _ _).trans ((cn_miss _ 5 (by decide) _ _ _ _).trans (cn_hit' 4 (by decide) _ _ r t _)))))
  case hX1 => exact fun t => ((cov3' _ _ 4 (by decide) le_rfl _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hM1 => exact fun t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))
  case hA1 => exact fun d t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))
  case hv1 => exact fun d r => rdV256 _ _ _ hg 1 (off7 i hc3) _ _
  case hO1 => exact fun y => ones_apply (ix2 0 0)
  case hq1 => exact hq1_of rfl (fun t e => rdQ _ _ 0 0 rfl t e)
  case hk1 => exact fun r d => rdK _ _ _ hg (off1 i hc2) _ _
  case hc1 => exact fun r d => rdC _ _ _ hg (off2 i hc2) _ _
  case hm1 => exact fun r t => ((cov3' _ _ 0 (by decide) (by decide) _ _).trans ((cn_miss _ 3 (by decide) _ _ _ _).trans ((cn_miss _ 2 (by decide) _ _ _ _).trans ((cn_miss _ 1 (by decide) _ _ _ _).trans ((cn_hit 0 (by decide) _ _ _ _ (Fin.isLt _)).trans (maskT_apply 0#32 (by decide) _ t))))))

set_option maxHeartbeats 8000000 in
theorem runA_O1 (hR : RealRaw (arg3.view.read (Elt Ideal) f3) (arg6.view.read (Elt Ideal) f6) (arg4.view.read (Elt Ideal) f4)) :
    OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 0 1 ∧ OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 1 1 := by
  have hg : (i 2).val < 8 := (i 2).isLt
  have h0 := cond2_zero i hc2
  unfold runA
  dsimp only
  refine' quotTo (Abs_lo (show 1024 * (i 2).val = 0 by rw [h0]) (first512 (diag512_iss hR (g := (i 2).val) (h := 0) (j := 1) hg ?hk0 ?hc0 ?hq0 ?hm0)
      (fun t => sc_base hR (i 2).val 0 1 t le_rfl) (fun t pos hp => sc_masked (show 1024 * (i 2).val + 256 * 1 + 256 ≤ pos by omega)) (by omega) ?hM0 ?hX0 ?hA0 ?hS0 ?hv0 ?hO0 (vx_one _ _))) (Abs_lo (show 1024 * (i 2).val = 0 by rw [h0]) (first512 (diag512_iss hR (g := (i 2).val) (h := 1) (j := 1) hg ?hk1 ?hc1 ?hq1 ?hm1)
      (fun t => sc_base hR (i 2).val 1 1 t le_rfl) (fun t pos hp => sc_masked (show 1024 * (i 2).val + 256 * 1 + 256 ≤ pos by omega)) (by omega) ?hM1 ?hX1 ?hA1 ?hS1 ?hv1 ?hO1 (vx_one _ _))) ?ho ?hn0 ?hd0 ?hn1 ?hd1
  case ho => exact fun t l => ((wo_miss _ _ 768 _ _ _ _ (by have := t.isLt; show 256 * 1 + t.val < 768; omega)).trans ((wo_miss _ _ 512 _ _ _ _ (by have := t.isLt; show 256 * 1 + t.val < 512; omega)).trans (wo_hit _ _ 256 _ _ t l _)))
  case hn0 => exact fun d t => ((cov3' _ _ 1 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hn1 => exact fun d t => ((cov3' _ _ 5 (by decide) (by decide) _ _).trans ((cn_miss _ 7 (by decide) _ _ _ _).trans ((cn_miss _ 6 (by decide) _ _ _ _).trans (cn_hit 5 (by decide) _ _ _ _ (Fin.isLt _)))))
  case hd0 => exact fun t => ((cov3 _ _ 1 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (by decide)))))))))
  case hd1 => exact fun t => ((cov3 _ _ 5 64 (by decide) _ _ (by decide)).trans ((cn_miss _ 7 (by decide) _ _ _ _).trans ((cn_miss _ 6 (by decide) _ _ _ _).trans (cn_hit 5 (by decide) _ _ _ _ (by decide)))))
  case hS0 => exact fun r t => ((cov3' _ _ 1 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit' 1 (by decide) _ _ r t _))))))))
  case hX0 => exact fun t => ((cov3' _ _ 1 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hM0 => exact fun t => ((cov3' _ _ 1 (by decide) le_rfl _ _).trans ((cn_miss _ 0 (by decide) _ _ _ _).trans ((cn_whole _ _ _ _ _).trans (pay747_apply _))))
  case hA0 => exact fun d t => ((cov3' _ _ 1 (by decide) le_rfl _ _).trans ((cn_miss _ 0 (by decide) _ _ _ _).trans ((cn_whole _ _ _ _ _).trans (pay748_apply _))))
  case hv0 => exact fun d r => rdV512 _ _ _ hg 0 (off4 i hc3) _ _
  case hO0 => exact fun y => ones_apply (ix2 0 0)
  case hq0 => exact hq0_of rfl (fun t e => rdQ _ _ 256 1 rfl t e)
  case hk0 => exact fun r d => rdK _ _ _ hg (off1 i hc2) _ _
  case hc0 => exact fun r d => rdC _ _ _ hg (off2 i hc2) _ _
  case hm0 => exact fun r t => ((cov3' _ _ 1 (by decide) (by decide) _ _).trans ((cn_miss _ 3 (by decide) _ _ _ _).trans ((cn_miss _ 2 (by decide) _ _ _ _).trans ((cn_hit 1 (by decide) _ _ _ _ (Fin.isLt _)).trans (maskT_apply 256#32 (by decide) _ t)))))
  case hS1 => exact fun r t => ((cov3' _ _ 5 (by decide) (by decide) _ _).trans ((cn_miss _ 7 (by decide) _ _ _ _).trans ((cn_miss _ 6 (by decide) _ _ _ _).trans (cn_hit' 5 (by decide) _ _ r t _))))
  case hX1 => exact fun t => ((cov3' _ _ 5 (by decide) le_rfl _ _).trans ((cn_miss _ 7 (by decide) _ _ _ _).trans ((cn_miss _ 6 (by decide) _ _ _ _).trans (cn_hit 5 (by decide) _ _ _ _ (Fin.isLt _)))))
  case hM1 => exact fun t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))
  case hA1 => exact fun d t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))
  case hv1 => exact fun d r => rdV512 _ _ _ hg 1 (off8 i hc3) _ _
  case hO1 => exact fun y => ones_apply (ix2 0 0)
  case hq1 => exact hq1_of rfl (fun t e => rdQ _ _ 256 1 rfl t e)
  case hk1 => exact fun r d => rdK _ _ _ hg (off1 i hc2) _ _
  case hc1 => exact fun r d => rdC _ _ _ hg (off2 i hc2) _ _
  case hm1 => exact fun r t => ((cov3' _ _ 1 (by decide) (by decide) _ _).trans ((cn_miss _ 3 (by decide) _ _ _ _).trans ((cn_miss _ 2 (by decide) _ _ _ _).trans ((cn_hit 1 (by decide) _ _ _ _ (Fin.isLt _)).trans (maskT_apply 256#32 (by decide) _ t)))))

set_option maxHeartbeats 8000000 in
theorem runA_O2 (hR : RealRaw (arg3.view.read (Elt Ideal) f3) (arg6.view.read (Elt Ideal) f6) (arg4.view.read (Elt Ideal) f4)) :
    OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 0 2 ∧ OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 1 2 := by
  have hg : (i 2).val < 8 := (i 2).isLt
  have h0 := cond2_zero i hc2
  unfold runA
  dsimp only
  refine' quotTo (Abs_lo (show 1024 * (i 2).val = 0 by rw [h0]) (first768 (diag768_iss hR (g := (i 2).val) (h := 0) (j := 2) hg ?hk0 ?hc0 ?hq0 ?hm0)
      (fun t => sc_base hR (i 2).val 0 2 t le_rfl) (fun t pos hp => sc_masked (show 1024 * (i 2).val + 256 * 2 + 256 ≤ pos by omega)) (by omega) ?hM0 ?hX0 ?hA0 ?hS0 ?hv0 ?hO0 (vx_one _ _))) (Abs_lo (show 1024 * (i 2).val = 0 by rw [h0]) (first768 (diag768_iss hR (g := (i 2).val) (h := 1) (j := 2) hg ?hk1 ?hc1 ?hq1 ?hm1)
      (fun t => sc_base hR (i 2).val 1 2 t le_rfl) (fun t pos hp => sc_masked (show 1024 * (i 2).val + 256 * 2 + 256 ≤ pos by omega)) (by omega) ?hM1 ?hX1 ?hA1 ?hS1 ?hv1 ?hO1 (vx_one _ _))) ?ho ?hn0 ?hd0 ?hn1 ?hd1
  case ho => exact fun t l => ((wo_miss _ _ 768 _ _ _ _ (by have := t.isLt; show 256 * 2 + t.val < 768; omega)).trans (wo_hit _ _ 512 _ _ t l _))
  case hn0 => exact fun d t => ((cov3' _ _ 2 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hn1 => exact fun d t => ((cov3' _ _ 6 (by decide) (by decide) _ _).trans ((cn_miss _ 7 (by decide) _ _ _ _).trans (cn_hit 6 (by decide) _ _ _ _ (Fin.isLt _))))
  case hd0 => exact fun t => ((cov3 _ _ 2 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (by decide))))))))
  case hd1 => exact fun t => ((cov3 _ _ 6 64 (by decide) _ _ (by decide)).trans ((cn_miss _ 7 (by decide) _ _ _ _).trans (cn_hit 6 (by decide) _ _ _ _ (by decide))))
  case hS0 => exact fun r t => ((cov3' _ _ 2 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit' 2 (by decide) _ _ r t _)))))))
  case hX0 => exact fun t => ((cov3' _ _ 2 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hM0 => exact fun t => ((cov3' _ _ 2 (by decide) le_rfl _ _).trans ((cn_miss _ 1 (by decide) _ _ _ _).trans ((cn_miss _ 0 (by decide) _ _ _ _).trans ((cn_whole _ _ _ _ _).trans (pay747_apply _)))))
  case hA0 => exact fun d t => ((cov3' _ _ 2 (by decide) le_rfl _ _).trans ((cn_miss _ 1 (by decide) _ _ _ _).trans ((cn_miss _ 0 (by decide) _ _ _ _).trans ((cn_whole _ _ _ _ _).trans (pay748_apply _)))))
  case hv0 => exact fun d r => rdV768 _ _ _ hg 0 (off5 i hc3) _ _
  case hO0 => exact fun y => ones_apply (ix2 0 0)
  case hq0 => exact hq0_of rfl (fun t e => rdQ _ _ 512 2 rfl t e)
  case hk0 => exact fun r d => rdK _ _ _ hg (off1 i hc2) _ _
  case hc0 => exact fun r d => rdC _ _ _ hg (off2 i hc2) _ _
  case hm0 => exact fun r t => ((cov3' _ _ 2 (by decide) (by decide) _ _).trans ((cn_miss _ 3 (by decide) _ _ _ _).trans ((cn_hit 2 (by decide) _ _ _ _ (Fin.isLt _)).trans (maskT_apply 512#32 (by decide) _ t))))
  case hS1 => exact fun r t => ((cov3' _ _ 6 (by decide) (by decide) _ _).trans ((cn_miss _ 7 (by decide) _ _ _ _).trans (cn_hit' 6 (by decide) _ _ r t _)))
  case hX1 => exact fun t => ((cov3' _ _ 6 (by decide) le_rfl _ _).trans ((cn_miss _ 7 (by decide) _ _ _ _).trans (cn_hit 6 (by decide) _ _ _ _ (Fin.isLt _))))
  case hM1 => exact fun t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))))
  case hA1 => exact fun d t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))))
  case hv1 => exact fun d r => rdV768 _ _ _ hg 1 (off9 i hc3) _ _
  case hO1 => exact fun y => ones_apply (ix2 0 0)
  case hq1 => exact hq1_of rfl (fun t e => rdQ _ _ 512 2 rfl t e)
  case hk1 => exact fun r d => rdK _ _ _ hg (off1 i hc2) _ _
  case hc1 => exact fun r d => rdC _ _ _ hg (off2 i hc2) _ _
  case hm1 => exact fun r t => ((cov3' _ _ 2 (by decide) (by decide) _ _).trans ((cn_miss _ 3 (by decide) _ _ _ _).trans ((cn_hit 2 (by decide) _ _ _ _ (Fin.isLt _)).trans (maskT_apply 512#32 (by decide) _ t))))

set_option maxHeartbeats 8000000 in
theorem runA_O3 (hR : RealRaw (arg3.view.read (Elt Ideal) f3) (arg6.view.read (Elt Ideal) f6) (arg4.view.read (Elt Ideal) f4)) :
    OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 0 3 ∧ OutOK (arg3.view.read (Elt Ideal) f3) (arg6.view.read (Elt Ideal) f6) (arg7.view.read (Elt Ideal) f7) (arg4.view.read (Elt Ideal) f4) (i 2).val (arg8.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).1) 1 3 := by
  have hg : (i 2).val < 8 := (i 2).isLt
  have h0 := cond2_zero i hc2
  unfold runA
  dsimp only
  refine' quotTo (Abs_lo (show 1024 * (i 2).val = 0 by rw [h0]) (first1024 (diag1024_iss hR (g := (i 2).val) (h := 0) (j := 3) hg ?hk0 ?hc0 ?hq0 ?hm0)
      (fun t => sc_base hR (i 2).val 0 3 t le_rfl) (fun t pos hp => sc_masked (show 1024 * (i 2).val + 256 * 3 + 256 ≤ pos by omega)) (by omega) ?hM0 ?hX0 ?hA0 ?hS0 ?hv0 ?hO0 (vx_one _ _))) (Abs_lo (show 1024 * (i 2).val = 0 by rw [h0]) (first1024 (diag1024_iss hR (g := (i 2).val) (h := 1) (j := 3) hg ?hk1 ?hc1 ?hq1 ?hm1)
      (fun t => sc_base hR (i 2).val 1 3 t le_rfl) (fun t pos hp => sc_masked (show 1024 * (i 2).val + 256 * 3 + 256 ≤ pos by omega)) (by omega) ?hM1 ?hX1 ?hA1 ?hS1 ?hv1 ?hO1 (vx_one _ _))) ?ho ?hn0 ?hd0 ?hn1 ?hd1
  case ho => exact fun t l => (wo_hit _ _ 768 _ _ t l _)
  case hn0 => exact fun d t => ((cov3' _ _ 3 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hn1 => exact fun d t => ((cov3' _ _ 7 (by decide) (by decide) _ _).trans (cn_hit 7 (by decide) _ _ _ _ (Fin.isLt _)))
  case hd0 => exact fun t => ((cov3 _ _ 3 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (by decide)))))))
  case hd1 => exact fun t => ((cov3 _ _ 7 64 (by decide) _ _ (by decide)).trans (cn_hit 7 (by decide) _ _ _ _ (by decide)))
  case hS0 => exact fun r t => ((cov3' _ _ 3 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans (cn_hit' 3 (by decide) _ _ r t _))))))
  case hX0 => exact fun t => ((cov3' _ _ 3 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hM0 => exact fun t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay747_apply _))))))
  case hA0 => exact fun d t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay748_apply _))))))
  case hv0 => exact fun d r => rdV1024 _ _ _ hg 0 (off6 i hc3) _ _
  case hO0 => exact fun y => ones_apply (ix2 0 0)
  case hq0 => exact hq0_of rfl (fun t e => rdQ _ _ 768 3 rfl t e)
  case hk0 => exact fun r d => rdK _ _ _ hg (off1 i hc2) _ _
  case hc0 => exact fun r d => rdC _ _ _ hg (off2 i hc2) _ _
  case hm0 => exact fun r t => ((cov3' _ _ 3 (by decide) (by decide) _ _).trans ((cn_hit 3 (by decide) _ _ _ _ (Fin.isLt _)).trans (maskT_apply 768#32 (by decide) _ t)))
  case hS1 => exact fun r t => ((cov3' _ _ 7 (by decide) (by decide) _ _).trans (cn_hit' 7 (by decide) _ _ r t _))
  case hX1 => exact fun t => ((cov3' _ _ 7 (by decide) le_rfl _ _).trans (cn_hit 7 (by decide) _ _ _ _ (Fin.isLt _)))
  case hM1 => exact fun t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))))
  case hA1 => exact fun d t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))))
  case hv1 => exact fun d r => rdV1024 _ _ _ hg 1 (off10 i hc3) _ _
  case hO1 => exact fun y => ones_apply (ix2 0 0)
  case hq1 => exact hq1_of rfl (fun t e => rdQ _ _ 768 3 rfl t e)
  case hk1 => exact fun r d => rdK _ _ _ hg (off1 i hc2) _ _
  case hc1 => exact fun r d => rdC _ _ _ hg (off2 i hc2) _ _
  case hm1 => exact fun r t => ((cov3' _ _ 3 (by decide) (by decide) _ _).trans ((cn_hit 3 (by decide) _ _ _ _ (Fin.isLt _)).trans (maskT_apply 768#32 (by decide) _ t)))

end Cert.KernelIdeal.Fox
-- ==== Proof.Fox.EntB.lean ====
module
public import proofs.«01_k».proof.Proof.Fox.Sem
public import proofs.«01_k».proof.Proof.Ideal.RunB

@[expose] public section

/-! The body on even blocks of queries, before its loop. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : k0_cond5 i = 1#1} {hc6 : ¬ k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runB_A0 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 0 := by
  have hg : (i 2).val < 8 := (i 2).isLt
  have hone : ∀ (d : Fin 80) pos, 64 ≤ d.val → (vx (arg7.view.read (Elt Ideal) f7) 0) d pos = 1 := vx_one _ _
  refine' firstTo256 (StD.iss (hD 0) 256 (by decide) (by decide)) (fun t => sc_base hR (i 2).val 0 0 t le_rfl) (fun t pos hp => sc_masked (show 1024 * (i 2).val + 256 * 0 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hM => exact fun t => ((cov3' _ _ 0 (by decide) le_rfl _ _).trans ((cn_whole _ _ _ _ _).trans (pay747_apply _)))
  case hA => exact fun d t => ((cov3' _ _ 0 (by decide) le_rfl _ _).trans ((cn_whole _ _ _ _ _).trans (pay748_apply _)))
  case hMX => exact fun t => (rdAt3' _ _ 0 (by decide) le_rfl _ _)
  case hX => exact fun r t => (rdAt3' _ _ 0 (by decide) (by decide) _ _)
  case hv => exact fun d r => rdV256 _ _ _ hg 0 (off15 i hc4) _ _
  case ho => exact fun y => ones_apply (ix2 0 0)

set_option maxHeartbeats 8000000 in
theorem runB_I0 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 0 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk => exact fun r d => rdK _ _ _ (by omega) (off13 i hc4) _ _
  case hc => exact fun r d => rdC _ _ _ (by omega) (off14 i hc4) _ _
  case hq => exact hq0_of rfl (fun t e => rdQ _ _ 0 0 rfl t e)

set_option maxHeartbeats 8000000 in
theorem runB_A1 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 1 := by
  have hg : (i 2).val < 8 := (i 2).isLt
  have hone : ∀ (d : Fin 80) pos, 64 ≤ d.val → (vx (arg7.view.read (Elt Ideal) f7) 0) d pos = 1 := vx_one _ _
  refine' firstTo512 (StD.iss (hD 1) 512 (by decide) (by decide)) (fun t => sc_base hR (i 2).val 0 1 t le_rfl) (fun t pos hp => sc_masked (show 1024 * (i 2).val + 256 * 1 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hM => exact fun t => ((cov3' _ _ 1 (by decide) le_rfl _ _).trans ((cn_miss _ 0 (by decide) _ _ _ _).trans ((cn_whole _ _ _ _ _).trans (pay747_apply _))))
  case hA => exact fun d t => ((cov3' _ _ 1 (by decide) le_rfl _ _).trans ((cn_miss _ 0 (by decide) _ _ _ _).trans ((cn_whole _ _ _ _ _).trans (pay748_apply _))))
  case hMX => exact fun t => (rdAt3' _ _ 1 (by decide) le_rfl _ _)
  case hX => exact fun r t => (rdAt3' _ _ 1 (by decide) (by decide) _ _)
  case hv => exact fun d r => rdV512 _ _ _ hg 0 (off16 i hc4) _ _
  case ho => exact fun y => ones_apply (ix2 0 0)

set_option maxHeartbeats 8000000 in
theorem runB_I1 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 1 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk => exact fun r d => rdK _ _ _ (by omega) (off13 i hc4) _ _
  case hc => exact fun r d => rdC _ _ _ (by omega) (off14 i hc4) _ _
  case hq => exact hq0_of rfl (fun t e => rdQ _ _ 256 1 rfl t e)

set_option maxHeartbeats 8000000 in
theorem runB_A2 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 2 := by
  have hg : (i 2).val < 8 := (i 2).isLt
  have hone : ∀ (d : Fin 80) pos, 64 ≤ d.val → (vx (arg7.view.read (Elt Ideal) f7) 0) d pos = 1 := vx_one _ _
  refine' firstTo768 (StD.iss (hD 2) 768 (by decide) (by decide)) (fun t => sc_base hR (i 2).val 0 2 t le_rfl) (fun t pos hp => sc_masked (show 1024 * (i 2).val + 256 * 2 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hM => exact fun t => ((cov3' _ _ 2 (by decide) le_rfl _ _).trans ((cn_miss _ 1 (by decide) _ _ _ _).trans ((cn_miss _ 0 (by decide) _ _ _ _).trans ((cn_whole _ _ _ _ _).trans (pay747_apply _)))))
  case hA => exact fun d t => ((cov3' _ _ 2 (by decide) le_rfl _ _).trans ((cn_miss _ 1 (by decide) _ _ _ _).trans ((cn_miss _ 0 (by decide) _ _ _ _).trans ((cn_whole _ _ _ _ _).trans (pay748_apply _)))))
  case hMX => exact fun t => (rdAt3' _ _ 2 (by decide) le_rfl _ _)
  case hX => exact fun r t => (rdAt3' _ _ 2 (by decide) (by decide) _ _)
  case hv => exact fun d r => rdV768 _ _ _ hg 0 (off17 i hc4) _ _
  case ho => exact fun y => ones_apply (ix2 0 0)

set_option maxHeartbeats 8000000 in
theorem runB_I2 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 2 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk => exact fun r d => rdK _ _ _ (by omega) (off13 i hc4) _ _
  case hc => exact fun r d => rdC _ _ _ (by omega) (off14 i hc4) _ _
  case hq => exact hq0_of rfl (fun t e => rdQ _ _ 512 2 rfl t e)

set_option maxHeartbeats 8000000 in
theorem runB_A3 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 3 := by
  have hg : (i 2).val < 8 := (i 2).isLt
  have hone : ∀ (d : Fin 80) pos, 64 ≤ d.val → (vx (arg7.view.read (Elt Ideal) f7) 0) d pos = 1 := vx_one _ _
  refine' firstTo1024 (StD.iss (hD 3) 1024 (by decide) (by decide)) (fun t => sc_base hR (i 2).val 0 3 t le_rfl) (fun t pos hp => sc_masked (show 1024 * (i 2).val + 256 * 3 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hM => exact fun t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay747_apply _))))))
  case hA => exact fun d t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay748_apply _))))))
  case hMX => exact fun t => (rdAt3' _ _ 3 (by decide) le_rfl _ _)
  case hX => exact fun r t => (rdAt3' _ _ 3 (by decide) (by decide) _ _)
  case hv => exact fun d r => rdV1024 _ _ _ hg 0 (off18 i hc4) _ _
  case ho => exact fun y => ones_apply (ix2 0 0)

set_option maxHeartbeats 8000000 in
theorem runB_I3 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 3 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk => exact fun r d => rdK _ _ _ (by omega) (off13 i hc4) _ _
  case hc => exact fun r d => rdC _ _ _ (by omega) (off14 i hc4) _ _
  case hq => exact hq0_of rfl (fun t e => rdQ _ _ 768 3 rfl t e)

set_option maxHeartbeats 8000000 in
theorem runB_A4 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 4 := by
  have hg : (i 2).val < 8 := (i 2).isLt
  have hone : ∀ (d : Fin 80) pos, 64 ≤ d.val → (vx (arg7.view.read (Elt Ideal) f7) 1) d pos = 1 := vx_one _ _
  refine' firstTo256 (StD.iss (hD 4) 256 (by decide) (by decide)) (fun t => sc_base hR (i 2).val 1 0 t le_rfl) (fun t pos hp => sc_masked (show 1024 * (i 2).val + 256 * 0 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case ha' => exact fun d t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hM => exact fun t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))
  case hA => exact fun d t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))
  case hMX => exact fun t => (rdAt3' _ _ 4 (by decide) le_rfl _ _)
  case hX => exact fun r t => (rdAt3' _ _ 4 (by decide) (by decide) _ _)
  case hv => exact fun d r => rdV256 _ _ _ hg 1 (off19 i hc4) _ _
  case ho => exact fun y => ones_apply (ix2 0 0)

set_option maxHeartbeats 8000000 in
theorem runB_I4 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 4 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk => exact fun r d => rdK _ _ _ (by omega) (off13 i hc4) _ _
  case hc => exact fun r d => rdC _ _ _ (by omega) (off14 i hc4) _ _
  case hq => exact hq1_of rfl (fun t e => rdQ _ _ 0 0 rfl t e)

set_option maxHeartbeats 8000000 in
theorem runB_A5 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 5 := by
  have hg : (i 2).val < 8 := (i 2).isLt
  have hone : ∀ (d : Fin 80) pos, 64 ≤ d.val → (vx (arg7.view.read (Elt Ideal) f7) 1) d pos = 1 := vx_one _ _
  refine' firstTo512 (StD.iss (hD 5) 512 (by decide) (by decide)) (fun t => sc_base hR (i 2).val 1 1 t le_rfl) (fun t pos hp => sc_masked (show 1024 * (i 2).val + 256 * 1 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans (wr_hit _ _ 5 (by decide) _ _ _ _ (Fin.isLt _))))
  case ha' => exact fun d t => ((wr_miss _ _ _ 7 (by decide) _ _ _ _).trans ((wr_miss _ _ _ 6 (by decide) _ _ _ _).trans (wr_hit _ _ 5 (by decide) _ _ _ _ (Fin.isLt _))))
  case hM => exact fun t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))
  case hA => exact fun d t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))
  case hMX => exact fun t => (rdAt3' _ _ 5 (by decide) le_rfl _ _)
  case hX => exact fun r t => (rdAt3' _ _ 5 (by decide) (by decide) _ _)
  case hv => exact fun d r => rdV512 _ _ _ hg 1 (off20 i hc4) _ _
  case ho => exact fun y => ones_apply (ix2 0 0)

set_option maxHeartbeats 8000000 in
theorem runB_I5 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 5 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans (wr_hit _ _ 5 (by decide) _ _ _ _ (Fin.isLt _))))
  case hmx => exact fun t => ((wr_miss _ _ _ 7 (by decide) _ _ _ _).trans ((wr_miss _ _ _ 6 (by decide) _ _ _ _).trans (wr_hit _ _ 5 (by decide) _ _ _ _ (Fin.isLt _))))
  case hk => exact fun r d => rdK _ _ _ (by omega) (off13 i hc4) _ _
  case hc => exact fun r d => rdC _ _ _ (by omega) (off14 i hc4) _ _
  case hq => exact hq1_of rfl (fun t e => rdQ _ _ 256 1 rfl t e)

set_option maxHeartbeats 8000000 in
theorem runB_A6 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 6 := by
  have hg : (i 2).val < 8 := (i 2).isLt
  have hone : ∀ (d : Fin 80) pos, 64 ≤ d.val → (vx (arg7.view.read (Elt Ideal) f7) 1) d pos = 1 := vx_one _ _
  refine' firstTo768 (StD.iss (hD 6) 768 (by decide) (by decide)) (fun t => sc_base hR (i 2).val 1 2 t le_rfl) (fun t pos hp => sc_masked (show 1024 * (i 2).val + 256 * 2 + 256 ≤ pos by omega)) (by omega) ?hm' ?ha' ?hM ?hMX ?hA ?hX ?hv ?ho hone
  case hm' => exact fun t => ((wr_miss _ _ _ 7 (by decide) _ _ _ _).trans (wr_hit _ _ 6 (by decide) _ _ _ _ (Fin.isLt _)))
  case ha' => exact fun d t => ((wr_miss _ _ _ 7 (by decide) _ _ _ _).trans (wr_hit _ _ 6 (by decide) _ _ _ _ (Fin.isLt _)))
  case hM => exact fun t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))))
  case hA => exact fun d t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))))
  case hMX => exact fun t => (rdAt3' _ _ 6 (by decide) le_rfl _ _)
  case hX => exact fun r t => (rdAt3' _ _ 6 (by decide) (by decide) _ _)
  case hv => exact fun d r => rdV768 _ _ _ hg 1 (off21 i hc4) _ _
  case ho => exact fun y => ones_apply (ix2 0 0)

set_option maxHeartbeats 8000000 in
theorem runB_I6 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 6 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans (wr_hit _ _ 6 (by decide) _ _ _ _ (Fin.isLt _)))
  case hmx => exact fun t => ((wr_miss _ _ _ 7 (by decide) _ _ _ _).trans (wr_hit _ _ 6 (by decide) _ _ _ _ (Fin.isLt _)))
  case hk => exact fun r d => rdK _ _ _ (by omega) (off13 i hc4) _ _
  case hc => exact fun r d => rdC _ _ _ (by omega) (off14 i hc4) _ _
  case hq => exact hq1_of rfl (fun t e => rdQ _ _ 512 2 rfl t e)

set_option maxHeartbeats 8000000 in
theorem runB_A7 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runB.sl.H16_9 c arg15 arg16 f15))) (arg17.view.read (Elt Ideal) (arg17.view.writes (Elt Ideal) arg17.view.junk (runB.sl.H17_9 c i arg7 arg12 arg15 arg16 arg17 hc4 f7 f12 f15))) 7 := by
  have hg : (i 2).val < 8 := (i 2).isLt
  have hone : ∀ (d : Fin 80) pos, 64 ≤ d.val → (vx (arg7.view.read (Elt Ideal) f7) 1) d pos = 1 := vx_one _ _
  refine' firstTo1024 (StD.iss (hD 7) 1024 (by decide) (by decide)) (fun t => sc_base hR (i 2).val 1 3 t le_rfl) (fun t pos hp => sc_masked (show 1024 * (i 2).val + 256 * 3 + 256 ≤ pos by omega)) (by omega) ?hm' ?ha' ?hM ?hMX ?hA ?hX ?hv ?ho hone
  case hm' => exact fun t => (wr_hit _ _ 7 (by decide) _ _ _ _ (Fin.isLt _))
  case ha' => exact fun d t => (wr_hit _ _ 7 (by decide) _ _ _ _ (Fin.isLt _))
  case hM => exact fun t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))))
  case hA => exact fun d t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))))
  case hMX => exact fun t => (rdAt3' _ _ 7 (by decide) le_rfl _ _)
  case hX => exact fun r t => (rdAt3' _ _ 7 (by decide) (by decide) _ _)
  case hv => exact fun d r => rdV1024 _ _ _ hg 1 (off22 i hc4) _ _
  case ho => exact fun y => ones_apply (ix2 0 0)

set_option maxHeartbeats 8000000 in
theorem runB_I7 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runB.sl.H11_8 c i arg3 arg4 arg6 hc4 f3 f4 f6))) (arg14.view.read (Elt Ideal) (arg14.view.writes (Elt Ideal) arg14.view.junk (runB.sl.H14_8 c i arg3 arg4 arg6 hc4 f3 f4 f6))) 7 := by
  have hg : (i 2).val < 8 := (i 2).isLt
  have h4 := cond4_pos i hc4
  refine' Iss_congr ?hs ?hmx (far_iss hR ((i 2).val - 1) hg (by omega) ?hk ?hc ?hq)
  case hs => exact fun r t => (wr_hit _ _ 7 (by decide) _ _ _ _ (Fin.isLt _))
  case hmx => exact fun t => (wr_hit _ _ 7 (by decide) _ _ _ _ (Fin.isLt _))
  case hk => exact fun r d => rdK _ _ _ (by omega) (off13 i hc4) _ _
  case hc => exact fun r d => rdC _ _ _ (by omega) (off14 i hc4) _ _
  case hq => exact hq1_of rfl (fun t e => rdQ _ _ 768 3 rfl t e)

end Cert.KernelIdeal.Fox
-- ==== Proof.Fox.SemB.lean ====
module
public import proofs.«01_k».proof.Proof.Fox.EntB

@[expose] public section

/-! The body on even blocks of queries past the first. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : k0_cond5 i = 1#1} {hc6 : ¬ k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runB_loop (hp : (i 2).val % 2 = 0) (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) : ∀ n,
    StA (arg3.view.read (Elt Ideal) f3) (arg6.view.read (Elt Ideal) f6) (arg7.view.read (Elt Ideal) f7) (arg4.view.read (Elt Ideal) f4) (i 2).val (1024 * 2) (1024 * ((i 2).val + 1)) (arg16.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runB.sl.v56 c arg4 f4) (runB.sl.v97 c arg4 f4) (runB.sl.v138 c arg4 f4) (runB.sl.v179 c arg4 f4) (runB.sl.v220 c arg4 f4) (runB.sl.v261 c arg4 f4) (runB.sl.v302 c arg4 f4) (runB.sl.v343 c arg4 f4) hc4 f3 f6 f7 f10 (arg11.view.writes (Elt Ideal) arg11.view.junk (runB.sl.H11_8 c i arg3 arg4 arg6 hc4 f3 f4 f6)) f13 (arg14.view.writes (Elt Ideal) arg14.view.junk (runB.sl.H14_8 c i arg3 arg4 arg6 hc4 f3 f4 f6)) (arg16.view.writes (Elt Ideal) arg16.view.junk (runB.sl.H16_9 c arg15 arg16 f15)) (arg17.view.writes (Elt Ideal) arg17.view.junk (runB.sl.H17_9 c i arg7 arg12 arg15 arg16 arg17 hc4 f7 f12 f15)) (k0_t1_loop i).trips).f16) (arg17.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runB.sl.v56 c arg4 f4) (runB.sl.v97 c arg4 f4) (runB.sl.v138 c arg4 f4) (runB.sl.v179 c arg4 f4) (runB.sl.v220 c arg4 f4) (runB.sl.v261 c arg4 f4) (runB.sl.v302 c arg4 f4) (runB.sl.v343 c arg4 f4) hc4 f3 f6 f7 f10 (arg11.view.writes (Elt Ideal) arg11.view.junk (runB.sl.H11_8 c i arg3 arg4 arg6 hc4 f3 f4 f6)) f13 (arg14.view.writes (Elt Ideal) arg14.view.junk (runB.sl.H14_8 c i arg3 arg4 arg6 hc4 f3 f4 f6)) (arg16.view.writes (Elt Ideal) arg16.view.junk (runB.sl.H16_9 c arg15 arg16 f15)) (arg17.view.writes (Elt Ideal) arg17.view.junk (runB.sl.H17_9 c i arg7 arg12 arg15 arg16 arg17 hc4 f7 f12 f15)) (k0_t1_loop i).trips).f17) n ∧ StI (arg3.view.read (Elt Ideal) f3) (arg6.view.read (Elt Ideal) f6) (arg4.view.read (Elt Ideal) f4) (i 2).val (1024 * 1) (arg11.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runB.sl.v56 c arg4 f4) (runB.sl.v97 c arg4 f4) (runB.sl.v138 c arg4 f4) (runB.sl.v179 c arg4 f4) (runB.sl.v220 c arg4 f4) (runB.sl.v261 c arg4 f4) (runB.sl.v302 c arg4 f4) (runB.sl.v343 c arg4 f4) hc4 f3 f6 f7 f10 (arg11.view.writes (Elt Ideal) arg11.view.junk (runB.sl.H11_8 c i arg3 arg4 arg6 hc4 f3 f4 f6)) f13 (arg14.view.writes (Elt Ideal) arg14.view.junk (runB.sl.H14_8 c i arg3 arg4 arg6 hc4 f3 f4 f6)) (arg16.view.writes (Elt Ideal) arg16.view.junk (runB.sl.H16_9 c arg15 arg16 f15)) (arg17.view.writes (Elt Ideal) arg17.view.junk (runB.sl.H17_9 c i arg7 arg12 arg15 arg16 arg17 hc4 f7 f12 f15)) (k0_t1_loop i).trips).f11) (arg14.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runB.sl.v56 c arg4 f4) (runB.sl.v97 c arg4 f4) (runB.sl.v138 c arg4 f4) (runB.sl.v179 c arg4 f4) (runB.sl.v220 c arg4 f4) (runB.sl.v261 c arg4 f4) (runB.sl.v302 c arg4 f4) (runB.sl.v343 c arg4 f4) hc4 f3 f6 f7 f10 (arg11.view.writes (Elt Ideal) arg11.view.junk (runB.sl.H11_8 c i arg3 arg4 arg6 hc4 f3 f4 f6)) f13 (arg14.view.writes (Elt Ideal) arg14.view.junk (runB.sl.H14_8 c i arg3 arg4 arg6 hc4 f3 f4 f6)) (arg16.view.writes (Elt Ideal) arg16.view.junk (runB.sl.H16_9 c arg15 arg16 f15)) (arg17.view.writes (Elt Ideal) arg17.view.junk (runB.sl.H17_9 c i arg7 arg12 arg15 arg16 arg17 hc4 f7 f12 f15)) (k0_t1_loop i).trips).f14) n := by
  have h4 := cond4_pos i hc4
  have ht := trips_eq i hc4
  have e1 : (i 2).val - 2 * (k0_t1_loop i).trips = 2 := by omega
  have e2 : (i 2).val - 1 - 2 * (k0_t1_loop i).trips = 1 := by omega
  have h := loop_inv (c := c) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17)
    (BitVec.ofNat 32 ↑(i 2)) k0_pay745 (runB.sl.v56 c arg4 f4) (runB.sl.v97 c arg4 f4) (runB.sl.v138 c arg4 f4) (runB.sl.v179 c arg4 f4) (runB.sl.v220 c arg4 f4) (runB.sl.v261 c arg4 f4) (runB.sl.v302 c arg4 f4) (runB.sl.v343 c arg4 f4) hc4 f3 f6 f7 f10 (arg11.view.writes (Elt Ideal) arg11.view.junk (runB.sl.H11_8 c i arg3 arg4 arg6 hc4 f3 f4 f6)) f13 (arg14.view.writes (Elt Ideal) arg14.view.junk (runB.sl.H14_8 c i arg3 arg4 arg6 hc4 f3 f4 f6)) (arg16.view.writes (Elt Ideal) arg16.view.junk (runB.sl.H16_9 c arg15 arg16 f15)) (arg17.view.writes (Elt Ideal) arg17.view.junk (runB.sl.H17_9 c i arg7 arg12 arg15 arg16 arg17 hc4 f7 f12 f15)) hR (hq0_of rfl (fun t e => rdQ _ _ 0 0 rfl t e)) (hq0_of rfl (fun t e => rdQ _ _ 256 1 rfl t e)) (hq0_of rfl (fun t e => rdQ _ _ 512 2 rfl t e)) (hq0_of rfl (fun t e => rdQ _ _ 768 3 rfl t e)) (hq1_of rfl (fun t e => rdQ _ _ 0 0 rfl t e)) (hq1_of rfl (fun t e => rdQ _ _ 256 1 rfl t e)) (hq1_of rfl (fun t e => rdQ _ _ 512 2 rfl t e)) (hq1_of rfl (fun t e => rdQ _ _ 768 3 rfl t e)) (fun y => ones_apply y)
    (all8 (runB_A0 hR hD) (runB_A1 hR hD) (runB_A2 hR hD) (runB_A3 hR hD) (runB_A4 hR hD) (runB_A5 hR hD) (runB_A6 hR hD) (runB_A7 hR hD))
    (all8 (runB_I0 hR) (runB_I1 hR) (runB_I2 hR) (runB_I3 hR) (runB_I4 hR) (runB_I5 hR) (runB_I6 hR) (runB_I7 hR)) (k0_t1_loop i).trips le_rfl
  rw [e1, e2] at h
  exact h

set_option maxHeartbeats 8000000 in
theorem runB_O0 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 0 ∧ OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 0 := by
  have hg : (i 2).val < 8 := (i 2).isLt
  have h4 := cond4_pos i hc4
  have h5 := cond5_even i hc5
  have hl := runB_loop (cond5_even i hc5) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runB
  dsimp only
  refine' quotTo (absorb1024 (sc_ne_top hR (i 2).val 0 0) (absorb1024 (sc_ne_top hR (i 2).val 0 0) (hl 0).1 (hl 0).2 rfl (by omega) ?hM0 ?hX0 ?hA0 ?hS0 ?hv0 (fun y => ones_apply y) (vx_one _ _))
      (far_iss hR 0 hg (by omega) ?hk0 ?hc0 ?hq0) rfl (by omega) ?hM0' ?hX0' ?hA0' ?hS0' ?hv0' (fun y => ones_apply y) (vx_one _ _)) (absorb1024 (sc_ne_top hR (i 2).val 1 0) (absorb1024 (sc_ne_top hR (i 2).val 1 0) (hl 4).1 (hl 4).2 rfl (by omega) ?hM1 ?hX1 ?hA1 ?hS1 ?hv1 (fun y => ones_apply y) (vx_one _ _))
      (far_iss hR 0 hg (by omega) ?hk1 ?hc1 ?hq1) rfl (by omega) ?hM1' ?hX1' ?hA1' ?hS1' ?hv1' (fun y => ones_apply y) (vx_one _ _)) ?ho ?hn0 ?hd0 ?hn1 ?hd1
  case ho => exact fun t l => ((wo_miss _ _ 768 _ _ _ _ (by have := t.isLt; show 256 * 0 + t.val < 768; omega)).trans ((wo_miss _ _ 512 _ _ _ _ (by have := t.isLt; show 256 * 0 + t.val < 512; omega)).trans ((wo_miss _ _ 256 _ _ _ _ (by have := t.isLt; show 256 * 0 + t.val < 256; omega)).trans (wo_hit _ _ 0 _ _ t l _))))
  case hn0 => exact fun d t => ((cov3' _ _ 0 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hn1 => exact fun d t => ((cov3' _ _ 4 (by decide) (by decide) _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hd0 => exact fun t => ((cov3 _ _ 0 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (by decide))))))))))
  case hd1 => exact fun t => ((cov3 _ _ 4 64 (by decide) _ _ (by decide)).trans ((cn_miss _ 7 (by decide) _ _ _ _).trans ((cn_miss _ 6 (by decide) _ _ _ _).trans ((cn_miss _ 5 (by decide) _ _ _ _).trans (cn_hit 4 (by decide) _ _ _ _ (by decide))))))
  case hM0' => exact fun t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hA0' => exact fun d t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hX0' => exact fun t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hS0' => exact fun r t => ((cov3' _ _ 0 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hM0 => exact fun t => (rdAt3' _ _ 0 (by decide) le_rfl _ _)
  case hX0 => exact fun t => (rdAt3' _ _ 0 (by decide) le_rfl _ _)
  case hA0 => exact fun d t => (rdAt3' _ _ 0 (by decide) le_rfl _ _)
  case hS0 => exact fun r t => (rdAt3' _ _ 0 (by decide) le_rfl _ _)
  case hv0 => exact fun d r => rdV1024 _ _ 1 (by omega) 0 (fun _ => rfl) _ _
  case hv0' => exact fun d r => rdV1024 _ _ 0 (by omega) 0 (fun _ => rfl) _ _
  case hq0 => exact hq0_of rfl (fun t e => rdQ _ _ 0 0 rfl t e)
  case hk0 => exact fun r d => rdK _ _ 0 (by omega) (fun _ => rfl) _ _
  case hc0 => exact fun r d => rdC _ _ 0 (by omega) (fun _ => rfl) _ _
  case hM1' => exact fun t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans (cn_hit 4 (by decide) _ _ _ _ (Fin.isLt _))))))))))
  case hA1' => exact fun d t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans (cn_hit 4 (by decide) _ _ _ _ (Fin.isLt _))))))))))
  case hX1' => exact fun t => ((cov3' _ _ 4 (by decide) le_rfl _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hS1' => exact fun r t => ((cov3' _ _ 4 (by decide) le_rfl _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hM1 => exact fun t => (rdAt3' _ _ 4 (by decide) le_rfl _ _)
  case hX1 => exact fun t => (rdAt3' _ _ 4 (by decide) le_rfl _ _)
  case hA1 => exact fun d t => (rdAt3' _ _ 4 (by decide) le_rfl _ _)
  case hS1 => exact fun r t => (rdAt3' _ _ 4 (by decide) le_rfl _ _)
  case hv1 => exact fun d r => rdV1024 _ _ 1 (by omega) 1 (fun _ => rfl) _ _
  case hv1' => exact fun d r => rdV1024 _ _ 0 (by omega) 1 (fun _ => rfl) _ _
  case hq1 => exact hq1_of rfl (fun t e => rdQ _ _ 0 0 rfl t e)
  case hk1 => exact fun r d => rdK _ _ 0 (by omega) (fun _ => rfl) _ _
  case hc1 => exact fun r d => rdC _ _ 0 (by omega) (fun _ => rfl) _ _

set_option maxHeartbeats 8000000 in
theorem runB_O1 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 1 ∧ OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 1 := by
  have hg : (i 2).val < 8 := (i 2).isLt
  have h4 := cond4_pos i hc4
  have h5 := cond5_even i hc5
  have hl := runB_loop (cond5_even i hc5) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runB
  dsimp only
  refine' quotTo (absorb1024 (sc_ne_top hR (i 2).val 0 1) (absorb1024 (sc_ne_top hR (i 2).val 0 1) (hl 1).1 (hl 1).2 rfl (by omega) ?hM0 ?hX0 ?hA0 ?hS0 ?hv0 (fun y => ones_apply y) (vx_one _ _))
      (far_iss hR 0 hg (by omega) ?hk0 ?hc0 ?hq0) rfl (by omega) ?hM0' ?hX0' ?hA0' ?hS0' ?hv0' (fun y => ones_apply y) (vx_one _ _)) (absorb1024 (sc_ne_top hR (i 2).val 1 1) (absorb1024 (sc_ne_top hR (i 2).val 1 1) (hl 5).1 (hl 5).2 rfl (by omega) ?hM1 ?hX1 ?hA1 ?hS1 ?hv1 (fun y => ones_apply y) (vx_one _ _))
      (far_iss hR 0 hg (by omega) ?hk1 ?hc1 ?hq1) rfl (by omega) ?hM1' ?hX1' ?hA1' ?hS1' ?hv1' (fun y => ones_apply y) (vx_one _ _)) ?ho ?hn0 ?hd0 ?hn1 ?hd1
  case ho => exact fun t l => ((wo_miss _ _ 768 _ _ _ _ (by have := t.isLt; show 256 * 1 + t.val < 768; omega)).trans ((wo_miss _ _ 512 _ _ _ _ (by have := t.isLt; show 256 * 1 + t.val < 512; omega)).trans (wo_hit _ _ 256 _ _ t l _)))
  case hn0 => exact fun d t => ((cov3' _ _ 1 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hn1 => exact fun d t => ((cov3' _ _ 5 (by decide) (by decide) _ _).trans ((cn_miss _ 7 (by decide) _ _ _ _).trans ((cn_miss _ 6 (by decide) _ _ _ _).trans (cn_hit 5 (by decide) _ _ _ _ (Fin.isLt _)))))
  case hd0 => exact fun t => ((cov3 _ _ 1 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (by decide)))))))))
  case hd1 => exact fun t => ((cov3 _ _ 5 64 (by decide) _ _ (by decide)).trans ((cn_miss _ 7 (by decide) _ _ _ _).trans ((cn_miss _ 6 (by decide) _ _ _ _).trans (cn_hit 5 (by decide) _ _ _ _ (by decide)))))
  case hM0' => exact fun t => ((cov3' _ _ 1 (by decide) le_rfl _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _))))))))))
  case hA0' => exact fun d t => ((cov3' _ _ 1 (by decide) le_rfl _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _))))))))))
  case hX0' => exact fun t => ((cov3' _ _ 1 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hS0' => exact fun r t => ((cov3' _ _ 1 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hM0 => exact fun t => (rdAt3' _ _ 1 (by decide) le_rfl _ _)
  case hX0 => exact fun t => (rdAt3' _ _ 1 (by decide) le_rfl _ _)
  case hA0 => exact fun d t => (rdAt3' _ _ 1 (by decide) le_rfl _ _)
  case hS0 => exact fun r t => (rdAt3' _ _ 1 (by decide) le_rfl _ _)
  case hv0 => exact fun d r => rdV1024 _ _ 1 (by omega) 0 (fun _ => rfl) _ _
  case hv0' => exact fun d r => rdV1024 _ _ 0 (by omega) 0 (fun _ => rfl) _ _
  case hq0 => exact hq0_of rfl (fun t e => rdQ _ _ 256 1 rfl t e)
  case hk0 => exact fun r d => rdK _ _ 0 (by omega) (fun _ => rfl) _ _
  case hc0 => exact fun r d => rdC _ _ 0 (by omega) (fun _ => rfl) _ _
  case hM1' => exact fun t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans (cn_hit 5 (by decide) _ _ _ _ (Fin.isLt _))))))))))
  case hA1' => exact fun d t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans (cn_hit 5 (by decide) _ _ _ _ (Fin.isLt _))))))))))
  case hX1' => exact fun t => ((cov3' _ _ 5 (by decide) le_rfl _ _).trans ((cn_miss _ 7 (by decide) _ _ _ _).trans ((cn_miss _ 6 (by decide) _ _ _ _).trans (cn_hit 5 (by decide) _ _ _ _ (Fin.isLt _)))))
  case hS1' => exact fun r t => ((cov3' _ _ 5 (by decide) le_rfl _ _).trans ((cn_miss _ 7 (by decide) _ _ _ _).trans ((cn_miss _ 6 (by decide) _ _ _ _).trans (cn_hit 5 (by decide) _ _ _ _ (Fin.isLt _)))))
  case hM1 => exact fun t => (rdAt3' _ _ 5 (by decide) le_rfl _ _)
  case hX1 => exact fun t => (rdAt3' _ _ 5 (by decide) le_rfl _ _)
  case hA1 => exact fun d t => (rdAt3' _ _ 5 (by decide) le_rfl _ _)
  case hS1 => exact fun r t => (rdAt3' _ _ 5 (by decide) le_rfl _ _)
  case hv1 => exact fun d r => rdV1024 _ _ 1 (by omega) 1 (fun _ => rfl) _ _
  case hv1' => exact fun d r => rdV1024 _ _ 0 (by omega) 1 (fun _ => rfl) _ _
  case hq1 => exact hq1_of rfl (fun t e => rdQ _ _ 256 1 rfl t e)
  case hk1 => exact fun r d => rdK _ _ 0 (by omega) (fun _ => rfl) _ _
  case hc1 => exact fun r d => rdC _ _ 0 (by omega) (fun _ => rfl) _ _

set_option maxHeartbeats 8000000 in
theorem runB_O2 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 2 ∧ OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 2 := by
  have hg : (i 2).val < 8 := (i 2).isLt
  have h4 := cond4_pos i hc4
  have h5 := cond5_even i hc5
  have hl := runB_loop (cond5_even i hc5) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runB
  dsimp only
  refine' quotTo (absorb1024 (sc_ne_top hR (i 2).val 0 2) (absorb1024 (sc_ne_top hR (i 2).val 0 2) (hl 2).1 (hl 2).2 rfl (by omega) ?hM0 ?hX0 ?hA0 ?hS0 ?hv0 (fun y => ones_apply y) (vx_one _ _))
      (far_iss hR 0 hg (by omega) ?hk0 ?hc0 ?hq0) rfl (by omega) ?hM0' ?hX0' ?hA0' ?hS0' ?hv0' (fun y => ones_apply y) (vx_one _ _)) (absorb1024 (sc_ne_top hR (i 2).val 1 2) (absorb1024 (sc_ne_top hR (i 2).val 1 2) (hl 6).1 (hl 6).2 rfl (by omega) ?hM1 ?hX1 ?hA1 ?hS1 ?hv1 (fun y => ones_apply y) (vx_one _ _))
      (far_iss hR 0 hg (by omega) ?hk1 ?hc1 ?hq1) rfl (by omega) ?hM1' ?hX1' ?hA1' ?hS1' ?hv1' (fun y => ones_apply y) (vx_one _ _)) ?ho ?hn0 ?hd0 ?hn1 ?hd1
  case ho => exact fun t l => ((wo_miss _ _ 768 _ _ _ _ (by have := t.isLt; show 256 * 2 + t.val < 768; omega)).trans (wo_hit _ _ 512 _ _ t l _))
  case hn0 => exact fun d t => ((cov3' _ _ 2 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hn1 => exact fun d t => ((cov3' _ _ 6 (by decide) (by decide) _ _).trans ((cn_miss _ 7 (by decide) _ _ _ _).trans (cn_hit 6 (by decide) _ _ _ _ (Fin.isLt _))))
  case hd0 => exact fun t => ((cov3 _ _ 2 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (by decide))))))))
  case hd1 => exact fun t => ((cov3 _ _ 6 64 (by decide) _ _ (by decide)).trans ((cn_miss _ 7 (by decide) _ _ _ _).trans (cn_hit 6 (by decide) _ _ _ _ (by decide))))
  case hM0' => exact fun t => ((cov3' _ _ 2 (by decide) le_rfl _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))))
  case hA0' => exact fun d t => ((cov3' _ _ 2 (by decide) le_rfl _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))))
  case hX0' => exact fun t => ((cov3' _ _ 2 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hS0' => exact fun r t => ((cov3' _ _ 2 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hM0 => exact fun t => (rdAt3' _ _ 2 (by decide) le_rfl _ _)
  case hX0 => exact fun t => (rdAt3' _ _ 2 (by decide) le_rfl _ _)
  case hA0 => exact fun d t => (rdAt3' _ _ 2 (by decide) le_rfl _ _)
  case hS0 => exact fun r t => (rdAt3' _ _ 2 (by decide) le_rfl _ _)
  case hv0 => exact fun d r => rdV1024 _ _ 1 (by omega) 0 (fun _ => rfl) _ _
  case hv0' => exact fun d r => rdV1024 _ _ 0 (by omega) 0 (fun _ => rfl) _ _
  case hq0 => exact hq0_of rfl (fun t e => rdQ _ _ 512 2 rfl t e)
  case hk0 => exact fun r d => rdK _ _ 0 (by omega) (fun _ => rfl) _ _
  case hc0 => exact fun r d => rdC _ _ 0 (by omega) (fun _ => rfl) _ _
  case hM1' => exact fun t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans (cn_hit 6 (by decide) _ _ _ _ (Fin.isLt _))))))))))
  case hA1' => exact fun d t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_miss _ 7 (by decide) _ _ _ _).trans (cn_hit 6 (by decide) _ _ _ _ (Fin.isLt _))))))))))
  case hX1' => exact fun t => ((cov3' _ _ 6 (by decide) le_rfl _ _).trans ((cn_miss _ 7 (by decide) _ _ _ _).trans (cn_hit 6 (by decide) _ _ _ _ (Fin.isLt _))))
  case hS1' => exact fun r t => ((cov3' _ _ 6 (by decide) le_rfl _ _).trans ((cn_miss _ 7 (by decide) _ _ _ _).trans (cn_hit 6 (by decide) _ _ _ _ (Fin.isLt _))))
  case hM1 => exact fun t => (rdAt3' _ _ 6 (by decide) le_rfl _ _)
  case hX1 => exact fun t => (rdAt3' _ _ 6 (by decide) le_rfl _ _)
  case hA1 => exact fun d t => (rdAt3' _ _ 6 (by decide) le_rfl _ _)
  case hS1 => exact fun r t => (rdAt3' _ _ 6 (by decide) le_rfl _ _)
  case hv1 => exact fun d r => rdV1024 _ _ 1 (by omega) 1 (fun _ => rfl) _ _
  case hv1' => exact fun d r => rdV1024 _ _ 0 (by omega) 1 (fun _ => rfl) _ _
  case hq1 => exact hq1_of rfl (fun t e => rdQ _ _ 512 2 rfl t e)
  case hk1 => exact fun r d => rdK _ _ 0 (by omega) (fun _ => rfl) _ _
  case hc1 => exact fun r d => rdC _ _ 0 (by omega) (fun _ => rfl) _ _

set_option maxHeartbeats 8000000 in
theorem runB_O3 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 3 ∧ OutOK (arg3.view.read (Elt Ideal) f3) (arg6.view.read (Elt Ideal) f6) (arg7.view.read (Elt Ideal) f7) (arg4.view.read (Elt Ideal) f4) (i 2).val (arg8.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 3 := by
  have hg : (i 2).val < 8 := (i 2).isLt
  have h4 := cond4_pos i hc4
  have h5 := cond5_even i hc5
  have hl := runB_loop (cond5_even i hc5) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runB
  dsimp only
  refine' quotTo (absorb1024 (sc_ne_top hR (i 2).val 0 3) (absorb1024 (sc_ne_top hR (i 2).val 0 3) (hl 3).1 (hl 3).2 rfl (by omega) ?hM0 ?hX0 ?hA0 ?hS0 ?hv0 (fun y => ones_apply y) (vx_one _ _))
      (far_iss hR 0 hg (by omega) ?hk0 ?hc0 ?hq0) rfl (by omega) ?hM0' ?hX0' ?hA0' ?hS0' ?hv0' (fun y => ones_apply y) (vx_one _ _)) (absorb1024 (sc_ne_top hR (i 2).val 1 3) (absorb1024 (sc_ne_top hR (i 2).val 1 3) (hl 7).1 (hl 7).2 rfl (by omega) ?hM1 ?hX1 ?hA1 ?hS1 ?hv1 (fun y => ones_apply y) (vx_one _ _))
      (far_iss hR 0 hg (by omega) ?hk1 ?hc1 ?hq1) rfl (by omega) ?hM1' ?hX1' ?hA1' ?hS1' ?hv1' (fun y => ones_apply y) (vx_one _ _)) ?ho ?hn0 ?hd0 ?hn1 ?hd1
  case ho => exact fun t l => (wo_hit _ _ 768 _ _ t l _)
  case hn0 => exact fun d t => ((cov3' _ _ 3 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hn1 => exact fun d t => ((cov3' _ _ 7 (by decide) (by decide) _ _).trans (cn_hit 7 (by decide) _ _ _ _ (Fin.isLt _)))
  case hd0 => exact fun t => ((cov3 _ _ 3 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (by decide)))))))
  case hd1 => exact fun t => ((cov3 _ _ 7 64 (by decide) _ _ (by decide)).trans (cn_hit 7 (by decide) _ _ _ _ (by decide)))
  case hM0' => exact fun t => ((cov3' _ _ 3 (by decide) le_rfl _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _))))))))))
  case hA0' => exact fun d t => ((cov3' _ _ 3 (by decide) le_rfl _ _).trans ((cn_miss _ 2 (by decide) _ _ _ _).trans ((cn_miss _ 1 (by decide) _ _ _ _).trans ((cn_miss _ 0 (by decide) _ _ _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _))))))))))
  case hX0' => exact fun t => ((cov3' _ _ 3 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hS0' => exact fun r t => ((cov3' _ _ 3 (by decide) le_rfl _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hM0 => exact fun t => (rdAt3' _ _ 3 (by decide) le_rfl _ _)
  case hX0 => exact fun t => (rdAt3' _ _ 3 (by decide) le_rfl _ _)
  case hA0 => exact fun d t => (rdAt3' _ _ 3 (by decide) le_rfl _ _)
  case hS0 => exact fun r t => (rdAt3' _ _ 3 (by decide) le_rfl _ _)
  case hv0 => exact fun d r => rdV1024 _ _ 1 (by omega) 0 (fun _ => rfl) _ _
  case hv0' => exact fun d r => rdV1024 _ _ 0 (by omega) 0 (fun _ => rfl) _ _
  case hq0 => exact hq0_of rfl (fun t e => rdQ _ _ 768 3 rfl t e)
  case hk0 => exact fun r d => rdK _ _ 0 (by omega) (fun _ => rfl) _ _
  case hc0 => exact fun r d => rdC _ _ 0 (by omega) (fun _ => rfl) _ _
  case hM1' => exact fun t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans (cn_hit 7 (by decide) _ _ _ _ (Fin.isLt _))))))))))
  case hA1' => exact fun d t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans (cn_hit 7 (by decide) _ _ _ _ (Fin.isLt _))))))))))
  case hX1' => exact fun t => ((cov3' _ _ 7 (by decide) le_rfl _ _).trans (cn_hit 7 (by decide) _ _ _ _ (Fin.isLt _)))
  case hS1' => exact fun r t => ((cov3' _ _ 7 (by decide) le_rfl _ _).trans (cn_hit 7 (by decide) _ _ _ _ (Fin.isLt _)))
  case hM1 => exact fun t => (rdAt3' _ _ 7 (by decide) le_rfl _ _)
  case hX1 => exact fun t => (rdAt3' _ _ 7 (by decide) le_rfl _ _)
  case hA1 => exact fun d t => (rdAt3' _ _ 7 (by decide) le_rfl _ _)
  case hS1 => exact fun r t => (rdAt3' _ _ 7 (by decide) le_rfl _ _)
  case hv1 => exact fun d r => rdV1024 _ _ 1 (by omega) 1 (fun _ => rfl) _ _
  case hv1' => exact fun d r => rdV1024 _ _ 0 (by omega) 1 (fun _ => rfl) _ _
  case hq1 => exact hq1_of rfl (fun t e => rdQ _ _ 768 3 rfl t e)
  case hk1 => exact fun r d => rdK _ _ 0 (by omega) (fun _ => rfl) _ _
  case hc1 => exact fun r d => rdC _ _ 0 (by omega) (fun _ => rfl) _ _

end Cert.KernelIdeal.Fox
-- ==== Proof.Fox.EntC.lean ====
module
public import proofs.«01_k».proof.Proof.Fox.Sem
public import proofs.«01_k».proof.Proof.Ideal.RunC

@[expose] public section

/-! The body on odd blocks of queries, before its loop. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : ¬ k0_cond5 i = 1#1} {hc6 : k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runC_A0 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 0 := by
  have hg : (i 2).val < 8 := (i 2).isLt
  have hone : ∀ (d : Fin 80) pos, 64 ≤ d.val → (vx (arg7.view.read (Elt Ideal) f7) 0) d pos = 1 := vx_one _ _
  refine' firstTo256 (StD.iss (hD 0) 256 (by decide) (by decide)) (fun t => sc_base hR (i 2).val 0 0 t le_rfl) (fun t pos hp => sc_masked (show 1024 * (i 2).val + 256 * 0 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hM => exact fun t => ((cov3' _ _ 0 (by decide) le_rfl _ _).trans ((cn_whole _ _ _ _ _).trans (pay747_apply _)))
  case hA => exact fun d t => ((cov3' _ _ 0 (by decide) le_rfl _ _).trans ((cn_whole _ _ _ _ _).trans (pay748_apply _)))
  case hMX => exact fun t => (rdAt3' _ _ 0 (by decide) le_rfl _ _)
  case hX => exact fun r t => (rdAt3' _ _ 0 (by decide) (by decide) _ _)
  case hv => exact fun d r => rdV256 _ _ _ hg 0 (off15 i hc4) _ _
  case ho => exact fun y => ones_apply (ix2 0 0)

set_option maxHeartbeats 8000000 in
theorem runC_I0 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 0 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk => exact fun r d => rdK _ _ _ (by omega) (off13 i hc4) _ _
  case hc => exact fun r d => rdC _ _ _ (by omega) (off14 i hc4) _ _
  case hq => exact hq0_of rfl (fun t e => rdQ _ _ 0 0 rfl t e)

set_option maxHeartbeats 8000000 in
theorem runC_A1 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 1 := by
  have hg : (i 2).val < 8 := (i 2).isLt
  have hone : ∀ (d : Fin 80) pos, 64 ≤ d.val → (vx (arg7.view.read (Elt Ideal) f7) 0) d pos = 1 := vx_one _ _
  refine' firstTo512 (StD.iss (hD 1) 512 (by decide) (by decide)) (fun t => sc_base hR (i 2).val 0 1 t le_rfl) (fun t pos hp => sc_masked (show 1024 * (i 2).val + 256 * 1 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hM => exact fun t => ((cov3' _ _ 1 (by decide) le_rfl _ _).trans ((cn_miss _ 0 (by decide) _ _ _ _).trans ((cn_whole _ _ _ _ _).trans (pay747_apply _))))
  case hA => exact fun d t => ((cov3' _ _ 1 (by decide) le_rfl _ _).trans ((cn_miss _ 0 (by decide) _ _ _ _).trans ((cn_whole _ _ _ _ _).trans (pay748_apply _))))
  case hMX => exact fun t => (rdAt3' _ _ 1 (by decide) le_rfl _ _)
  case hX => exact fun r t => (rdAt3' _ _ 1 (by decide) (by decide) _ _)
  case hv => exact fun d r => rdV512 _ _ _ hg 0 (off16 i hc4) _ _
  case ho => exact fun y => ones_apply (ix2 0 0)

set_option maxHeartbeats 8000000 in
theorem runC_I1 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 1 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk => exact fun r d => rdK _ _ _ (by omega) (off13 i hc4) _ _
  case hc => exact fun r d => rdC _ _ _ (by omega) (off14 i hc4) _ _
  case hq => exact hq0_of rfl (fun t e => rdQ _ _ 256 1 rfl t e)

set_option maxHeartbeats 8000000 in
theorem runC_A2 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 2 := by
  have hg : (i 2).val < 8 := (i 2).isLt
  have hone : ∀ (d : Fin 80) pos, 64 ≤ d.val → (vx (arg7.view.read (Elt Ideal) f7) 0) d pos = 1 := vx_one _ _
  refine' firstTo768 (StD.iss (hD 2) 768 (by decide) (by decide)) (fun t => sc_base hR (i 2).val 0 2 t le_rfl) (fun t pos hp => sc_masked (show 1024 * (i 2).val + 256 * 2 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hM => exact fun t => ((cov3' _ _ 2 (by decide) le_rfl _ _).trans ((cn_miss _ 1 (by decide) _ _ _ _).trans ((cn_miss _ 0 (by decide) _ _ _ _).trans ((cn_whole _ _ _ _ _).trans (pay747_apply _)))))
  case hA => exact fun d t => ((cov3' _ _ 2 (by decide) le_rfl _ _).trans ((cn_miss _ 1 (by decide) _ _ _ _).trans ((cn_miss _ 0 (by decide) _ _ _ _).trans ((cn_whole _ _ _ _ _).trans (pay748_apply _)))))
  case hMX => exact fun t => (rdAt3' _ _ 2 (by decide) le_rfl _ _)
  case hX => exact fun r t => (rdAt3' _ _ 2 (by decide) (by decide) _ _)
  case hv => exact fun d r => rdV768 _ _ _ hg 0 (off17 i hc4) _ _
  case ho => exact fun y => ones_apply (ix2 0 0)

set_option maxHeartbeats 8000000 in
theorem runC_I2 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 2 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk => exact fun r d => rdK _ _ _ (by omega) (off13 i hc4) _ _
  case hc => exact fun r d => rdC _ _ _ (by omega) (off14 i hc4) _ _
  case hq => exact hq0_of rfl (fun t e => rdQ _ _ 512 2 rfl t e)

set_option maxHeartbeats 8000000 in
theorem runC_A3 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 3 := by
  have hg : (i 2).val < 8 := (i 2).isLt
  have hone : ∀ (d : Fin 80) pos, 64 ≤ d.val → (vx (arg7.view.read (Elt Ideal) f7) 0) d pos = 1 := vx_one _ _
  refine' firstTo1024 (StD.iss (hD 3) 1024 (by decide) (by decide)) (fun t => sc_base hR (i 2).val 0 3 t le_rfl) (fun t pos hp => sc_masked (show 1024 * (i 2).val + 256 * 3 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case ha' => exact fun d t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hM => exact fun t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay747_apply _))))))
  case hA => exact fun d t => ((cov3' _ _ 3 (by decide) le_rfl _ _).trans ((cn_miss _ 2 (by decide) _ _ _ _).trans ((cn_miss _ 1 (by decide) _ _ _ _).trans ((cn_miss _ 0 (by decide) _ _ _ _).trans ((cn_whole _ _ _ _ _).trans (pay748_apply _))))))
  case hMX => exact fun t => (rdAt3' _ _ 3 (by decide) le_rfl _ _)
  case hX => exact fun r t => (rdAt3' _ _ 3 (by decide) (by decide) _ _)
  case hv => exact fun d r => rdV1024 _ _ _ hg 0 (off18 i hc4) _ _
  case ho => exact fun y => ones_apply (ix2 0 0)

set_option maxHeartbeats 8000000 in
theorem runC_I3 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 3 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk => exact fun r d => rdK _ _ _ (by omega) (off13 i hc4) _ _
  case hc => exact fun r d => rdC _ _ _ (by omega) (off14 i hc4) _ _
  case hq => exact hq0_of rfl (fun t e => rdQ _ _ 768 3 rfl t e)

set_option maxHeartbeats 8000000 in
theorem runC_A4 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 4 := by
  have hg : (i 2).val < 8 := (i 2).isLt
  have hone : ∀ (d : Fin 80) pos, 64 ≤ d.val → (vx (arg7.view.read (Elt Ideal) f7) 1) d pos = 1 := vx_one _ _
  refine' firstTo256 (StD.iss (hD 4) 256 (by decide) (by decide)) (fun t => sc_base hR (i 2).val 1 0 t le_rfl) (fun t pos hp => sc_masked (show 1024 * (i 2).val + 256 * 0 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case ha' => exact fun d t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hM => exact fun t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))
  case hA => exact fun d t => ((cov3' _ _ 4 (by decide) le_rfl _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))
  case hMX => exact fun t => (rdAt3' _ _ 4 (by decide) le_rfl _ _)
  case hX => exact fun r t => (rdAt3' _ _ 4 (by decide) (by decide) _ _)
  case hv => exact fun d r => rdV256 _ _ _ hg 1 (off19 i hc4) _ _
  case ho => exact fun y => ones_apply (ix2 0 0)

set_option maxHeartbeats 8000000 in
theorem runC_I4 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 4 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk => exact fun r d => rdK _ _ _ (by omega) (off13 i hc4) _ _
  case hc => exact fun r d => rdC _ _ _ (by omega) (off14 i hc4) _ _
  case hq => exact hq1_of rfl (fun t e => rdQ _ _ 0 0 rfl t e)

set_option maxHeartbeats 8000000 in
theorem runC_A5 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 5 := by
  have hg : (i 2).val < 8 := (i 2).isLt
  have hone : ∀ (d : Fin 80) pos, 64 ≤ d.val → (vx (arg7.view.read (Elt Ideal) f7) 1) d pos = 1 := vx_one _ _
  refine' firstTo512 (StD.iss (hD 5) 512 (by decide) (by decide)) (fun t => sc_base hR (i 2).val 1 1 t le_rfl) (fun t pos hp => sc_masked (show 1024 * (i 2).val + 256 * 1 + 256 ≤ pos by omega)) (by omega) ?hm' ?ha' ?hM ?hMX ?hA ?hX ?hv ?ho hone
  case hm' => exact fun t => ((wr_miss _ _ _ 7 (by decide) _ _ _ _).trans ((wr_miss _ _ _ 6 (by decide) _ _ _ _).trans (wr_hit _ _ 5 (by decide) _ _ _ _ (Fin.isLt _))))
  case ha' => exact fun d t => ((wr_miss _ _ _ 7 (by decide) _ _ _ _).trans ((wr_miss _ _ _ 6 (by decide) _ _ _ _).trans (wr_hit _ _ 5 (by decide) _ _ _ _ (Fin.isLt _))))
  case hM => exact fun t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))
  case hA => exact fun d t => ((cov3' _ _ 5 (by decide) le_rfl _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))
  case hMX => exact fun t => (rdAt3' _ _ 5 (by decide) le_rfl _ _)
  case hX => exact fun r t => (rdAt3' _ _ 5 (by decide) (by decide) _ _)
  case hv => exact fun d r => rdV512 _ _ _ hg 1 (off20 i hc4) _ _
  case ho => exact fun y => ones_apply (ix2 0 0)

set_option maxHeartbeats 8000000 in
theorem runC_I5 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 5 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans ((wr_miss _ _ _ 6 (by decide) _ _ _ _).trans (wr_hit _ _ 5 (by decide) _ _ _ _ (Fin.isLt _))))
  case hmx => exact fun t => ((wr_miss _ _ _ 7 (by decide) _ _ _ _).trans ((wr_miss _ _ _ 6 (by decide) _ _ _ _).trans (wr_hit _ _ 5 (by decide) _ _ _ _ (Fin.isLt _))))
  case hk => exact fun r d => rdK _ _ _ (by omega) (off13 i hc4) _ _
  case hc => exact fun r d => rdC _ _ _ (by omega) (off14 i hc4) _ _
  case hq => exact hq1_of rfl (fun t e => rdQ _ _ 256 1 rfl t e)

set_option maxHeartbeats 8000000 in
theorem runC_A6 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 6 := by
  have hg : (i 2).val < 8 := (i 2).isLt
  have hone : ∀ (d : Fin 80) pos, 64 ≤ d.val → (vx (arg7.view.read (Elt Ideal) f7) 1) d pos = 1 := vx_one _ _
  refine' firstTo768 (StD.iss (hD 6) 768 (by decide) (by decide)) (fun t => sc_base hR (i 2).val 1 2 t le_rfl) (fun t pos hp => sc_masked (show 1024 * (i 2).val + 256 * 2 + 256 ≤ pos by omega)) (by omega) ?hm' ?ha' ?hM ?hMX ?hA ?hX ?hv ?ho hone
  case hm' => exact fun t => ((wr_miss _ _ _ 7 (by decide) _ _ _ _).trans (wr_hit _ _ 6 (by decide) _ _ _ _ (Fin.isLt _)))
  case ha' => exact fun d t => ((wr_miss _ _ _ 7 (by decide) _ _ _ _).trans (wr_hit _ _ 6 (by decide) _ _ _ _ (Fin.isLt _)))
  case hM => exact fun t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _)))))))))
  case hA => exact fun d t => ((cov3' _ _ 6 (by decide) le_rfl _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _)))))))))
  case hMX => exact fun t => (rdAt3' _ _ 6 (by decide) le_rfl _ _)
  case hX => exact fun r t => (rdAt3' _ _ 6 (by decide) (by decide) _ _)
  case hv => exact fun d r => rdV768 _ _ _ hg 1 (off21 i hc4) _ _
  case ho => exact fun y => ones_apply (ix2 0 0)

set_option maxHeartbeats 8000000 in
theorem runC_I6 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 6 := by
  have hg : (i 2).val < 8 := (i 2).isLt
  have h4 := cond4_pos i hc4
  refine' Iss_congr ?hs ?hmx (far_iss hR ((i 2).val - 1) hg (by omega) ?hk ?hc ?hq)
  case hs => exact fun r t => ((wr_miss _ _ _ 7 (by decide) _ _ _ _).trans (wr_hit _ _ 6 (by decide) _ _ _ _ (Fin.isLt _)))
  case hmx => exact fun t => ((wr_miss _ _ _ 7 (by decide) _ _ _ _).trans (wr_hit _ _ 6 (by decide) _ _ _ _ (Fin.isLt _)))
  case hk => exact fun r d => rdK _ _ _ (by omega) (off13 i hc4) _ _
  case hc => exact fun r d => rdC _ _ _ (by omega) (off14 i hc4) _ _
  case hq => exact hq1_of rfl (fun t e => rdQ _ _ 512 2 rfl t e)

set_option maxHeartbeats 8000000 in
theorem runC_A7 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    StA (arg3.view.read (Elt Ideal) f3) (arg6.view.read (Elt Ideal) f6) (arg7.view.read (Elt Ideal) f7) (arg4.view.read (Elt Ideal) f4) (i 2).val (1024 * (i 2).val) (1024 * ((i 2).val + 1)) (arg16.view.read (Elt Ideal) (arg16.view.writes (Elt Ideal) arg16.view.junk (runC.sl.H16_9 c arg15 arg16 f15))) (arg17.view.read (Elt Ideal) (arg17.view.writes (Elt Ideal) arg17.view.junk (runC.sl.H17_9 c i arg7 arg12 arg15 arg16 arg17 hc4 f7 f12 f15))) 7 := by
  have hg : (i 2).val < 8 := (i 2).isLt
  have hone : ∀ (d : Fin 80) pos, 64 ≤ d.val → (vx (arg7.view.read (Elt Ideal) f7) 1) d pos = 1 := vx_one _ _
  refine' firstTo1024 (StD.iss (hD 7) 1024 (by decide) (by decide)) (fun t => sc_base hR (i 2).val 1 3 t le_rfl) (fun t pos hp => sc_masked (show 1024 * (i 2).val + 256 * 3 + 256 ≤ pos by omega)) (by omega) ?hm' ?ha' ?hM ?hMX ?hA ?hX ?hv ?ho hone
  case hm' => exact fun t => (wr_hit _ _ 7 (by decide) _ _ _ _ (Fin.isLt _))
  case ha' => exact fun d t => (wr_hit _ _ 7 (by decide) _ _ _ _ (Fin.isLt _))
  case hM => exact fun t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay747_apply _))))))))))
  case hA => exact fun d t => ((cov3' _ _ 7 (by decide) le_rfl _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans ((cn_miss _ 0 (by decide) _ _ _ _).trans ((cn_whole _ _ _ _ _).trans (pay748_apply _))))))))))
  case hMX => exact fun t => (rdAt3' _ _ 7 (by decide) le_rfl _ _)
  case hX => exact fun r t => (rdAt3' _ _ 7 (by decide) (by decide) _ _)
  case hv => exact fun d r => rdV1024 _ _ _ hg 1 (off22 i hc4) _ _
  case ho => exact fun y => ones_apply (ix2 0 0)

set_option maxHeartbeats 8000000 in
theorem runC_I7 (hR : RealRaw (arg3.view.read (Elt Ideal) f3) (arg6.view.read (Elt Ideal) f6) (arg4.view.read (Elt Ideal) f4)) :
    StI (arg3.view.read (Elt Ideal) f3) (arg6.view.read (Elt Ideal) f6) (arg4.view.read (Elt Ideal) f4) (i 2).val (1024 * ((i 2).val - 1)) (arg11.view.read (Elt Ideal) (arg11.view.writes (Elt Ideal) arg11.view.junk (runC.sl.H11_8 c i arg3 arg4 arg6 hc4 f3 f4 f6))) (arg14.view.read (Elt Ideal) (arg14.view.writes (Elt Ideal) arg14.view.junk (runC.sl.H14_8 c i arg3 arg4 arg6 hc4 f3 f4 f6))) 7 := by
  have hg : (i 2).val < 8 := (i 2).isLt
  have h4 := cond4_pos i hc4
  refine' Iss_congr ?hs ?hmx (far_iss hR ((i 2).val - 1) hg (by omega) ?hk ?hc ?hq)
  case hs => exact fun r t => (wr_hit _ _ 7 (by decide) _ _ _ _ (Fin.isLt _))
  case hmx => exact fun t => (wr_hit _ _ 7 (by decide) _ _ _ _ (Fin.isLt _))
  case hk => exact fun r d => rdK _ _ _ (by omega) (off13 i hc4) _ _
  case hc => exact fun r d => rdC _ _ _ (by omega) (off14 i hc4) _ _
  case hq => exact hq1_of rfl (fun t e => rdQ _ _ 768 3 rfl t e)

end Cert.KernelIdeal.Fox
-- ==== Proof.Fox.SemC.lean ====
module
public import proofs.«01_k».proof.Proof.Fox.EntC

@[expose] public section

/-! The body on odd blocks of queries. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : ¬ k0_cond5 i = 1#1} {hc6 : k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runC_loop (hp : (i 2).val % 2 = 1) (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) : ∀ n,
    StA (arg3.view.read (Elt Ideal) f3) (arg6.view.read (Elt Ideal) f6) (arg7.view.read (Elt Ideal) f7) (arg4.view.read (Elt Ideal) f4) (i 2).val (1024 * 1) (1024 * ((i 2).val + 1)) (arg16.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runC.sl.v56 c arg4 f4) (runC.sl.v97 c arg4 f4) (runC.sl.v138 c arg4 f4) (runC.sl.v179 c arg4 f4) (runC.sl.v220 c arg4 f4) (runC.sl.v261 c arg4 f4) (runC.sl.v302 c arg4 f4) (runC.sl.v343 c arg4 f4) hc4 f3 f6 f7 f10 (arg11.view.writes (Elt Ideal) arg11.view.junk (runC.sl.H11_8 c i arg3 arg4 arg6 hc4 f3 f4 f6)) f13 (arg14.view.writes (Elt Ideal) arg14.view.junk (runC.sl.H14_8 c i arg3 arg4 arg6 hc4 f3 f4 f6)) (arg16.view.writes (Elt Ideal) arg16.view.junk (runC.sl.H16_9 c arg15 arg16 f15)) (arg17.view.writes (Elt Ideal) arg17.view.junk (runC.sl.H17_9 c i arg7 arg12 arg15 arg16 arg17 hc4 f7 f12 f15)) (k0_t1_loop i).trips).f16) (arg17.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runC.sl.v56 c arg4 f4) (runC.sl.v97 c arg4 f4) (runC.sl.v138 c arg4 f4) (runC.sl.v179 c arg4 f4) (runC.sl.v220 c arg4 f4) (runC.sl.v261 c arg4 f4) (runC.sl.v302 c arg4 f4) (runC.sl.v343 c arg4 f4) hc4 f3 f6 f7 f10 (arg11.view.writes (Elt Ideal) arg11.view.junk (runC.sl.H11_8 c i arg3 arg4 arg6 hc4 f3 f4 f6)) f13 (arg14.view.writes (Elt Ideal) arg14.view.junk (runC.sl.H14_8 c i arg3 arg4 arg6 hc4 f3 f4 f6)) (arg16.view.writes (Elt Ideal) arg16.view.junk (runC.sl.H16_9 c arg15 arg16 f15)) (arg17.view.writes (Elt Ideal) arg17.view.junk (runC.sl.H17_9 c i arg7 arg12 arg15 arg16 arg17 hc4 f7 f12 f15)) (k0_t1_loop i).trips).f17) n ∧ StI (arg3.view.read (Elt Ideal) f3) (arg6.view.read (Elt Ideal) f6) (arg4.view.read (Elt Ideal) f4) (i 2).val (1024 * 0) (arg11.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runC.sl.v56 c arg4 f4) (runC.sl.v97 c arg4 f4) (runC.sl.v138 c arg4 f4) (runC.sl.v179 c arg4 f4) (runC.sl.v220 c arg4 f4) (runC.sl.v261 c arg4 f4) (runC.sl.v302 c arg4 f4) (runC.sl.v343 c arg4 f4) hc4 f3 f6 f7 f10 (arg11.view.writes (Elt Ideal) arg11.view.junk (runC.sl.H11_8 c i arg3 arg4 arg6 hc4 f3 f4 f6)) f13 (arg14.view.writes (Elt Ideal) arg14.view.junk (runC.sl.H14_8 c i arg3 arg4 arg6 hc4 f3 f4 f6)) (arg16.view.writes (Elt Ideal) arg16.view.junk (runC.sl.H16_9 c arg15 arg16 f15)) (arg17.view.writes (Elt Ideal) arg17.view.junk (runC.sl.H17_9 c i arg7 arg12 arg15 arg16 arg17 hc4 f7 f12 f15)) (k0_t1_loop i).trips).f11) (arg14.view.read (Elt Ideal) (lst c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 2)) k0_pay745 (runC.sl.v56 c arg4 f4) (runC.sl.v97 c arg4 f4) (runC.sl.v138 c arg4 f4) (runC.sl.v179 c arg4 f4) (runC.sl.v220 c arg4 f4) (runC.sl.v261 c arg4 f4) (runC.sl.v302 c arg4 f4) (runC.sl.v343 c arg4 f4) hc4 f3 f6 f7 f10 (arg11.view.writes (Elt Ideal) arg11.view.junk (runC.sl.H11_8 c i arg3 arg4 arg6 hc4 f3 f4 f6)) f13 (arg14.view.writes (Elt Ideal) arg14.view.junk (runC.sl.H14_8 c i arg3 arg4 arg6 hc4 f3 f4 f6)) (arg16.view.writes (Elt Ideal) arg16.view.junk (runC.sl.H16_9 c arg15 arg16 f15)) (arg17.view.writes (Elt Ideal) arg17.view.junk (runC.sl.H17_9 c i arg7 arg12 arg15 arg16 arg17 hc4 f7 f12 f15)) (k0_t1_loop i).trips).f14) n := by
  have h4 := cond4_pos i hc4
  have ht := trips_eq i hc4
  have e1 : (i 2).val - 2 * (k0_t1_loop i).trips = 1 := by omega
  have e2 : (i 2).val - 1 - 2 * (k0_t1_loop i).trips = 0 := by omega
  have h := loop_inv (c := c) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17)
    (BitVec.ofNat 32 ↑(i 2)) k0_pay745 (runC.sl.v56 c arg4 f4) (runC.sl.v97 c arg4 f4) (runC.sl.v138 c arg4 f4) (runC.sl.v179 c arg4 f4) (runC.sl.v220 c arg4 f4) (runC.sl.v261 c arg4 f4) (runC.sl.v302 c arg4 f4) (runC.sl.v343 c arg4 f4) hc4 f3 f6 f7 f10 (arg11.view.writes (Elt Ideal) arg11.view.junk (runC.sl.H11_8 c i arg3 arg4 arg6 hc4 f3 f4 f6)) f13 (arg14.view.writes (Elt Ideal) arg14.view.junk (runC.sl.H14_8 c i arg3 arg4 arg6 hc4 f3 f4 f6)) (arg16.view.writes (Elt Ideal) arg16.view.junk (runC.sl.H16_9 c arg15 arg16 f15)) (arg17.view.writes (Elt Ideal) arg17.view.junk (runC.sl.H17_9 c i arg7 arg12 arg15 arg16 arg17 hc4 f7 f12 f15)) hR (hq0_of rfl (fun t e => rdQ _ _ 0 0 rfl t e)) (hq0_of rfl (fun t e => rdQ _ _ 256 1 rfl t e)) (hq0_of rfl (fun t e => rdQ _ _ 512 2 rfl t e)) (hq0_of rfl (fun t e => rdQ _ _ 768 3 rfl t e)) (hq1_of rfl (fun t e => rdQ _ _ 0 0 rfl t e)) (hq1_of rfl (fun t e => rdQ _ _ 256 1 rfl t e)) (hq1_of rfl (fun t e => rdQ _ _ 512 2 rfl t e)) (hq1_of rfl (fun t e => rdQ _ _ 768 3 rfl t e)) (fun y => ones_apply y)
    (all8 (runC_A0 hR hD) (runC_A1 hR hD) (runC_A2 hR hD) (runC_A3 hR hD) (runC_A4 hR hD) (runC_A5 hR hD) (runC_A6 hR hD) (runC_A7 hR hD))
    (all8 (runC_I0 hR) (runC_I1 hR) (runC_I2 hR) (runC_I3 hR) (runC_I4 hR) (runC_I5 hR) (runC_I6 hR) (runC_I7 hR)) (k0_t1_loop i).trips le_rfl
  rw [e1, e2] at h
  exact h

set_option maxHeartbeats 8000000 in
theorem runC_O0 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 0 ∧ OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 0 := by
  have hl := runC_loop (cond6_odd i hc6) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runC
  dsimp only
  refine' quotTo (absorb1024 (sc_ne_top hR (i 2).val 0 0) (hl 0).1 (hl 0).2 rfl (by omega) ?hM0 ?hX0 ?hA0 ?hS0 ?hv0 (fun y => ones_apply y) (vx_one _ _)) (absorb1024 (sc_ne_top hR (i 2).val 1 0) (hl 4).1 (hl 4).2 rfl (by omega) ?hM1 ?hX1 ?hA1 ?hS1 ?hv1 (fun y => ones_apply y) (vx_one _ _)) ?ho ?hn0 ?hd0 ?hn1 ?hd1
  case ho => exact fun t l => ((wo_miss _ _ 768 _ _ _ _ (by have := t.isLt; show 256 * 0 + t.val < 768; omega)).trans ((wo_miss _ _ 512 _ _ _ _ (by have := t.isLt; show 256 * 0 + t.val < 512; omega)).trans ((wo_miss _ _ 256 _ _ _ _ (by have := t.isLt; show 256 * 0 + t.val < 256; omega)).trans (wo_hit _ _ 0 _ _ t l _))))
  case hn0 => exact fun d t => ((cov3' _ _ 0 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (Fin.isLt _))))))))))
  case hn1 => exact fun d t => ((cov3' _ _ 4 (by decide) (by decide) _ _).trans ((cn_miss _ 7 (by decide) _ _ _ _).trans ((cn_miss _ 6 (by decide) _ _ _ _).trans ((cn_miss _ 5 (by decide) _ _ _ _).trans (cn_hit 4 (by decide) _ _ _ _ (Fin.isLt _))))))
  case hd0 => exact fun t => ((cov3 _ _ 0 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans ((cn_miss _ 1 (by decide) _ _ _ _).trans (cn_hit 0 (by decide) _ _ _ _ (by decide))))))))))
  case hd1 => exact fun t => ((cov3 _ _ 4 64 (by decide) _ _ (by decide)).trans ((cn_miss _ 7 (by decide) _ _ _ _).trans ((cn_miss _ 6 (by decide) _ _ _ _).trans ((cn_miss _ 5 (by decide) _ _ _ _).trans (cn_hit 4 (by decide) _ _ _ _ (by decide))))))
  case hM0 => exact fun t => (rdAt3' _ _ 0 (by decide) le_rfl _ _)
  case hX0 => exact fun t => (rdAt3' _ _ 0 (by decide) le_rfl _ _)
  case hA0 => exact fun d t => (rdAt3' _ _ 0 (by decide) le_rfl _ _)
  case hS0 => exact fun r t => (rdAt3' _ _ 0 (by decide) le_rfl _ _)
  case hv0 => exact fun d r => rdV1024 _ _ 0 (by omega) 0 (fun _ => rfl) _ _
  case hM1 => exact fun t => (rdAt3' _ _ 4 (by decide) le_rfl _ _)
  case hX1 => exact fun t => (rdAt3' _ _ 4 (by decide) le_rfl _ _)
  case hA1 => exact fun d t => (rdAt3' _ _ 4 (by decide) le_rfl _ _)
  case hS1 => exact fun r t => (rdAt3' _ _ 4 (by decide) le_rfl _ _)
  case hv1 => exact fun d r => rdV1024 _ _ 0 (by omega) 1 (fun _ => rfl) _ _

set_option maxHeartbeats 8000000 in
theorem runC_O1 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 1 ∧ OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 1 := by
  have hl := runC_loop (cond6_odd i hc6) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runC
  dsimp only
  refine' quotTo (absorb1024 (sc_ne_top hR (i 2).val 0 1) (hl 1).1 (hl 1).2 rfl (by omega) ?hM0 ?hX0 ?hA0 ?hS0 ?hv0 (fun y => ones_apply y) (vx_one _ _)) (absorb1024 (sc_ne_top hR (i 2).val 1 1) (hl 5).1 (hl 5).2 rfl (by omega) ?hM1 ?hX1 ?hA1 ?hS1 ?hv1 (fun y => ones_apply y) (vx_one _ _)) ?ho ?hn0 ?hd0 ?hn1 ?hd1
  case ho => exact fun t l => ((wo_miss _ _ 768 _ _ _ _ (by have := t.isLt; show 256 * 1 + t.val < 768; omega)).trans ((wo_miss _ _ 512 _ _ _ _ (by have := t.isLt; show 256 * 1 + t.val < 512; omega)).trans (wo_hit _ _ 256 _ _ t l _)))
  case hn0 => exact fun d t => ((cov3' _ _ 1 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (Fin.isLt _)))))))))
  case hn1 => exact fun d t => ((cov3' _ _ 5 (by decide) (by decide) _ _).trans ((cn_miss _ 7 (by decide) _ _ _ _).trans ((cn_miss _ 6 (by decide) _ _ _ _).trans (cn_hit 5 (by decide) _ _ _ _ (Fin.isLt _)))))
  case hd0 => exact fun t => ((cov3 _ _ 1 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans ((cn_miss _ 2 (by decide) _ _ _ _).trans (cn_hit 1 (by decide) _ _ _ _ (by decide)))))))))
  case hd1 => exact fun t => ((cov3 _ _ 5 64 (by decide) _ _ (by decide)).trans ((cn_miss _ 7 (by decide) _ _ _ _).trans ((cn_miss _ 6 (by decide) _ _ _ _).trans (cn_hit 5 (by decide) _ _ _ _ (by decide)))))
  case hM0 => exact fun t => (rdAt3' _ _ 1 (by decide) le_rfl _ _)
  case hX0 => exact fun t => (rdAt3' _ _ 1 (by decide) le_rfl _ _)
  case hA0 => exact fun d t => (rdAt3' _ _ 1 (by decide) le_rfl _ _)
  case hS0 => exact fun r t => (rdAt3' _ _ 1 (by decide) le_rfl _ _)
  case hv0 => exact fun d r => rdV1024 _ _ 0 (by omega) 0 (fun _ => rfl) _ _
  case hM1 => exact fun t => (rdAt3' _ _ 5 (by decide) le_rfl _ _)
  case hX1 => exact fun t => (rdAt3' _ _ 5 (by decide) le_rfl _ _)
  case hA1 => exact fun d t => (rdAt3' _ _ 5 (by decide) le_rfl _ _)
  case hS1 => exact fun r t => (rdAt3' _ _ 5 (by decide) le_rfl _ _)
  case hv1 => exact fun d r => rdV1024 _ _ 0 (by omega) 1 (fun _ => rfl) _ _

set_option maxHeartbeats 8000000 in
theorem runC_O2 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 2 ∧ OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 2 := by
  have hl := runC_loop (cond6_odd i hc6) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runC
  dsimp only
  refine' quotTo (absorb1024 (sc_ne_top hR (i 2).val 0 2) (hl 2).1 (hl 2).2 rfl (by omega) ?hM0 ?hX0 ?hA0 ?hS0 ?hv0 (fun y => ones_apply y) (vx_one _ _)) (absorb1024 (sc_ne_top hR (i 2).val 1 2) (hl 6).1 (hl 6).2 rfl (by omega) ?hM1 ?hX1 ?hA1 ?hS1 ?hv1 (fun y => ones_apply y) (vx_one _ _)) ?ho ?hn0 ?hd0 ?hn1 ?hd1
  case ho => exact fun t l => ((wo_miss _ _ 768 _ _ _ _ (by have := t.isLt; show 256 * 2 + t.val < 768; omega)).trans (wo_hit _ _ 512 _ _ t l _))
  case hn0 => exact fun d t => ((cov3' _ _ 2 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (Fin.isLt _))))))))
  case hn1 => exact fun d t => ((cov3' _ _ 6 (by decide) (by decide) _ _).trans ((cn_miss _ 7 (by decide) _ _ _ _).trans (cn_hit 6 (by decide) _ _ _ _ (Fin.isLt _))))
  case hd0 => exact fun t => ((cov3 _ _ 2 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans ((cn_miss _ 3 (by decide) _ _ _ _).trans (cn_hit 2 (by decide) _ _ _ _ (by decide))))))))
  case hd1 => exact fun t => ((cov3 _ _ 6 64 (by decide) _ _ (by decide)).trans ((cn_miss _ 7 (by decide) _ _ _ _).trans (cn_hit 6 (by decide) _ _ _ _ (by decide))))
  case hM0 => exact fun t => (rdAt3' _ _ 2 (by decide) le_rfl _ _)
  case hX0 => exact fun t => (rdAt3' _ _ 2 (by decide) le_rfl _ _)
  case hA0 => exact fun d t => (rdAt3' _ _ 2 (by decide) le_rfl _ _)
  case hS0 => exact fun r t => (rdAt3' _ _ 2 (by decide) le_rfl _ _)
  case hv0 => exact fun d r => rdV1024 _ _ 0 (by omega) 0 (fun _ => rfl) _ _
  case hM1 => exact fun t => (rdAt3' _ _ 6 (by decide) le_rfl _ _)
  case hX1 => exact fun t => (rdAt3' _ _ 6 (by decide) le_rfl _ _)
  case hA1 => exact fun d t => (rdAt3' _ _ 6 (by decide) le_rfl _ _)
  case hS1 => exact fun r t => (rdAt3' _ _ 6 (by decide) le_rfl _ _)
  case hv1 => exact fun d r => rdV1024 _ _ 0 (by omega) 1 (fun _ => rfl) _ _

set_option maxHeartbeats 8000000 in
theorem runC_O3 (hR : RealRaw (arg3.view.read (Elt Ideal) f3) (arg6.view.read (Elt Ideal) f6) (arg4.view.read (Elt Ideal) f4)) (hD : ∀ n, StD (arg3.view.read (Elt Ideal) f3) (arg6.view.read (Elt Ideal) f6) (arg4.view.read (Elt Ideal) f4) (i 2).val (arg12.view.read (Elt Ideal) f12) (arg15.view.read (Elt Ideal) f15) n) :
    OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 0 3 ∧ OutOK (arg3.view.read (Elt Ideal) f3) (arg6.view.read (Elt Ideal) f6) (arg7.view.read (Elt Ideal) f7) (arg4.view.read (Elt Ideal) f4) (i 2).val (arg8.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).1) 1 3 := by
  have hl := runC_loop (cond6_odd i hc6) hR hD (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (arg5 := arg5) (arg8 := arg8) (arg9 := arg9) (arg10 := arg10) (arg13 := arg13) (hc4 := hc4) (f7 := f7) (f10 := f10) (f13 := f13)
  unfold runC
  dsimp only
  refine' quotTo (absorb1024 (sc_ne_top hR (i 2).val 0 3) (hl 3).1 (hl 3).2 rfl (by omega) ?hM0 ?hX0 ?hA0 ?hS0 ?hv0 (fun y => ones_apply y) (vx_one _ _)) (absorb1024 (sc_ne_top hR (i 2).val 1 3) (hl 7).1 (hl 7).2 rfl (by omega) ?hM1 ?hX1 ?hA1 ?hS1 ?hv1 (fun y => ones_apply y) (vx_one _ _)) ?ho ?hn0 ?hd0 ?hn1 ?hd1
  case ho => exact fun t l => (wo_hit _ _ 768 _ _ t l _)
  case hn0 => exact fun d t => ((cov3' _ _ 3 (by decide) (by decide) _ _).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (Fin.isLt _)))))))
  case hn1 => exact fun d t => ((cov3' _ _ 7 (by decide) (by decide) _ _).trans (cn_hit 7 (by decide) _ _ _ _ (Fin.isLt _)))
  case hd0 => exact fun t => ((cov3 _ _ 3 64 (by decide) _ _ (by decide)).trans ((cn_miss _ 7 (by decide) _ _ _ _).trans ((cn_miss _ 6 (by decide) _ _ _ _).trans ((cn_miss _ 5 (by decide) _ _ _ _).trans ((cn_miss _ 4 (by decide) _ _ _ _).trans (cn_hit 3 (by decide) _ _ _ _ (by decide)))))))
  case hd1 => exact fun t => ((cov3 _ _ 7 64 (by decide) _ _ (by decide)).trans (cn_hit 7 (by decide) _ _ _ _ (by decide)))
  case hM0 => exact fun t => (rdAt3' _ _ 3 (by decide) le_rfl _ _)
  case hX0 => exact fun t => (rdAt3' _ _ 3 (by decide) le_rfl _ _)
  case hA0 => exact fun d t => (rdAt3' _ _ 3 (by decide) le_rfl _ _)
  case hS0 => exact fun r t => (rdAt3' _ _ 3 (by decide) le_rfl _ _)
  case hv0 => exact fun d r => rdV1024 _ _ 0 (by omega) 0 (fun _ => rfl) _ _
  case hM1 => exact fun t => (rdAt3' _ _ 7 (by decide) le_rfl _ _)
  case hX1 => exact fun t => (rdAt3' _ _ 7 (by decide) le_rfl _ _)
  case hA1 => exact fun d t => (rdAt3' _ _ 7 (by decide) le_rfl _ _)
  case hS1 => exact fun r t => (rdAt3' _ _ 7 (by decide) le_rfl _ _)
  case hv1 => exact fun d r => rdV1024 _ _ 0 (by omega) 1 (fun _ => rfl) _ _

end Cert.KernelIdeal.Fox
-- ==== Proof.Fox.NextA.lean ====
module
public import proofs.«01_k».proof.Proof.Fox.Sem
public import proofs.«01_k».proof.Proof.Ideal.RunA

@[expose] public section

/-! What the first block of queries leaves for the next block. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : (Scalar.cmpi .ne (Scalar.extui (Scalar.cmpi .eq (BitVec.ofNat 32 (i 2).val) 0#32)) 0#32 : BitVec 1) = 1#1} {hc2 : k0_cond2 i = 1#1} {hc3 : k0_cond3 i = 1#1} {hc4 : ¬ k0_cond4 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runA_M : MaskOK (arg9.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.1) := by
  unfold runA
  dsimp only
  intro j r t
  match j with
  | 0 => exact ((wr_miss _ _ _ 3 (by decide) _ _ _ _).trans ((wr_miss _ _ _ 2 (by decide) _ _ _ _).trans ((wr_miss _ _ _ 1 (by decide) _ _ _ _).trans ((wr_hit _ _ 0 (by decide) _ _ _ _ (Fin.isLt _)).trans (maskT_apply 0#32 (by decide) r t)))))
  | 1 => exact ((wr_miss _ _ _ 3 (by decide) _ _ _ _).trans ((wr_miss _ _ _ 2 (by decide) _ _ _ _).trans ((wr_hit _ _ 1 (by decide) _ _ _ _ (Fin.isLt _)).trans (maskT_apply 256#32 (by decide) r t))))
  | 2 => exact ((wr_miss _ _ _ 3 (by decide) _ _ _ _).trans ((wr_hit _ _ 2 (by decide) _ _ _ _ (Fin.isLt _)).trans (maskT_apply 512#32 (by decide) r t)))
  | 3 => exact ((wr_hit _ _ 3 (by decide) _ _ _ _ (Fin.isLt _)).trans (maskT_apply 768#32 (by decide) r t))

set_option maxHeartbeats 8000000 in
theorem runA_D0 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 0 := by
  have hg : min ((i 2).val + 1) 7 < 8 := by omega
  unfold runA
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ hr))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk => exact fun r d => rdK _ _ _ hg (off11 i hc3) _ _
  case hc => exact fun r d => rdC _ _ _ hg (off12 i hc3) _ _
  case hq => exact hq0_of rfl (fun t e => rdQ _ _ 0 0 rfl t e)
  case hm => exact fun r t => ((cov3' _ _ 0 (by decide) (by decide) _ _).trans ((cn_miss _ 3 (by decide) _ _ _ _).trans ((cn_miss _ 2 (by decide) _ _ _ _).trans ((cn_miss _ 1 (by decide) _ _ _ _).trans ((cn_hit 0 (by decide) _ _ _ _ (Fin.isLt _)).trans (maskT_apply 0#32 (by decide) _ t))))))

set_option maxHeartbeats 8000000 in
theorem runA_D1 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 1 := by
  have hg : min ((i 2).val + 1) 7 < 8 := by omega
  unfold runA
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ hr)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk => exact fun r d => rdK _ _ _ hg (off11 i hc3) _ _
  case hc => exact fun r d => rdC _ _ _ hg (off12 i hc3) _ _
  case hq => exact hq0_of rfl (fun t e => rdQ _ _ 256 1 rfl t e)
  case hm => exact fun r t => ((cov3' _ _ 1 (by decide) (by decide) _ _).trans ((cn_miss _ 3 (by decide) _ _ _ _).trans ((cn_miss _ 2 (by decide) _ _ _ _).trans ((cn_hit 1 (by decide) _ _ _ _ (Fin.isLt _)).trans (maskT_apply 256#32 (by decide) _ t)))))

set_option maxHeartbeats 8000000 in
theorem runA_D2 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 2 := by
  have hg : min ((i 2).val + 1) 7 < 8 := by omega
  unfold runA
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ hr))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk => exact fun r d => rdK _ _ _ hg (off11 i hc3) _ _
  case hc => exact fun r d => rdC _ _ _ hg (off12 i hc3) _ _
  case hq => exact hq0_of rfl (fun t e => rdQ _ _ 512 2 rfl t e)
  case hm => exact fun r t => ((cov3' _ _ 2 (by decide) (by decide) _ _).trans ((cn_miss _ 3 (by decide) _ _ _ _).trans ((cn_hit 2 (by decide) _ _ _ _ (Fin.isLt _)).trans (maskT_apply 512#32 (by decide) _ t))))

set_option maxHeartbeats 8000000 in
theorem runA_D3 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 3 := by
  have hg : min ((i 2).val + 1) 7 < 8 := by omega
  unfold runA
  dsimp only
  refine' StD.of 1024 (by decide) (by decide) (diag1024_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ hr)))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk => exact fun r d => rdK _ _ _ hg (off11 i hc3) _ _
  case hc => exact fun r d => rdC _ _ _ hg (off12 i hc3) _ _
  case hq => exact hq0_of rfl (fun t e => rdQ _ _ 768 3 rfl t e)
  case hm => exact fun r t => ((cov3' _ _ 3 (by decide) (by decide) _ _).trans ((cn_hit 3 (by decide) _ _ _ _ (Fin.isLt _)).trans (maskT_apply 768#32 (by decide) _ t)))

set_option maxHeartbeats 8000000 in
theorem runA_D4 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 4 := by
  have hg : min ((i 2).val + 1) 7 < 8 := by omega
  unfold runA
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans (wr_hit _ _ 4 (by decide) _ _ _ _ hr))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk => exact fun r d => rdK _ _ _ hg (off11 i hc3) _ _
  case hc => exact fun r d => rdC _ _ _ hg (off12 i hc3) _ _
  case hq => exact hq1_of rfl (fun t e => rdQ _ _ 0 0 rfl t e)
  case hm => exact fun r t => ((cov3' _ _ 0 (by decide) (by decide) _ _).trans ((cn_miss _ 3 (by decide) _ _ _ _).trans ((cn_miss _ 2 (by decide) _ _ _ _).trans ((cn_miss _ 1 (by decide) _ _ _ _).trans ((cn_hit 0 (by decide) _ _ _ _ (Fin.isLt _)).trans (maskT_apply 0#32 (by decide) _ t))))))

set_option maxHeartbeats 8000000 in
theorem runA_D5 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 5 := by
  have hg : min ((i 2).val + 1) 7 < 8 := by omega
  unfold runA
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans (wr_hit _ _ 5 (by decide) _ _ _ _ hr)))
  case hmx => exact fun t => ((wr_miss _ _ _ 7 (by decide) _ _ _ _).trans ((wr_miss _ _ _ 6 (by decide) _ _ _ _).trans (wr_hit _ _ 5 (by decide) _ _ _ _ (Fin.isLt _))))
  case hk => exact fun r d => rdK _ _ _ hg (off11 i hc3) _ _
  case hc => exact fun r d => rdC _ _ _ hg (off12 i hc3) _ _
  case hq => exact hq1_of rfl (fun t e => rdQ _ _ 256 1 rfl t e)
  case hm => exact fun r t => ((cov3' _ _ 1 (by decide) (by decide) _ _).trans ((cn_miss _ 3 (by decide) _ _ _ _).trans ((cn_miss _ 2 (by decide) _ _ _ _).trans ((cn_hit 1 (by decide) _ _ _ _ (Fin.isLt _)).trans (maskT_apply 256#32 (by decide) _ t)))))

set_option maxHeartbeats 8000000 in
theorem runA_D6 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 6 := by
  have hg : min ((i 2).val + 1) 7 < 8 := by omega
  unfold runA
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans (wr_hit _ _ 6 (by decide) _ _ _ _ hr))
  case hmx => exact fun t => ((wr_miss _ _ _ 7 (by decide) _ _ _ _).trans (wr_hit _ _ 6 (by decide) _ _ _ _ (Fin.isLt _)))
  case hk => exact fun r d => rdK _ _ _ hg (off11 i hc3) _ _
  case hc => exact fun r d => rdC _ _ _ hg (off12 i hc3) _ _
  case hq => exact hq1_of rfl (fun t e => rdQ _ _ 512 2 rfl t e)
  case hm => exact fun r t => ((cov3' _ _ 2 (by decide) (by decide) _ _).trans ((cn_miss _ 3 (by decide) _ _ _ _).trans ((cn_hit 2 (by decide) _ _ _ _ (Fin.isLt _)).trans (maskT_apply 512#32 (by decide) _ t))))

set_option maxHeartbeats 8000000 in
theorem runA_D7 (hR' : RealRaw (arg3.view.read (Elt Ideal) f3) (arg6.view.read (Elt Ideal) f6) (arg5.view.read (Elt Ideal) f5)) :
    StD (arg3.view.read (Elt Ideal) f3) (arg6.view.read (Elt Ideal) f6) (arg5.view.read (Elt Ideal) f5) (min ((i 2).val + 1) 7) (arg12.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.1) (arg15.view.read (Elt Ideal) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17).2.2.2.2.2.2.2.1) 7 := by
  have hg : min ((i 2).val + 1) 7 < 8 := by omega
  unfold runA
  dsimp only
  refine' StD.of 1024 (by decide) (by decide) (diag1024_iss hR' (g := min ((i 2).val + 1) 7) hg ?hk ?hc ?hq ?hm) ?hs ?hmx
  case hs => exact fun r t hr => (wr_hit _ _ 7 (by decide) _ _ _ _ hr)
  case hmx => exact fun t => (wr_hit _ _ 7 (by decide) _ _ _ _ (Fin.isLt _))
  case hk => exact fun r d => rdK _ _ _ hg (off11 i hc3) _ _
  case hc => exact fun r d => rdC _ _ _ hg (off12 i hc3) _ _
  case hq => exact hq1_of rfl (fun t e => rdQ _ _ 768 3 rfl t e)
  case hm => exact fun r t => ((cov3' _ _ 3 (by decide) (by decide) _ _).trans ((cn_hit 3 (by decide) _ _ _ _ (Fin.isLt _)).trans (maskT_apply 768#32 (by decide) _ t)))

end Cert.KernelIdeal.Fox
-- ==== Proof.Fox.NextB.lean ====
module
public import proofs.«01_k».proof.Proof.Fox.Sem
public import proofs.«01_k».proof.Proof.Ideal.RunB

@[expose] public section

/-! The scores even blocks of queries leave for the next block. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : k0_cond5 i = 1#1} {hc6 : ¬ k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runB_D0 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 0 := by
  have hg : min ((i 2).val + 1) 7 < 8 := by omega
  unfold runB
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ hr))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk => exact fun r d => rdK _ _ _ hg (off39 i hc5) _ _
  case hc => exact fun r d => rdC _ _ _ hg (off40 i hc5) _ _
  case hq => exact hq0_of rfl (fun t e => rdQ _ _ 0 0 rfl t e)
  case hm => exact fun r t => (rdAt3' _ _ 0 (by decide) (by decide) _ _).trans (hM 0 _ t)

set_option maxHeartbeats 8000000 in
theorem runB_D1 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 1 := by
  have hg : min ((i 2).val + 1) 7 < 8 := by omega
  unfold runB
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ hr)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk => exact fun r d => rdK _ _ _ hg (off39 i hc5) _ _
  case hc => exact fun r d => rdC _ _ _ hg (off40 i hc5) _ _
  case hq => exact hq0_of rfl (fun t e => rdQ _ _ 256 1 rfl t e)
  case hm => exact fun r t => (rdAt3' _ _ 1 (by decide) (by decide) _ _).trans (hM 1 _ t)

set_option maxHeartbeats 8000000 in
theorem runB_D2 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 2 := by
  have hg : min ((i 2).val + 1) 7 < 8 := by omega
  unfold runB
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ hr))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk => exact fun r d => rdK _ _ _ hg (off39 i hc5) _ _
  case hc => exact fun r d => rdC _ _ _ hg (off40 i hc5) _ _
  case hq => exact hq0_of rfl (fun t e => rdQ _ _ 512 2 rfl t e)
  case hm => exact fun r t => (rdAt3' _ _ 2 (by decide) (by decide) _ _).trans (hM 2 _ t)

set_option maxHeartbeats 8000000 in
theorem runB_D3 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 3 := by
  have hg : min ((i 2).val + 1) 7 < 8 := by omega
  unfold runB
  dsimp only
  refine' StD.of 1024 (by decide) (by decide) (diag1024_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ hr)))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk => exact fun r d => rdK _ _ _ hg (off39 i hc5) _ _
  case hc => exact fun r d => rdC _ _ _ hg (off40 i hc5) _ _
  case hq => exact hq0_of rfl (fun t e => rdQ _ _ 768 3 rfl t e)
  case hm => exact fun r t => (rdAt3' _ _ 3 (by decide) (by decide) _ _).trans (hM 3 _ t)

set_option maxHeartbeats 8000000 in
theorem runB_D4 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 4 := by
  have hg : min ((i 2).val + 1) 7 < 8 := by omega
  unfold runB
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans (wr_hit _ _ 4 (by decide) _ _ _ _ hr))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk => exact fun r d => rdK _ _ _ hg (off39 i hc5) _ _
  case hc => exact fun r d => rdC _ _ _ hg (off40 i hc5) _ _
  case hq => exact hq1_of rfl (fun t e => rdQ _ _ 0 0 rfl t e)
  case hm => exact fun r t => (rdAt3' _ _ 0 (by decide) (by decide) _ _).trans (hM 0 _ t)

set_option maxHeartbeats 8000000 in
theorem runB_D5 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 5 := by
  have hg : min ((i 2).val + 1) 7 < 8 := by omega
  unfold runB
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans (wr_hit _ _ 5 (by decide) _ _ _ _ hr)))
  case hmx => exact fun t => ((wr_miss _ _ _ 7 (by decide) _ _ _ _).trans ((wr_miss _ _ _ 6 (by decide) _ _ _ _).trans (wr_hit _ _ 5 (by decide) _ _ _ _ (Fin.isLt _))))
  case hk => exact fun r d => rdK _ _ _ hg (off39 i hc5) _ _
  case hc => exact fun r d => rdC _ _ _ hg (off40 i hc5) _ _
  case hq => exact hq1_of rfl (fun t e => rdQ _ _ 256 1 rfl t e)
  case hm => exact fun r t => (rdAt3' _ _ 1 (by decide) (by decide) _ _).trans (hM 1 _ t)

set_option maxHeartbeats 8000000 in
theorem runB_D6 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 6 := by
  have hg : min ((i 2).val + 1) 7 < 8 := by omega
  unfold runB
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans (wr_hit _ _ 6 (by decide) _ _ _ _ hr))
  case hmx => exact fun t => ((wr_miss _ _ _ 7 (by decide) _ _ _ _).trans (wr_hit _ _ 6 (by decide) _ _ _ _ (Fin.isLt _)))
  case hk => exact fun r d => rdK _ _ _ hg (off39 i hc5) _ _
  case hc => exact fun r d => rdC _ _ _ hg (off40 i hc5) _ _
  case hq => exact hq1_of rfl (fun t e => rdQ _ _ 512 2 rfl t e)
  case hm => exact fun r t => (rdAt3' _ _ 2 (by decide) (by decide) _ _).trans (hM 2 _ t)

set_option maxHeartbeats 8000000 in
theorem runB_D7 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 7 := by
  have hg : min ((i 2).val + 1) 7 < 8 := by omega
  unfold runB
  dsimp only
  refine' StD.of 1024 (by decide) (by decide) (diag1024_iss hR' (g := min ((i 2).val + 1) 7) hg ?hk ?hc ?hq ?hm) ?hs ?hmx
  case hs => exact fun r t hr => (wr_hit _ _ 7 (by decide) _ _ _ _ hr)
  case hmx => exact fun t => (wr_hit _ _ 7 (by decide) _ _ _ _ (Fin.isLt _))
  case hk => exact fun r d => rdK _ _ _ hg (off39 i hc5) _ _
  case hc => exact fun r d => rdC _ _ _ hg (off40 i hc5) _ _
  case hq => exact hq1_of rfl (fun t e => rdQ _ _ 768 3 rfl t e)
  case hm => exact fun r t => (rdAt3' _ _ 3 (by decide) (by decide) _ _).trans (hM 3 _ t)

end Cert.KernelIdeal.Fox
-- ==== Proof.Fox.NextC.lean ====
module
public import proofs.«01_k».proof.Proof.Fox.Sem
public import proofs.«01_k».proof.Proof.Ideal.RunC

@[expose] public section

/-! The scores odd blocks of queries leave for the next block. -/

set_option maxRecDepth 16384
noncomputable section
namespace Cert.KernelIdeal.Fox
open Idealize.ShloMosaic Idealize.ShloMosaic.TcCoe Cert.KernelIdeal Cert.KernelIdeal.Gen Cert.Fox
open Idealize.SL Idealize.SL.Sem

variable {c : Dev nD} {i : grid0.Coords} {arg3 : Memref sig .tc .vmem S1x8192x128 .bf16} {harg3 : arg3.IsWhole} {arg4 : Memref sig .tc .vmem S1x1024x128 .bf16} {harg4 : arg4.IsWhole} {arg5 : Memref sig .tc .vmem S1x1024x128 .bf16} {harg5 : arg5.IsWhole} {arg6 : Memref sig .tc .vmem S1x1x8192x128 .bf16} {harg6 : arg6.IsWhole} {arg7 : Memref sig .tc .vmem S1x8x128x1024 .bf16} {harg7 : arg7.IsWhole} {arg8 : Memref sig .tc .vmem S1x1024x128 .bf16} {harg8 : arg8.IsWhole} {arg9 : Memref sig .tc .vmem S4x1024x256 .f32} {harg9 : arg9.IsWhole} {arg10 : Memref sig .tc .vmem S8x1024x256 .f32} {harg10 : arg10.IsWhole} {arg11 : Memref sig .tc .vmem S8x1024x256 .f32} {harg11 : arg11.IsWhole} {arg12 : Memref sig .tc .vmem S8x1024x256 .f32} {harg12 : arg12.IsWhole} {arg13 : Memref sig .tc .vmem S8x1x256 .f32} {harg13 : arg13.IsWhole} {arg14 : Memref sig .tc .vmem S8x1x256 .f32} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S8x80x256 .f32} {harg17 : arg17.IsWhole} {hc1 : ¬ (Scalar.cmpi .ne (Scalar.extui (Scalar.cmpi .eq (BitVec.ofNat 32 (i 2).val) 0#32)) 0#32 : BitVec 1) = 1#1} {hc2 : ¬ k0_cond2 i = 1#1} {hc3 : ¬ k0_cond3 i = 1#1} {hc4 : k0_cond4 i = 1#1} {hc5 : ¬ k0_cond5 i = 1#1} {hc6 : k0_cond6 i = 1#1} {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f7 : Buf (Elt Ideal) (arg7.view.loc (c : Thread nD τ))} {f8 : Buf (Elt Ideal) (arg8.view.loc (c : Thread nD τ))} {f9 : Buf (Elt Ideal) (arg9.view.loc (c : Thread nD τ))} {f10 : Buf (Elt Ideal) (arg10.view.loc (c : Thread nD τ))} {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))} {f17 : Buf (Elt Ideal) (arg17.view.loc (c : Thread nD τ))}

set_option maxHeartbeats 8000000 in
theorem runC_D0 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 0 := by
  have hg : min ((i 2).val + 1) 7 < 8 := by omega
  unfold runC
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ hr))))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans ((wr_miss _ _ _ 1 (by decide) _ _ _ _).trans (wr_hit _ _ 0 (by decide) _ _ _ _ (Fin.isLt _)))))))))
  case hk => exact fun r d => rdK _ _ _ hg (off41 i hc6) _ _
  case hc => exact fun r d => rdC _ _ _ hg (off42 i hc6) _ _
  case hq => exact hq0_of rfl (fun t e => rdQ _ _ 0 0 rfl t e)
  case hm => exact fun r t => (rdAt3' _ _ 0 (by decide) (by decide) _ _).trans (hM 0 _ t)

set_option maxHeartbeats 8000000 in
theorem runC_D1 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 1 := by
  have hg : min ((i 2).val + 1) 7 < 8 := by omega
  unfold runC
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ hr)))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans ((wr_miss _ _ _ 2 (by decide) _ _ _ _).trans (wr_hit _ _ 1 (by decide) _ _ _ _ (Fin.isLt _))))))))
  case hk => exact fun r d => rdK _ _ _ hg (off41 i hc6) _ _
  case hc => exact fun r d => rdC _ _ _ hg (off42 i hc6) _ _
  case hq => exact hq0_of rfl (fun t e => rdQ _ _ 256 1 rfl t e)
  case hm => exact fun r t => (rdAt3' _ _ 1 (by decide) (by decide) _ _).trans (hM 1 _ t)

set_option maxHeartbeats 8000000 in
theorem runC_D2 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 2 := by
  have hg : min ((i 2).val + 1) 7 < 8 := by omega
  unfold runC
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ hr))))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans ((wr_miss _ _ _ 3 (by decide) _ _ _ _).trans (wr_hit _ _ 2 (by decide) _ _ _ _ (Fin.isLt _)))))))
  case hk => exact fun r d => rdK _ _ _ hg (off41 i hc6) _ _
  case hc => exact fun r d => rdC _ _ _ hg (off42 i hc6) _ _
  case hq => exact hq0_of rfl (fun t e => rdQ _ _ 512 2 rfl t e)
  case hm => exact fun r t => (rdAt3' _ _ 2 (by decide) (by decide) _ _).trans (hM 2 _ t)

set_option maxHeartbeats 8000000 in
theorem runC_D3 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 3 := by
  have hg : min ((i 2).val + 1) 7 < 8 := by omega
  unfold runC
  dsimp only
  refine' StD.of 1024 (by decide) (by decide) (diag1024_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ hr)))))
  case hmx => exact fun t => ((wr_miss _ _ _ 7 (by decide) _ _ _ _).trans ((wr_miss _ _ _ 6 (by decide) _ _ _ _).trans ((wr_miss _ _ _ 5 (by decide) _ _ _ _).trans ((wr_miss _ _ _ 4 (by decide) _ _ _ _).trans (wr_hit _ _ 3 (by decide) _ _ _ _ (Fin.isLt _))))))
  case hk => exact fun r d => rdK _ _ _ hg (off41 i hc6) _ _
  case hc => exact fun r d => rdC _ _ _ hg (off42 i hc6) _ _
  case hq => exact hq0_of rfl (fun t e => rdQ _ _ 768 3 rfl t e)
  case hm => exact fun r t => (rdAt3' _ _ 3 (by decide) (by decide) _ _).trans (hM 3 _ t)

set_option maxHeartbeats 8000000 in
theorem runC_D4 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 4 := by
  have hg : min ((i 2).val + 1) 7 < 8 := by omega
  unfold runC
  dsimp only
  refine' StD.of 256 (by decide) (by decide) (diag256_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans ((wr_miss _ _ _ 5 (by decide) _ _ _ _).trans (wr_hit _ _ 4 (by decide) _ _ _ _ hr))))
  case hmx => exact fun t => ((wr_miss _ _ _ 7 (by decide) _ _ _ _).trans ((wr_miss _ _ _ 6 (by decide) _ _ _ _).trans ((wr_miss _ _ _ 5 (by decide) _ _ _ _).trans (wr_hit _ _ 4 (by decide) _ _ _ _ (Fin.isLt _)))))
  case hk => exact fun r d => rdK _ _ _ hg (off41 i hc6) _ _
  case hc => exact fun r d => rdC _ _ _ hg (off42 i hc6) _ _
  case hq => exact hq1_of rfl (fun t e => rdQ _ _ 0 0 rfl t e)
  case hm => exact fun r t => (rdAt3' _ _ 0 (by decide) (by decide) _ _).trans (hM 0 _ t)

set_option maxHeartbeats 8000000 in
theorem runC_D5 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 5 := by
  have hg : min ((i 2).val + 1) 7 < 8 := by omega
  unfold runC
  dsimp only
  refine' StD.of 512 (by decide) (by decide) (diag512_iss hR' (g := min ((i 2).val + 1) 7) hg ?hk ?hc ?hq ?hm) ?hs ?hmx
  case hs => exact fun r t hr => ((wr_miss _ _ _ 7 (by decide) _ _ _ _).trans ((wr_miss _ _ _ 6 (by decide) _ _ _ _).trans (wr_hit _ _ 5 (by decide) _ _ _ _ hr)))
  case hmx => exact fun t => ((wr_miss _ _ _ 7 (by decide) _ _ _ _).trans ((wr_miss _ _ _ 6 (by decide) _ _ _ _).trans (wr_hit _ _ 5 (by decide) _ _ _ _ (Fin.isLt _))))
  case hk => exact fun r d => rdK _ _ _ hg (off41 i hc6) _ _
  case hc => exact fun r d => rdC _ _ _ hg (off42 i hc6) _ _
  case hq => exact hq1_of rfl (fun t e => rdQ _ _ 256 1 rfl t e)
  case hm => exact fun r t => (rdAt3' _ _ 1 (by decide) (by decide) _ _).trans (hM 1 _ t)

set_option maxHeartbeats 8000000 in
theorem runC_D6 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 6 := by
  have hg : min ((i 2).val + 1) 7 < 8 := by omega
  unfold runC
  dsimp only
  refine' StD.of 768 (by decide) (by decide) (diag768_iss hR' (g := min ((i 2).val + 1) 7) hg ?hk ?hc ?hq ?hm) ?hs ?hmx
  case hs => exact fun r t hr => ((wr_miss _ _ _ 7 (by decide) _ _ _ _).trans (wr_hit _ _ 6 (by decide) _ _ _ _ hr))
  case hmx => exact fun t => ((wr_miss _ _ _ 7 (by decide) _ _ _ _).trans (wr_hit _ _ 6 (by decide) _ _ _ _ (Fin.isLt _)))
  case hk => exact fun r d => rdK _ _ _ hg (off41 i hc6) _ _
  case hc => exact fun r d => rdC _ _ _ hg (off42 i hc6) _ _
  case hq => exact hq1_of rfl (fun t e => rdQ _ _ 512 2 rfl t e)
  case hm => exact fun r t => (rdAt3' _ _ 2 (by decide) (by decide) _ _).trans (hM 2 _ t)

set_option maxHeartbeats 8000000 in
theorem runC_D7 (hR' : RealRaw (arg3.view.read (Elt Ideal) f3) (arg6.view.read (Elt Ideal) f6) (arg5.view.read (Elt Ideal) f5)) (hM : MaskOK (arg9.view.read (Elt Ideal) f9)) :
    StD (arg3.view.read (Elt Ideal) f3) (arg6.view.read (Elt Ideal) f6) (arg5.view.read (Elt Ideal) f5) (min ((i 2).val + 1) 7) (arg12.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.1) (arg15.view.read (Elt Ideal) (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17).2.2.2.2.2.2.2.1) 7 := by
  have hg : min ((i 2).val + 1) 7 < 8 := by omega
  unfold runC
  dsimp only
  refine' StD.of 1024 (by decide) (by decide) (diag1024_iss hR' (g := min ((i 2).val + 1) 7) hg ?hk ?hc ?hq ?hm) ?hs ?hmx
  case hs => exact fun r t hr => (wr_hit _ _ 7 (by decide) _ _ _ _ hr)
  case hmx => exact fun t => (wr_hit _ _ 7 (by decide) _ _ _ _ (Fin.isLt _))
  case hk => exact fun r d => rdK _ _ _ hg (off41 i hc6) _ _
  case hc => exact fun r d => rdC _ _ _ hg (off42 i hc6) _ _
  case hq => exact hq1_of rfl (fun t e => rdQ _ _ 768 3 rfl t e)
  case hm => exact fun r t => (rdAt3' _ _ 3 (by decide) (by decide) _ _).trans (hM 3 _ t)

end Cert.KernelIdeal.Fox
-- ==== Proof.Fox.Blocks.lean ====
module
public import proofs.«01_k».proof.Proof.Fox.Sem
public import proofs.«01_k».proof.Proof.Gen.KernelIdeal.Points
public import proofs.«01_k».proof.Proof.Gen.KernelIdeal.Frame
public import Idealize.ShloMosaic.Lib.Pipeline.ValueKit

@[expose] public section

/-! What the FoX attention kernel's windows hold at a grid point, in the arguments. -/

set_option maxRecDepth 16384
noncomputable section
namespace Cert.KernelIdeal.Fox
open Idealize.ShloMosaic Cert.KernelIdeal Cert.KernelIdeal.Gen Cert.Fox
open Idealize.ShloMosaic.TcCoe Idealize.SL.Sem

theorem idx : ∀ t : Fin cfg0.N, win0_0.index t = ![t.val / 32, 0, t.val / 8 % 4] ∧ win0_1.index t = ![t.val / 32, t.val % 8, t.val / 8 % 4]
    ∧ win0_2.index t = ![t.val / 32, min (t.val % 8 + 1) 7, t.val / 8 % 4] ∧ win0_3.index t = ![t.val / 32, t.val / 8 % 4, 0, 0]
    ∧ win0_4.index t = ![t.val / 32, 0, t.val / 8 % 4, 0] ∧ win0_5.index t = ![t.val / 32, t.val % 8, t.val / 8 % 4] :=
  (by decide +kernel : ∀ t : Fin grid0.N, _)

theorem coord : ∀ t : Fin cfg0.N, (grid0.coords t 2).val = t.val % 8 := (by decide +kernel : ∀ t : Fin grid0.N, _)

theorem bound (t : Fin cfg0.N) : t.val < 128 := t.isLt.trans_eq N_0

variable (m : (ℓ : Loc nD τ sig) → Buf (Elt Ideal) ℓ)

abbrev kB (c : Dev nD) (t : Fin cfg0.N) : S1x8192x128.Idx → EReal := iblk m c 0 t
abbrev qB (c : Dev nD) (t : Fin cfg0.N) : S1x1024x128.Idx → EReal := iblk m c 1 t
abbrev nB (c : Dev nD) (t : Fin cfg0.N) : S1x1024x128.Idx → EReal := iblk m c 2 t
abbrev cB (c : Dev nD) (t : Fin cfg0.N) : S1x1x8192x128.Idx → EReal := iblk m c 3 t
abbrev vB (c : Dev nD) (t : Fin cfg0.N) : S1x8x128x1024.Idx → EReal := iblk m c 4 t

/-- The four arguments. -/
abbrev qA (c : Dev nD) : S4x8192x512.Idx → EReal := m ((c : Thread nD τ).loc main_arg0)
abbrev kA (c : Dev nD) : S4x8192x512.Idx → EReal := m ((c : Thread nD τ).loc main_arg1)
abbrev cA (c : Dev nD) : S4x3x8x8192.Idx → EReal := m ((c : Thread nD τ).loc main_arg2)
abbrev vA (c : Dev nD) : S4x8x512x1024.Idx → EReal := m ((c : Thread nD τ).loc main_arg3)

theorem kB_at (c : Dev nD) (t : Fin cfg0.N) (r : Fin 8192) (d : Fin 128) :
    kB m c t (ix3 0 r d) = kA m c (ix3 ⟨t.val / 32, by have := bound t; omega⟩ r ⟨t.val / 8 % 4 * 128 + d.val, by omega⟩) := by
  unfold kB kA
  blk_point [iblk, V, idx t]

theorem qB_at (c : Dev nD) (t : Fin cfg0.N) (r : Fin 1024) (d : Fin 128) :
    qB m c t (ix3 0 r d) = qA m c (ix3 ⟨t.val / 32, by have := bound t; omega⟩ ⟨t.val % 8 * 1024 + r.val, by omega⟩ ⟨t.val / 8 % 4 * 128 + d.val, by omega⟩) := by
  unfold qB qA
  blk_point [iblk, V, idx t]

theorem nB_at (c : Dev nD) (t : Fin cfg0.N) (r : Fin 1024) (d : Fin 128) :
    nB m c t (ix3 0 r d) = qA m c (ix3 ⟨t.val / 32, by have := bound t; omega⟩ ⟨min (t.val % 8 + 1) 7 * 1024 + r.val, by omega⟩ ⟨t.val / 8 % 4 * 128 + d.val, by omega⟩) := by
  unfold nB qA
  blk_point [iblk, V, idx t]

theorem vB_at (c : Dev nD) (t : Fin cfg0.N) (e : Fin 8) (d : Fin 128) (r : Fin 1024) :
    vB m c t (ix4 0 e d r) = vA m c (ix4 ⟨t.val / 32, by have := bound t; omega⟩ e ⟨t.val / 8 % 4 * 128 + d.val, by omega⟩ r) := by
  unfold vB vA
  blk_point [iblk, V, idx t]

theorem V4 (c : Dev nD) : V m c main_v4 = (pad S4x4x8192x128 ![0, 0, 0, 0] ![0, 0, 0, 122] ![0, 0, 0, 0]
      (truncf .bf16 (shapeCast S4x4x8192x6 (transpose S4x4x8192x2x3 [0, 2, 4, 3, 1] (shapeCast S4x3x4x2x8192 (cA m c : FVec Ideal S4x3x8x8192 .f32) shapeCasts_S4x3x8x8192_S4x3x4x2x8192)
        transposes_S4x3x4x2x8192_S4x4x8192x2x3_0_2_4_3_1) shapeCasts_S4x4x8192x2x3_S4x4x8192x6) bitsLt_bf16_f32)
      (sitofp .bf16 (constantI S_ 32 0#32)) pads_S4x4x8192x6_S4x4x8192x128_000_000_000_01220 h_S_ : FVec Ideal S4x4x8192x128 .bf16) := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq, StableHlo.after_cons, StableHlo.after_nil]
  after_results_simp
  rfl

theorem V4_at (c : Dev nD) (b p : Fin 4) (r : Fin 8192) (l : Fin 128) :
    (V m c main_v4 : S4x4x8192x128.Idx → EReal) (ix4 b p r l) = if h : l.val < 6 then cA m c (ix4 b ⟨l.val % 3, by omega⟩ ⟨2 * p.val + l.val / 3, by omega⟩ r) else 0 := by
  rw [V4]
  generalize cA m c = x
  pointwise
  have z : (FloatOps.sitofp .bf16 (0#32 : BitVec 32) : Ideal .bf16) = (0 : EReal) := by
    show ((((0#32 : BitVec 32).toInt : ℝ)) : EReal) = 0
    simp
  by_cases h : l.val < 6
  · rw [dif_pos h, dif_pos h]
    exact congrArg (fun a => x (ix4 b _ a r)) (Fin.ext (by dsimp only; omega))
  · rw [dif_neg h, dif_neg h]; exact z

theorem cB_at (c : Dev nD) (t : Fin cfg0.N) (r : Fin 8192) (l : Fin 128) :
    cB m c t (ix4 0 0 r l) = (V m c main_v4 : S4x4x8192x128.Idx → EReal) (ix4 ⟨t.val / 32, by have := bound t; omega⟩ ⟨t.val / 8 % 4, by omega⟩ r l) := by
  unfold cB
  blk_ext [iblk, idx t]

theorem ext3 {a b : ℕ} {f g : (⟨3, ![1, a, b]⟩ : Shape).Idx → EReal} (h : ∀ r d, f (ix3 0 r d) = g (ix3 0 r d)) : f = g := by
  funext i
  rw [ValueIdx.eq_ix3 i]
  have h0 : i 0 = (0 : Fin 1) := Subsingleton.elim (α := Fin 1) _ _
  rw [h0]
  exact h (i 1) (i 2)

theorem ext4 {a b : ℕ} {f g : (⟨4, ![1, 1, a, b]⟩ : Shape).Idx → EReal} (h : ∀ r d, f (ix4 0 0 r d) = g (ix4 0 0 r d)) : f = g := by
  funext i
  rw [ValueIdx.eq_ix4 i]
  have h0 : i 0 = (0 : Fin 1) := Subsingleton.elim (α := Fin 1) _ _
  have h1 : i 1 = (0 : Fin 1) := Subsingleton.elim (α := Fin 1) _ _
  rw [h0, h1]
  exact h (i 2) (i 3)

/-- Within a row of the grid, the next point's keys and terms are this point's and its queries are the ones this point looked ahead at. -/
theorem next_eq (c : Dev nD) (t u : Fin cfg0.N) (hu : u.val = t.val + 1) (h8 : u.val % 8 ≠ 0) :
    kB m c u = kB m c t ∧ cB m c u = cB m c t ∧ qB m c u = nB m c t ∧ (grid0.coords u 2).val = min ((grid0.coords t 2).val + 1) 7 := by
  have e1 : u.val / 32 = t.val / 32 := by omega
  have e2 : u.val / 8 % 4 = t.val / 8 % 4 := by omega
  have e3 : u.val % 8 = min (t.val % 8 + 1) 7 := by omega
  refine ⟨ext3 fun r d => ?_, ext4 fun r d => ?_, ext3 fun r d => ?_, ?_⟩
  · rw [kB_at, kB_at]; simp only [e1, e2]
  · rw [cB_at, cB_at]; simp only [e1, e2]
  · rw [qB_at, nB_at]; simp only [e1, e2, e3]
  · rw [coord, coord, e3]

end Cert.KernelIdeal.Fox
end
-- ==== Proof.Fox.Run.lean ====
module
public import proofs.«01_k».proof.Proof.Ideal.Frame
public import proofs.«01_k».proof.Proof.Fox.SemA
public import proofs.«01_k».proof.Proof.Fox.SemB
public import proofs.«01_k».proof.Proof.Fox.SemC
public import proofs.«01_k».proof.Proof.Fox.NextA
public import proofs.«01_k».proof.Proof.Fox.NextB
public import proofs.«01_k».proof.Proof.Fox.NextC
public import proofs.«01_k».proof.Proof.Fox.Blocks

@[expose] public section

/-! The FoX attention kernel's run over the extended reals: what each grid point writes back, carried from point to point. -/

set_option maxRecDepth 16384
noncomputable section
namespace Cert.KernelIdeal.FoxRun
open Cert.KernelIdeal Cert.KernelIdeal.Gen Cert.KernelIdeal.Fox Cert.Fox
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Finset (Ico)

/-! ## One block of the output -/

section
variable (Kf : S1x8192x128.Idx → EReal) (Cf : S1x1x8192x128.Idx → EReal) (Vf : S1x8x128x1024.Idx → EReal) (Qf Qn : S1x1024x128.Idx → EReal)

/-- One entry of a block: the values, weighted and divided by the weights' sum. -/
def oq (g : ℕ) (h : Fin 2) (j : Fin 4) (t : Fin 256) (d : Fin 64) : EReal :=
  Ideal.div (∑ pos ∈ Ico 0 (1024 * (g + 1)), vx Vf h ⟨d.val, by omega⟩ pos * Ideal.exp2 (sc Kf Cf Qf g h j t pos - ((0 : ℝ) : EReal)))
    (∑ pos ∈ Ico 0 (1024 * (g + 1)), 1 * Ideal.exp2 (sc Kf Cf Qf g h j t pos - ((0 : ℝ) : EReal)))

def oqAt (g : ℕ) (r : Fin 1024) (l : Fin 128) : EReal :=
  oq Kf Cf Vf Qf g ⟨l.val / 64, by omega⟩ ⟨r.val / 256, by omega⟩ ⟨r.val % 256, by omega⟩ ⟨l.val % 64, by omega⟩

def outSpec (g : ℕ) (i : S1x1024x128.Idx) : EReal := oqAt Kf Cf Vf Qf g (i 1) (i 2)

variable {Kf Cf Vf Qf Qn}

/-- Tiles with the right quotients make up the block. -/
theorem out_all (hR : RealRaw Kf Cf Qf) {g : ℕ} (hg : g < 8) {R : S1x1024x128.Idx → EReal} (H : ∀ h j, OutOK Kf Cf Vf Qf g R h j) : R = outSpec Kf Cf Vf Qf g := by
  refine ext3 fun r l => ?_
  obtain ⟨μ, hμ⟩ := H ⟨l.val / 64, by omega⟩ ⟨r.val / 256, by omega⟩ ⟨r.val % 256, by omega⟩
  have er : (⟨256 * (r.val / 256) + r.val % 256, by omega⟩ : Fin 1024) = r := Fin.ext (by dsimp only; omega)
  have el : (⟨64 * (l.val / 64) + l.val % 64, by omega⟩ : Fin 128) = l := Fin.ext (by dsimp only; omega)
  refine ((congrArg R (congrArg₂ (fun a b => (ix3 0 a b : S1x1024x128.Idx)) er.symm el.symm)).trans (hμ ⟨l.val % 64, by omega⟩)).trans ?_
  show _ = oqAt Kf Cf Vf Qf g r l
  unfold oqAt oq
  have key := fun μ : ℝ => out_eq (hi := 1024 * (g + 1)) (N := 8192) (by omega)
    (sc Kf Cf Qf g ⟨l.val / 64, by omega⟩ ⟨r.val / 256, by omega⟩ ⟨r.val % 256, by omega⟩) (sc_ne_top hR g _ _ _) (sc_base hR g _ _ _ (Nat.zero_le _)) (by omega)
    (fun pos hp => sc_masked (by dsimp only; omega)) μ 0 0 (vx Vf ⟨l.val / 64, by omega⟩ ⟨l.val % 64, by omega⟩)
  exact (key μ).trans (key 0).symm

variable (Kf Cf Vf Qf Qn)
/-- What a point leaves: the block written, the masks, and the next block's scores against its own keys. -/
def Step (g : ℕ) (r8 : S1x1024x128.Idx → EReal) (r9 : S4x1024x256.Idx → EReal) (r12 : S8x1024x256.Idx → EReal) (r15 : S8x1x256.Idx → EReal) : Prop :=
  r8 = outSpec Kf Cf Vf Qf g ∧ MaskOK r9 ∧ ∀ n, StD Kf Cf Qn (min (g + 1) 7) r12 r15 n
end

section
variable (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : (Scalar.cmpi .ne (Scalar.extui (Scalar.cmpi .eq (BitVec.ofNat 32 (i 2).val) 0#32)) 0#32 : BitVec 1) = 1#1) (hc2 : k0_cond2 i = 1#1) (hc3 : k0_cond3 i = 1#1) (hc4 : ¬ k0_cond4 i = 1#1) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ)))

local notation "RA" => runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 f3 f4 f5 f6 f7 f8 f9 f10 f11 f12 f13 f14 f15 f16 f17

theorem stepA {Kf : S1x8192x128.Idx → EReal} {Cf : S1x1x8192x128.Idx → EReal} {Vf : S1x8x128x1024.Idx → EReal} {Qf Qn : S1x1024x128.Idx → EReal}
    (e3 : arg3.view.read (Elt Ideal) f3 = Kf) (e4 : arg4.view.read (Elt Ideal) f4 = Qf) (e5 : arg5.view.read (Elt Ideal) f5 = Qn)
    (e6 : arg6.view.read (Elt Ideal) f6 = Cf) (e7 : arg7.view.read (Elt Ideal) f7 = Vf) (hR : RealRaw Kf Cf Qf) (hR' : RealRaw Kf Cf Qn) :
    Step Kf Cf Vf Qf Qn (i 2).val (arg8.view.read (Elt Ideal) RA.1) (arg9.view.read (Elt Ideal) RA.2.1) (arg12.view.read (Elt Ideal) RA.2.2.2.2.1)
      (arg15.view.read (Elt Ideal) RA.2.2.2.2.2.2.2.1) := by
  subst e3 e4 e5 e6 e7
  refine ⟨out_all hR (i 2).isLt fun h j => ?_, ?_, fun n => ?_⟩
  · match h, j with
    | 0, 0 => exact (runA_O0 hR).1
    | 0, 1 => exact (runA_O1 hR).1
    | 0, 2 => exact (runA_O2 hR).1
    | 0, 3 => exact (runA_O3 hR).1
    | 1, 0 => exact (runA_O0 hR).2
    | 1, 1 => exact (runA_O1 hR).2
    | 1, 2 => exact (runA_O2 hR).2
    | 1, 3 => exact (runA_O3 hR).2
  · exact runA_M
  · match n with
    | 0 => exact runA_D0 hR'
    | 1 => exact runA_D1 hR'
    | 2 => exact runA_D2 hR'
    | 3 => exact runA_D3 hR'
    | 4 => exact runA_D4 hR'
    | 5 => exact runA_D5 hR'
    | 6 => exact runA_D6 hR'
    | 7 => exact runA_D7 hR'
end

section
variable (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : ¬ (Scalar.cmpi .ne (Scalar.extui (Scalar.cmpi .eq (BitVec.ofNat 32 (i 2).val) 0#32)) 0#32 : BitVec 1) = 1#1) (hc2 : ¬ k0_cond2 i = 1#1) (hc3 : ¬ k0_cond3 i = 1#1) (hc4 : k0_cond4 i = 1#1) (hc5 : k0_cond5 i = 1#1) (hc6 : ¬ k0_cond6 i = 1#1) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ)))

local notation "RB" => runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17

theorem stepB {Kf : S1x8192x128.Idx → EReal} {Cf : S1x1x8192x128.Idx → EReal} {Vf : S1x8x128x1024.Idx → EReal} {Qf Qn : S1x1024x128.Idx → EReal}
    (e3 : arg3.view.read (Elt Ideal) f3 = Kf) (e4 : arg4.view.read (Elt Ideal) f4 = Qf) (e5 : arg5.view.read (Elt Ideal) f5 = Qn)
    (e6 : arg6.view.read (Elt Ideal) f6 = Cf) (e7 : arg7.view.read (Elt Ideal) f7 = Vf) (hR : RealRaw Kf Cf Qf) (hR' : RealRaw Kf Cf Qn)
    (hM : MaskOK (arg9.view.read (Elt Ideal) f9)) (hD : ∀ n, StD Kf Cf Qf (i 2).val (arg12.view.read (Elt Ideal) f12) (arg15.view.read (Elt Ideal) f15) n) :
    Step Kf Cf Vf Qf Qn (i 2).val (arg8.view.read (Elt Ideal) RB.1) (arg9.view.read (Elt Ideal) RB.2.1) (arg12.view.read (Elt Ideal) RB.2.2.2.2.1)
      (arg15.view.read (Elt Ideal) RB.2.2.2.2.2.2.2.1) := by
  subst e3 e4 e5 e6 e7
  refine ⟨out_all hR (i 2).isLt fun h j => ?_, ?_, fun n => ?_⟩
  · match h, j with
    | 0, 0 => exact (runB_O0 hR hD).1
    | 0, 1 => exact (runB_O1 hR hD).1
    | 0, 2 => exact (runB_O2 hR hD).1
    | 0, 3 => exact (runB_O3 hR hD).1
    | 1, 0 => exact (runB_O0 hR hD).2
    | 1, 1 => exact (runB_O1 hR hD).2
    | 1, 2 => exact (runB_O2 hR hD).2
    | 1, 3 => exact (runB_O3 hR hD).2
  · unfold runB; exact hM
  · match n with
    | 0 => exact runB_D0 hR' hM
    | 1 => exact runB_D1 hR' hM
    | 2 => exact runB_D2 hR' hM
    | 3 => exact runB_D3 hR' hM
    | 4 => exact runB_D4 hR' hM
    | 5 => exact runB_D5 hR' hM
    | 6 => exact runB_D6 hR' hM
    | 7 => exact runB_D7 hR' hM
end

section
variable (c : Dev nD) (i : grid0.Coords) (arg3 : Memref sig .tc .vmem S1x8192x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1x8192x128 .bf16) (harg6 : arg6.IsWhole) (arg7 : Memref sig .tc .vmem S1x8x128x1024 .bf16) (harg7 : arg7.IsWhole) (arg8 : Memref sig .tc .vmem S1x1024x128 .bf16) (harg8 : arg8.IsWhole) (arg9 : Memref sig .tc .vmem S4x1024x256 .f32) (harg9 : arg9.IsWhole) (arg10 : Memref sig .tc .vmem S8x1024x256 .f32) (harg10 : arg10.IsWhole) (arg11 : Memref sig .tc .vmem S8x1024x256 .f32) (harg11 : arg11.IsWhole) (arg12 : Memref sig .tc .vmem S8x1024x256 .f32) (harg12 : arg12.IsWhole) (arg13 : Memref sig .tc .vmem S8x1x256 .f32) (harg13 : arg13.IsWhole) (arg14 : Memref sig .tc .vmem S8x1x256 .f32) (harg14 : arg14.IsWhole) (arg15 : Memref sig .tc .vmem S8x1x256 .f32) (harg15 : arg15.IsWhole) (arg16 : Memref sig .tc .vmem S8x1x256 .f32) (harg16 : arg16.IsWhole) (arg17 : Memref sig .tc .vmem S8x80x256 .f32) (harg17 : arg17.IsWhole) (hc1 : ¬ (Scalar.cmpi .ne (Scalar.extui (Scalar.cmpi .eq (BitVec.ofNat 32 (i 2).val) 0#32)) 0#32 : BitVec 1) = 1#1) (hc2 : ¬ k0_cond2 i = 1#1) (hc3 : ¬ k0_cond3 i = 1#1) (hc4 : k0_cond4 i = 1#1) (hc5 : ¬ k0_cond5 i = 1#1) (hc6 : k0_cond6 i = 1#1) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ)))

local notation "RC" => runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 hc5 hc6 f3 f4 f5 f6 f7 f8 f9 f10 f11 f12 f13 f14 f15 f16 f17

theorem stepC {Kf : S1x8192x128.Idx → EReal} {Cf : S1x1x8192x128.Idx → EReal} {Vf : S1x8x128x1024.Idx → EReal} {Qf Qn : S1x1024x128.Idx → EReal}
    (e3 : arg3.view.read (Elt Ideal) f3 = Kf) (e4 : arg4.view.read (Elt Ideal) f4 = Qf) (e5 : arg5.view.read (Elt Ideal) f5 = Qn)
    (e6 : arg6.view.read (Elt Ideal) f6 = Cf) (e7 : arg7.view.read (Elt Ideal) f7 = Vf) (hR : RealRaw Kf Cf Qf) (hR' : RealRaw Kf Cf Qn)
    (hM : MaskOK (arg9.view.read (Elt Ideal) f9)) (hD : ∀ n, StD Kf Cf Qf (i 2).val (arg12.view.read (Elt Ideal) f12) (arg15.view.read (Elt Ideal) f15) n) :
    Step Kf Cf Vf Qf Qn (i 2).val (arg8.view.read (Elt Ideal) RC.1) (arg9.view.read (Elt Ideal) RC.2.1) (arg12.view.read (Elt Ideal) RC.2.2.2.2.1)
      (arg15.view.read (Elt Ideal) RC.2.2.2.2.2.2.2.1) := by
  subst e3 e4 e5 e6 e7
  refine ⟨out_all hR (i 2).isLt fun h j => ?_, ?_, fun n => ?_⟩
  · match h, j with
    | 0, 0 => exact (runC_O0 hR hD).1
    | 0, 1 => exact (runC_O1 hR hD).1
    | 0, 2 => exact (runC_O2 hR hD).1
    | 0, 3 => exact (runC_O3 hR hD).1
    | 1, 0 => exact (runC_O0 hR hD).2
    | 1, 1 => exact (runC_O1 hR hD).2
    | 1, 2 => exact (runC_O2 hR hD).2
    | 1, 3 => exact (runC_O3 hR hD).2
  · unfold runC; exact hM
  · match n with
    | 0 => exact runC_D0 hR' hM
    | 1 => exact runC_D1 hR' hM
    | 2 => exact runC_D2 hR' hM
    | 3 => exact runC_D3 hR' hM
    | 4 => exact runC_D4 hR' hM
    | 5 => exact runC_D5 hR' hM
    | 6 => exact runC_D6 hR' hM
    | 7 => exact runC_D7 hR' hM
end

/-! ## The run -/

local notation "𝕄" => MT nD τ sig Unit (Elt Ideal) ℕ (UR sig nD τ) ℕ

open Idealize.ShloMosaic.Rounds
open Idealize.ShloMosaic.Pipeline (Dat Cfg Window BodyObligation cellOf)

variable (m : (ℓ : Loc nD τ sig) → Buf (Elt Ideal) ℓ) (ρ : Dev nD → PrngReg)

/-- What the masks and the scores computed ahead are, before point `t`, where `t` goes on with a row of the grid. -/
def Inv (c : Dev nD) (t : ℕ) (d9 : S4x1024x256.Idx → EReal) (d12 : S8x1024x256.Idx → EReal) (d15 : S8x1x256.Idx → EReal) : Prop :=
  ∀ u : Fin cfg0.N, u.val = t → u.val % 8 ≠ 0 → MaskOK d9 ∧ ∀ n, StD (kB m c u) (cB m c u) (qB m c u) (grid0.coords u 2).val d12 d15 n

theorem Inv.of_step {c : Dev nD} {t : Fin cfg0.N} {r8 : S1x1024x128.Idx → EReal} {r9 : S4x1024x256.Idx → EReal} {r12 : S8x1024x256.Idx → EReal} {r15 : S8x1x256.Idx → EReal}
    (h : Step (kB m c t) (cB m c t) (vB m c t) (qB m c t) (nB m c t) (grid0.coords t 2).val r8 r9 r12 r15) : Inv m c (t.val + 1) r9 r12 r15 := by
  intro u hu h8
  obtain ⟨e1, e2, e3, e4⟩ := next_eq m c t u hu h8
  rw [e1, e2, e3, e4]
  exact h.2

def Phi (c : Dev nD) (t : ℕ) : sProp 𝕄 :=
  iprop((∃ d9, ∃ d12, ∃ d15, ⌜Inv m c t d9 d12 d15⌝ ∗ owns (c : Thread nD τ) scM9 fullShare d9 ∗ (∃ d, owns (c : Thread nD τ) scM10 fullShare d)
    ∗ (∃ d, owns (c : Thread nD τ) scM11 fullShare d) ∗ owns (c : Thread nD τ) scM12 fullShare d12 ∗ (∃ d, owns (c : Thread nD τ) scM13 fullShare d)
    ∗ (∃ d, owns (c : Thread nD τ) scM14 fullShare d) ∗ owns (c : Thread nD τ) scM15 fullShare d15 ∗ (∃ d, owns (c : Thread nD τ) scM16 fullShare d)
    ∗ (∃ d, owns (c : Thread nD τ) scM17 fullShare d)) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outSpec (kB m c t) (cB m c t) (vB m c t) (qB m c t) (grid0.coords t 2).val
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = outSpec (kB m c t) (cB m c t) (vB m c t) (qB m c t) (grid0.coords t 2).val := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t))

set_option maxHeartbeats 6400000 in
theorem sound_body (hR : ∀ c t, RealRaw (kB m c t) (cB m c t) (qB m c t)) (hR' : ∀ c t, RealRaw (kB m c t) (cB m c t) (nB m c t)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl, after_0, after_1, after_2, after_3, after_4, after_5]
  rw [show (dats m 0 c).Φ t.succ = Phi m c (t.val + 1) from rfl, show (dats m 0 c).Φ t.castSucc = Phi m c t.val from rfl]
  unfold Phi owns
  iintro ⟨⟨⟨%d9, %d12, %d15, %hI, ⟨%f9, %h9, H9⟩, ⟨%d10, ⟨%f10, %h10, H10⟩⟩, ⟨%d11, ⟨%f11, %h11, H11⟩⟩, ⟨%f12, %h12, H12⟩, ⟨%d13, ⟨%f13, %h13, H13⟩⟩, ⟨%d14, ⟨%f14, %h14, H14⟩⟩, ⟨%f15, %h15, H15⟩, ⟨%d16, ⟨%f16, %h16, H16⟩⟩, ⟨%d17, ⟨%f17, %h17, H17⟩⟩⟩, Hg⟩, Ho, ⟨%d3, ⟨%f3, %h3, H3⟩⟩, ⟨%d4, ⟨%f4, %h4, H4⟩⟩, ⟨%d5, ⟨%f5, %h5, H5⟩⟩, ⟨%d6, ⟨%f6, %h6, H6⟩⟩, ⟨%d7, ⟨%f7, %h7, H7⟩⟩, ⟨%d8, ⟨%f8, %h8, H8⟩⟩⟩
  by_cases hA : t.val % 8 = 0
  · have h := conds_A t hA
    have s := stepA c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2 f3 f4 f5 f6 f7 f8 f9 f10 f11 f12 f13 f14 f15 f16 f17 h3 h4 h5 h6 h7 (hR c t) (hR' c t)
    have hI' := Inv.of_step m s
    iapply ((runA c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · iexists _; iexists _; iexists _
        isplitr; · (ipureintro; exact hI')
        isplitl [H9]; · (iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; isplitr; swap; · iexact H8
    ipureintro; exact s.1
  by_cases hB : t.val % 2 = 0
  · have h := conds_B t hA hB
    obtain ⟨hM, hD⟩ := hI t rfl hA
    subst h9 h12 h15
    have s := stepB c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17 h3 h4 h5 h6 h7 (hR c t) (hR' c t) hM hD
    have hI' := Inv.of_step m s
    iapply ((runB c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · iexists _; iexists _; iexists _
        isplitr; · (ipureintro; exact hI')
        isplitl [H9]; · (iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; isplitr; swap; · iexact H8
    ipureintro; exact s.1
  · have h := conds_C t hB
    obtain ⟨hM, hD⟩ := hI t rfl (by omega)
    subst h9 h12 h15
    have s := stepC c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17 h3 h4 h5 h6 h7 (hR c t) (hR' c t) hM hD
    have hI' := Inv.of_step m s
    iapply ((runC c (grid0.coords t) (ms0 t) (hs0 t) (ms1 t) (hs1 t) (ms2 t) (hs2 t) (ms3 t) (hs3 t) (ms4 t) (hs4 t) (ms5 t) (hs5 t) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) h.1 h.2.1 h.2.2.1 h.2.2.2.1 h.2.2.2.2.1 h.2.2.2.2.2 f3 f4 f5 f6 f7 f8 f9 f10 f11 f12 f13 f14 f15 f16 f17).2.2.2.2.2.2.2.2.2.2 _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H3, H4, H5, H6, H7, H8, H9, H10, H11, H12, H13, H14, H15, H16, H17⟩
    isplitl [H9 H10 H11 H12 H13 H14 H15 H16 H17 Hg]
    · isplitl [H9 H10 H11 H12 H13 H14 H15 H16 H17]
      · iexists _; iexists _; iexists _
        isplitr; · (ipureintro; exact hI')
        isplitl [H9]; · (iexists _; isplitr; swap; iexact H9; ipureintro; rfl)
        isplitl [H10]; · (iexists _; iexists _; isplitr; swap; iexact H10; ipureintro; rfl)
        isplitl [H11]; · (iexists _; iexists _; isplitr; swap; iexact H11; ipureintro; rfl)
        isplitl [H12]; · (iexists _; isplitr; swap; iexact H12; ipureintro; rfl)
        isplitl [H13]; · (iexists _; iexists _; isplitr; swap; iexact H13; ipureintro; rfl)
        isplitl [H14]; · (iexists _; iexists _; isplitr; swap; iexact H14; ipureintro; rfl)
        isplitl [H15]; · (iexists _; isplitr; swap; iexact H15; ipureintro; rfl)
        isplitl [H16]; · (iexists _; iexists _; isplitr; swap; iexact H16; ipureintro; rfl)
        iexists _; iexists _; isplitr; swap; · iexact H17
        ipureintro; rfl
      iexact Hg
    isplitl [Ho]; · iexact Ho
    isplitl [H3]; · (iexists _; isplitr; swap; iexact H3; ipureintro; exact h3)
    isplitl [H4]; · (iexists _; isplitr; swap; iexact H4; ipureintro; exact h4)
    isplitl [H5]; · (iexists _; isplitr; swap; iexact H5; ipureintro; exact h5)
    isplitl [H6]; · (iexists _; isplitr; swap; iexact H6; ipureintro; exact h6)
    isplitl [H7]; · (iexists _; isplitr; swap; iexact H7; ipureintro; exact h7)
    iexists _; isplitr; swap; · iexact H8
    ipureintro; exact s.1

theorem body_obligation (hR : ∀ c t, RealRaw (kB m c t) (cB m c t) (qB m c t)) (hR' : ∀ c t, RealRaw (kB m c t) (cB m c t) (nB m c t)) (c : Dev nD) :
    BodyObligation (dats m 0 c) (defs₀ (F := Ideal)) Variants.none () Set.univ := fun t => by
  rw [bigSep_W0, bigSep_W0, defs₀_row]
  exact triple_restated (sound_body m hR hR' c t) rfl .rfl fun _ => .rfl

theorem phi_in (c : Dev nD) : Pipeline.ΦA spec0 c ⊢ (Phi m c 0 : sProp 𝕄) := by
  rw [PhiA_eq]
  unfold Phi
  iintro ⟨⟨⟨%d9, H9⟩, H10, H11, ⟨%d12, H12⟩, H13, H14, ⟨%d15, H15⟩, H16, H17⟩, Hg⟩
  isplitl [H9 H10 H11 H12 H13 H14 H15 H16 H17]
  · iexists d9; iexists d12; iexists d15
    isplitr; · (ipureintro; exact fun u hu h8 => absurd (show u.val % 8 = 0 by omega) h8)
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hg

theorem phi_out (c : Dev nD) (t : ℕ) : (Phi m c t : sProp 𝕄) ⊢ Pipeline.ΦA spec0 c := by
  rw [PhiA_eq]
  unfold Phi
  iintro ⟨⟨%d9, %d12, %d15, %hI, H9, H10, H11, H12, H13, H14, H15, H16, H17⟩, Hg⟩
  isplitl [H9 H10 H11 H12 H13 H14 H15 H16 H17]
  · isplitl [H9]; · (iexists d9; iexact H9)
    isplitl [H10]; · iexact H10
    isplitl [H11]; · iexact H11
    isplitl [H12]; · (iexists d12; iexact H12)
    isplitl [H13]; · iexact H13
    isplitl [H14]; · iexact H14
    isplitl [H15]; · (iexists d15; iexact H15)
    isplitl [H16]; · iexact H16
    iexact H17
  iexact Hg

set_option backward.isDefEq.respectTransparency.types false in
theorem run_main (hR : ∀ c t, RealRaw (kB m c t) (cB m c t) (qB m c t)) (hR' : ∀ c t, RealRaw (kB m c t) (cB m c t) (nB m c t)) :
    θ_run defs (onTc (τ := τ) (main (F := Ideal))) (s₀ m ρ) (Pipeline.FramePost cfgs (dats m) 0 (V m)) :=
  Pipeline.θ_run_frame_track_shared cfgs (dats m) (0 : Fin 1) launch₀0 defs₀ Variants.none m ρ main
    (hbody := fun c => (body_obligation m hR hR' c).loose) (hq := fun _ _ _ => rfl)
    (howed := fun _ _ => rfl) (V := V m) (hmain := hmain m Variants.none) (hA := A_eq m) (hin := phi_in m) (hout := fun c => phi_out m c _)

/-- Every run ends with the output array as its blocks were written and the arguments as they were. -/
theorem run_blocks (hR : ∀ c t, RealRaw (kB m c t) (cB m c t) (qB m c t)) (hR' : ∀ c t, RealRaw (kB m c t) (cB m c t) (nB m c t)) :
    θ_run defs (onTc (τ := τ) (main (F := Ideal))) ⟨m, fun _ => 0, ρ⟩ (fun r => ∀ c : Dev nD,
      r.2.mem ((c.tc : Thread nD τ).loc main_v5) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 5, ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c)))⟩) (run_main m ρ hR hR')

end Cert.KernelIdeal.FoxRun
end
-- ==== Proof.Fox.RefVal.lean ====
module
public import proofs.«01_k».proof.Proof.Gen.ReferenceIdeal.Run
public import Idealize.ShloMosaic.Lib.Pointwise
public import Idealize.ShloMosaic.Lib.WordCmp

@[expose] public section

/-! The attention reference, read at an index: the logits, their row maximum, the weights and the output. -/

set_option maxRecDepth 16384
noncomputable section
namespace Cert.ReferenceIdeal.Fox
open Idealize.ShloMosaic Cert.ReferenceIdeal Cert.ReferenceIdeal.Gen

variable (q k : FVec Ideal S4x8192x512 .bf16) (x : FVec Ideal S4x3x8x8192 .f32) (v : FVec Ideal S4x8x512x1024 .bf16)

def vals : FVec Ideal S4x8x8192x64 .f32 :=
  shapeCast _ (transpose S4x8x8x1024x64 [0, 2, 1, 4, 3] (shapeCast S4x8x8x64x1024 (extf .f32 v bitsLt_bf16_f32) shapeCasts_S4x8x512x1024_S4x8x8x64x1024) transposes_S4x8x8x64x1024_S4x8x8x1024x64_0_2_1_4_3) shapeCasts_S4x8x8x1024x64_S4x8x8192x64

def heads : FVec Ideal S4x8x8192x64 .f32 :=
  transpose S4x8x8192x64 [0, 2, 1, 3] (shapeCast S4x8192x8x64 (extf .f32 q bitsLt_bf16_f32) shapeCasts_S4x8192x512_S4x8192x8x64) transposes_S4x8192x8x64_S4x8x8192x64_0_2_1_3

def cums : FVec Ideal S4x8x8192 .f32 := Host.reduceAdd x (constant S_ .f32 0x00000000#32) reducesTo_S4x3x8x8192_S4x8x8192_d1 h_S_

def causal : IVec S4x8x8192x8192 1 :=
  broadcastInDim S4x8x8192x8192 ![2, 3] bcast_S8192x8192_S4x8x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))

def logit : FVec Ideal S4x8x8192x8192 .f32 :=
  select causal (addf (Host.dotGeneral dot_S4x8x8192x64_S4x8x8192x64_S4x8x8192x8192_3_3_2_2_01_01 none (heads q) (heads k))
    (subf (broadcastInDim S4x8x8192x8192 ![0, 1, 2, 3] bcast_S4x8x8192x1_S4x8x8192x8192_0_1_2_3 (broadcastInDim S4x8x8192x1 ![0, 1, 2] bcast_S4x8x8192_S4x8x8192x1_0_1_2 (cums x)))
      (broadcastInDim S4x8x8192x8192 ![0, 1, 2, 3] bcast_S4x8x1x8192_S4x8x8192x8192_0_1_2_3 (broadcastInDim S4x8x1x8192 ![0, 1, 3] bcast_S4x8x8192_S4x8x1x8192_0_1_3 (cums x)))))
    (broadcastInDim S4x8x8192x8192 ![] bcast_S_S4x8x8192x8192 (id (constant S_ .f32 0xFF800000#32)))

section
variable (L : FVec Ideal S4x8x8192x8192 .f32) (u : FVec Ideal S4x8x8192x64 .f32)
def tops : FVec Ideal S4x8x8192 .f32 := Host.reduce FloatOps.maximumf L (constant S_ .f32 0xFF800000#32) reducesTo_S4x8x8192x8192_S4x8x8192_d3 h_S_

def pows (T : FVec Ideal S4x8x8192 .f32) : FVec Ideal S4x8x8192x8192 .f32 :=
  Host.powf (broadcastInDim S4x8x8192x8192 ![] bcast_S_S4x8x8192x8192 (constant S_ .f32 0x40000000#32))
    (subf L (broadcastInDim S4x8x8192x8192 ![0, 1, 2, 3] bcast_S4x8x8192x1_S4x8x8192x8192_0_1_2_3 (broadcastInDim S4x8x8192x1 ![0, 1, 2] bcast_S4x8x8192_S4x8x8192x1_0_1_2 T)))

def wts (P : FVec Ideal S4x8x8192x8192 .f32) : FVec Ideal S4x8x8192x8192 .f32 :=
  Host.divf P (broadcastInDim S4x8x8192x8192 ![0, 1, 2, 3] bcast_S4x8x8192x1_S4x8x8192x8192_0_1_2_3 (broadcastInDim S4x8x8192x1 ![0, 1, 2] bcast_S4x8x8192_S4x8x8192x1_0_1_2
    (Host.reduceAdd P (constant S_ .f32 0x00000000#32) reducesTo_S4x8x8192x8192_S4x8x8192_d3 h_S_)))

def mix (W : FVec Ideal S4x8x8192x8192 .f32) : FVec Ideal S4x8192x512 .bf16 :=
  truncf .bf16 (shapeCast S4x8192x512 (transpose S4x8192x8x64 [0, 2, 1, 3] (Host.dotGeneral dot_S4x8x8192x8192_S4x8x8192x64_S4x8x8192x64_3_2_2_3_01_01 none W u) transposes_S4x8x8192x64_S4x8192x8x64_0_2_1_3) shapeCasts_S4x8192x8x64_S4x8192x512) bitsLt_bf16_f32
end

theorem res_eq (m : (ℓ : Loc nD τ sig) → Buf (Elt Ideal) ℓ) (c : Dev nD) :
    Value.res_main_v38 m c = mix (vals (m ((c.tc : Thread nD τ).loc main_arg3)))
      (wts (pows (logit (m ((c.tc : Thread nD τ).loc main_arg0)) (m ((c.tc : Thread nD τ).loc main_arg1)) (m ((c.tc : Thread nD τ).loc main_arg2)))
        (tops (logit (m ((c.tc : Thread nD τ).loc main_arg0)) (m ((c.tc : Thread nD τ).loc main_arg1)) (m ((c.tc : Thread nD τ).loc main_arg2)))))) := by
  unfold Value.res_main_v38; rfl

theorem ofBits_bot : Ideal.ofBits .f32 4286578688#32 = ⊥ := by
  simp [Ideal.ofBits, Ideal.ieee]

theorem ofBits_two : Ideal.ofBits .f32 1073741824#32 = ((2 : ℝ) : EReal) := by
  simp [Ideal.ofBits, Ideal.ieee, -EReal.coe_mul]; norm_num

theorem vals_at (b : Fin 4) (h : Fin 8) (s : Fin 8192) (d : Fin 64) :
    vals v (ix4 b h s d) = v (ix4 b ⟨s.val / 1024, by omega⟩ ⟨64 * h.val + d.val, by omega⟩ ⟨s.val % 1024, by omega⟩) := by
  unfold vals
  pointwise
  exact congrArg (fun a => v (ix4 b _ a _)) (Fin.ext (by dsimp only; omega))

theorem heads_at (b : Fin 4) (h : Fin 8) (s : Fin 8192) (d : Fin 64) : heads q (ix4 b h s d) = q (ix3 b s ⟨64 * h.val + d.val, by omega⟩) := by
  unfold heads
  pointwise
  exact congrArg (fun a => q (ix3 b s a)) (Fin.ext (by dsimp only; omega))

theorem cums_at (b : Fin 4) (h : Fin 8) (s : Fin 8192) : cums x (ix3 b h s) = ∑ e : Fin 3, x (ix4 b e h s) := by
  unfold cums
  pointwise

theorem causal_at (b : Fin 4) (h : Fin 8) (t s : Fin 8192) : causal (ix4 b h t s) = if s.val ≤ t.val then 1#1 else 0#1 := by
  unfold causal
  pointwise
  rw [WordCmp.cmpi_sge_ofNat (by have := t.isLt; omega) (by have := s.isLt; omega)]
  by_cases h' : s.val ≤ t.val
  · rw [if_pos h', decide_eq_true h']; rfl
  · rw [if_neg h', decide_eq_false h']; rfl

theorem logit_at (b : Fin 4) (h : Fin 8) (t s : Fin 8192) :
    logit q k x (ix4 b h t s) = if s.val ≤ t.val then (∑ d : Fin 64, q (ix3 b t ⟨64 * h.val + d.val, by omega⟩) * k (ix3 b s ⟨64 * h.val + d.val, by omega⟩))
      + ((∑ e : Fin 3, x (ix4 b e h t)) - ∑ e : Fin 3, x (ix4 b e h s)) else ⊥ := by
  have hc := causal_at b h t s
  have h1 := heads_at q b h t
  have h2 := heads_at k b h s
  have h3 := cums_at x b h
  unfold logit
  generalize causal = C at hc ⊢
  generalize heads q = hq at h1 ⊢
  generalize heads k = hk at h2 ⊢
  generalize cums x = cx at h3 ⊢
  pointwise
  simp only [hc, h1, h2, h3]
  by_cases h' : s.val ≤ t.val
  · rw [if_pos h', if_pos h']; rfl
  · rw [if_neg h', if_neg h']; exact ofBits_bot

theorem tops_at (L : FVec Ideal S4x8x8192x8192 .f32) (b : Fin 4) (h : Fin 8) (t : Fin 8192) :
    tops L (ix3 b h t) = Finset.univ.sup fun s : Fin 8192 => L (ix4 b h t s) := by
  unfold tops
  pointwise
  rw [ofBits_bot]
  rfl

theorem wts_at (L : FVec Ideal S4x8x8192x8192 .f32) (T : FVec Ideal S4x8x8192 .f32) (b : Fin 4) (h : Fin 8) (t s : Fin 8192) :
    wts (pows L T) (ix4 b h t s) = Ideal.div (Ideal.pow ((2 : ℝ) : EReal) (L (ix4 b h t s) - T (ix3 b h t)))
      (∑ s' : Fin 8192, Ideal.pow ((2 : ℝ) : EReal) (L (ix4 b h t s') - T (ix3 b h t))) := by
  unfold wts pows
  pointwise
  rw [ofBits_two]

theorem mix_at (u : FVec Ideal S4x8x8192x64 .f32) (W : FVec Ideal S4x8x8192x8192 .f32) (b : Fin 4) (t : Fin 8192) (l : Fin 512) :
    mix u W (ix3 b t l) = ∑ s : Fin 8192, W (ix4 b ⟨l.val / 64, by omega⟩ t s) * u (ix4 b ⟨l.val / 64, by omega⟩ s ⟨l.val % 64, by omega⟩) := by
  unfold mix
  pointwise

end Cert.ReferenceIdeal.Fox
end
-- ==== Proof.Fox.Attn.lean ====
module
public import proofs.«01_k».proof.Proof.Fox.Run
public import proofs.«01_k».proof.Proof.Fox.RefVal

@[expose] public section

/-! The FoX attention kernel's output is the reference's, where the queries, the keys and the decay terms are real. -/

set_option maxRecDepth 16384
noncomputable section
namespace Cert.KernelIdeal.FoxRun
open Idealize.ShloMosaic Cert.KernelIdeal Cert.KernelIdeal.Gen Cert.KernelIdeal.Fox Cert.Fox
open Idealize.ShloMosaic.TcCoe Idealize.SL.Sem
open Finset (Ico)

/-! ## Sums -/

/-- A sum whose terms are zero outside a window. -/
theorem sum_window {N n : ℕ} (o : ℕ) (h : o + n ≤ N) (f : Fin N → EReal) (hf : ∀ d : Fin N, d.val < o ∨ o + n ≤ d.val → f d = 0) :
    ∑ d, f d = ∑ e : Fin n, f ⟨o + e.val, by omega⟩ := by
  refine (Finset.sum_of_injOn (fun e : Fin n => (⟨o + e.val, by omega⟩ : Fin N)) (fun a _ b _ hab => ?_) (fun _ _ => Finset.mem_coe.mpr (Finset.mem_univ _)) (fun d _ hd => ?_) fun _ _ => rfl).symm
  · have := congrArg Fin.val hab
    exact Fin.ext (by dsimp only at this; omega)
  · refine hf d ?_
    by_contra hc
    exact hd ⟨⟨d.val - o, by omega⟩, Finset.mem_coe.mpr (Finset.mem_univ _), Fin.ext (by dsimp only; omega)⟩

/-- A sum over 256 lanes whose terms are zero outside 64 of the first half and 3 of the second. -/
theorem sum_two (a b : ℕ) (ha : a + 64 ≤ 128) (hb : 128 + b + 3 ≤ 256) (f : Fin 256 → EReal)
    (h1 : ∀ d : Fin 256, d.val < 128 → (d.val < a ∨ a + 64 ≤ d.val) → f d = 0)
    (h2 : ∀ d : Fin 256, 128 ≤ d.val → (d.val < 128 + b ∨ 128 + b + 3 ≤ d.val) → f d = 0) :
    ∑ d, f d = (∑ e : Fin 64, f ⟨a + e.val, by omega⟩) + ∑ e : Fin 3, f ⟨128 + b + e.val, by omega⟩ := by
  have hs : ∀ d : Fin 256, f d = (if d.val < 128 then f d else 0) + (if d.val < 128 then 0 else f d) := fun d => by
    by_cases h : d.val < 128
    · rw [if_pos h, if_pos h, add_zero]
    · rw [if_neg h, if_neg h, zero_add]
  rw [Finset.sum_congr rfl fun d _ => hs d, Finset.sum_add_distrib,
    sum_window a (show a + 64 ≤ 256 by omega) (fun d : Fin 256 => if d.val < 128 then f d else 0) fun d hd => by
      by_cases h : d.val < 128
      · rw [if_pos h]; exact h1 d h hd
      · rw [if_neg h],
    sum_window (128 + b) hb (fun d : Fin 256 => if d.val < 128 then 0 else f d) fun d hd => by
      by_cases h : d.val < 128
      · rw [if_pos h]
      · rw [if_neg h]; exact h2 d (by omega) hd]
  refine congrArg₂ (· + ·) (Finset.sum_congr rfl fun e _ => ?_) (Finset.sum_congr rfl fun e _ => ?_)
  · exact if_pos (show a + e.val < 128 by omega)
  · exact if_neg (show ¬ 128 + b + e.val < 128 by omega)

/-! ## The scores -/

theorem raw_eq (Kf : S1x8192x128.Idx → EReal) (Cf : S1x1x8192x128.Idx → EReal) (Qf : S1x1024x128.Idx → EReal) (h : Fin 2) (j : Fin 4) (t : Fin 256) (s : Fin 8192) :
    raw Kf Cf Qf h j t s.val = (∑ e : Fin 64, Kf (ix3 0 s ⟨64 * h.val + e.val, by omega⟩) * Qf (ix3 0 ⟨256 * j.val + t.val, by omega⟩ ⟨64 * h.val + e.val, by omega⟩))
      + ∑ e : Fin 3, Cf (ix4 0 0 s ⟨3 * h.val + e.val, by omega⟩) * (-1) := by
  unfold raw
  rw [sum_two (64 * h.val) (3 * h.val) (by omega) (by omega) (fun d => kxf Kf Cf s.val d * qxf h.val (qrow Qf j t) d)
    (fun d hd ho => by
      unfold qxf
      rw [dif_pos hd, if_neg (by omega), mul_zero])
    (fun d hd ho => by
      unfold qxf
      rw [dif_neg (by omega), if_neg (by omega), mul_zero])]
  refine congrArg₂ (· + ·) (Finset.sum_congr rfl fun e _ => ?_) (Finset.sum_congr rfl fun e _ => ?_)
  · unfold kxf qxf qrow
    rw [dif_pos s.isLt, dif_pos (show 64 * h.val + e.val < 128 by omega), dif_pos (show 64 * h.val + e.val < 128 by omega), if_pos (by dsimp only; omega)]
  · unfold kxf qxf
    rw [dif_pos s.isLt, dif_neg (show ¬ 128 + 3 * h.val + e.val < 128 by omega), dif_neg (show ¬ 128 + 3 * h.val + e.val < 128 by omega), if_pos (by dsimp only; omega)]
    exact congrArg (fun a => Cf (ix4 0 0 s a) * (-1)) (Fin.ext (by dsimp only; omega))

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_sum {ι : Type*} (s : Finset ι) {f : ι → EReal} (hf : ∀ i, ∃ r : ℝ, f i = r) : ∃ r : ℝ, ∑ i ∈ s, f i = r := by
  choose g hg using hf
  exact ⟨∑ i ∈ s, g i, by rw [coe_sum]; exact Finset.sum_congr rfl fun i _ => hg i⟩

theorem realRaw_of {Kf : S1x8192x128.Idx → EReal} {Cf : S1x1x8192x128.Idx → EReal} {Qf : S1x1024x128.Idx → EReal} (hK : ∀ r d, ∃ x : ℝ, Kf (ix3 0 r d) = x)
    (hC : ∀ r d, ∃ x : ℝ, Cf (ix4 0 0 r d) = x) (hQ : ∀ r d, ∃ x : ℝ, Qf (ix3 0 r d) = x) : RealRaw Kf Cf Qf := by
  intro h j t pos
  unfold raw
  refine real_sum _ fun d => real_mul ?_ ?_
  · unfold kxf
    split_ifs
    · exact hK _ _
    · exact hC _ _
    · exact ⟨0, rfl⟩
  · unfold qxf qrow
    split_ifs
    · exact hQ _ _
    · exact ⟨0, rfl⟩
    · exact ⟨-1, by rw [EReal.coe_neg, EReal.coe_one]⟩
    · exact ⟨0, rfl⟩

/-! ## A point's block -/

variable (m : (ℓ : Loc nD τ sig) → Buf (Elt Ideal) ℓ)

/-- The queries, the keys and the decay terms are real. -/
structure Fin3 : Prop where
  q : ∀ c i, ∃ r : ℝ, qA m c i = r
  k : ∀ c i, ∃ r : ℝ, kA m c i = r
  x : ∀ c i, ∃ r : ℝ, cA m c i = r

variable {m}

theorem Fin3.hK (H : Fin3 m) (c : Dev nD) (t : Fin cfg0.N) (r d) : ∃ x : ℝ, kB m c t (ix3 0 r d) = x := by rw [kB_at]; exact H.k _ _
theorem Fin3.hQ (H : Fin3 m) (c : Dev nD) (t : Fin cfg0.N) (r d) : ∃ x : ℝ, qB m c t (ix3 0 r d) = x := by rw [qB_at]; exact H.q _ _
theorem Fin3.hN (H : Fin3 m) (c : Dev nD) (t : Fin cfg0.N) (r d) : ∃ x : ℝ, nB m c t (ix3 0 r d) = x := by rw [nB_at]; exact H.q _ _
theorem Fin3.hC (H : Fin3 m) (c : Dev nD) (t : Fin cfg0.N) (r d) : ∃ x : ℝ, cB m c t (ix4 0 0 r d) = x := by
  rw [cB_at, V4_at]
  split_ifs
  · exact H.x _ _
  · exact ⟨0, rfl⟩

theorem Fin3.raw (H : Fin3 m) (c : Dev nD) (t : Fin cfg0.N) : RealRaw (kB m c t) (cB m c t) (qB m c t) := realRaw_of (H.hK c t) (H.hC c t) (H.hQ c t)
theorem Fin3.rawNext (H : Fin3 m) (c : Dev nD) (t : Fin cfg0.N) : RealRaw (kB m c t) (cB m c t) (nB m c t) := realRaw_of (H.hK c t) (H.hC c t) (H.hN c t)

/-- A score, and with the query's own decay the logit. -/
theorem sc_logit (H : Fin3 m) (c : Dev nD) (t : Fin cfg0.N) (r : Fin 1024) (hh : Fin 2) (b : Fin 4) (h : Fin 8) (row : Fin 8192)
    (hb : b.val = t.val / 32) (hhd : h.val = 2 * (t.val / 8 % 4) + hh.val) (hrow : row.val = t.val % 8 * 1024 + r.val) :
    ∃ C : ℝ, ∀ s : Fin 8192, sc (kB m c t) (cB m c t) (qB m c t) (t.val % 8) hh ⟨r.val / 256, by omega⟩ ⟨r.val % 256, by omega⟩ s.val + C
      = Cert.ReferenceIdeal.Fox.logit (qA m c) (kA m c) (cA m c) (ix4 b h row s) := by
  obtain ⟨qr, hq⟩ := Classical.axiom_of_choice (H.q c)
  obtain ⟨kr, hk⟩ := Classical.axiom_of_choice (H.k c)
  obtain ⟨xr, hx⟩ := Classical.axiom_of_choice (H.x c)
  refine ⟨∑ e : Fin 3, xr (ix4 b e h row), fun s => ?_⟩
  rw [Cert.ReferenceIdeal.Fox.logit_at]
  unfold sc
  rw [raw_eq]
  have e1 : ∀ e : Fin 64, kB m c t (ix3 0 s ⟨64 * hh.val + e.val, by omega⟩) = (kr (ix3 b s ⟨64 * h.val + e.val, by omega⟩) : EReal) := fun e => by
    rw [kB_at, hk]
    have a1 : (⟨t.val / 32, by have := bound t; omega⟩ : Fin 4) = b := Fin.ext hb.symm
    have a2 : (⟨t.val / 8 % 4 * 128 + (64 * hh.val + e.val), by omega⟩ : Fin 512) = ⟨64 * h.val + e.val, by omega⟩ := Fin.ext (by dsimp only; omega)
    rw [a1, a2]
  have e2 : ∀ e : Fin 64, qB m c t (ix3 0 ⟨256 * (r.val / 256) + r.val % 256, by omega⟩ ⟨64 * hh.val + e.val, by omega⟩) = (qr (ix3 b row ⟨64 * h.val + e.val, by omega⟩) : EReal) := fun e => by
    rw [qB_at, hq]
    have a1 : (⟨t.val / 32, by have := bound t; omega⟩ : Fin 4) = b := Fin.ext hb.symm
    have a2 : (⟨t.val / 8 % 4 * 128 + (64 * hh.val + e.val), by omega⟩ : Fin 512) = ⟨64 * h.val + e.val, by omega⟩ := Fin.ext (by dsimp only; omega)
    have a3 : (⟨t.val % 8 * 1024 + (256 * (r.val / 256) + r.val % 256), by omega⟩ : Fin 8192) = row := Fin.ext (by dsimp only; omega)
    rw [a1, a2, a3]
  have e3 : ∀ e : Fin 3, cB m c t (ix4 0 0 s ⟨3 * hh.val + e.val, by omega⟩) = (xr (ix4 b e h s) : EReal) := fun e => by
    rw [cB_at, V4_at, dif_pos (show 3 * hh.val + e.val < 6 by omega), hx]
    have a1 : (⟨t.val / 32, by have := bound t; omega⟩ : Fin 4) = b := Fin.ext hb.symm
    have a2 : (⟨(3 * hh.val + e.val) % 3, by omega⟩ : Fin 3) = e := Fin.ext (by dsimp only; omega)
    have a3 : (⟨2 * (t.val / 8 % 4) + (3 * hh.val + e.val) / 3, by omega⟩ : Fin 8) = h := Fin.ext (by dsimp only; omega)
    rw [a1, a2, a3]
  simp only [e1, e2, e3, hq, hk, hx]
  have n1 : (-1 : EReal) = ((-1 : ℝ) : EReal) := by rw [EReal.coe_neg, EReal.coe_one]
  simp only [n1, ← EReal.coe_mul, ← coe_sum, ← EReal.coe_add, ← EReal.coe_sub]
  by_cases hs : s.val ≤ row.val
  · rw [if_pos hs, if_pos (by omega), add_zero, ← EReal.coe_add]
    refine congrArg _ ?_
    simp only [mul_neg, mul_one, Finset.sum_neg_distrib]
    rw [Finset.sum_congr rfl fun e _ => mul_comm (kr (ix3 b s ⟨64 * h.val + e.val, by omega⟩)) (qr (ix3 b row ⟨64 * h.val + e.val, by omega⟩))]
    ring
  · rw [if_neg hs, if_neg (by omega), EReal.add_bot, EReal.bot_add]

/-- The largest of logits that are below `⊤`, one of them real, is real. -/
theorem sup_real {f : Fin 8192 → EReal} (ht : ∀ s, f s ≠ ⊤) (h0 : f 0 ≠ ⊥) : ∃ M : ℝ, Finset.univ.sup f = M := by
  have h1 : Finset.univ.sup f < ⊤ := (Finset.sup_lt_iff bot_lt_top).mpr fun s _ => lt_top_iff_ne_top.mpr (ht s)
  have h2 : Finset.univ.sup f ≠ ⊥ := fun h => h0 (le_bot_iff.mp (h ▸ Finset.le_sup (Finset.mem_univ (0 : Fin 8192))))
  exact ⟨(Finset.univ.sup f).toReal, (EReal.coe_toReal h1.ne h2).symm⟩

/-- The reference's output. -/
def refOut (q k : FVec Ideal S4x8192x512 .bf16) (x : FVec Ideal S4x3x8x8192 .f32) (v : FVec Ideal S4x8x512x1024 .bf16) : FVec Ideal S4x8192x512 .bf16 :=
  Cert.ReferenceIdeal.Fox.mix (Cert.ReferenceIdeal.Fox.vals v) (Cert.ReferenceIdeal.Fox.wts (Cert.ReferenceIdeal.Fox.pows (Cert.ReferenceIdeal.Fox.logit q k x)
    (Cert.ReferenceIdeal.Fox.tops (Cert.ReferenceIdeal.Fox.logit q k x))))

theorem point (H : Fin3 m) (c : Dev nD) (t : Fin cfg0.N) (r : Fin 1024) (l : Fin 128) :
    oqAt (kB m c t) (cB m c t) (vB m c t) (qB m c t) (t.val % 8) r l
      = refOut (qA m c) (kA m c) (cA m c) (vA m c) (ix3 ⟨t.val / 32, by have := bound t; omega⟩ ⟨t.val % 8 * 1024 + r.val, by omega⟩ ⟨t.val / 8 % 4 * 128 + l.val, by omega⟩) := by
  have hR := H.raw c t
  obtain ⟨C, hC⟩ := sc_logit H c t r ⟨l.val / 64, by omega⟩ ⟨t.val / 32, by have := bound t; omega⟩ ⟨(t.val / 8 % 4 * 128 + l.val) / 64, by omega⟩ ⟨t.val % 8 * 1024 + r.val, by omega⟩
    rfl (by dsimp only; omega) rfl
  have hS := sc_ne_top hR (t.val % 8) ⟨l.val / 64, by omega⟩ ⟨r.val / 256, by omega⟩ ⟨r.val % 256, by omega⟩
  have h0 := sc_base hR (t.val % 8) ⟨l.val / 64, by omega⟩ ⟨r.val / 256, by omega⟩ ⟨r.val % 256, by omega⟩ (Nat.zero_le (1024 * (t.val % 8)))
  unfold refOut
  rw [Cert.ReferenceIdeal.Fox.mix_at]
  obtain ⟨M, hM⟩ := sup_real (f := fun s => Cert.ReferenceIdeal.Fox.logit (qA m c) (kA m c) (cA m c)
      (ix4 ⟨t.val / 32, by have := bound t; omega⟩ ⟨(t.val / 8 % 4 * 128 + l.val) / 64, by omega⟩ ⟨t.val % 8 * 1024 + r.val, by omega⟩ s))
    (fun s => by
      rw [← hC s]
      exact (EReal.add_lt_top (hS _) (EReal.coe_ne_top C)).ne)
    (by
      rw [← hC 0]
      intro hb
      rcases EReal.add_eq_bot_iff.mp hb with hb | hb
      · exact h0 hb
      · exact EReal.coe_ne_bot C hb)
  unfold oqAt oq
  rw [out_eq (hi := 1024 * (t.val % 8 + 1)) (N := 8192) (by omega) (sc (kB m c t) (cB m c t) (qB m c t) (t.val % 8) ⟨l.val / 64, by omega⟩ ⟨r.val / 256, by omega⟩ ⟨r.val % 256, by omega⟩) hS h0 (by omega)
    (fun pos hp => sc_masked (by dsimp only; omega)) 0 M C (vx (vB m c t) ⟨l.val / 64, by omega⟩ ⟨l.val % 64, by omega⟩)]
  refine Finset.sum_congr rfl fun s _ => congrArg₂ (· * ·) ?_ ?_
  · rw [Cert.ReferenceIdeal.Fox.wts_at, Cert.ReferenceIdeal.Fox.tops_at, hM]
    simp only [hC]
  · rw [Cert.ReferenceIdeal.Fox.vals_at]
    unfold vx
    rw [dif_pos (show l.val % 64 < 64 by omega), dif_pos s.isLt, vB_at]
    exact congrArg (fun a => vA m c (ix4 _ _ a _)) (Fin.ext (by dsimp only; omega))

theorem final (H : Fin3 m) (c : Dev nD) : (dats m 0 c).arrAt 5 cfg0.N = refOut (qA m c) (kA m c) (cA m c) (vA m c) := by
  refine (dats m 0 c).arrAt_eq_of_covers 5 _ (by decide +kernel) fun t _ y => ?_
  blk_simp
  rw [after_5, ValueIdx.eq_ix3 y]
  have h0 : y 0 = (0 : Fin 1) := Subsingleton.elim (α := Fin 1) _ _
  rw [h0]
  refine (congrArg (fun g => oqAt (kB m c t) (cB m c t) (vB m c t) (qB m c t) g (y 1) (y 2)) (coord t)).trans ((point H c t (y 1) (y 2)).trans (congrArg _ ?_))
  blk_ext [idx t]

end Cert.KernelIdeal.FoxRun
end
-- ==== Proof.Fox.Claim.lean ====
module
public import proofs.«01_k».proof.Defs
public import proofs.«01_k».proof.Proof.Fox.Attn
public import Idealize.ShloMosaic.Lib.Quiescent

@[expose] public section

/-! FoX attention: the kernel and the reference agree over the extended reals, where the queries, the keys and the decay terms are finite. -/

set_option maxRecDepth 16384
noncomputable section
namespace Cert.Pre_finite.Gen
theorem facts : Cert.Pre_finite.Facts := ⟨by decide, by decide⟩
instance : Cert.Pre_finite.Facts := facts
end Cert.Pre_finite.Gen

namespace Cert.KernelIdeal.FoxRun
open Idealize.ShloMosaic Cert.KernelIdeal Cert.KernelIdeal.Gen Cert.KernelIdeal.Fox
open Idealize.ShloMosaic.TcCoe Idealize.SL.Sem
open Cert.Pre_finite.Gen

theorem inf16 : Ideal.ofBits .bf16 0x7F80#16 = ⊤ := by
  simp [Ideal.ofBits, Ideal.ieee]
theorem inf32 : Ideal.ofBits .f32 0x7F800000#32 = ⊤ := by
  simp [Ideal.ofBits, Ideal.ieee]

/-- A value whose size is below `⊤` is real. -/
theorem real_of_abs {x y : EReal} (hy : y = ⊤) (h : Ideal.cmp .olt (max x (-x)) y = 1#1) : ∃ r : ℝ, x = r := by
  subst hy
  have h' : BitVec.ofBool (decide (max x (-x) < ⊤)) = 1#1 := h
  by_cases hlt : max x (-x) < ⊤
  · have h1 := max_lt_iff.mp hlt
    refine ⟨x.toReal, (EReal.coe_toReal h1.1.ne fun hb => ?_).symm⟩
    rw [hb, EReal.neg_bot] at h1
    exact lt_irrefl _ h1.2
  · rw [decide_eq_false hlt] at h'
    exact absurd h' (by decide)

theorem fin3 {m : (ℓ : Loc nD τ sig) → Buf (Elt Ideal) ℓ} (h : Cert.Pre_KernelIdeal_finite m) : Fin3 m :=
  ⟨fun c i => real_of_abs inf16 (congrFun (h c).1 i), fun c i => real_of_abs inf16 (congrFun (h c).2.1 i), fun c i => real_of_abs inf32 (congrFun (h c).2.2 i)⟩

theorem algebraic : Cert.algebraic_KernelIdeal_ReferenceIdeal_pre_finite := by
  intro m g m' g' hpre hagree
  have H := fin3 hpre
  refine ⟨fun c => refOut (qA m c) (kA m c) (cA m c) (vA m c),
    (θ_run _ _ _).mono (fun r h c => ⟨(h c).1.trans (final H c), (h c).2⟩) (run_blocks m g H.raw H.rawNext),
    (θ_run _ _ _).mono (fun r h c => ⟨(h c).1.trans ?_, (h c).2⟩) (Cert.ReferenceIdeal.Value.run m' g')⟩
  obtain ⟨a0, a1, a2, a3⟩ := hagree c
  refine (Cert.ReferenceIdeal.Fox.res_eq m' c).trans ?_
  rw [a0, a1, a2, a3]
  rfl

end Cert.KernelIdeal.FoxRun
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefFrame
public import proofs.«01_k».proof.Proof.Ideal.Frame
public import proofs.«01_k».proof.Proof.Word.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Ffn.Claim2
public import proofs.«01_k».proof.Proof.Ffn.Claim3
public import proofs.«01_k».proof.Proof.Ffn.Claim4
public import proofs.«01_k».proof.Proof.Ffn.Claim5
public import proofs.«01_k».proof.Proof.Sgu.Claim6
public import proofs.«01_k».proof.Proof.Proj.Claim7
public import proofs.«01_k».proof.Proof.Fox.Claim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts,
  fun m ρ _ => Cert.Kernel.Fox.frame m ρ,
  fun m ρ _ => Cert.KernelIdeal.Fox.frame m ρ,
  fun m ρ _ => Cert.KernelIdeal.Fox.frame m ρ,
  fun m ρ _ => Cert.ReferenceIdeal.Fox.frame m ρ,
  fun m ρ _ => Cert.ReferenceIdeal.Fox.frame m ρ,
  fun m ρ _ => Cert.Kernel2.Gen.frame m ρ,
  fun m ρ _ => Cert.Kernel2Ideal.Gen.frame m ρ,
  Cert.Ffn.refFrame2,
  fun m ρ _ => Cert.Kernel3.Gen.frame m ρ,
  fun m ρ _ => Cert.Kernel3Ideal.Gen.frame m ρ,
  Cert.Ffn.refFrame3,
  fun m ρ _ => Cert.Kernel4.Gen.frame m ρ,
  fun m ρ _ => Cert.Kernel4Ideal.Gen.frame m ρ,
  Cert.Ffn.refFrame4,
  fun m ρ _ => Cert.Kernel5.Gen.frame m ρ,
  fun m ρ _ => Cert.Kernel5Ideal.Gen.frame m ρ,
  Cert.Ffn.refFrame5,
  fun m ρ _ => Cert.Kernel6.Gen.frame m ρ,
  fun m ρ _ => Cert.Kernel6Ideal.Gen.frame m ρ,
  Cert.Sgu.refFrame6,
  fun m ρ _ => Cert.Kernel7.Gen.frame m ρ,
  fun m ρ _ => Cert.Kernel7Ideal.Gen.frame m ρ,
  Cert.Proj.refFrame7,
  IdealRules.named_const.statement Cert.KernelIdeal.κ "mask" .f32 0xF149F2CA#32 ⊥ rfl,
  Cert.KernelIdeal.FoxRun.algebraic,
  trivial,
  Cert.Ffn.algebraic2,
  trivial,
  Cert.Ffn.algebraic3,
  trivial,
  Cert.Ffn.algebraic4,
  trivial,
  Cert.Ffn.algebraic5,
  IdealRules.named_const.statement Cert.Kernel6Ideal.κ "gelu_cubic" .f32 0x3D922279#32 _ rfl,
  Cert.Sgu.algebraic6,
  trivial,
  Cert.Proj.algebraic7⟩

end Cert.Proof

end
